-- ==== Defs.lean ====
def Pre_Kernel [hPre_in_range_sorted : Cert.Pre_in_range_sorted.Facts] (m : (ℓ : Loc Cert.Kernel.nD Cert.Kernel.τ Cert.Kernel.sig) → Buf (Elt Bits) ℓ) : Prop :=
  ∀ c : Dev Cert.Kernel.nD,
    (Cert.Pre_in_range_sorted.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range_sorted : Cert.Pre_in_range_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_sorted [hPre_in_range_sorted : Cert.Pre_in_range_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range_sorted : Cert.Pre_in_range_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_sorted [hReferenceIdeal : Cert.ReferenceIdeal.Facts] [hPre_in_range_sorted : Cert.Pre_in_range_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_sorted : Cert.Pre_in_range_sorted.Facts),
    quiescent_Kernel (hKernel := hKernel) (hPre_in_range_sorted := hPre_in_range_sorted)
    ∧ quiescent_KernelIdeal (hKernelIdeal := hKernelIdeal) (hPre_in_range_sorted := hPre_in_range_sorted)
    ∧ quiescent_ReferenceIdeal (hReferenceIdeal := hReferenceIdeal)
    ∧ quiescent_ReferenceIdeal_pre_in_range_sorted (hReferenceIdeal := hReferenceIdeal) (hPre_in_range_sorted := hPre_in_range_sorted)
    ∧ preserves_Kernel_KernelIdeal
    ∧ algebraic_KernelIdeal_ReferenceIdeal (hKernelIdeal := hKernelIdeal) (hReferenceIdeal := hReferenceIdeal) (hPre_in_range_sorted := hPre_in_range_sorted)
-- ==== Pre_in_range_sorted.lean ====
abbrev S320000x128 : Shape := ⟨2, ![320000, 128]⟩
abbrev S320000 : Shape := ⟨1, ![320000]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 512#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S320000 : Shape := ⟨1, ![320000]⟩
abbrev S16640x128 : Shape := ⟨2, ![16640, 128]⟩
abbrev S32x8192 : Shape := ⟨2, ![32, 8192]⟩
abbrev S800x128 : Shape := ⟨2, ![800, 128]⟩
abbrev S800 : Shape := ⟨1, ![800]⟩
abbrev S8320 : Shape := ⟨1, ![8320]⟩
abbrev S128 : Shape := ⟨1, ![128]⟩
abbrev S16 : Shape := ⟨1, ![16]⟩
abbrev S1 : Shape := ⟨1, ![1]⟩
abbrev S2 : Shape := ⟨1, ![2]⟩
abbrev S400x128 : Shape := ⟨2, ![400, 128]⟩
abbrev S_ : Shape := ⟨0, ![]⟩
abbrev S400 : Shape := ⟨1, ![400]⟩
abbrev S1x16 : Shape := ⟨2, ![1, 16]⟩
abbrev S1x128 : Shape := ⟨2, ![1, 128]⟩
abbrev S8192 : Shape := ⟨1, ![8192]⟩
abbrev S1x8192 : Shape := ⟨2, ![1, 8192]⟩
abbrev S16384x16 : Shape := ⟨2, ![16384, 16]⟩
abbrev S512x384 : Shape := ⟨2, ![512, 384]⟩
abbrev S512x128 : Shape := ⟨2, ![512, 128]⟩
abbrev S512x1 : Shape := ⟨2, ![512, 1]⟩

abbrev nBuf : Table → Nat
  | .hbm => 7
  | .local .tc .vmem => 4
  | .local .scVector .smem => 1
  | .local .scVector .vmem => 6
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S16640x128, .f32⟩
  | .hbm, ⟨3, _⟩ => ⟨S32x8192, .f32⟩
  | .hbm, ⟨4, _⟩ => ⟨S16640x128, .f32⟩
  | .hbm, ⟨5, _⟩ => ⟨S16384x16, .f32⟩
  | .hbm, ⟨6, _⟩ => ⟨S512x384, .f32⟩
  | .local .tc .vmem, ⟨0, _⟩ => ⟨S16640x128, .f32⟩
  | .local .tc .vmem, ⟨1, _⟩ => ⟨S16384x16, .f32⟩
  | .local .tc .vmem, ⟨2, _⟩ => ⟨S16640x128, .f32⟩
  | .local .tc .vmem, ⟨3, _⟩ => ⟨S512x384, .f32⟩
  | .local .scVector .smem, ⟨0, _⟩ => ⟨S1, .i32⟩
  | .local .scVector .vmem, ⟨0, _⟩ => ⟨S800x128, .f32⟩
  | .local .scVector .vmem, ⟨1, _⟩ => ⟨S800, .i32⟩
  | .local .scVector .vmem, ⟨2, _⟩ => ⟨S8320, .f32⟩
  | .local .scVector .vmem, ⟨3, _⟩ => ⟨S128, .f32⟩
  | .local .scVector .vmem, ⟨4, _⟩ => ⟨S128, .f32⟩
  | .local .scVector .vmem, ⟨5, _⟩ => ⟨S16, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 107 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => false
  | ⟨90, _⟩ => false
  | ⟨91, _⟩ => false
  | ⟨92, _⟩ => false
  | ⟨93, _⟩ => false
  | ⟨94, _⟩ => false
  | ⟨95, _⟩ => false
  | ⟨96, _⟩ => false
  | ⟨97, _⟩ => false
  | ⟨98, _⟩ => false
  | ⟨99, _⟩ => false
  | ⟨100, _⟩ => false
  | ⟨101, _⟩ => false
  | ⟨102, _⟩ => false
  | ⟨103, _⟩ => true
  | ⟨104, _⟩ => true
  | ⟨105, _⟩ => true
  | ⟨106, _⟩ => true
  | _ => false

abbrev sig : RefSig :=
  ofTables nBuf rfl bufTy 4 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch6 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 103
abbrev cc1_sem1_0 : DmaSem sig := 104
abbrev cc1_sem2_0 : DmaSem sig := 105
abbrev cc1_sem3_0 : DmaSem sig := 106
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  v2
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  v4
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c0_i32 : BitVec 32 := 0#32
  let v6 : BitVec 32 := Scalar.addi v3 c0_i32
  v6
def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let v6 : BitVec 32 := Scalar.addi v3 c0_i32
  let v7 : BitVec 32 := v6
  let c0_i32_3 : BitVec 32 := 0#32
  ![v7.toNat, 0]
def k0_off1_at (r : Fin 3) : BitVec 32 :=
  if r.val < 1 then
    0#32
  else
    if r.val < 2 then
      400#32
    else
      9600#32
def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c0_i32_7 : BitVec 32 := 0#32
  let v14 : BitVec 32 := Scalar.addi v3 c0_i32_7
  v14
def k0_off2 (i : grid0.Coords) (c0_i32_7 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let v14 : BitVec 32 := Scalar.addi v3 c0_i32_7
  let v15 : BitVec 32 := v14
  ![v15.toNat]
def k0_off2_at (r : Fin 3) : BitVec 32 :=
  if r.val < 1 then
    0#32
  else
    if r.val < 2 then
      400#32
    else
      9600#32
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c400_i32 : BitVec 32 := 400#32
  let v22 : BitVec 32 := Scalar.addi v3 c400_i32
  v22
def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c400_i32_17 : BitVec 32 := 400#32
  let v30 : BitVec 32 := Scalar.addi v3 c400_i32_17
  v30
@[reducible] def k0_t1_loop : Scf.Loop 32 :=
  let c0_i32_24 : BitVec 32 := 0#32
  let c520_i32_25 : BitVec 32 := 520#32
  let v42 : BitVec 32 := Scalar.addi c0_i32_24 c520_i32_25
  let c1_i32_26 : BitVec 32 := 1#32
  ⟨c0_i32_24, v42, c1_i32_26⟩
def k0_off3 (k0_t1 : Fin k0_t1_loop.trips) : Fin 1 → Nat :=
  let c0_i32_24 : BitVec 32 := 0#32
  let c1_i32_26 : BitVec 32 := 1#32
  let arg16 : BitVec 32 := Scf.iv c0_i32_24 c1_i32_26 k0_t1
  let c16_i32_49 : BitVec 32 := 16#32
  let v75 : BitVec 32 := Scalar.muli arg16 c16_i32_49
  let v76 : Index := Scalar.indexCast v75
  ![v76.toNat]
@[reducible] def k0_t2_loop : Scf.Loop 32 :=
  let c0_i32_29 : BitVec 32 := 0#32
  let c12_i32 : BitVec 32 := 12#32
  let v44 : BitVec 32 := Scalar.addi c0_i32_29 c12_i32
  let c1_i32_30 : BitVec 32 := 1#32
  ⟨c0_i32_29, v44, c1_i32_30⟩
def k0_mult7 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c400_i32_50 : BitVec 32 := 400#32
  let v77 : BitVec 32 := Scalar.muli v76 c400_i32_50
  let v78 : BitVec 32 := Scalar.addi v3 v77
  v78
def k0_off4 (i : grid0.Coords) (k0_t2 : Fin k0_t2_loop.trips) (c0_i32_49 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let v76 : BitVec 32 := Scalar.addi v75 c0_i32_49
  let c400_i32_50 : BitVec 32 := 400#32
  let v77 : BitVec 32 := Scalar.muli v76 c400_i32_50
  let v78 : BitVec 32 := Scalar.addi v3 v77
  let v79 : BitVec 32 := v78
  let c0_i32_54 : BitVec 32 := 0#32
  ![v79.toNat, 0]
def k0_mult8 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c400_i32_58 : BitVec 32 := 400#32
  let v86 : BitVec 32 := Scalar.muli v76 c400_i32_58
  let v87 : BitVec 32 := Scalar.addi v3 v86
  v87
def k0_off5 (i : grid0.Coords) (k0_t2 : Fin k0_t2_loop.trips) (c0_i32_49 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let v76 : BitVec 32 := Scalar.addi v75 c0_i32_49
  let c400_i32_58 : BitVec 32 := 400#32
  let v86 : BitVec 32 := Scalar.muli v76 c400_i32_58
  let v87 : BitVec 32 := Scalar.addi v3 v86
  let v88 : BitVec 32 := v87
  ![v88.toNat]
@[reducible] def k0_t3_loop : Scf.Loop 32 :=
  let c0_i32_63 : BitVec 32 := 0#32
  let c25_i32_64 : BitVec 32 := 25#32
  let v95 : BitVec 32 := Scalar.addi c0_i32_63 c25_i32_64
  let c1_i32_65 : BitVec 32 := 1#32
  ⟨c0_i32_63, v95, c1_i32_65⟩
def k0_off6 (k0_t3 : Fin k0_t3_loop.trips) : Fin 1 → Nat :=
  let c0_i32_94 : BitVec 32 := 0#32
  let c0_i32_63 : BitVec 32 := 0#32
  let c1_i32_65 : BitVec 32 := 1#32
  let arg18 : BitVec 32 := Scf.iv c0_i32_63 c1_i32_65 k0_t3
  let c16_i32_93 : BitVec 32 := 16#32
  let v127 : BitVec 32 := Scalar.muli arg18 c16_i32_93
  let v128 : BitVec 32 := Scalar.addi c0_i32_94 v127
  let v129 : Index := Scalar.indexCast v128
  ![v129.toNat]
def k0_off7 (k0_t3 : Fin k0_t3_loop.trips) (c0_i32_101 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v148 : BitVec 32 := Scalar.addi v133 c0_i32_101
  let v149 : Index := Scalar.indexCast v148
  let c0_102 : Index := 0#32
  ![v149.toNat, 0]
def k0_off8 (k0_t3 : Fin k0_t3_loop.trips) (c0_i32_125 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v254 : BitVec 32 := Scalar.addi v133 c0_i32_125
  let v255 : Index := Scalar.indexCast v254
  let c16 : Index := 16#32
  ![v255.toNat, 16]
def k0_off9 (k0_t3 : Fin k0_t3_loop.trips) (c0_i32_160 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v360 : BitVec 32 := Scalar.addi v133 c0_i32_160
  let v361 : Index := Scalar.indexCast v360
  let c32 : Index := 32#32
  ![v361.toNat, 32]
def k0_off10 (k0_t3 : Fin k0_t3_loop.trips) (c0_i32_195 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v466 : BitVec 32 := Scalar.addi v133 c0_i32_195
  let v467 : Index := Scalar.indexCast v466
  let c48 : Index := 48#32
  ![v467.toNat, 48]
def k0_off11 (k0_t3 : Fin k0_t3_loop.trips) (c0_i32_230 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v572 : BitVec 32 := Scalar.addi v133 c0_i32_230
  let v573 : Index := Scalar.indexCast v572
  let c64 : Index := 64#32
  ![v573.toNat, 64]
def k0_off12 (k0_t3 : Fin k0_t3_loop.trips) (c0_i32_265 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v678 : BitVec 32 := Scalar.addi v133 c0_i32_265
  let v679 : Index := Scalar.indexCast v678
  let c80 : Index := 80#32
  ![v679.toNat, 80]
def k0_off13 (k0_t3 : Fin k0_t3_loop.trips) (c0_i32_300 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v784 : BitVec 32 := Scalar.addi v133 c0_i32_300
  let v785 : Index := Scalar.indexCast v784
  let c96 : Index := 96#32
  ![v785.toNat, 96]
def k0_off14 (k0_t3 : Fin k0_t3_loop.trips) (c0_i32_335 : BitVec 32) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let v890 : BitVec 32 := Scalar.addi v133 c0_i32_335
  let v891 : Index := Scalar.indexCast v890
  let c112 : Index := 112#32
  ![v891.toNat, 112]
def k0_off15 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond2 (v135 : BitVec 32) (v137 : BitVec 32) (v140 : BitVec 32) : BitVec 1 :=
  let v138 : BitVec 1 := Scalar.cmpi .eq v135 v137
  let v141 : BitVec 1 := Scalar.cmpi .eq v135 v140
  let v142 : BitVec 1 := Scalar.andi v138 v141
  let v_true : BitVec 1 := 1#1
  let v145 : BitVec 1 := Scalar.xori v142 v_true
  let v146 : BitVec 32 := Scalar.extui v145
  let c0_i32_99 : BitVec 32 := 0#32
  let v147 : BitVec 1 := Scalar.cmpi .ne v146 c0_i32_99
  v147

def k0_cond3 (v149 : BitVec 32) (v151 : BitVec 32) : BitVec 1 :=
  let v152 : BitVec 1 := Scalar.cmpi .eq v149 v151
  let true_102 : BitVec 1 := 1#1
  let v153 : BitVec 1 := Scalar.xori v152 true_102
  let v154 : BitVec 32 := Scalar.extui v153
  let c0_i32_103 : BitVec 32 := 0#32
  let v155 : BitVec 1 := Scalar.cmpi .ne v154 c0_i32_103
  v155

def k0_off16 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r0 : BitVec 32 := 0#32
  ![v2733.toNat, 0]

def k0_chk1 (i : grid0.Coords) (v135 : BitVec 32) (v137 : BitVec 32) (v140 : BitVec 32) (v149 : BitVec 32) (v151 : BitVec 32) (v2725 : BitVec 32) : Prop :=
  (∀ (k0_h2 : k0_cond2 v135 v137 v140 = 1#1), ∀ (k0_h3 : k0_cond3 v149 v151 = 1#1), ∀ a, (k0_off15 v2725) a + S16.size a ≤ S8320.size a) ∧
  (∀ (k0_h2 : k0_cond2 v135 v137 v140 = 1#1), ∀ (k0_h3 : k0_cond3 v149 v151 = 1#1), ∀ a, (k0_off16 i v2725) a + S1x128.size a ≤ S16640x128.size a)
theorem k0_off15_inb : ∀ (i : grid0.Coords) (v135 : BitVec 32) (v137 : BitVec 32) (v140 : BitVec 32) (v149 : BitVec 32) (v151 : BitVec 32) (v2725 : BitVec 32) (k0_hw1 : k0_chk1 i v135 v137 v140 v149 v151 v2725), ∀ (k0_h2 : k0_cond2 v135 v137 v140 = 1#1), ∀ (k0_h3 : k0_cond3 v149 v151 = 1#1), ∀ a, (k0_off15 v2725) a + S16.size a ≤ S8320.size a := fun i v135 v137 v140 v149 v151 v2725 k0_hw1 k0_h2 k0_h3 => k0_hw1.1 k0_h2 k0_h3
theorem k0_off16_inb : ∀ (i : grid0.Coords) (v135 : BitVec 32) (v137 : BitVec 32) (v140 : BitVec 32) (v149 : BitVec 32) (v151 : BitVec 32) (v2725 : BitVec 32) (k0_hw1 : k0_chk1 i v135 v137 v140 v149 v151 v2725), ∀ (k0_h2 : k0_cond2 v135 v137 v140 = 1#1), ∀ (k0_h3 : k0_cond3 v149 v151 = 1#1), ∀ a, (k0_off16 i v2725) a + S1x128.size a ≤ S16640x128.size a := fun i v135 v137 v140 v149 v151 v2725 k0_hw1 k0_h2 k0_h3 => k0_hw1.2 k0_h2 k0_h3

def k0_off17 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_104 : BitVec 32 := 0#32
  let v156 : BitVec 32 := Scalar.addi v133 c0_i32_104
  let v157 : Index := Scalar.indexCast v156
  let c0_105 : Index := 0#32
  ![v157.toNat, 0]
def k0_off18 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_110 : BitVec 32 := 0#32
  let v174 : BitVec 32 := Scalar.addi v133 c0_i32_110
  let v175 : Index := Scalar.indexCast v174
  let c16 : Index := 16#32
  ![v175.toNat, 16]
def k0_off19 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_115 : BitVec 32 := 0#32
  let v192 : BitVec 32 := Scalar.addi v133 c0_i32_115
  let v193 : Index := Scalar.indexCast v192
  let c32 : Index := 32#32
  ![v193.toNat, 32]
def k0_off20 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_120 : BitVec 32 := 0#32
  let v210 : BitVec 32 := Scalar.addi v133 c0_i32_120
  let v211 : Index := Scalar.indexCast v210
  let c48 : Index := 48#32
  ![v211.toNat, 48]
def k0_off21 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_125 : BitVec 32 := 0#32
  let v228 : BitVec 32 := Scalar.addi v133 c0_i32_125
  let v229 : Index := Scalar.indexCast v228
  let c64 : Index := 64#32
  ![v229.toNat, 64]
def k0_off22 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_130 : BitVec 32 := 0#32
  let v246 : BitVec 32 := Scalar.addi v133 c0_i32_130
  let v247 : Index := Scalar.indexCast v246
  let c80 : Index := 80#32
  ![v247.toNat, 80]
def k0_off23 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_135 : BitVec 32 := 0#32
  let v264 : BitVec 32 := Scalar.addi v133 c0_i32_135
  let v265 : Index := Scalar.indexCast v264
  let c96 : Index := 96#32
  ![v265.toNat, 96]
def k0_off24 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c0_i32_140 : BitVec 32 := 0#32
  let v282 : BitVec 32 := Scalar.addi v133 c0_i32_140
  let v283 : Index := Scalar.indexCast v282
  let c112 : Index := 112#32
  ![v283.toNat, 112]
def k0_off25 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond4 (v310 : BitVec 32) (v312 : BitVec 32) : BitVec 1 :=
  let v313 : BitVec 1 := Scalar.cmpi .eq v310 v312
  let true_149 : BitVec 1 := 1#1
  let v314 : BitVec 1 := Scalar.xori v313 true_149
  let v315 : BitVec 32 := Scalar.extui v314
  let c0_i32_150 : BitVec 32 := 0#32
  let v316 : BitVec 1 := Scalar.cmpi .ne v315 c0_i32_150
  v316

def k0_off26 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r2 : BitVec 32 := 0#32
  ![v2733.toNat, 0]

def k0_chk2 (i : grid0.Coords) (v135 : BitVec 32) (v137 : BitVec 32) (v140 : BitVec 32) (v310 : BitVec 32) (v312 : BitVec 32) (v2725 : BitVec 32) : Prop :=
  (∀ (k0_h2 : k0_cond2 v135 v137 v140 = 1#1), ∀ (k0_h4 : k0_cond4 v310 v312 = 1#1), ∀ a, (k0_off25 v2725) a + S16.size a ≤ S8320.size a) ∧
  (∀ (k0_h2 : k0_cond2 v135 v137 v140 = 1#1), ∀ (k0_h4 : k0_cond4 v310 v312 = 1#1), ∀ a, (k0_off26 i v2725) a + S1x128.size a ≤ S16640x128.size a)
theorem k0_off25_inb : ∀ (i : grid0.Coords) (v135 : BitVec 32) (v137 : BitVec 32) (v140 : BitVec 32) (v310 : BitVec 32) (v312 : BitVec 32) (v2725 : BitVec 32) (k0_hw2 : k0_chk2 i v135 v137 v140 v310 v312 v2725), ∀ (k0_h2 : k0_cond2 v135 v137 v140 = 1#1), ∀ (k0_h4 : k0_cond4 v310 v312 = 1#1), ∀ a, (k0_off25 v2725) a + S16.size a ≤ S8320.size a := fun i v135 v137 v140 v310 v312 v2725 k0_hw2 k0_h2 k0_h4 => k0_hw2.1 k0_h2 k0_h4
theorem k0_off26_inb : ∀ (i : grid0.Coords) (v135 : BitVec 32) (v137 : BitVec 32) (v140 : BitVec 32) (v310 : BitVec 32) (v312 : BitVec 32) (v2725 : BitVec 32) (k0_hw2 : k0_chk2 i v135 v137 v140 v310 v312 v2725), ∀ (k0_h2 : k0_cond2 v135 v137 v140 = 1#1), ∀ (k0_h4 : k0_cond4 v310 v312 = 1#1), ∀ a, (k0_off26 i v2725) a + S1x128.size a ≤ S16640x128.size a := fun i v135 v137 v140 v310 v312 v2725 k0_hw2 k0_h2 k0_h4 => k0_hw2.2 k0_h2 k0_h4

def k0_off27 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_151 : BitVec 32 := 1#32
  let v317 : BitVec 32 := Scalar.addi v133 c1_i32_151
  let v318 : Index := Scalar.indexCast v317
  let c0_152 : Index := 0#32
  ![v318.toNat, 0]
def k0_off28 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_157 : BitVec 32 := 1#32
  let v335 : BitVec 32 := Scalar.addi v133 c1_i32_157
  let v336 : Index := Scalar.indexCast v335
  let c16_158 : Index := 16#32
  ![v336.toNat, 16]
def k0_off29 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_163 : BitVec 32 := 1#32
  let v353 : BitVec 32 := Scalar.addi v133 c1_i32_163
  let v354 : Index := Scalar.indexCast v353
  let c32_164 : Index := 32#32
  ![v354.toNat, 32]
def k0_off30 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_169 : BitVec 32 := 1#32
  let v371 : BitVec 32 := Scalar.addi v133 c1_i32_169
  let v372 : Index := Scalar.indexCast v371
  let c48_170 : Index := 48#32
  ![v372.toNat, 48]
def k0_off31 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_175 : BitVec 32 := 1#32
  let v389 : BitVec 32 := Scalar.addi v133 c1_i32_175
  let v390 : Index := Scalar.indexCast v389
  let c64_176 : Index := 64#32
  ![v390.toNat, 64]
def k0_off32 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_181 : BitVec 32 := 1#32
  let v407 : BitVec 32 := Scalar.addi v133 c1_i32_181
  let v408 : Index := Scalar.indexCast v407
  let c80_182 : Index := 80#32
  ![v408.toNat, 80]
def k0_off33 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_187 : BitVec 32 := 1#32
  let v425 : BitVec 32 := Scalar.addi v133 c1_i32_187
  let v426 : Index := Scalar.indexCast v425
  let c96_188 : Index := 96#32
  ![v426.toNat, 96]
def k0_off34 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c1_i32_193 : BitVec 32 := 1#32
  let v443 : BitVec 32 := Scalar.addi v133 c1_i32_193
  let v444 : Index := Scalar.indexCast v443
  let c112_194 : Index := 112#32
  ![v444.toNat, 112]
def k0_off35 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond5 (v471 : BitVec 32) (v473 : BitVec 32) : BitVec 1 :=
  let v474 : BitVec 1 := Scalar.cmpi .eq v471 v473
  let true_203 : BitVec 1 := 1#1
  let v475 : BitVec 1 := Scalar.xori v474 true_203
  let v476 : BitVec 32 := Scalar.extui v475
  let c0_i32_204 : BitVec 32 := 0#32
  let v477 : BitVec 1 := Scalar.cmpi .ne v476 c0_i32_204
  v477

def k0_off36 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r4 : BitVec 32 := 0#32
  ![v2733.toNat, 0]

def k0_chk3 (i : grid0.Coords) (v135 : BitVec 32) (v137 : BitVec 32) (v140 : BitVec 32) (v471 : BitVec 32) (v473 : BitVec 32) (v2725 : BitVec 32) : Prop :=
  (∀ (k0_h2 : k0_cond2 v135 v137 v140 = 1#1), ∀ (k0_h5 : k0_cond5 v471 v473 = 1#1), ∀ a, (k0_off35 v2725) a + S16.size a ≤ S8320.size a) ∧
  (∀ (k0_h2 : k0_cond2 v135 v137 v140 = 1#1), ∀ (k0_h5 : k0_cond5 v471 v473 = 1#1), ∀ a, (k0_off36 i v2725) a + S1x128.size a ≤ S16640x128.size a)
theorem k0_off35_inb : ∀ (i : grid0.Coords) (v135 : BitVec 32) (v137 : BitVec 32) (v140 : BitVec 32) (v471 : BitVec 32) (v473 : BitVec 32) (v2725 : BitVec 32) (k0_hw3 : k0_chk3 i v135 v137 v140 v471 v473 v2725), ∀ (k0_h2 : k0_cond2 v135 v137 v140 = 1#1), ∀ (k0_h5 : k0_cond5 v471 v473 = 1#1), ∀ a, (k0_off35 v2725) a + S16.size a ≤ S8320.size a := fun i v135 v137 v140 v471 v473 v2725 k0_hw3 k0_h2 k0_h5 => k0_hw3.1 k0_h2 k0_h5
theorem k0_off36_inb : ∀ (i : grid0.Coords) (v135 : BitVec 32) (v137 : BitVec 32) (v140 : BitVec 32) (v471 : BitVec 32) (v473 : BitVec 32) (v2725 : BitVec 32) (k0_hw3 : k0_chk3 i v135 v137 v140 v471 v473 v2725), ∀ (k0_h2 : k0_cond2 v135 v137 v140 = 1#1), ∀ (k0_h5 : k0_cond5 v471 v473 = 1#1), ∀ a, (k0_off36 i v2725) a + S1x128.size a ≤ S16640x128.size a := fun i v135 v137 v140 v471 v473 v2725 k0_hw3 k0_h2 k0_h5 => k0_hw3.2 k0_h2 k0_h5

def k0_off37 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_205 : BitVec 32 := 2#32
  let v478 : BitVec 32 := Scalar.addi v133 c2_i32_205
  let v479 : Index := Scalar.indexCast v478
  let c0_206 : Index := 0#32
  ![v479.toNat, 0]
def k0_off38 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_211 : BitVec 32 := 2#32
  let v496 : BitVec 32 := Scalar.addi v133 c2_i32_211
  let v497 : Index := Scalar.indexCast v496
  let c16_212 : Index := 16#32
  ![v497.toNat, 16]
def k0_off39 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_217 : BitVec 32 := 2#32
  let v514 : BitVec 32 := Scalar.addi v133 c2_i32_217
  let v515 : Index := Scalar.indexCast v514
  let c32_218 : Index := 32#32
  ![v515.toNat, 32]
def k0_off40 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_223 : BitVec 32 := 2#32
  let v532 : BitVec 32 := Scalar.addi v133 c2_i32_223
  let v533 : Index := Scalar.indexCast v532
  let c48_224 : Index := 48#32
  ![v533.toNat, 48]
def k0_off41 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_229 : BitVec 32 := 2#32
  let v550 : BitVec 32 := Scalar.addi v133 c2_i32_229
  let v551 : Index := Scalar.indexCast v550
  let c64_230 : Index := 64#32
  ![v551.toNat, 64]
def k0_off42 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_235 : BitVec 32 := 2#32
  let v568 : BitVec 32 := Scalar.addi v133 c2_i32_235
  let v569 : Index := Scalar.indexCast v568
  let c80_236 : Index := 80#32
  ![v569.toNat, 80]
def k0_off43 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_241 : BitVec 32 := 2#32
  let v586 : BitVec 32 := Scalar.addi v133 c2_i32_241
  let v587 : Index := Scalar.indexCast v586
  let c96_242 : Index := 96#32
  ![v587.toNat, 96]
def k0_off44 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c2_i32_247 : BitVec 32 := 2#32
  let v604 : BitVec 32 := Scalar.addi v133 c2_i32_247
  let v605 : Index := Scalar.indexCast v604
  let c112_248 : Index := 112#32
  ![v605.toNat, 112]
def k0_off45 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond6 (v632 : BitVec 32) (v634 : BitVec 32) : BitVec 1 :=
  let v635 : BitVec 1 := Scalar.cmpi .eq v632 v634
  let true_257 : BitVec 1 := 1#1
  let v636 : BitVec 1 := Scalar.xori v635 true_257
  let v637 : BitVec 32 := Scalar.extui v636
  let c0_i32_258 : BitVec 32 := 0#32
  let v638 : BitVec 1 := Scalar.cmpi .ne v637 c0_i32_258
  v638

def k0_off46 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r6 : BitVec 32 := 0#32
  ![v2733.toNat, 0]

def k0_chk4 (i : grid0.Coords) (v135 : BitVec 32) (v137 : BitVec 32) (v140 : BitVec 32) (v632 : BitVec 32) (v634 : BitVec 32) (v2725 : BitVec 32) : Prop :=
  (∀ (k0_h2 : k0_cond2 v135 v137 v140 = 1#1), ∀ (k0_h6 : k0_cond6 v632 v634 = 1#1), ∀ a, (k0_off45 v2725) a + S16.size a ≤ S8320.size a) ∧
  (∀ (k0_h2 : k0_cond2 v135 v137 v140 = 1#1), ∀ (k0_h6 : k0_cond6 v632 v634 = 1#1), ∀ a, (k0_off46 i v2725) a + S1x128.size a ≤ S16640x128.size a)
theorem k0_off45_inb : ∀ (i : grid0.Coords) (v135 : BitVec 32) (v137 : BitVec 32) (v140 : BitVec 32) (v632 : BitVec 32) (v634 : BitVec 32) (v2725 : BitVec 32) (k0_hw4 : k0_chk4 i v135 v137 v140 v632 v634 v2725), ∀ (k0_h2 : k0_cond2 v135 v137 v140 = 1#1), ∀ (k0_h6 : k0_cond6 v632 v634 = 1#1), ∀ a, (k0_off45 v2725) a + S16.size a ≤ S8320.size a := fun i v135 v137 v140 v632 v634 v2725 k0_hw4 k0_h2 k0_h6 => k0_hw4.1 k0_h2 k0_h6
theorem k0_off46_inb : ∀ (i : grid0.Coords) (v135 : BitVec 32) (v137 : BitVec 32) (v140 : BitVec 32) (v632 : BitVec 32) (v634 : BitVec 32) (v2725 : BitVec 32) (k0_hw4 : k0_chk4 i v135 v137 v140 v632 v634 v2725), ∀ (k0_h2 : k0_cond2 v135 v137 v140 = 1#1), ∀ (k0_h6 : k0_cond6 v632 v634 = 1#1), ∀ a, (k0_off46 i v2725) a + S1x128.size a ≤ S16640x128.size a := fun i v135 v137 v140 v632 v634 v2725 k0_hw4 k0_h2 k0_h6 => k0_hw4.2 k0_h2 k0_h6

def k0_off47 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32 : BitVec 32 := 3#32
  let v639 : BitVec 32 := Scalar.addi v133 c3_i32
  let v640 : Index := Scalar.indexCast v639
  let c0_259 : Index := 0#32
  ![v640.toNat, 0]
def k0_off48 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_264 : BitVec 32 := 3#32
  let v657 : BitVec 32 := Scalar.addi v133 c3_i32_264
  let v658 : Index := Scalar.indexCast v657
  let c16_265 : Index := 16#32
  ![v658.toNat, 16]
def k0_off49 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_270 : BitVec 32 := 3#32
  let v675 : BitVec 32 := Scalar.addi v133 c3_i32_270
  let v676 : Index := Scalar.indexCast v675
  let c32_271 : Index := 32#32
  ![v676.toNat, 32]
def k0_off50 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_276 : BitVec 32 := 3#32
  let v693 : BitVec 32 := Scalar.addi v133 c3_i32_276
  let v694 : Index := Scalar.indexCast v693
  let c48_277 : Index := 48#32
  ![v694.toNat, 48]
def k0_off51 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_282 : BitVec 32 := 3#32
  let v711 : BitVec 32 := Scalar.addi v133 c3_i32_282
  let v712 : Index := Scalar.indexCast v711
  let c64_283 : Index := 64#32
  ![v712.toNat, 64]
def k0_off52 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_288 : BitVec 32 := 3#32
  let v729 : BitVec 32 := Scalar.addi v133 c3_i32_288
  let v730 : Index := Scalar.indexCast v729
  let c80_289 : Index := 80#32
  ![v730.toNat, 80]
def k0_off53 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_294 : BitVec 32 := 3#32
  let v747 : BitVec 32 := Scalar.addi v133 c3_i32_294
  let v748 : Index := Scalar.indexCast v747
  let c96_295 : Index := 96#32
  ![v748.toNat, 96]
def k0_off54 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c3_i32_300 : BitVec 32 := 3#32
  let v765 : BitVec 32 := Scalar.addi v133 c3_i32_300
  let v766 : Index := Scalar.indexCast v765
  let c112_301 : Index := 112#32
  ![v766.toNat, 112]
def k0_off55 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond7 (v793 : BitVec 32) (v795 : BitVec 32) : BitVec 1 :=
  let v796 : BitVec 1 := Scalar.cmpi .eq v793 v795
  let true_310 : BitVec 1 := 1#1
  let v797 : BitVec 1 := Scalar.xori v796 true_310
  let v798 : BitVec 32 := Scalar.extui v797
  let c0_i32_311 : BitVec 32 := 0#32
  let v799 : BitVec 1 := Scalar.cmpi .ne v798 c0_i32_311
  v799

def k0_off56 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r8 : BitVec 32 := 0#32
  ![v2733.toNat, 0]

def k0_chk5 (i : grid0.Coords) (v135 : BitVec 32) (v137 : BitVec 32) (v140 : BitVec 32) (v793 : BitVec 32) (v795 : BitVec 32) (v2725 : BitVec 32) : Prop :=
  (∀ (k0_h2 : k0_cond2 v135 v137 v140 = 1#1), ∀ (k0_h7 : k0_cond7 v793 v795 = 1#1), ∀ a, (k0_off55 v2725) a + S16.size a ≤ S8320.size a) ∧
  (∀ (k0_h2 : k0_cond2 v135 v137 v140 = 1#1), ∀ (k0_h7 : k0_cond7 v793 v795 = 1#1), ∀ a, (k0_off56 i v2725) a + S1x128.size a ≤ S16640x128.size a)
theorem k0_off55_inb : ∀ (i : grid0.Coords) (v135 : BitVec 32) (v137 : BitVec 32) (v140 : BitVec 32) (v793 : BitVec 32) (v795 : BitVec 32) (v2725 : BitVec 32) (k0_hw5 : k0_chk5 i v135 v137 v140 v793 v795 v2725), ∀ (k0_h2 : k0_cond2 v135 v137 v140 = 1#1), ∀ (k0_h7 : k0_cond7 v793 v795 = 1#1), ∀ a, (k0_off55 v2725) a + S16.size a ≤ S8320.size a := fun i v135 v137 v140 v793 v795 v2725 k0_hw5 k0_h2 k0_h7 => k0_hw5.1 k0_h2 k0_h7
theorem k0_off56_inb : ∀ (i : grid0.Coords) (v135 : BitVec 32) (v137 : BitVec 32) (v140 : BitVec 32) (v793 : BitVec 32) (v795 : BitVec 32) (v2725 : BitVec 32) (k0_hw5 : k0_chk5 i v135 v137 v140 v793 v795 v2725), ∀ (k0_h2 : k0_cond2 v135 v137 v140 = 1#1), ∀ (k0_h7 : k0_cond7 v793 v795 = 1#1), ∀ a, (k0_off56 i v2725) a + S1x128.size a ≤ S16640x128.size a := fun i v135 v137 v140 v793 v795 v2725 k0_hw5 k0_h2 k0_h7 => k0_hw5.2 k0_h2 k0_h7

def k0_off57 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32 : BitVec 32 := 4#32
  let v800 : BitVec 32 := Scalar.addi v133 c4_i32
  let v801 : Index := Scalar.indexCast v800
  let c0_312 : Index := 0#32
  ![v801.toNat, 0]
def k0_off58 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_317 : BitVec 32 := 4#32
  let v818 : BitVec 32 := Scalar.addi v133 c4_i32_317
  let v819 : Index := Scalar.indexCast v818
  let c16_318 : Index := 16#32
  ![v819.toNat, 16]
def k0_off59 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_323 : BitVec 32 := 4#32
  let v836 : BitVec 32 := Scalar.addi v133 c4_i32_323
  let v837 : Index := Scalar.indexCast v836
  let c32_324 : Index := 32#32
  ![v837.toNat, 32]
def k0_off60 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_329 : BitVec 32 := 4#32
  let v854 : BitVec 32 := Scalar.addi v133 c4_i32_329
  let v855 : Index := Scalar.indexCast v854
  let c48_330 : Index := 48#32
  ![v855.toNat, 48]
def k0_off61 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_335 : BitVec 32 := 4#32
  let v872 : BitVec 32 := Scalar.addi v133 c4_i32_335
  let v873 : Index := Scalar.indexCast v872
  let c64_336 : Index := 64#32
  ![v873.toNat, 64]
def k0_off62 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_341 : BitVec 32 := 4#32
  let v890 : BitVec 32 := Scalar.addi v133 c4_i32_341
  let v891 : Index := Scalar.indexCast v890
  let c80_342 : Index := 80#32
  ![v891.toNat, 80]
def k0_off63 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_347 : BitVec 32 := 4#32
  let v908 : BitVec 32 := Scalar.addi v133 c4_i32_347
  let v909 : Index := Scalar.indexCast v908
  let c96_348 : Index := 96#32
  ![v909.toNat, 96]
def k0_off64 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c4_i32_353 : BitVec 32 := 4#32
  let v926 : BitVec 32 := Scalar.addi v133 c4_i32_353
  let v927 : Index := Scalar.indexCast v926
  let c112_354 : Index := 112#32
  ![v927.toNat, 112]
def k0_off65 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond8 (v954 : BitVec 32) (v956 : BitVec 32) : BitVec 1 :=
  let v957 : BitVec 1 := Scalar.cmpi .eq v954 v956
  let true_363 : BitVec 1 := 1#1
  let v958 : BitVec 1 := Scalar.xori v957 true_363
  let v959 : BitVec 32 := Scalar.extui v958
  let c0_i32_364 : BitVec 32 := 0#32
  let v960 : BitVec 1 := Scalar.cmpi .ne v959 c0_i32_364
  v960

def k0_off66 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r10 : BitVec 32 := 0#32
  ![v2733.toNat, 0]

def k0_chk6 (i : grid0.Coords) (v135 : BitVec 32) (v137 : BitVec 32) (v140 : BitVec 32) (v954 : BitVec 32) (v956 : BitVec 32) (v2725 : BitVec 32) : Prop :=
  (∀ (k0_h2 : k0_cond2 v135 v137 v140 = 1#1), ∀ (k0_h8 : k0_cond8 v954 v956 = 1#1), ∀ a, (k0_off65 v2725) a + S16.size a ≤ S8320.size a) ∧
  (∀ (k0_h2 : k0_cond2 v135 v137 v140 = 1#1), ∀ (k0_h8 : k0_cond8 v954 v956 = 1#1), ∀ a, (k0_off66 i v2725) a + S1x128.size a ≤ S16640x128.size a)
theorem k0_off65_inb : ∀ (i : grid0.Coords) (v135 : BitVec 32) (v137 : BitVec 32) (v140 : BitVec 32) (v954 : BitVec 32) (v956 : BitVec 32) (v2725 : BitVec 32) (k0_hw6 : k0_chk6 i v135 v137 v140 v954 v956 v2725), ∀ (k0_h2 : k0_cond2 v135 v137 v140 = 1#1), ∀ (k0_h8 : k0_cond8 v954 v956 = 1#1), ∀ a, (k0_off65 v2725) a + S16.size a ≤ S8320.size a := fun i v135 v137 v140 v954 v956 v2725 k0_hw6 k0_h2 k0_h8 => k0_hw6.1 k0_h2 k0_h8
theorem k0_off66_inb : ∀ (i : grid0.Coords) (v135 : BitVec 32) (v137 : BitVec 32) (v140 : BitVec 32) (v954 : BitVec 32) (v956 : BitVec 32) (v2725 : BitVec 32) (k0_hw6 : k0_chk6 i v135 v137 v140 v954 v956 v2725), ∀ (k0_h2 : k0_cond2 v135 v137 v140 = 1#1), ∀ (k0_h8 : k0_cond8 v954 v956 = 1#1), ∀ a, (k0_off66 i v2725) a + S1x128.size a ≤ S16640x128.size a := fun i v135 v137 v140 v954 v956 v2725 k0_hw6 k0_h2 k0_h8 => k0_hw6.2 k0_h2 k0_h8

def k0_off67 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32 : BitVec 32 := 5#32
  let v961 : BitVec 32 := Scalar.addi v133 c5_i32
  let v962 : Index := Scalar.indexCast v961
  let c0_365 : Index := 0#32
  ![v962.toNat, 0]
def k0_off68 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_370 : BitVec 32 := 5#32
  let v979 : BitVec 32 := Scalar.addi v133 c5_i32_370
  let v980 : Index := Scalar.indexCast v979
  let c16_371 : Index := 16#32
  ![v980.toNat, 16]
def k0_off69 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_376 : BitVec 32 := 5#32
  let v997 : BitVec 32 := Scalar.addi v133 c5_i32_376
  let v998 : Index := Scalar.indexCast v997
  let c32_377 : Index := 32#32
  ![v998.toNat, 32]
def k0_off70 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_382 : BitVec 32 := 5#32
  let v1015 : BitVec 32 := Scalar.addi v133 c5_i32_382
  let v1016 : Index := Scalar.indexCast v1015
  let c48_383 : Index := 48#32
  ![v1016.toNat, 48]
def k0_off71 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_388 : BitVec 32 := 5#32
  let v1033 : BitVec 32 := Scalar.addi v133 c5_i32_388
  let v1034 : Index := Scalar.indexCast v1033
  let c64_389 : Index := 64#32
  ![v1034.toNat, 64]
def k0_off72 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_394 : BitVec 32 := 5#32
  let v1051 : BitVec 32 := Scalar.addi v133 c5_i32_394
  let v1052 : Index := Scalar.indexCast v1051
  let c80_395 : Index := 80#32
  ![v1052.toNat, 80]
def k0_off73 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_400 : BitVec 32 := 5#32
  let v1069 : BitVec 32 := Scalar.addi v133 c5_i32_400
  let v1070 : Index := Scalar.indexCast v1069
  let c96_401 : Index := 96#32
  ![v1070.toNat, 96]
def k0_off74 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c5_i32_406 : BitVec 32 := 5#32
  let v1087 : BitVec 32 := Scalar.addi v133 c5_i32_406
  let v1088 : Index := Scalar.indexCast v1087
  let c112_407 : Index := 112#32
  ![v1088.toNat, 112]
def k0_off75 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond9 (v1115 : BitVec 32) (v1117 : BitVec 32) : BitVec 1 :=
  let v1118 : BitVec 1 := Scalar.cmpi .eq v1115 v1117
  let true_416 : BitVec 1 := 1#1
  let v1119 : BitVec 1 := Scalar.xori v1118 true_416
  let v1120 : BitVec 32 := Scalar.extui v1119
  let c0_i32_417 : BitVec 32 := 0#32
  let v1121 : BitVec 1 := Scalar.cmpi .ne v1120 c0_i32_417
  v1121

def k0_off76 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r12 : BitVec 32 := 0#32
  ![v2733.toNat, 0]

def k0_chk7 (i : grid0.Coords) (v135 : BitVec 32) (v137 : BitVec 32) (v140 : BitVec 32) (v1115 : BitVec 32) (v1117 : BitVec 32) (v2725 : BitVec 32) : Prop :=
  (∀ (k0_h2 : k0_cond2 v135 v137 v140 = 1#1), ∀ (k0_h9 : k0_cond9 v1115 v1117 = 1#1), ∀ a, (k0_off75 v2725) a + S16.size a ≤ S8320.size a) ∧
  (∀ (k0_h2 : k0_cond2 v135 v137 v140 = 1#1), ∀ (k0_h9 : k0_cond9 v1115 v1117 = 1#1), ∀ a, (k0_off76 i v2725) a + S1x128.size a ≤ S16640x128.size a)
theorem k0_off75_inb : ∀ (i : grid0.Coords) (v135 : BitVec 32) (v137 : BitVec 32) (v140 : BitVec 32) (v1115 : BitVec 32) (v1117 : BitVec 32) (v2725 : BitVec 32) (k0_hw7 : k0_chk7 i v135 v137 v140 v1115 v1117 v2725), ∀ (k0_h2 : k0_cond2 v135 v137 v140 = 1#1), ∀ (k0_h9 : k0_cond9 v1115 v1117 = 1#1), ∀ a, (k0_off75 v2725) a + S16.size a ≤ S8320.size a := fun i v135 v137 v140 v1115 v1117 v2725 k0_hw7 k0_h2 k0_h9 => k0_hw7.1 k0_h2 k0_h9
theorem k0_off76_inb : ∀ (i : grid0.Coords) (v135 : BitVec 32) (v137 : BitVec 32) (v140 : BitVec 32) (v1115 : BitVec 32) (v1117 : BitVec 32) (v2725 : BitVec 32) (k0_hw7 : k0_chk7 i v135 v137 v140 v1115 v1117 v2725), ∀ (k0_h2 : k0_cond2 v135 v137 v140 = 1#1), ∀ (k0_h9 : k0_cond9 v1115 v1117 = 1#1), ∀ a, (k0_off76 i v2725) a + S1x128.size a ≤ S16640x128.size a := fun i v135 v137 v140 v1115 v1117 v2725 k0_hw7 k0_h2 k0_h9 => k0_hw7.2 k0_h2 k0_h9

def k0_off77 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32 : BitVec 32 := 6#32
  let v1122 : BitVec 32 := Scalar.addi v133 c6_i32
  let v1123 : Index := Scalar.indexCast v1122
  let c0_418 : Index := 0#32
  ![v1123.toNat, 0]
def k0_off78 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_423 : BitVec 32 := 6#32
  let v1140 : BitVec 32 := Scalar.addi v133 c6_i32_423
  let v1141 : Index := Scalar.indexCast v1140
  let c16_424 : Index := 16#32
  ![v1141.toNat, 16]
def k0_off79 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_429 : BitVec 32 := 6#32
  let v1158 : BitVec 32 := Scalar.addi v133 c6_i32_429
  let v1159 : Index := Scalar.indexCast v1158
  let c32_430 : Index := 32#32
  ![v1159.toNat, 32]
def k0_off80 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_435 : BitVec 32 := 6#32
  let v1176 : BitVec 32 := Scalar.addi v133 c6_i32_435
  let v1177 : Index := Scalar.indexCast v1176
  let c48_436 : Index := 48#32
  ![v1177.toNat, 48]
def k0_off81 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_441 : BitVec 32 := 6#32
  let v1194 : BitVec 32 := Scalar.addi v133 c6_i32_441
  let v1195 : Index := Scalar.indexCast v1194
  let c64_442 : Index := 64#32
  ![v1195.toNat, 64]
def k0_off82 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_447 : BitVec 32 := 6#32
  let v1212 : BitVec 32 := Scalar.addi v133 c6_i32_447
  let v1213 : Index := Scalar.indexCast v1212
  let c80_448 : Index := 80#32
  ![v1213.toNat, 80]
def k0_off83 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_453 : BitVec 32 := 6#32
  let v1230 : BitVec 32 := Scalar.addi v133 c6_i32_453
  let v1231 : Index := Scalar.indexCast v1230
  let c96_454 : Index := 96#32
  ![v1231.toNat, 96]
def k0_off84 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c6_i32_459 : BitVec 32 := 6#32
  let v1248 : BitVec 32 := Scalar.addi v133 c6_i32_459
  let v1249 : Index := Scalar.indexCast v1248
  let c112_460 : Index := 112#32
  ![v1249.toNat, 112]
def k0_off85 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond10 (v1276 : BitVec 32) (v1278 : BitVec 32) : BitVec 1 :=
  let v1279 : BitVec 1 := Scalar.cmpi .eq v1276 v1278
  let true_469 : BitVec 1 := 1#1
  let v1280 : BitVec 1 := Scalar.xori v1279 true_469
  let v1281 : BitVec 32 := Scalar.extui v1280
  let c0_i32_470 : BitVec 32 := 0#32
  let v1282 : BitVec 1 := Scalar.cmpi .ne v1281 c0_i32_470
  v1282

def k0_off86 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r14 : BitVec 32 := 0#32
  ![v2733.toNat, 0]

def k0_chk8 (i : grid0.Coords) (v135 : BitVec 32) (v137 : BitVec 32) (v140 : BitVec 32) (v1276 : BitVec 32) (v1278 : BitVec 32) (v2725 : BitVec 32) : Prop :=
  (∀ (k0_h2 : k0_cond2 v135 v137 v140 = 1#1), ∀ (k0_h10 : k0_cond10 v1276 v1278 = 1#1), ∀ a, (k0_off85 v2725) a + S16.size a ≤ S8320.size a) ∧
  (∀ (k0_h2 : k0_cond2 v135 v137 v140 = 1#1), ∀ (k0_h10 : k0_cond10 v1276 v1278 = 1#1), ∀ a, (k0_off86 i v2725) a + S1x128.size a ≤ S16640x128.size a)
theorem k0_off85_inb : ∀ (i : grid0.Coords) (v135 : BitVec 32) (v137 : BitVec 32) (v140 : BitVec 32) (v1276 : BitVec 32) (v1278 : BitVec 32) (v2725 : BitVec 32) (k0_hw8 : k0_chk8 i v135 v137 v140 v1276 v1278 v2725), ∀ (k0_h2 : k0_cond2 v135 v137 v140 = 1#1), ∀ (k0_h10 : k0_cond10 v1276 v1278 = 1#1), ∀ a, (k0_off85 v2725) a + S16.size a ≤ S8320.size a := fun i v135 v137 v140 v1276 v1278 v2725 k0_hw8 k0_h2 k0_h10 => k0_hw8.1 k0_h2 k0_h10
theorem k0_off86_inb : ∀ (i : grid0.Coords) (v135 : BitVec 32) (v137 : BitVec 32) (v140 : BitVec 32) (v1276 : BitVec 32) (v1278 : BitVec 32) (v2725 : BitVec 32) (k0_hw8 : k0_chk8 i v135 v137 v140 v1276 v1278 v2725), ∀ (k0_h2 : k0_cond2 v135 v137 v140 = 1#1), ∀ (k0_h10 : k0_cond10 v1276 v1278 = 1#1), ∀ a, (k0_off86 i v2725) a + S1x128.size a ≤ S16640x128.size a := fun i v135 v137 v140 v1276 v1278 v2725 k0_hw8 k0_h2 k0_h10 => k0_hw8.2 k0_h2 k0_h10

def k0_off87 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32 : BitVec 32 := 7#32
  let v1283 : BitVec 32 := Scalar.addi v133 c7_i32
  let v1284 : Index := Scalar.indexCast v1283
  let c0_471 : Index := 0#32
  ![v1284.toNat, 0]
def k0_off88 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_476 : BitVec 32 := 7#32
  let v1301 : BitVec 32 := Scalar.addi v133 c7_i32_476
  let v1302 : Index := Scalar.indexCast v1301
  let c16_477 : Index := 16#32
  ![v1302.toNat, 16]
def k0_off89 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_482 : BitVec 32 := 7#32
  let v1319 : BitVec 32 := Scalar.addi v133 c7_i32_482
  let v1320 : Index := Scalar.indexCast v1319
  let c32_483 : Index := 32#32
  ![v1320.toNat, 32]
def k0_off90 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_488 : BitVec 32 := 7#32
  let v1337 : BitVec 32 := Scalar.addi v133 c7_i32_488
  let v1338 : Index := Scalar.indexCast v1337
  let c48_489 : Index := 48#32
  ![v1338.toNat, 48]
def k0_off91 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_494 : BitVec 32 := 7#32
  let v1355 : BitVec 32 := Scalar.addi v133 c7_i32_494
  let v1356 : Index := Scalar.indexCast v1355
  let c64_495 : Index := 64#32
  ![v1356.toNat, 64]
def k0_off92 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_500 : BitVec 32 := 7#32
  let v1373 : BitVec 32 := Scalar.addi v133 c7_i32_500
  let v1374 : Index := Scalar.indexCast v1373
  let c80_501 : Index := 80#32
  ![v1374.toNat, 80]
def k0_off93 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_506 : BitVec 32 := 7#32
  let v1391 : BitVec 32 := Scalar.addi v133 c7_i32_506
  let v1392 : Index := Scalar.indexCast v1391
  let c96_507 : Index := 96#32
  ![v1392.toNat, 96]
def k0_off94 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c7_i32_512 : BitVec 32 := 7#32
  let v1409 : BitVec 32 := Scalar.addi v133 c7_i32_512
  let v1410 : Index := Scalar.indexCast v1409
  let c112_513 : Index := 112#32
  ![v1410.toNat, 112]
def k0_off95 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond11 (v1437 : BitVec 32) (v1439 : BitVec 32) : BitVec 1 :=
  let v1440 : BitVec 1 := Scalar.cmpi .eq v1437 v1439
  let true_522 : BitVec 1 := 1#1
  let v1441 : BitVec 1 := Scalar.xori v1440 true_522
  let v1442 : BitVec 32 := Scalar.extui v1441
  let c0_i32_523 : BitVec 32 := 0#32
  let v1443 : BitVec 1 := Scalar.cmpi .ne v1442 c0_i32_523
  v1443

def k0_off96 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r16 : BitVec 32 := 0#32
  ![v2733.toNat, 0]

def k0_chk9 (i : grid0.Coords) (v135 : BitVec 32) (v137 : BitVec 32) (v140 : BitVec 32) (v1437 : BitVec 32) (v1439 : BitVec 32) (v2725 : BitVec 32) : Prop :=
  (∀ (k0_h2 : k0_cond2 v135 v137 v140 = 1#1), ∀ (k0_h11 : k0_cond11 v1437 v1439 = 1#1), ∀ a, (k0_off95 v2725) a + S16.size a ≤ S8320.size a) ∧
  (∀ (k0_h2 : k0_cond2 v135 v137 v140 = 1#1), ∀ (k0_h11 : k0_cond11 v1437 v1439 = 1#1), ∀ a, (k0_off96 i v2725) a + S1x128.size a ≤ S16640x128.size a)
theorem k0_off95_inb : ∀ (i : grid0.Coords) (v135 : BitVec 32) (v137 : BitVec 32) (v140 : BitVec 32) (v1437 : BitVec 32) (v1439 : BitVec 32) (v2725 : BitVec 32) (k0_hw9 : k0_chk9 i v135 v137 v140 v1437 v1439 v2725), ∀ (k0_h2 : k0_cond2 v135 v137 v140 = 1#1), ∀ (k0_h11 : k0_cond11 v1437 v1439 = 1#1), ∀ a, (k0_off95 v2725) a + S16.size a ≤ S8320.size a := fun i v135 v137 v140 v1437 v1439 v2725 k0_hw9 k0_h2 k0_h11 => k0_hw9.1 k0_h2 k0_h11
theorem k0_off96_inb : ∀ (i : grid0.Coords) (v135 : BitVec 32) (v137 : BitVec 32) (v140 : BitVec 32) (v1437 : BitVec 32) (v1439 : BitVec 32) (v2725 : BitVec 32) (k0_hw9 : k0_chk9 i v135 v137 v140 v1437 v1439 v2725), ∀ (k0_h2 : k0_cond2 v135 v137 v140 = 1#1), ∀ (k0_h11 : k0_cond11 v1437 v1439 = 1#1), ∀ a, (k0_off96 i v2725) a + S1x128.size a ≤ S16640x128.size a := fun i v135 v137 v140 v1437 v1439 v2725 k0_hw9 k0_h2 k0_h11 => k0_hw9.2 k0_h2 k0_h11

def k0_off97 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32 : BitVec 32 := 8#32
  let v1444 : BitVec 32 := Scalar.addi v133 c8_i32
  let v1445 : Index := Scalar.indexCast v1444
  let c0_524 : Index := 0#32
  ![v1445.toNat, 0]
def k0_off98 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_529 : BitVec 32 := 8#32
  let v1462 : BitVec 32 := Scalar.addi v133 c8_i32_529
  let v1463 : Index := Scalar.indexCast v1462
  let c16_530 : Index := 16#32
  ![v1463.toNat, 16]
def k0_off99 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_535 : BitVec 32 := 8#32
  let v1480 : BitVec 32 := Scalar.addi v133 c8_i32_535
  let v1481 : Index := Scalar.indexCast v1480
  let c32_536 : Index := 32#32
  ![v1481.toNat, 32]
def k0_off100 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_541 : BitVec 32 := 8#32
  let v1498 : BitVec 32 := Scalar.addi v133 c8_i32_541
  let v1499 : Index := Scalar.indexCast v1498
  let c48_542 : Index := 48#32
  ![v1499.toNat, 48]
def k0_off101 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_547 : BitVec 32 := 8#32
  let v1516 : BitVec 32 := Scalar.addi v133 c8_i32_547
  let v1517 : Index := Scalar.indexCast v1516
  let c64_548 : Index := 64#32
  ![v1517.toNat, 64]
def k0_off102 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_553 : BitVec 32 := 8#32
  let v1534 : BitVec 32 := Scalar.addi v133 c8_i32_553
  let v1535 : Index := Scalar.indexCast v1534
  let c80_554 : Index := 80#32
  ![v1535.toNat, 80]
def k0_off103 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_559 : BitVec 32 := 8#32
  let v1552 : BitVec 32 := Scalar.addi v133 c8_i32_559
  let v1553 : Index := Scalar.indexCast v1552
  let c96_560 : Index := 96#32
  ![v1553.toNat, 96]
def k0_off104 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c8_i32_565 : BitVec 32 := 8#32
  let v1570 : BitVec 32 := Scalar.addi v133 c8_i32_565
  let v1571 : Index := Scalar.indexCast v1570
  let c112_566 : Index := 112#32
  ![v1571.toNat, 112]
def k0_off105 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond12 (v1598 : BitVec 32) (v1600 : BitVec 32) : BitVec 1 :=
  let v1601 : BitVec 1 := Scalar.cmpi .eq v1598 v1600
  let true_575 : BitVec 1 := 1#1
  let v1602 : BitVec 1 := Scalar.xori v1601 true_575
  let v1603 : BitVec 32 := Scalar.extui v1602
  let c0_i32_576 : BitVec 32 := 0#32
  let v1604 : BitVec 1 := Scalar.cmpi .ne v1603 c0_i32_576
  v1604

def k0_off106 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r18 : BitVec 32 := 0#32
  ![v2733.toNat, 0]

def k0_chk10 (i : grid0.Coords) (v135 : BitVec 32) (v137 : BitVec 32) (v140 : BitVec 32) (v1598 : BitVec 32) (v1600 : BitVec 32) (v2725 : BitVec 32) : Prop :=
  (∀ (k0_h2 : k0_cond2 v135 v137 v140 = 1#1), ∀ (k0_h12 : k0_cond12 v1598 v1600 = 1#1), ∀ a, (k0_off105 v2725) a + S16.size a ≤ S8320.size a) ∧
  (∀ (k0_h2 : k0_cond2 v135 v137 v140 = 1#1), ∀ (k0_h12 : k0_cond12 v1598 v1600 = 1#1), ∀ a, (k0_off106 i v2725) a + S1x128.size a ≤ S16640x128.size a)
theorem k0_off105_inb : ∀ (i : grid0.Coords) (v135 : BitVec 32) (v137 : BitVec 32) (v140 : BitVec 32) (v1598 : BitVec 32) (v1600 : BitVec 32) (v2725 : BitVec 32) (k0_hw10 : k0_chk10 i v135 v137 v140 v1598 v1600 v2725), ∀ (k0_h2 : k0_cond2 v135 v137 v140 = 1#1), ∀ (k0_h12 : k0_cond12 v1598 v1600 = 1#1), ∀ a, (k0_off105 v2725) a + S16.size a ≤ S8320.size a := fun i v135 v137 v140 v1598 v1600 v2725 k0_hw10 k0_h2 k0_h12 => k0_hw10.1 k0_h2 k0_h12
theorem k0_off106_inb : ∀ (i : grid0.Coords) (v135 : BitVec 32) (v137 : BitVec 32) (v140 : BitVec 32) (v1598 : BitVec 32) (v1600 : BitVec 32) (v2725 : BitVec 32) (k0_hw10 : k0_chk10 i v135 v137 v140 v1598 v1600 v2725), ∀ (k0_h2 : k0_cond2 v135 v137 v140 = 1#1), ∀ (k0_h12 : k0_cond12 v1598 v1600 = 1#1), ∀ a, (k0_off106 i v2725) a + S1x128.size a ≤ S16640x128.size a := fun i v135 v137 v140 v1598 v1600 v2725 k0_hw10 k0_h2 k0_h12 => k0_hw10.2 k0_h2 k0_h12

def k0_off107 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32 : BitVec 32 := 9#32
  let v1605 : BitVec 32 := Scalar.addi v133 c9_i32
  let v1606 : Index := Scalar.indexCast v1605
  let c0_577 : Index := 0#32
  ![v1606.toNat, 0]
def k0_off108 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_582 : BitVec 32 := 9#32
  let v1623 : BitVec 32 := Scalar.addi v133 c9_i32_582
  let v1624 : Index := Scalar.indexCast v1623
  let c16_583 : Index := 16#32
  ![v1624.toNat, 16]
def k0_off109 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_588 : BitVec 32 := 9#32
  let v1641 : BitVec 32 := Scalar.addi v133 c9_i32_588
  let v1642 : Index := Scalar.indexCast v1641
  let c32_589 : Index := 32#32
  ![v1642.toNat, 32]
def k0_off110 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_594 : BitVec 32 := 9#32
  let v1659 : BitVec 32 := Scalar.addi v133 c9_i32_594
  let v1660 : Index := Scalar.indexCast v1659
  let c48_595 : Index := 48#32
  ![v1660.toNat, 48]
def k0_off111 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_600 : BitVec 32 := 9#32
  let v1677 : BitVec 32 := Scalar.addi v133 c9_i32_600
  let v1678 : Index := Scalar.indexCast v1677
  let c64_601 : Index := 64#32
  ![v1678.toNat, 64]
def k0_off112 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_606 : BitVec 32 := 9#32
  let v1695 : BitVec 32 := Scalar.addi v133 c9_i32_606
  let v1696 : Index := Scalar.indexCast v1695
  let c80_607 : Index := 80#32
  ![v1696.toNat, 80]
def k0_off113 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_612 : BitVec 32 := 9#32
  let v1713 : BitVec 32 := Scalar.addi v133 c9_i32_612
  let v1714 : Index := Scalar.indexCast v1713
  let c96_613 : Index := 96#32
  ![v1714.toNat, 96]
def k0_off114 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c9_i32_618 : BitVec 32 := 9#32
  let v1731 : BitVec 32 := Scalar.addi v133 c9_i32_618
  let v1732 : Index := Scalar.indexCast v1731
  let c112_619 : Index := 112#32
  ![v1732.toNat, 112]
def k0_off115 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond13 (v1759 : BitVec 32) (v1761 : BitVec 32) : BitVec 1 :=
  let v1762 : BitVec 1 := Scalar.cmpi .eq v1759 v1761
  let true_628 : BitVec 1 := 1#1
  let v1763 : BitVec 1 := Scalar.xori v1762 true_628
  let v1764 : BitVec 32 := Scalar.extui v1763
  let c0_i32_629 : BitVec 32 := 0#32
  let v1765 : BitVec 1 := Scalar.cmpi .ne v1764 c0_i32_629
  v1765

def k0_off116 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r20 : BitVec 32 := 0#32
  ![v2733.toNat, 0]

def k0_chk11 (i : grid0.Coords) (v135 : BitVec 32) (v137 : BitVec 32) (v140 : BitVec 32) (v1759 : BitVec 32) (v1761 : BitVec 32) (v2725 : BitVec 32) : Prop :=
  (∀ (k0_h2 : k0_cond2 v135 v137 v140 = 1#1), ∀ (k0_h13 : k0_cond13 v1759 v1761 = 1#1), ∀ a, (k0_off115 v2725) a + S16.size a ≤ S8320.size a) ∧
  (∀ (k0_h2 : k0_cond2 v135 v137 v140 = 1#1), ∀ (k0_h13 : k0_cond13 v1759 v1761 = 1#1), ∀ a, (k0_off116 i v2725) a + S1x128.size a ≤ S16640x128.size a)
theorem k0_off115_inb : ∀ (i : grid0.Coords) (v135 : BitVec 32) (v137 : BitVec 32) (v140 : BitVec 32) (v1759 : BitVec 32) (v1761 : BitVec 32) (v2725 : BitVec 32) (k0_hw11 : k0_chk11 i v135 v137 v140 v1759 v1761 v2725), ∀ (k0_h2 : k0_cond2 v135 v137 v140 = 1#1), ∀ (k0_h13 : k0_cond13 v1759 v1761 = 1#1), ∀ a, (k0_off115 v2725) a + S16.size a ≤ S8320.size a := fun i v135 v137 v140 v1759 v1761 v2725 k0_hw11 k0_h2 k0_h13 => k0_hw11.1 k0_h2 k0_h13
theorem k0_off116_inb : ∀ (i : grid0.Coords) (v135 : BitVec 32) (v137 : BitVec 32) (v140 : BitVec 32) (v1759 : BitVec 32) (v1761 : BitVec 32) (v2725 : BitVec 32) (k0_hw11 : k0_chk11 i v135 v137 v140 v1759 v1761 v2725), ∀ (k0_h2 : k0_cond2 v135 v137 v140 = 1#1), ∀ (k0_h13 : k0_cond13 v1759 v1761 = 1#1), ∀ a, (k0_off116 i v2725) a + S1x128.size a ≤ S16640x128.size a := fun i v135 v137 v140 v1759 v1761 v2725 k0_hw11 k0_h2 k0_h13 => k0_hw11.2 k0_h2 k0_h13

def k0_off117 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32 : BitVec 32 := 10#32
  let v1766 : BitVec 32 := Scalar.addi v133 c10_i32
  let v1767 : Index := Scalar.indexCast v1766
  let c0_630 : Index := 0#32
  ![v1767.toNat, 0]
def k0_off118 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_635 : BitVec 32 := 10#32
  let v1784 : BitVec 32 := Scalar.addi v133 c10_i32_635
  let v1785 : Index := Scalar.indexCast v1784
  let c16_636 : Index := 16#32
  ![v1785.toNat, 16]
def k0_off119 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_641 : BitVec 32 := 10#32
  let v1802 : BitVec 32 := Scalar.addi v133 c10_i32_641
  let v1803 : Index := Scalar.indexCast v1802
  let c32_642 : Index := 32#32
  ![v1803.toNat, 32]
def k0_off120 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_647 : BitVec 32 := 10#32
  let v1820 : BitVec 32 := Scalar.addi v133 c10_i32_647
  let v1821 : Index := Scalar.indexCast v1820
  let c48_648 : Index := 48#32
  ![v1821.toNat, 48]
def k0_off121 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_653 : BitVec 32 := 10#32
  let v1838 : BitVec 32 := Scalar.addi v133 c10_i32_653
  let v1839 : Index := Scalar.indexCast v1838
  let c64_654 : Index := 64#32
  ![v1839.toNat, 64]
def k0_off122 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_659 : BitVec 32 := 10#32
  let v1856 : BitVec 32 := Scalar.addi v133 c10_i32_659
  let v1857 : Index := Scalar.indexCast v1856
  let c80_660 : Index := 80#32
  ![v1857.toNat, 80]
def k0_off123 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_665 : BitVec 32 := 10#32
  let v1874 : BitVec 32 := Scalar.addi v133 c10_i32_665
  let v1875 : Index := Scalar.indexCast v1874
  let c96_666 : Index := 96#32
  ![v1875.toNat, 96]
def k0_off124 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c10_i32_671 : BitVec 32 := 10#32
  let v1892 : BitVec 32 := Scalar.addi v133 c10_i32_671
  let v1893 : Index := Scalar.indexCast v1892
  let c112_672 : Index := 112#32
  ![v1893.toNat, 112]
def k0_off125 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond14 (v1920 : BitVec 32) (v1922 : BitVec 32) : BitVec 1 :=
  let v1923 : BitVec 1 := Scalar.cmpi .eq v1920 v1922
  let true_681 : BitVec 1 := 1#1
  let v1924 : BitVec 1 := Scalar.xori v1923 true_681
  let v1925 : BitVec 32 := Scalar.extui v1924
  let c0_i32_682 : BitVec 32 := 0#32
  let v1926 : BitVec 1 := Scalar.cmpi .ne v1925 c0_i32_682
  v1926

def k0_off126 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r22 : BitVec 32 := 0#32
  ![v2733.toNat, 0]

def k0_chk12 (i : grid0.Coords) (v135 : BitVec 32) (v137 : BitVec 32) (v140 : BitVec 32) (v1920 : BitVec 32) (v1922 : BitVec 32) (v2725 : BitVec 32) : Prop :=
  (∀ (k0_h2 : k0_cond2 v135 v137 v140 = 1#1), ∀ (k0_h14 : k0_cond14 v1920 v1922 = 1#1), ∀ a, (k0_off125 v2725) a + S16.size a ≤ S8320.size a) ∧
  (∀ (k0_h2 : k0_cond2 v135 v137 v140 = 1#1), ∀ (k0_h14 : k0_cond14 v1920 v1922 = 1#1), ∀ a, (k0_off126 i v2725) a + S1x128.size a ≤ S16640x128.size a)
theorem k0_off125_inb : ∀ (i : grid0.Coords) (v135 : BitVec 32) (v137 : BitVec 32) (v140 : BitVec 32) (v1920 : BitVec 32) (v1922 : BitVec 32) (v2725 : BitVec 32) (k0_hw12 : k0_chk12 i v135 v137 v140 v1920 v1922 v2725), ∀ (k0_h2 : k0_cond2 v135 v137 v140 = 1#1), ∀ (k0_h14 : k0_cond14 v1920 v1922 = 1#1), ∀ a, (k0_off125 v2725) a + S16.size a ≤ S8320.size a := fun i v135 v137 v140 v1920 v1922 v2725 k0_hw12 k0_h2 k0_h14 => k0_hw12.1 k0_h2 k0_h14
theorem k0_off126_inb : ∀ (i : grid0.Coords) (v135 : BitVec 32) (v137 : BitVec 32) (v140 : BitVec 32) (v1920 : BitVec 32) (v1922 : BitVec 32) (v2725 : BitVec 32) (k0_hw12 : k0_chk12 i v135 v137 v140 v1920 v1922 v2725), ∀ (k0_h2 : k0_cond2 v135 v137 v140 = 1#1), ∀ (k0_h14 : k0_cond14 v1920 v1922 = 1#1), ∀ a, (k0_off126 i v2725) a + S1x128.size a ≤ S16640x128.size a := fun i v135 v137 v140 v1920 v1922 v2725 k0_hw12 k0_h2 k0_h14 => k0_hw12.2 k0_h2 k0_h14

def k0_off127 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32 : BitVec 32 := 11#32
  let v1927 : BitVec 32 := Scalar.addi v133 c11_i32
  let v1928 : Index := Scalar.indexCast v1927
  let c0_683 : Index := 0#32
  ![v1928.toNat, 0]
def k0_off128 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_688 : BitVec 32 := 11#32
  let v1945 : BitVec 32 := Scalar.addi v133 c11_i32_688
  let v1946 : Index := Scalar.indexCast v1945
  let c16_689 : Index := 16#32
  ![v1946.toNat, 16]
def k0_off129 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_694 : BitVec 32 := 11#32
  let v1963 : BitVec 32 := Scalar.addi v133 c11_i32_694
  let v1964 : Index := Scalar.indexCast v1963
  let c32_695 : Index := 32#32
  ![v1964.toNat, 32]
def k0_off130 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_700 : BitVec 32 := 11#32
  let v1981 : BitVec 32 := Scalar.addi v133 c11_i32_700
  let v1982 : Index := Scalar.indexCast v1981
  let c48_701 : Index := 48#32
  ![v1982.toNat, 48]
def k0_off131 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_706 : BitVec 32 := 11#32
  let v1999 : BitVec 32 := Scalar.addi v133 c11_i32_706
  let v2000 : Index := Scalar.indexCast v1999
  let c64_707 : Index := 64#32
  ![v2000.toNat, 64]
def k0_off132 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_712 : BitVec 32 := 11#32
  let v2017 : BitVec 32 := Scalar.addi v133 c11_i32_712
  let v2018 : Index := Scalar.indexCast v2017
  let c80_713 : Index := 80#32
  ![v2018.toNat, 80]
def k0_off133 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_718 : BitVec 32 := 11#32
  let v2035 : BitVec 32 := Scalar.addi v133 c11_i32_718
  let v2036 : Index := Scalar.indexCast v2035
  let c96_719 : Index := 96#32
  ![v2036.toNat, 96]
def k0_off134 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c11_i32_724 : BitVec 32 := 11#32
  let v2053 : BitVec 32 := Scalar.addi v133 c11_i32_724
  let v2054 : Index := Scalar.indexCast v2053
  let c112_725 : Index := 112#32
  ![v2054.toNat, 112]
def k0_off135 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond15 (v2081 : BitVec 32) (v2083 : BitVec 32) : BitVec 1 :=
  let v2084 : BitVec 1 := Scalar.cmpi .eq v2081 v2083
  let true_734 : BitVec 1 := 1#1
  let v2085 : BitVec 1 := Scalar.xori v2084 true_734
  let v2086 : BitVec 32 := Scalar.extui v2085
  let c0_i32_735 : BitVec 32 := 0#32
  let v2087 : BitVec 1 := Scalar.cmpi .ne v2086 c0_i32_735
  v2087

def k0_off136 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r24 : BitVec 32 := 0#32
  ![v2733.toNat, 0]

def k0_chk13 (i : grid0.Coords) (v135 : BitVec 32) (v137 : BitVec 32) (v140 : BitVec 32) (v2081 : BitVec 32) (v2083 : BitVec 32) (v2725 : BitVec 32) : Prop :=
  (∀ (k0_h2 : k0_cond2 v135 v137 v140 = 1#1), ∀ (k0_h15 : k0_cond15 v2081 v2083 = 1#1), ∀ a, (k0_off135 v2725) a + S16.size a ≤ S8320.size a) ∧
  (∀ (k0_h2 : k0_cond2 v135 v137 v140 = 1#1), ∀ (k0_h15 : k0_cond15 v2081 v2083 = 1#1), ∀ a, (k0_off136 i v2725) a + S1x128.size a ≤ S16640x128.size a)
theorem k0_off135_inb : ∀ (i : grid0.Coords) (v135 : BitVec 32) (v137 : BitVec 32) (v140 : BitVec 32) (v2081 : BitVec 32) (v2083 : BitVec 32) (v2725 : BitVec 32) (k0_hw13 : k0_chk13 i v135 v137 v140 v2081 v2083 v2725), ∀ (k0_h2 : k0_cond2 v135 v137 v140 = 1#1), ∀ (k0_h15 : k0_cond15 v2081 v2083 = 1#1), ∀ a, (k0_off135 v2725) a + S16.size a ≤ S8320.size a := fun i v135 v137 v140 v2081 v2083 v2725 k0_hw13 k0_h2 k0_h15 => k0_hw13.1 k0_h2 k0_h15
theorem k0_off136_inb : ∀ (i : grid0.Coords) (v135 : BitVec 32) (v137 : BitVec 32) (v140 : BitVec 32) (v2081 : BitVec 32) (v2083 : BitVec 32) (v2725 : BitVec 32) (k0_hw13 : k0_chk13 i v135 v137 v140 v2081 v2083 v2725), ∀ (k0_h2 : k0_cond2 v135 v137 v140 = 1#1), ∀ (k0_h15 : k0_cond15 v2081 v2083 = 1#1), ∀ a, (k0_off136 i v2725) a + S1x128.size a ≤ S16640x128.size a := fun i v135 v137 v140 v2081 v2083 v2725 k0_hw13 k0_h2 k0_h15 => k0_hw13.2 k0_h2 k0_h15

def k0_off137 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_736 : BitVec 32 := 12#32
  let v2088 : BitVec 32 := Scalar.addi v133 c12_i32_736
  let v2089 : Index := Scalar.indexCast v2088
  let c0_737 : Index := 0#32
  ![v2089.toNat, 0]
def k0_off138 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_742 : BitVec 32 := 12#32
  let v2106 : BitVec 32 := Scalar.addi v133 c12_i32_742
  let v2107 : Index := Scalar.indexCast v2106
  let c16_743 : Index := 16#32
  ![v2107.toNat, 16]
def k0_off139 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_748 : BitVec 32 := 12#32
  let v2124 : BitVec 32 := Scalar.addi v133 c12_i32_748
  let v2125 : Index := Scalar.indexCast v2124
  let c32_749 : Index := 32#32
  ![v2125.toNat, 32]
def k0_off140 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_754 : BitVec 32 := 12#32
  let v2142 : BitVec 32 := Scalar.addi v133 c12_i32_754
  let v2143 : Index := Scalar.indexCast v2142
  let c48_755 : Index := 48#32
  ![v2143.toNat, 48]
def k0_off141 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_760 : BitVec 32 := 12#32
  let v2160 : BitVec 32 := Scalar.addi v133 c12_i32_760
  let v2161 : Index := Scalar.indexCast v2160
  let c64_761 : Index := 64#32
  ![v2161.toNat, 64]
def k0_off142 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_766 : BitVec 32 := 12#32
  let v2178 : BitVec 32 := Scalar.addi v133 c12_i32_766
  let v2179 : Index := Scalar.indexCast v2178
  let c80_767 : Index := 80#32
  ![v2179.toNat, 80]
def k0_off143 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_772 : BitVec 32 := 12#32
  let v2196 : BitVec 32 := Scalar.addi v133 c12_i32_772
  let v2197 : Index := Scalar.indexCast v2196
  let c96_773 : Index := 96#32
  ![v2197.toNat, 96]
def k0_off144 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c12_i32_778 : BitVec 32 := 12#32
  let v2214 : BitVec 32 := Scalar.addi v133 c12_i32_778
  let v2215 : Index := Scalar.indexCast v2214
  let c112_779 : Index := 112#32
  ![v2215.toNat, 112]
def k0_off145 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond16 (v2242 : BitVec 32) (v2244 : BitVec 32) : BitVec 1 :=
  let v2245 : BitVec 1 := Scalar.cmpi .eq v2242 v2244
  let true_788 : BitVec 1 := 1#1
  let v2246 : BitVec 1 := Scalar.xori v2245 true_788
  let v2247 : BitVec 32 := Scalar.extui v2246
  let c0_i32_789 : BitVec 32 := 0#32
  let v2248 : BitVec 1 := Scalar.cmpi .ne v2247 c0_i32_789
  v2248

def k0_off146 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r26 : BitVec 32 := 0#32
  ![v2733.toNat, 0]

def k0_chk14 (i : grid0.Coords) (v135 : BitVec 32) (v137 : BitVec 32) (v140 : BitVec 32) (v2242 : BitVec 32) (v2244 : BitVec 32) (v2725 : BitVec 32) : Prop :=
  (∀ (k0_h2 : k0_cond2 v135 v137 v140 = 1#1), ∀ (k0_h16 : k0_cond16 v2242 v2244 = 1#1), ∀ a, (k0_off145 v2725) a + S16.size a ≤ S8320.size a) ∧
  (∀ (k0_h2 : k0_cond2 v135 v137 v140 = 1#1), ∀ (k0_h16 : k0_cond16 v2242 v2244 = 1#1), ∀ a, (k0_off146 i v2725) a + S1x128.size a ≤ S16640x128.size a)
theorem k0_off145_inb : ∀ (i : grid0.Coords) (v135 : BitVec 32) (v137 : BitVec 32) (v140 : BitVec 32) (v2242 : BitVec 32) (v2244 : BitVec 32) (v2725 : BitVec 32) (k0_hw14 : k0_chk14 i v135 v137 v140 v2242 v2244 v2725), ∀ (k0_h2 : k0_cond2 v135 v137 v140 = 1#1), ∀ (k0_h16 : k0_cond16 v2242 v2244 = 1#1), ∀ a, (k0_off145 v2725) a + S16.size a ≤ S8320.size a := fun i v135 v137 v140 v2242 v2244 v2725 k0_hw14 k0_h2 k0_h16 => k0_hw14.1 k0_h2 k0_h16
theorem k0_off146_inb : ∀ (i : grid0.Coords) (v135 : BitVec 32) (v137 : BitVec 32) (v140 : BitVec 32) (v2242 : BitVec 32) (v2244 : BitVec 32) (v2725 : BitVec 32) (k0_hw14 : k0_chk14 i v135 v137 v140 v2242 v2244 v2725), ∀ (k0_h2 : k0_cond2 v135 v137 v140 = 1#1), ∀ (k0_h16 : k0_cond16 v2242 v2244 = 1#1), ∀ a, (k0_off146 i v2725) a + S1x128.size a ≤ S16640x128.size a := fun i v135 v137 v140 v2242 v2244 v2725 k0_hw14 k0_h2 k0_h16 => k0_hw14.2 k0_h2 k0_h16

def k0_off147 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32 : BitVec 32 := 13#32
  let v2249 : BitVec 32 := Scalar.addi v133 c13_i32
  let v2250 : Index := Scalar.indexCast v2249
  let c0_790 : Index := 0#32
  ![v2250.toNat, 0]
def k0_off148 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_795 : BitVec 32 := 13#32
  let v2267 : BitVec 32 := Scalar.addi v133 c13_i32_795
  let v2268 : Index := Scalar.indexCast v2267
  let c16_796 : Index := 16#32
  ![v2268.toNat, 16]
def k0_off149 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_801 : BitVec 32 := 13#32
  let v2285 : BitVec 32 := Scalar.addi v133 c13_i32_801
  let v2286 : Index := Scalar.indexCast v2285
  let c32_802 : Index := 32#32
  ![v2286.toNat, 32]
def k0_off150 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_807 : BitVec 32 := 13#32
  let v2303 : BitVec 32 := Scalar.addi v133 c13_i32_807
  let v2304 : Index := Scalar.indexCast v2303
  let c48_808 : Index := 48#32
  ![v2304.toNat, 48]
def k0_off151 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_813 : BitVec 32 := 13#32
  let v2321 : BitVec 32 := Scalar.addi v133 c13_i32_813
  let v2322 : Index := Scalar.indexCast v2321
  let c64_814 : Index := 64#32
  ![v2322.toNat, 64]
def k0_off152 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_819 : BitVec 32 := 13#32
  let v2339 : BitVec 32 := Scalar.addi v133 c13_i32_819
  let v2340 : Index := Scalar.indexCast v2339
  let c80_820 : Index := 80#32
  ![v2340.toNat, 80]
def k0_off153 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_825 : BitVec 32 := 13#32
  let v2357 : BitVec 32 := Scalar.addi v133 c13_i32_825
  let v2358 : Index := Scalar.indexCast v2357
  let c96_826 : Index := 96#32
  ![v2358.toNat, 96]
def k0_off154 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c13_i32_831 : BitVec 32 := 13#32
  let v2375 : BitVec 32 := Scalar.addi v133 c13_i32_831
  let v2376 : Index := Scalar.indexCast v2375
  let c112_832 : Index := 112#32
  ![v2376.toNat, 112]
def k0_off155 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond17 (v2403 : BitVec 32) (v2405 : BitVec 32) : BitVec 1 :=
  let v2406 : BitVec 1 := Scalar.cmpi .eq v2403 v2405
  let true_841 : BitVec 1 := 1#1
  let v2407 : BitVec 1 := Scalar.xori v2406 true_841
  let v2408 : BitVec 32 := Scalar.extui v2407
  let c0_i32_842 : BitVec 32 := 0#32
  let v2409 : BitVec 1 := Scalar.cmpi .ne v2408 c0_i32_842
  v2409

def k0_off156 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r28 : BitVec 32 := 0#32
  ![v2733.toNat, 0]

def k0_chk15 (i : grid0.Coords) (v135 : BitVec 32) (v137 : BitVec 32) (v140 : BitVec 32) (v2403 : BitVec 32) (v2405 : BitVec 32) (v2725 : BitVec 32) : Prop :=
  (∀ (k0_h2 : k0_cond2 v135 v137 v140 = 1#1), ∀ (k0_h17 : k0_cond17 v2403 v2405 = 1#1), ∀ a, (k0_off155 v2725) a + S16.size a ≤ S8320.size a) ∧
  (∀ (k0_h2 : k0_cond2 v135 v137 v140 = 1#1), ∀ (k0_h17 : k0_cond17 v2403 v2405 = 1#1), ∀ a, (k0_off156 i v2725) a + S1x128.size a ≤ S16640x128.size a)
theorem k0_off155_inb : ∀ (i : grid0.Coords) (v135 : BitVec 32) (v137 : BitVec 32) (v140 : BitVec 32) (v2403 : BitVec 32) (v2405 : BitVec 32) (v2725 : BitVec 32) (k0_hw15 : k0_chk15 i v135 v137 v140 v2403 v2405 v2725), ∀ (k0_h2 : k0_cond2 v135 v137 v140 = 1#1), ∀ (k0_h17 : k0_cond17 v2403 v2405 = 1#1), ∀ a, (k0_off155 v2725) a + S16.size a ≤ S8320.size a := fun i v135 v137 v140 v2403 v2405 v2725 k0_hw15 k0_h2 k0_h17 => k0_hw15.1 k0_h2 k0_h17
theorem k0_off156_inb : ∀ (i : grid0.Coords) (v135 : BitVec 32) (v137 : BitVec 32) (v140 : BitVec 32) (v2403 : BitVec 32) (v2405 : BitVec 32) (v2725 : BitVec 32) (k0_hw15 : k0_chk15 i v135 v137 v140 v2403 v2405 v2725), ∀ (k0_h2 : k0_cond2 v135 v137 v140 = 1#1), ∀ (k0_h17 : k0_cond17 v2403 v2405 = 1#1), ∀ a, (k0_off156 i v2725) a + S1x128.size a ≤ S16640x128.size a := fun i v135 v137 v140 v2403 v2405 v2725 k0_hw15 k0_h2 k0_h17 => k0_hw15.2 k0_h2 k0_h17

def k0_off157 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32 : BitVec 32 := 14#32
  let v2410 : BitVec 32 := Scalar.addi v133 c14_i32
  let v2411 : Index := Scalar.indexCast v2410
  let c0_843 : Index := 0#32
  ![v2411.toNat, 0]
def k0_off158 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_848 : BitVec 32 := 14#32
  let v2428 : BitVec 32 := Scalar.addi v133 c14_i32_848
  let v2429 : Index := Scalar.indexCast v2428
  let c16_849 : Index := 16#32
  ![v2429.toNat, 16]
def k0_off159 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_854 : BitVec 32 := 14#32
  let v2446 : BitVec 32 := Scalar.addi v133 c14_i32_854
  let v2447 : Index := Scalar.indexCast v2446
  let c32_855 : Index := 32#32
  ![v2447.toNat, 32]
def k0_off160 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_860 : BitVec 32 := 14#32
  let v2464 : BitVec 32 := Scalar.addi v133 c14_i32_860
  let v2465 : Index := Scalar.indexCast v2464
  let c48_861 : Index := 48#32
  ![v2465.toNat, 48]
def k0_off161 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_866 : BitVec 32 := 14#32
  let v2482 : BitVec 32 := Scalar.addi v133 c14_i32_866
  let v2483 : Index := Scalar.indexCast v2482
  let c64_867 : Index := 64#32
  ![v2483.toNat, 64]
def k0_off162 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_872 : BitVec 32 := 14#32
  let v2500 : BitVec 32 := Scalar.addi v133 c14_i32_872
  let v2501 : Index := Scalar.indexCast v2500
  let c80_873 : Index := 80#32
  ![v2501.toNat, 80]
def k0_off163 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_878 : BitVec 32 := 14#32
  let v2518 : BitVec 32 := Scalar.addi v133 c14_i32_878
  let v2519 : Index := Scalar.indexCast v2518
  let c96_879 : Index := 96#32
  ![v2519.toNat, 96]
def k0_off164 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c14_i32_884 : BitVec 32 := 14#32
  let v2536 : BitVec 32 := Scalar.addi v133 c14_i32_884
  let v2537 : Index := Scalar.indexCast v2536
  let c112_885 : Index := 112#32
  ![v2537.toNat, 112]
def k0_off165 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond18 (v2564 : BitVec 32) (v2566 : BitVec 32) : BitVec 1 :=
  let v2567 : BitVec 1 := Scalar.cmpi .eq v2564 v2566
  let true_894 : BitVec 1 := 1#1
  let v2568 : BitVec 1 := Scalar.xori v2567 true_894
  let v2569 : BitVec 32 := Scalar.extui v2568
  let c0_i32_895 : BitVec 32 := 0#32
  let v2570 : BitVec 1 := Scalar.cmpi .ne v2569 c0_i32_895
  v2570

def k0_off166 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r30 : BitVec 32 := 0#32
  ![v2733.toNat, 0]

def k0_chk16 (i : grid0.Coords) (v135 : BitVec 32) (v137 : BitVec 32) (v140 : BitVec 32) (v2564 : BitVec 32) (v2566 : BitVec 32) (v2725 : BitVec 32) : Prop :=
  (∀ (k0_h2 : k0_cond2 v135 v137 v140 = 1#1), ∀ (k0_h18 : k0_cond18 v2564 v2566 = 1#1), ∀ a, (k0_off165 v2725) a + S16.size a ≤ S8320.size a) ∧
  (∀ (k0_h2 : k0_cond2 v135 v137 v140 = 1#1), ∀ (k0_h18 : k0_cond18 v2564 v2566 = 1#1), ∀ a, (k0_off166 i v2725) a + S1x128.size a ≤ S16640x128.size a)
theorem k0_off165_inb : ∀ (i : grid0.Coords) (v135 : BitVec 32) (v137 : BitVec 32) (v140 : BitVec 32) (v2564 : BitVec 32) (v2566 : BitVec 32) (v2725 : BitVec 32) (k0_hw16 : k0_chk16 i v135 v137 v140 v2564 v2566 v2725), ∀ (k0_h2 : k0_cond2 v135 v137 v140 = 1#1), ∀ (k0_h18 : k0_cond18 v2564 v2566 = 1#1), ∀ a, (k0_off165 v2725) a + S16.size a ≤ S8320.size a := fun i v135 v137 v140 v2564 v2566 v2725 k0_hw16 k0_h2 k0_h18 => k0_hw16.1 k0_h2 k0_h18
theorem k0_off166_inb : ∀ (i : grid0.Coords) (v135 : BitVec 32) (v137 : BitVec 32) (v140 : BitVec 32) (v2564 : BitVec 32) (v2566 : BitVec 32) (v2725 : BitVec 32) (k0_hw16 : k0_chk16 i v135 v137 v140 v2564 v2566 v2725), ∀ (k0_h2 : k0_cond2 v135 v137 v140 = 1#1), ∀ (k0_h18 : k0_cond18 v2564 v2566 = 1#1), ∀ a, (k0_off166 i v2725) a + S1x128.size a ≤ S16640x128.size a := fun i v135 v137 v140 v2564 v2566 v2725 k0_hw16 k0_h2 k0_h18 => k0_hw16.2 k0_h2 k0_h18

def k0_off167 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32 : BitVec 32 := 15#32
  let v2571 : BitVec 32 := Scalar.addi v133 c15_i32
  let v2572 : Index := Scalar.indexCast v2571
  let c0_896 : Index := 0#32
  ![v2572.toNat, 0]
def k0_off168 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_901 : BitVec 32 := 15#32
  let v2589 : BitVec 32 := Scalar.addi v133 c15_i32_901
  let v2590 : Index := Scalar.indexCast v2589
  let c16_902 : Index := 16#32
  ![v2590.toNat, 16]
def k0_off169 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_907 : BitVec 32 := 15#32
  let v2607 : BitVec 32 := Scalar.addi v133 c15_i32_907
  let v2608 : Index := Scalar.indexCast v2607
  let c32_908 : Index := 32#32
  ![v2608.toNat, 32]
def k0_off170 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_913 : BitVec 32 := 15#32
  let v2625 : BitVec 32 := Scalar.addi v133 c15_i32_913
  let v2626 : Index := Scalar.indexCast v2625
  let c48_914 : Index := 48#32
  ![v2626.toNat, 48]
def k0_off171 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_919 : BitVec 32 := 15#32
  let v2643 : BitVec 32 := Scalar.addi v133 c15_i32_919
  let v2644 : Index := Scalar.indexCast v2643
  let c64_920 : Index := 64#32
  ![v2644.toNat, 64]
def k0_off172 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_925 : BitVec 32 := 15#32
  let v2661 : BitVec 32 := Scalar.addi v133 c15_i32_925
  let v2662 : Index := Scalar.indexCast v2661
  let c80_926 : Index := 80#32
  ![v2662.toNat, 80]
def k0_off173 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_931 : BitVec 32 := 15#32
  let v2679 : BitVec 32 := Scalar.addi v133 c15_i32_931
  let v2680 : Index := Scalar.indexCast v2679
  let c96_932 : Index := 96#32
  ![v2680.toNat, 96]
def k0_off174 (k0_t3 : Fin k0_t3_loop.trips) : Fin 2 → Nat :=
  let c0_i32_96 : BitVec 32 := 0#32
  let c0_i32_63 : BitVec 32 := 0#32
  let c1_i32_65 : BitVec 32 := 1#32
  let arg18 : BitVec 32 := Scf.iv c0_i32_63 c1_i32_65 k0_t3
  let c16_i32_95 : BitVec 32 := 16#32
  let v132 : BitVec 32 := Scalar.muli arg18 c16_i32_95
  let v133 : BitVec 32 := Scalar.addi c0_i32_96 v132
  let c15_i32_937 : BitVec 32 := 15#32
  let v2697 : BitVec 32 := Scalar.addi v133 c15_i32_937
  let v2698 : Index := Scalar.indexCast v2697
  let c112_938 : Index := 112#32
  ![v2698.toNat, 112]
def k0_cond19 (k0_t2 : Fin k0_t2_loop.trips) : BitVec 1 :=
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c2_i32_67 : BitVec 32 := 2#32
  let v97 : BitVec 32 := Scalar.addi v76 c2_i32_67
  let c25_i32_68 : BitVec 32 := 25#32
  let v98 : BitVec 1 := Scalar.cmpi .slt v97 c25_i32_68
  let v99 : BitVec 32 := Scalar.extui v98
  let c0_i32_69 : BitVec 32 := 0#32
  let v100 : BitVec 1 := Scalar.cmpi .ne v99 c0_i32_69
  v100

def k0_mult9 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c2_i32_93 : BitVec 32 := 2#32
  let v127 : BitVec 32 := Scalar.addi v76 c2_i32_93
  let c400_i32_94 : BitVec 32 := 400#32
  let v128 : BitVec 32 := Scalar.muli v127 c400_i32_94
  let v129 : BitVec 32 := Scalar.addi v3 v128
  v129
def k0_off175 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c2_i32_93 : BitVec 32 := 2#32
  let v127 : BitVec 32 := Scalar.addi v76 c2_i32_93
  let c400_i32_94 : BitVec 32 := 400#32
  let v128 : BitVec 32 := Scalar.muli v127 c400_i32_94
  let v129 : BitVec 32 := Scalar.addi v3 v128
  let v130 : BitVec 32 := v129
  let c0_i32_98 : BitVec 32 := 0#32
  ![v130.toNat, 0]
def k0_mult10 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c2_i32_102 : BitVec 32 := 2#32
  let v137 : BitVec 32 := Scalar.addi v76 c2_i32_102
  let c400_i32_103 : BitVec 32 := 400#32
  let v138 : BitVec 32 := Scalar.muli v137 c400_i32_103
  let v139 : BitVec 32 := Scalar.addi v3 v138
  v139
def k0_off176 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32 : BitVec 32 := 2#32
  let c0_i32_29 : BitVec 32 := 0#32
  let c1_i32_30 : BitVec 32 := 1#32
  let arg16 : BitVec 32 := Scf.iv c0_i32_29 c1_i32_30 k0_t2
  let v75 : BitVec 32 := Scalar.muli c2_i32 arg16
  let c0_i32_49 : BitVec 32 := 0#32
  let v76 : BitVec 32 := Scalar.addi v75 c0_i32_49
  let c2_i32_102 : BitVec 32 := 2#32
  let v137 : BitVec 32 := Scalar.addi v76 c2_i32_102
  let c400_i32_103 : BitVec 32 := 400#32
  let v138 : BitVec 32 := Scalar.muli v137 c400_i32_103
  let v139 : BitVec 32 := Scalar.addi v3 v138
  let v140 : BitVec 32 := v139
  ![v140.toNat]
def k0_mult11 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c400_i32_72 : BitVec 32 := 400#32
  let v103 : BitVec 32 := Scalar.muli v102 c400_i32_72
  let v104 : BitVec 32 := Scalar.addi v3 v103
  v104
def k0_mult12 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c400_i32_80 : BitVec 32 := 400#32
  let v112 : BitVec 32 := Scalar.muli v102 c400_i32_80
  let v113 : BitVec 32 := Scalar.addi v3 v112
  v113
@[reducible] def k0_t4_loop : Scf.Loop 32 :=
  let c0_i32_85 : BitVec 32 := 0#32
  let c25_i32_86 : BitVec 32 := 25#32
  let v121 : BitVec 32 := Scalar.addi c0_i32_85 c25_i32_86
  let c1_i32_87 : BitVec 32 := 1#32
  ⟨c0_i32_85, v121, c1_i32_87⟩
def k0_off177 (k0_t4 : Fin k0_t4_loop.trips) : Fin 1 → Nat :=
  let c400_i32_94 : BitVec 32 := 400#32
  let c0_i32_85 : BitVec 32 := 0#32
  let c1_i32_87 : BitVec 32 := 1#32
  let arg18 : BitVec 32 := Scf.iv c0_i32_85 c1_i32_87 k0_t4
  let c16_i32_93 : BitVec 32 := 16#32
  let v127 : BitVec 32 := Scalar.muli arg18 c16_i32_93
  let v128 : BitVec 32 := Scalar.addi c400_i32_94 v127
  let v129 : Index := Scalar.indexCast v128
  ![v129.toNat]
def k0_off178 (k0_t4 : Fin k0_t4_loop.trips) (c0_i32_101 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v148 : BitVec 32 := Scalar.addi v133 c0_i32_101
  let v149 : Index := Scalar.indexCast v148
  let c0_102 : Index := 0#32
  ![v149.toNat, 0]
def k0_off179 (k0_t4 : Fin k0_t4_loop.trips) (c0_i32_125 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v254 : BitVec 32 := Scalar.addi v133 c0_i32_125
  let v255 : Index := Scalar.indexCast v254
  let c16 : Index := 16#32
  ![v255.toNat, 16]
def k0_off180 (k0_t4 : Fin k0_t4_loop.trips) (c0_i32_160 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v360 : BitVec 32 := Scalar.addi v133 c0_i32_160
  let v361 : Index := Scalar.indexCast v360
  let c32 : Index := 32#32
  ![v361.toNat, 32]
def k0_off181 (k0_t4 : Fin k0_t4_loop.trips) (c0_i32_195 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v466 : BitVec 32 := Scalar.addi v133 c0_i32_195
  let v467 : Index := Scalar.indexCast v466
  let c48 : Index := 48#32
  ![v467.toNat, 48]
def k0_off182 (k0_t4 : Fin k0_t4_loop.trips) (c0_i32_230 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v572 : BitVec 32 := Scalar.addi v133 c0_i32_230
  let v573 : Index := Scalar.indexCast v572
  let c64 : Index := 64#32
  ![v573.toNat, 64]
def k0_off183 (k0_t4 : Fin k0_t4_loop.trips) (c0_i32_265 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v678 : BitVec 32 := Scalar.addi v133 c0_i32_265
  let v679 : Index := Scalar.indexCast v678
  let c80 : Index := 80#32
  ![v679.toNat, 80]
def k0_off184 (k0_t4 : Fin k0_t4_loop.trips) (c0_i32_300 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v784 : BitVec 32 := Scalar.addi v133 c0_i32_300
  let v785 : Index := Scalar.indexCast v784
  let c96 : Index := 96#32
  ![v785.toNat, 96]
def k0_off185 (k0_t4 : Fin k0_t4_loop.trips) (c0_i32_335 : BitVec 32) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let v890 : BitVec 32 := Scalar.addi v133 c0_i32_335
  let v891 : Index := Scalar.indexCast v890
  let c112 : Index := 112#32
  ![v891.toNat, 112]
def k0_off186 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond21 (v135 : BitVec 32) (v137 : BitVec 32) (v140 : BitVec 32) : BitVec 1 :=
  let v138 : BitVec 1 := Scalar.cmpi .eq v135 v137
  let v141 : BitVec 1 := Scalar.cmpi .eq v135 v140
  let v142 : BitVec 1 := Scalar.andi v138 v141
  let v_true : BitVec 1 := 1#1
  let v145 : BitVec 1 := Scalar.xori v142 v_true
  let v146 : BitVec 32 := Scalar.extui v145
  let c0_i32_99 : BitVec 32 := 0#32
  let v147 : BitVec 1 := Scalar.cmpi .ne v146 c0_i32_99
  v147

def k0_cond22 (v149 : BitVec 32) (v151 : BitVec 32) : BitVec 1 :=
  let v152 : BitVec 1 := Scalar.cmpi .eq v149 v151
  let true_102 : BitVec 1 := 1#1
  let v153 : BitVec 1 := Scalar.xori v152 true_102
  let v154 : BitVec 32 := Scalar.extui v153
  let c0_i32_103 : BitVec 32 := 0#32
  let v155 : BitVec 1 := Scalar.cmpi .ne v154 c0_i32_103
  v155

def k0_off187 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r32 : BitVec 32 := 0#32
  ![v2733.toNat, 0]

def k0_chk17 (i : grid0.Coords) (v135 : BitVec 32) (v137 : BitVec 32) (v140 : BitVec 32) (v149 : BitVec 32) (v151 : BitVec 32) (v2725 : BitVec 32) : Prop :=
  (∀ (k0_h21 : k0_cond21 v135 v137 v140 = 1#1), ∀ (k0_h22 : k0_cond22 v149 v151 = 1#1), ∀ a, (k0_off186 v2725) a + S16.size a ≤ S8320.size a) ∧
  (∀ (k0_h21 : k0_cond21 v135 v137 v140 = 1#1), ∀ (k0_h22 : k0_cond22 v149 v151 = 1#1), ∀ a, (k0_off187 i v2725) a + S1x128.size a ≤ S16640x128.size a)
theorem k0_off186_inb : ∀ (i : grid0.Coords) (v135 : BitVec 32) (v137 : BitVec 32) (v140 : BitVec 32) (v149 : BitVec 32) (v151 : BitVec 32) (v2725 : BitVec 32) (k0_hw17 : k0_chk17 i v135 v137 v140 v149 v151 v2725), ∀ (k0_h21 : k0_cond21 v135 v137 v140 = 1#1), ∀ (k0_h22 : k0_cond22 v149 v151 = 1#1), ∀ a, (k0_off186 v2725) a + S16.size a ≤ S8320.size a := fun i v135 v137 v140 v149 v151 v2725 k0_hw17 k0_h21 k0_h22 => k0_hw17.1 k0_h21 k0_h22
theorem k0_off187_inb : ∀ (i : grid0.Coords) (v135 : BitVec 32) (v137 : BitVec 32) (v140 : BitVec 32) (v149 : BitVec 32) (v151 : BitVec 32) (v2725 : BitVec 32) (k0_hw17 : k0_chk17 i v135 v137 v140 v149 v151 v2725), ∀ (k0_h21 : k0_cond21 v135 v137 v140 = 1#1), ∀ (k0_h22 : k0_cond22 v149 v151 = 1#1), ∀ a, (k0_off187 i v2725) a + S1x128.size a ≤ S16640x128.size a := fun i v135 v137 v140 v149 v151 v2725 k0_hw17 k0_h21 k0_h22 => k0_hw17.2 k0_h21 k0_h22

def k0_off188 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_104 : BitVec 32 := 0#32
  let v156 : BitVec 32 := Scalar.addi v133 c0_i32_104
  let v157 : Index := Scalar.indexCast v156
  let c0_105 : Index := 0#32
  ![v157.toNat, 0]
def k0_off189 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_110 : BitVec 32 := 0#32
  let v174 : BitVec 32 := Scalar.addi v133 c0_i32_110
  let v175 : Index := Scalar.indexCast v174
  let c16 : Index := 16#32
  ![v175.toNat, 16]
def k0_off190 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_115 : BitVec 32 := 0#32
  let v192 : BitVec 32 := Scalar.addi v133 c0_i32_115
  let v193 : Index := Scalar.indexCast v192
  let c32 : Index := 32#32
  ![v193.toNat, 32]
def k0_off191 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_120 : BitVec 32 := 0#32
  let v210 : BitVec 32 := Scalar.addi v133 c0_i32_120
  let v211 : Index := Scalar.indexCast v210
  let c48 : Index := 48#32
  ![v211.toNat, 48]
def k0_off192 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_125 : BitVec 32 := 0#32
  let v228 : BitVec 32 := Scalar.addi v133 c0_i32_125
  let v229 : Index := Scalar.indexCast v228
  let c64 : Index := 64#32
  ![v229.toNat, 64]
def k0_off193 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_130 : BitVec 32 := 0#32
  let v246 : BitVec 32 := Scalar.addi v133 c0_i32_130
  let v247 : Index := Scalar.indexCast v246
  let c80 : Index := 80#32
  ![v247.toNat, 80]
def k0_off194 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_135 : BitVec 32 := 0#32
  let v264 : BitVec 32 := Scalar.addi v133 c0_i32_135
  let v265 : Index := Scalar.indexCast v264
  let c96 : Index := 96#32
  ![v265.toNat, 96]
def k0_off195 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c0_i32_140 : BitVec 32 := 0#32
  let v282 : BitVec 32 := Scalar.addi v133 c0_i32_140
  let v283 : Index := Scalar.indexCast v282
  let c112 : Index := 112#32
  ![v283.toNat, 112]
def k0_off196 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond23 (v310 : BitVec 32) (v312 : BitVec 32) : BitVec 1 :=
  let v313 : BitVec 1 := Scalar.cmpi .eq v310 v312
  let true_149 : BitVec 1 := 1#1
  let v314 : BitVec 1 := Scalar.xori v313 true_149
  let v315 : BitVec 32 := Scalar.extui v314
  let c0_i32_150 : BitVec 32 := 0#32
  let v316 : BitVec 1 := Scalar.cmpi .ne v315 c0_i32_150
  v316

def k0_off197 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r34 : BitVec 32 := 0#32
  ![v2733.toNat, 0]

def k0_chk18 (i : grid0.Coords) (v135 : BitVec 32) (v137 : BitVec 32) (v140 : BitVec 32) (v310 : BitVec 32) (v312 : BitVec 32) (v2725 : BitVec 32) : Prop :=
  (∀ (k0_h21 : k0_cond21 v135 v137 v140 = 1#1), ∀ (k0_h23 : k0_cond23 v310 v312 = 1#1), ∀ a, (k0_off196 v2725) a + S16.size a ≤ S8320.size a) ∧
  (∀ (k0_h21 : k0_cond21 v135 v137 v140 = 1#1), ∀ (k0_h23 : k0_cond23 v310 v312 = 1#1), ∀ a, (k0_off197 i v2725) a + S1x128.size a ≤ S16640x128.size a)
theorem k0_off196_inb : ∀ (i : grid0.Coords) (v135 : BitVec 32) (v137 : BitVec 32) (v140 : BitVec 32) (v310 : BitVec 32) (v312 : BitVec 32) (v2725 : BitVec 32) (k0_hw18 : k0_chk18 i v135 v137 v140 v310 v312 v2725), ∀ (k0_h21 : k0_cond21 v135 v137 v140 = 1#1), ∀ (k0_h23 : k0_cond23 v310 v312 = 1#1), ∀ a, (k0_off196 v2725) a + S16.size a ≤ S8320.size a := fun i v135 v137 v140 v310 v312 v2725 k0_hw18 k0_h21 k0_h23 => k0_hw18.1 k0_h21 k0_h23
theorem k0_off197_inb : ∀ (i : grid0.Coords) (v135 : BitVec 32) (v137 : BitVec 32) (v140 : BitVec 32) (v310 : BitVec 32) (v312 : BitVec 32) (v2725 : BitVec 32) (k0_hw18 : k0_chk18 i v135 v137 v140 v310 v312 v2725), ∀ (k0_h21 : k0_cond21 v135 v137 v140 = 1#1), ∀ (k0_h23 : k0_cond23 v310 v312 = 1#1), ∀ a, (k0_off197 i v2725) a + S1x128.size a ≤ S16640x128.size a := fun i v135 v137 v140 v310 v312 v2725 k0_hw18 k0_h21 k0_h23 => k0_hw18.2 k0_h21 k0_h23

def k0_off198 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_151 : BitVec 32 := 1#32
  let v317 : BitVec 32 := Scalar.addi v133 c1_i32_151
  let v318 : Index := Scalar.indexCast v317
  let c0_152 : Index := 0#32
  ![v318.toNat, 0]
def k0_off199 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_157 : BitVec 32 := 1#32
  let v335 : BitVec 32 := Scalar.addi v133 c1_i32_157
  let v336 : Index := Scalar.indexCast v335
  let c16_158 : Index := 16#32
  ![v336.toNat, 16]
def k0_off200 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_163 : BitVec 32 := 1#32
  let v353 : BitVec 32 := Scalar.addi v133 c1_i32_163
  let v354 : Index := Scalar.indexCast v353
  let c32_164 : Index := 32#32
  ![v354.toNat, 32]
def k0_off201 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_169 : BitVec 32 := 1#32
  let v371 : BitVec 32 := Scalar.addi v133 c1_i32_169
  let v372 : Index := Scalar.indexCast v371
  let c48_170 : Index := 48#32
  ![v372.toNat, 48]
def k0_off202 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_175 : BitVec 32 := 1#32
  let v389 : BitVec 32 := Scalar.addi v133 c1_i32_175
  let v390 : Index := Scalar.indexCast v389
  let c64_176 : Index := 64#32
  ![v390.toNat, 64]
def k0_off203 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_181 : BitVec 32 := 1#32
  let v407 : BitVec 32 := Scalar.addi v133 c1_i32_181
  let v408 : Index := Scalar.indexCast v407
  let c80_182 : Index := 80#32
  ![v408.toNat, 80]
def k0_off204 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_187 : BitVec 32 := 1#32
  let v425 : BitVec 32 := Scalar.addi v133 c1_i32_187
  let v426 : Index := Scalar.indexCast v425
  let c96_188 : Index := 96#32
  ![v426.toNat, 96]
def k0_off205 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c1_i32_193 : BitVec 32 := 1#32
  let v443 : BitVec 32 := Scalar.addi v133 c1_i32_193
  let v444 : Index := Scalar.indexCast v443
  let c112_194 : Index := 112#32
  ![v444.toNat, 112]
def k0_off206 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond24 (v471 : BitVec 32) (v473 : BitVec 32) : BitVec 1 :=
  let v474 : BitVec 1 := Scalar.cmpi .eq v471 v473
  let true_203 : BitVec 1 := 1#1
  let v475 : BitVec 1 := Scalar.xori v474 true_203
  let v476 : BitVec 32 := Scalar.extui v475
  let c0_i32_204 : BitVec 32 := 0#32
  let v477 : BitVec 1 := Scalar.cmpi .ne v476 c0_i32_204
  v477

def k0_off207 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r36 : BitVec 32 := 0#32
  ![v2733.toNat, 0]

def k0_chk19 (i : grid0.Coords) (v135 : BitVec 32) (v137 : BitVec 32) (v140 : BitVec 32) (v471 : BitVec 32) (v473 : BitVec 32) (v2725 : BitVec 32) : Prop :=
  (∀ (k0_h21 : k0_cond21 v135 v137 v140 = 1#1), ∀ (k0_h24 : k0_cond24 v471 v473 = 1#1), ∀ a, (k0_off206 v2725) a + S16.size a ≤ S8320.size a) ∧
  (∀ (k0_h21 : k0_cond21 v135 v137 v140 = 1#1), ∀ (k0_h24 : k0_cond24 v471 v473 = 1#1), ∀ a, (k0_off207 i v2725) a + S1x128.size a ≤ S16640x128.size a)
theorem k0_off206_inb : ∀ (i : grid0.Coords) (v135 : BitVec 32) (v137 : BitVec 32) (v140 : BitVec 32) (v471 : BitVec 32) (v473 : BitVec 32) (v2725 : BitVec 32) (k0_hw19 : k0_chk19 i v135 v137 v140 v471 v473 v2725), ∀ (k0_h21 : k0_cond21 v135 v137 v140 = 1#1), ∀ (k0_h24 : k0_cond24 v471 v473 = 1#1), ∀ a, (k0_off206 v2725) a + S16.size a ≤ S8320.size a := fun i v135 v137 v140 v471 v473 v2725 k0_hw19 k0_h21 k0_h24 => k0_hw19.1 k0_h21 k0_h24
theorem k0_off207_inb : ∀ (i : grid0.Coords) (v135 : BitVec 32) (v137 : BitVec 32) (v140 : BitVec 32) (v471 : BitVec 32) (v473 : BitVec 32) (v2725 : BitVec 32) (k0_hw19 : k0_chk19 i v135 v137 v140 v471 v473 v2725), ∀ (k0_h21 : k0_cond21 v135 v137 v140 = 1#1), ∀ (k0_h24 : k0_cond24 v471 v473 = 1#1), ∀ a, (k0_off207 i v2725) a + S1x128.size a ≤ S16640x128.size a := fun i v135 v137 v140 v471 v473 v2725 k0_hw19 k0_h21 k0_h24 => k0_hw19.2 k0_h21 k0_h24

def k0_off208 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_205 : BitVec 32 := 2#32
  let v478 : BitVec 32 := Scalar.addi v133 c2_i32_205
  let v479 : Index := Scalar.indexCast v478
  let c0_206 : Index := 0#32
  ![v479.toNat, 0]
def k0_off209 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_211 : BitVec 32 := 2#32
  let v496 : BitVec 32 := Scalar.addi v133 c2_i32_211
  let v497 : Index := Scalar.indexCast v496
  let c16_212 : Index := 16#32
  ![v497.toNat, 16]
def k0_off210 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_217 : BitVec 32 := 2#32
  let v514 : BitVec 32 := Scalar.addi v133 c2_i32_217
  let v515 : Index := Scalar.indexCast v514
  let c32_218 : Index := 32#32
  ![v515.toNat, 32]
def k0_off211 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_223 : BitVec 32 := 2#32
  let v532 : BitVec 32 := Scalar.addi v133 c2_i32_223
  let v533 : Index := Scalar.indexCast v532
  let c48_224 : Index := 48#32
  ![v533.toNat, 48]
def k0_off212 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_229 : BitVec 32 := 2#32
  let v550 : BitVec 32 := Scalar.addi v133 c2_i32_229
  let v551 : Index := Scalar.indexCast v550
  let c64_230 : Index := 64#32
  ![v551.toNat, 64]
def k0_off213 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_235 : BitVec 32 := 2#32
  let v568 : BitVec 32 := Scalar.addi v133 c2_i32_235
  let v569 : Index := Scalar.indexCast v568
  let c80_236 : Index := 80#32
  ![v569.toNat, 80]
def k0_off214 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_241 : BitVec 32 := 2#32
  let v586 : BitVec 32 := Scalar.addi v133 c2_i32_241
  let v587 : Index := Scalar.indexCast v586
  let c96_242 : Index := 96#32
  ![v587.toNat, 96]
def k0_off215 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c2_i32_247 : BitVec 32 := 2#32
  let v604 : BitVec 32 := Scalar.addi v133 c2_i32_247
  let v605 : Index := Scalar.indexCast v604
  let c112_248 : Index := 112#32
  ![v605.toNat, 112]
def k0_off216 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond25 (v632 : BitVec 32) (v634 : BitVec 32) : BitVec 1 :=
  let v635 : BitVec 1 := Scalar.cmpi .eq v632 v634
  let true_257 : BitVec 1 := 1#1
  let v636 : BitVec 1 := Scalar.xori v635 true_257
  let v637 : BitVec 32 := Scalar.extui v636
  let c0_i32_258 : BitVec 32 := 0#32
  let v638 : BitVec 1 := Scalar.cmpi .ne v637 c0_i32_258
  v638

def k0_off217 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r38 : BitVec 32 := 0#32
  ![v2733.toNat, 0]

def k0_chk20 (i : grid0.Coords) (v135 : BitVec 32) (v137 : BitVec 32) (v140 : BitVec 32) (v632 : BitVec 32) (v634 : BitVec 32) (v2725 : BitVec 32) : Prop :=
  (∀ (k0_h21 : k0_cond21 v135 v137 v140 = 1#1), ∀ (k0_h25 : k0_cond25 v632 v634 = 1#1), ∀ a, (k0_off216 v2725) a + S16.size a ≤ S8320.size a) ∧
  (∀ (k0_h21 : k0_cond21 v135 v137 v140 = 1#1), ∀ (k0_h25 : k0_cond25 v632 v634 = 1#1), ∀ a, (k0_off217 i v2725) a + S1x128.size a ≤ S16640x128.size a)
theorem k0_off216_inb : ∀ (i : grid0.Coords) (v135 : BitVec 32) (v137 : BitVec 32) (v140 : BitVec 32) (v632 : BitVec 32) (v634 : BitVec 32) (v2725 : BitVec 32) (k0_hw20 : k0_chk20 i v135 v137 v140 v632 v634 v2725), ∀ (k0_h21 : k0_cond21 v135 v137 v140 = 1#1), ∀ (k0_h25 : k0_cond25 v632 v634 = 1#1), ∀ a, (k0_off216 v2725) a + S16.size a ≤ S8320.size a := fun i v135 v137 v140 v632 v634 v2725 k0_hw20 k0_h21 k0_h25 => k0_hw20.1 k0_h21 k0_h25
theorem k0_off217_inb : ∀ (i : grid0.Coords) (v135 : BitVec 32) (v137 : BitVec 32) (v140 : BitVec 32) (v632 : BitVec 32) (v634 : BitVec 32) (v2725 : BitVec 32) (k0_hw20 : k0_chk20 i v135 v137 v140 v632 v634 v2725), ∀ (k0_h21 : k0_cond21 v135 v137 v140 = 1#1), ∀ (k0_h25 : k0_cond25 v632 v634 = 1#1), ∀ a, (k0_off217 i v2725) a + S1x128.size a ≤ S16640x128.size a := fun i v135 v137 v140 v632 v634 v2725 k0_hw20 k0_h21 k0_h25 => k0_hw20.2 k0_h21 k0_h25

def k0_off218 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32 : BitVec 32 := 3#32
  let v639 : BitVec 32 := Scalar.addi v133 c3_i32
  let v640 : Index := Scalar.indexCast v639
  let c0_259 : Index := 0#32
  ![v640.toNat, 0]
def k0_off219 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_264 : BitVec 32 := 3#32
  let v657 : BitVec 32 := Scalar.addi v133 c3_i32_264
  let v658 : Index := Scalar.indexCast v657
  let c16_265 : Index := 16#32
  ![v658.toNat, 16]
def k0_off220 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_270 : BitVec 32 := 3#32
  let v675 : BitVec 32 := Scalar.addi v133 c3_i32_270
  let v676 : Index := Scalar.indexCast v675
  let c32_271 : Index := 32#32
  ![v676.toNat, 32]
def k0_off221 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_276 : BitVec 32 := 3#32
  let v693 : BitVec 32 := Scalar.addi v133 c3_i32_276
  let v694 : Index := Scalar.indexCast v693
  let c48_277 : Index := 48#32
  ![v694.toNat, 48]
def k0_off222 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_282 : BitVec 32 := 3#32
  let v711 : BitVec 32 := Scalar.addi v133 c3_i32_282
  let v712 : Index := Scalar.indexCast v711
  let c64_283 : Index := 64#32
  ![v712.toNat, 64]
def k0_off223 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_288 : BitVec 32 := 3#32
  let v729 : BitVec 32 := Scalar.addi v133 c3_i32_288
  let v730 : Index := Scalar.indexCast v729
  let c80_289 : Index := 80#32
  ![v730.toNat, 80]
def k0_off224 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_294 : BitVec 32 := 3#32
  let v747 : BitVec 32 := Scalar.addi v133 c3_i32_294
  let v748 : Index := Scalar.indexCast v747
  let c96_295 : Index := 96#32
  ![v748.toNat, 96]
def k0_off225 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c3_i32_300 : BitVec 32 := 3#32
  let v765 : BitVec 32 := Scalar.addi v133 c3_i32_300
  let v766 : Index := Scalar.indexCast v765
  let c112_301 : Index := 112#32
  ![v766.toNat, 112]
def k0_off226 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond26 (v793 : BitVec 32) (v795 : BitVec 32) : BitVec 1 :=
  let v796 : BitVec 1 := Scalar.cmpi .eq v793 v795
  let true_310 : BitVec 1 := 1#1
  let v797 : BitVec 1 := Scalar.xori v796 true_310
  let v798 : BitVec 32 := Scalar.extui v797
  let c0_i32_311 : BitVec 32 := 0#32
  let v799 : BitVec 1 := Scalar.cmpi .ne v798 c0_i32_311
  v799

def k0_off227 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r40 : BitVec 32 := 0#32
  ![v2733.toNat, 0]

def k0_chk21 (i : grid0.Coords) (v135 : BitVec 32) (v137 : BitVec 32) (v140 : BitVec 32) (v793 : BitVec 32) (v795 : BitVec 32) (v2725 : BitVec 32) : Prop :=
  (∀ (k0_h21 : k0_cond21 v135 v137 v140 = 1#1), ∀ (k0_h26 : k0_cond26 v793 v795 = 1#1), ∀ a, (k0_off226 v2725) a + S16.size a ≤ S8320.size a) ∧
  (∀ (k0_h21 : k0_cond21 v135 v137 v140 = 1#1), ∀ (k0_h26 : k0_cond26 v793 v795 = 1#1), ∀ a, (k0_off227 i v2725) a + S1x128.size a ≤ S16640x128.size a)
theorem k0_off226_inb : ∀ (i : grid0.Coords) (v135 : BitVec 32) (v137 : BitVec 32) (v140 : BitVec 32) (v793 : BitVec 32) (v795 : BitVec 32) (v2725 : BitVec 32) (k0_hw21 : k0_chk21 i v135 v137 v140 v793 v795 v2725), ∀ (k0_h21 : k0_cond21 v135 v137 v140 = 1#1), ∀ (k0_h26 : k0_cond26 v793 v795 = 1#1), ∀ a, (k0_off226 v2725) a + S16.size a ≤ S8320.size a := fun i v135 v137 v140 v793 v795 v2725 k0_hw21 k0_h21 k0_h26 => k0_hw21.1 k0_h21 k0_h26
theorem k0_off227_inb : ∀ (i : grid0.Coords) (v135 : BitVec 32) (v137 : BitVec 32) (v140 : BitVec 32) (v793 : BitVec 32) (v795 : BitVec 32) (v2725 : BitVec 32) (k0_hw21 : k0_chk21 i v135 v137 v140 v793 v795 v2725), ∀ (k0_h21 : k0_cond21 v135 v137 v140 = 1#1), ∀ (k0_h26 : k0_cond26 v793 v795 = 1#1), ∀ a, (k0_off227 i v2725) a + S1x128.size a ≤ S16640x128.size a := fun i v135 v137 v140 v793 v795 v2725 k0_hw21 k0_h21 k0_h26 => k0_hw21.2 k0_h21 k0_h26

def k0_off228 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32 : BitVec 32 := 4#32
  let v800 : BitVec 32 := Scalar.addi v133 c4_i32
  let v801 : Index := Scalar.indexCast v800
  let c0_312 : Index := 0#32
  ![v801.toNat, 0]
def k0_off229 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_317 : BitVec 32 := 4#32
  let v818 : BitVec 32 := Scalar.addi v133 c4_i32_317
  let v819 : Index := Scalar.indexCast v818
  let c16_318 : Index := 16#32
  ![v819.toNat, 16]
def k0_off230 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_323 : BitVec 32 := 4#32
  let v836 : BitVec 32 := Scalar.addi v133 c4_i32_323
  let v837 : Index := Scalar.indexCast v836
  let c32_324 : Index := 32#32
  ![v837.toNat, 32]
def k0_off231 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_329 : BitVec 32 := 4#32
  let v854 : BitVec 32 := Scalar.addi v133 c4_i32_329
  let v855 : Index := Scalar.indexCast v854
  let c48_330 : Index := 48#32
  ![v855.toNat, 48]
def k0_off232 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_335 : BitVec 32 := 4#32
  let v872 : BitVec 32 := Scalar.addi v133 c4_i32_335
  let v873 : Index := Scalar.indexCast v872
  let c64_336 : Index := 64#32
  ![v873.toNat, 64]
def k0_off233 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_341 : BitVec 32 := 4#32
  let v890 : BitVec 32 := Scalar.addi v133 c4_i32_341
  let v891 : Index := Scalar.indexCast v890
  let c80_342 : Index := 80#32
  ![v891.toNat, 80]
def k0_off234 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_347 : BitVec 32 := 4#32
  let v908 : BitVec 32 := Scalar.addi v133 c4_i32_347
  let v909 : Index := Scalar.indexCast v908
  let c96_348 : Index := 96#32
  ![v909.toNat, 96]
def k0_off235 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c4_i32_353 : BitVec 32 := 4#32
  let v926 : BitVec 32 := Scalar.addi v133 c4_i32_353
  let v927 : Index := Scalar.indexCast v926
  let c112_354 : Index := 112#32
  ![v927.toNat, 112]
def k0_off236 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond27 (v954 : BitVec 32) (v956 : BitVec 32) : BitVec 1 :=
  let v957 : BitVec 1 := Scalar.cmpi .eq v954 v956
  let true_363 : BitVec 1 := 1#1
  let v958 : BitVec 1 := Scalar.xori v957 true_363
  let v959 : BitVec 32 := Scalar.extui v958
  let c0_i32_364 : BitVec 32 := 0#32
  let v960 : BitVec 1 := Scalar.cmpi .ne v959 c0_i32_364
  v960

def k0_off237 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r42 : BitVec 32 := 0#32
  ![v2733.toNat, 0]

def k0_chk22 (i : grid0.Coords) (v135 : BitVec 32) (v137 : BitVec 32) (v140 : BitVec 32) (v954 : BitVec 32) (v956 : BitVec 32) (v2725 : BitVec 32) : Prop :=
  (∀ (k0_h21 : k0_cond21 v135 v137 v140 = 1#1), ∀ (k0_h27 : k0_cond27 v954 v956 = 1#1), ∀ a, (k0_off236 v2725) a + S16.size a ≤ S8320.size a) ∧
  (∀ (k0_h21 : k0_cond21 v135 v137 v140 = 1#1), ∀ (k0_h27 : k0_cond27 v954 v956 = 1#1), ∀ a, (k0_off237 i v2725) a + S1x128.size a ≤ S16640x128.size a)
theorem k0_off236_inb : ∀ (i : grid0.Coords) (v135 : BitVec 32) (v137 : BitVec 32) (v140 : BitVec 32) (v954 : BitVec 32) (v956 : BitVec 32) (v2725 : BitVec 32) (k0_hw22 : k0_chk22 i v135 v137 v140 v954 v956 v2725), ∀ (k0_h21 : k0_cond21 v135 v137 v140 = 1#1), ∀ (k0_h27 : k0_cond27 v954 v956 = 1#1), ∀ a, (k0_off236 v2725) a + S16.size a ≤ S8320.size a := fun i v135 v137 v140 v954 v956 v2725 k0_hw22 k0_h21 k0_h27 => k0_hw22.1 k0_h21 k0_h27
theorem k0_off237_inb : ∀ (i : grid0.Coords) (v135 : BitVec 32) (v137 : BitVec 32) (v140 : BitVec 32) (v954 : BitVec 32) (v956 : BitVec 32) (v2725 : BitVec 32) (k0_hw22 : k0_chk22 i v135 v137 v140 v954 v956 v2725), ∀ (k0_h21 : k0_cond21 v135 v137 v140 = 1#1), ∀ (k0_h27 : k0_cond27 v954 v956 = 1#1), ∀ a, (k0_off237 i v2725) a + S1x128.size a ≤ S16640x128.size a := fun i v135 v137 v140 v954 v956 v2725 k0_hw22 k0_h21 k0_h27 => k0_hw22.2 k0_h21 k0_h27

def k0_off238 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32 : BitVec 32 := 5#32
  let v961 : BitVec 32 := Scalar.addi v133 c5_i32
  let v962 : Index := Scalar.indexCast v961
  let c0_365 : Index := 0#32
  ![v962.toNat, 0]
def k0_off239 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_370 : BitVec 32 := 5#32
  let v979 : BitVec 32 := Scalar.addi v133 c5_i32_370
  let v980 : Index := Scalar.indexCast v979
  let c16_371 : Index := 16#32
  ![v980.toNat, 16]
def k0_off240 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_376 : BitVec 32 := 5#32
  let v997 : BitVec 32 := Scalar.addi v133 c5_i32_376
  let v998 : Index := Scalar.indexCast v997
  let c32_377 : Index := 32#32
  ![v998.toNat, 32]
def k0_off241 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_382 : BitVec 32 := 5#32
  let v1015 : BitVec 32 := Scalar.addi v133 c5_i32_382
  let v1016 : Index := Scalar.indexCast v1015
  let c48_383 : Index := 48#32
  ![v1016.toNat, 48]
def k0_off242 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_388 : BitVec 32 := 5#32
  let v1033 : BitVec 32 := Scalar.addi v133 c5_i32_388
  let v1034 : Index := Scalar.indexCast v1033
  let c64_389 : Index := 64#32
  ![v1034.toNat, 64]
def k0_off243 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_394 : BitVec 32 := 5#32
  let v1051 : BitVec 32 := Scalar.addi v133 c5_i32_394
  let v1052 : Index := Scalar.indexCast v1051
  let c80_395 : Index := 80#32
  ![v1052.toNat, 80]
def k0_off244 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_400 : BitVec 32 := 5#32
  let v1069 : BitVec 32 := Scalar.addi v133 c5_i32_400
  let v1070 : Index := Scalar.indexCast v1069
  let c96_401 : Index := 96#32
  ![v1070.toNat, 96]
def k0_off245 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c5_i32_406 : BitVec 32 := 5#32
  let v1087 : BitVec 32 := Scalar.addi v133 c5_i32_406
  let v1088 : Index := Scalar.indexCast v1087
  let c112_407 : Index := 112#32
  ![v1088.toNat, 112]
def k0_off246 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond28 (v1115 : BitVec 32) (v1117 : BitVec 32) : BitVec 1 :=
  let v1118 : BitVec 1 := Scalar.cmpi .eq v1115 v1117
  let true_416 : BitVec 1 := 1#1
  let v1119 : BitVec 1 := Scalar.xori v1118 true_416
  let v1120 : BitVec 32 := Scalar.extui v1119
  let c0_i32_417 : BitVec 32 := 0#32
  let v1121 : BitVec 1 := Scalar.cmpi .ne v1120 c0_i32_417
  v1121

def k0_off247 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r44 : BitVec 32 := 0#32
  ![v2733.toNat, 0]

def k0_chk23 (i : grid0.Coords) (v135 : BitVec 32) (v137 : BitVec 32) (v140 : BitVec 32) (v1115 : BitVec 32) (v1117 : BitVec 32) (v2725 : BitVec 32) : Prop :=
  (∀ (k0_h21 : k0_cond21 v135 v137 v140 = 1#1), ∀ (k0_h28 : k0_cond28 v1115 v1117 = 1#1), ∀ a, (k0_off246 v2725) a + S16.size a ≤ S8320.size a) ∧
  (∀ (k0_h21 : k0_cond21 v135 v137 v140 = 1#1), ∀ (k0_h28 : k0_cond28 v1115 v1117 = 1#1), ∀ a, (k0_off247 i v2725) a + S1x128.size a ≤ S16640x128.size a)
theorem k0_off246_inb : ∀ (i : grid0.Coords) (v135 : BitVec 32) (v137 : BitVec 32) (v140 : BitVec 32) (v1115 : BitVec 32) (v1117 : BitVec 32) (v2725 : BitVec 32) (k0_hw23 : k0_chk23 i v135 v137 v140 v1115 v1117 v2725), ∀ (k0_h21 : k0_cond21 v135 v137 v140 = 1#1), ∀ (k0_h28 : k0_cond28 v1115 v1117 = 1#1), ∀ a, (k0_off246 v2725) a + S16.size a ≤ S8320.size a := fun i v135 v137 v140 v1115 v1117 v2725 k0_hw23 k0_h21 k0_h28 => k0_hw23.1 k0_h21 k0_h28
theorem k0_off247_inb : ∀ (i : grid0.Coords) (v135 : BitVec 32) (v137 : BitVec 32) (v140 : BitVec 32) (v1115 : BitVec 32) (v1117 : BitVec 32) (v2725 : BitVec 32) (k0_hw23 : k0_chk23 i v135 v137 v140 v1115 v1117 v2725), ∀ (k0_h21 : k0_cond21 v135 v137 v140 = 1#1), ∀ (k0_h28 : k0_cond28 v1115 v1117 = 1#1), ∀ a, (k0_off247 i v2725) a + S1x128.size a ≤ S16640x128.size a := fun i v135 v137 v140 v1115 v1117 v2725 k0_hw23 k0_h21 k0_h28 => k0_hw23.2 k0_h21 k0_h28

def k0_off248 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32 : BitVec 32 := 6#32
  let v1122 : BitVec 32 := Scalar.addi v133 c6_i32
  let v1123 : Index := Scalar.indexCast v1122
  let c0_418 : Index := 0#32
  ![v1123.toNat, 0]
def k0_off249 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_423 : BitVec 32 := 6#32
  let v1140 : BitVec 32 := Scalar.addi v133 c6_i32_423
  let v1141 : Index := Scalar.indexCast v1140
  let c16_424 : Index := 16#32
  ![v1141.toNat, 16]
def k0_off250 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_429 : BitVec 32 := 6#32
  let v1158 : BitVec 32 := Scalar.addi v133 c6_i32_429
  let v1159 : Index := Scalar.indexCast v1158
  let c32_430 : Index := 32#32
  ![v1159.toNat, 32]
def k0_off251 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_435 : BitVec 32 := 6#32
  let v1176 : BitVec 32 := Scalar.addi v133 c6_i32_435
  let v1177 : Index := Scalar.indexCast v1176
  let c48_436 : Index := 48#32
  ![v1177.toNat, 48]
def k0_off252 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_441 : BitVec 32 := 6#32
  let v1194 : BitVec 32 := Scalar.addi v133 c6_i32_441
  let v1195 : Index := Scalar.indexCast v1194
  let c64_442 : Index := 64#32
  ![v1195.toNat, 64]
def k0_off253 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_447 : BitVec 32 := 6#32
  let v1212 : BitVec 32 := Scalar.addi v133 c6_i32_447
  let v1213 : Index := Scalar.indexCast v1212
  let c80_448 : Index := 80#32
  ![v1213.toNat, 80]
def k0_off254 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_453 : BitVec 32 := 6#32
  let v1230 : BitVec 32 := Scalar.addi v133 c6_i32_453
  let v1231 : Index := Scalar.indexCast v1230
  let c96_454 : Index := 96#32
  ![v1231.toNat, 96]
def k0_off255 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c6_i32_459 : BitVec 32 := 6#32
  let v1248 : BitVec 32 := Scalar.addi v133 c6_i32_459
  let v1249 : Index := Scalar.indexCast v1248
  let c112_460 : Index := 112#32
  ![v1249.toNat, 112]
def k0_off256 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond29 (v1276 : BitVec 32) (v1278 : BitVec 32) : BitVec 1 :=
  let v1279 : BitVec 1 := Scalar.cmpi .eq v1276 v1278
  let true_469 : BitVec 1 := 1#1
  let v1280 : BitVec 1 := Scalar.xori v1279 true_469
  let v1281 : BitVec 32 := Scalar.extui v1280
  let c0_i32_470 : BitVec 32 := 0#32
  let v1282 : BitVec 1 := Scalar.cmpi .ne v1281 c0_i32_470
  v1282

def k0_off257 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r46 : BitVec 32 := 0#32
  ![v2733.toNat, 0]

def k0_chk24 (i : grid0.Coords) (v135 : BitVec 32) (v137 : BitVec 32) (v140 : BitVec 32) (v1276 : BitVec 32) (v1278 : BitVec 32) (v2725 : BitVec 32) : Prop :=
  (∀ (k0_h21 : k0_cond21 v135 v137 v140 = 1#1), ∀ (k0_h29 : k0_cond29 v1276 v1278 = 1#1), ∀ a, (k0_off256 v2725) a + S16.size a ≤ S8320.size a) ∧
  (∀ (k0_h21 : k0_cond21 v135 v137 v140 = 1#1), ∀ (k0_h29 : k0_cond29 v1276 v1278 = 1#1), ∀ a, (k0_off257 i v2725) a + S1x128.size a ≤ S16640x128.size a)
theorem k0_off256_inb : ∀ (i : grid0.Coords) (v135 : BitVec 32) (v137 : BitVec 32) (v140 : BitVec 32) (v1276 : BitVec 32) (v1278 : BitVec 32) (v2725 : BitVec 32) (k0_hw24 : k0_chk24 i v135 v137 v140 v1276 v1278 v2725), ∀ (k0_h21 : k0_cond21 v135 v137 v140 = 1#1), ∀ (k0_h29 : k0_cond29 v1276 v1278 = 1#1), ∀ a, (k0_off256 v2725) a + S16.size a ≤ S8320.size a := fun i v135 v137 v140 v1276 v1278 v2725 k0_hw24 k0_h21 k0_h29 => k0_hw24.1 k0_h21 k0_h29
theorem k0_off257_inb : ∀ (i : grid0.Coords) (v135 : BitVec 32) (v137 : BitVec 32) (v140 : BitVec 32) (v1276 : BitVec 32) (v1278 : BitVec 32) (v2725 : BitVec 32) (k0_hw24 : k0_chk24 i v135 v137 v140 v1276 v1278 v2725), ∀ (k0_h21 : k0_cond21 v135 v137 v140 = 1#1), ∀ (k0_h29 : k0_cond29 v1276 v1278 = 1#1), ∀ a, (k0_off257 i v2725) a + S1x128.size a ≤ S16640x128.size a := fun i v135 v137 v140 v1276 v1278 v2725 k0_hw24 k0_h21 k0_h29 => k0_hw24.2 k0_h21 k0_h29

def k0_off258 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32 : BitVec 32 := 7#32
  let v1283 : BitVec 32 := Scalar.addi v133 c7_i32
  let v1284 : Index := Scalar.indexCast v1283
  let c0_471 : Index := 0#32
  ![v1284.toNat, 0]
def k0_off259 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_476 : BitVec 32 := 7#32
  let v1301 : BitVec 32 := Scalar.addi v133 c7_i32_476
  let v1302 : Index := Scalar.indexCast v1301
  let c16_477 : Index := 16#32
  ![v1302.toNat, 16]
def k0_off260 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_482 : BitVec 32 := 7#32
  let v1319 : BitVec 32 := Scalar.addi v133 c7_i32_482
  let v1320 : Index := Scalar.indexCast v1319
  let c32_483 : Index := 32#32
  ![v1320.toNat, 32]
def k0_off261 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_488 : BitVec 32 := 7#32
  let v1337 : BitVec 32 := Scalar.addi v133 c7_i32_488
  let v1338 : Index := Scalar.indexCast v1337
  let c48_489 : Index := 48#32
  ![v1338.toNat, 48]
def k0_off262 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_494 : BitVec 32 := 7#32
  let v1355 : BitVec 32 := Scalar.addi v133 c7_i32_494
  let v1356 : Index := Scalar.indexCast v1355
  let c64_495 : Index := 64#32
  ![v1356.toNat, 64]
def k0_off263 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_500 : BitVec 32 := 7#32
  let v1373 : BitVec 32 := Scalar.addi v133 c7_i32_500
  let v1374 : Index := Scalar.indexCast v1373
  let c80_501 : Index := 80#32
  ![v1374.toNat, 80]
def k0_off264 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_506 : BitVec 32 := 7#32
  let v1391 : BitVec 32 := Scalar.addi v133 c7_i32_506
  let v1392 : Index := Scalar.indexCast v1391
  let c96_507 : Index := 96#32
  ![v1392.toNat, 96]
def k0_off265 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c7_i32_512 : BitVec 32 := 7#32
  let v1409 : BitVec 32 := Scalar.addi v133 c7_i32_512
  let v1410 : Index := Scalar.indexCast v1409
  let c112_513 : Index := 112#32
  ![v1410.toNat, 112]
def k0_off266 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond30 (v1437 : BitVec 32) (v1439 : BitVec 32) : BitVec 1 :=
  let v1440 : BitVec 1 := Scalar.cmpi .eq v1437 v1439
  let true_522 : BitVec 1 := 1#1
  let v1441 : BitVec 1 := Scalar.xori v1440 true_522
  let v1442 : BitVec 32 := Scalar.extui v1441
  let c0_i32_523 : BitVec 32 := 0#32
  let v1443 : BitVec 1 := Scalar.cmpi .ne v1442 c0_i32_523
  v1443

def k0_off267 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r48 : BitVec 32 := 0#32
  ![v2733.toNat, 0]

def k0_chk25 (i : grid0.Coords) (v135 : BitVec 32) (v137 : BitVec 32) (v140 : BitVec 32) (v1437 : BitVec 32) (v1439 : BitVec 32) (v2725 : BitVec 32) : Prop :=
  (∀ (k0_h21 : k0_cond21 v135 v137 v140 = 1#1), ∀ (k0_h30 : k0_cond30 v1437 v1439 = 1#1), ∀ a, (k0_off266 v2725) a + S16.size a ≤ S8320.size a) ∧
  (∀ (k0_h21 : k0_cond21 v135 v137 v140 = 1#1), ∀ (k0_h30 : k0_cond30 v1437 v1439 = 1#1), ∀ a, (k0_off267 i v2725) a + S1x128.size a ≤ S16640x128.size a)
theorem k0_off266_inb : ∀ (i : grid0.Coords) (v135 : BitVec 32) (v137 : BitVec 32) (v140 : BitVec 32) (v1437 : BitVec 32) (v1439 : BitVec 32) (v2725 : BitVec 32) (k0_hw25 : k0_chk25 i v135 v137 v140 v1437 v1439 v2725), ∀ (k0_h21 : k0_cond21 v135 v137 v140 = 1#1), ∀ (k0_h30 : k0_cond30 v1437 v1439 = 1#1), ∀ a, (k0_off266 v2725) a + S16.size a ≤ S8320.size a := fun i v135 v137 v140 v1437 v1439 v2725 k0_hw25 k0_h21 k0_h30 => k0_hw25.1 k0_h21 k0_h30
theorem k0_off267_inb : ∀ (i : grid0.Coords) (v135 : BitVec 32) (v137 : BitVec 32) (v140 : BitVec 32) (v1437 : BitVec 32) (v1439 : BitVec 32) (v2725 : BitVec 32) (k0_hw25 : k0_chk25 i v135 v137 v140 v1437 v1439 v2725), ∀ (k0_h21 : k0_cond21 v135 v137 v140 = 1#1), ∀ (k0_h30 : k0_cond30 v1437 v1439 = 1#1), ∀ a, (k0_off267 i v2725) a + S1x128.size a ≤ S16640x128.size a := fun i v135 v137 v140 v1437 v1439 v2725 k0_hw25 k0_h21 k0_h30 => k0_hw25.2 k0_h21 k0_h30

def k0_off268 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32 : BitVec 32 := 8#32
  let v1444 : BitVec 32 := Scalar.addi v133 c8_i32
  let v1445 : Index := Scalar.indexCast v1444
  let c0_524 : Index := 0#32
  ![v1445.toNat, 0]
def k0_off269 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_529 : BitVec 32 := 8#32
  let v1462 : BitVec 32 := Scalar.addi v133 c8_i32_529
  let v1463 : Index := Scalar.indexCast v1462
  let c16_530 : Index := 16#32
  ![v1463.toNat, 16]
def k0_off270 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_535 : BitVec 32 := 8#32
  let v1480 : BitVec 32 := Scalar.addi v133 c8_i32_535
  let v1481 : Index := Scalar.indexCast v1480
  let c32_536 : Index := 32#32
  ![v1481.toNat, 32]
def k0_off271 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_541 : BitVec 32 := 8#32
  let v1498 : BitVec 32 := Scalar.addi v133 c8_i32_541
  let v1499 : Index := Scalar.indexCast v1498
  let c48_542 : Index := 48#32
  ![v1499.toNat, 48]
def k0_off272 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_547 : BitVec 32 := 8#32
  let v1516 : BitVec 32 := Scalar.addi v133 c8_i32_547
  let v1517 : Index := Scalar.indexCast v1516
  let c64_548 : Index := 64#32
  ![v1517.toNat, 64]
def k0_off273 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_553 : BitVec 32 := 8#32
  let v1534 : BitVec 32 := Scalar.addi v133 c8_i32_553
  let v1535 : Index := Scalar.indexCast v1534
  let c80_554 : Index := 80#32
  ![v1535.toNat, 80]
def k0_off274 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_559 : BitVec 32 := 8#32
  let v1552 : BitVec 32 := Scalar.addi v133 c8_i32_559
  let v1553 : Index := Scalar.indexCast v1552
  let c96_560 : Index := 96#32
  ![v1553.toNat, 96]
def k0_off275 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c8_i32_565 : BitVec 32 := 8#32
  let v1570 : BitVec 32 := Scalar.addi v133 c8_i32_565
  let v1571 : Index := Scalar.indexCast v1570
  let c112_566 : Index := 112#32
  ![v1571.toNat, 112]
def k0_off276 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond31 (v1598 : BitVec 32) (v1600 : BitVec 32) : BitVec 1 :=
  let v1601 : BitVec 1 := Scalar.cmpi .eq v1598 v1600
  let true_575 : BitVec 1 := 1#1
  let v1602 : BitVec 1 := Scalar.xori v1601 true_575
  let v1603 : BitVec 32 := Scalar.extui v1602
  let c0_i32_576 : BitVec 32 := 0#32
  let v1604 : BitVec 1 := Scalar.cmpi .ne v1603 c0_i32_576
  v1604

def k0_off277 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r50 : BitVec 32 := 0#32
  ![v2733.toNat, 0]

def k0_chk26 (i : grid0.Coords) (v135 : BitVec 32) (v137 : BitVec 32) (v140 : BitVec 32) (v1598 : BitVec 32) (v1600 : BitVec 32) (v2725 : BitVec 32) : Prop :=
  (∀ (k0_h21 : k0_cond21 v135 v137 v140 = 1#1), ∀ (k0_h31 : k0_cond31 v1598 v1600 = 1#1), ∀ a, (k0_off276 v2725) a + S16.size a ≤ S8320.size a) ∧
  (∀ (k0_h21 : k0_cond21 v135 v137 v140 = 1#1), ∀ (k0_h31 : k0_cond31 v1598 v1600 = 1#1), ∀ a, (k0_off277 i v2725) a + S1x128.size a ≤ S16640x128.size a)
theorem k0_off276_inb : ∀ (i : grid0.Coords) (v135 : BitVec 32) (v137 : BitVec 32) (v140 : BitVec 32) (v1598 : BitVec 32) (v1600 : BitVec 32) (v2725 : BitVec 32) (k0_hw26 : k0_chk26 i v135 v137 v140 v1598 v1600 v2725), ∀ (k0_h21 : k0_cond21 v135 v137 v140 = 1#1), ∀ (k0_h31 : k0_cond31 v1598 v1600 = 1#1), ∀ a, (k0_off276 v2725) a + S16.size a ≤ S8320.size a := fun i v135 v137 v140 v1598 v1600 v2725 k0_hw26 k0_h21 k0_h31 => k0_hw26.1 k0_h21 k0_h31
theorem k0_off277_inb : ∀ (i : grid0.Coords) (v135 : BitVec 32) (v137 : BitVec 32) (v140 : BitVec 32) (v1598 : BitVec 32) (v1600 : BitVec 32) (v2725 : BitVec 32) (k0_hw26 : k0_chk26 i v135 v137 v140 v1598 v1600 v2725), ∀ (k0_h21 : k0_cond21 v135 v137 v140 = 1#1), ∀ (k0_h31 : k0_cond31 v1598 v1600 = 1#1), ∀ a, (k0_off277 i v2725) a + S1x128.size a ≤ S16640x128.size a := fun i v135 v137 v140 v1598 v1600 v2725 k0_hw26 k0_h21 k0_h31 => k0_hw26.2 k0_h21 k0_h31

def k0_off278 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32 : BitVec 32 := 9#32
  let v1605 : BitVec 32 := Scalar.addi v133 c9_i32
  let v1606 : Index := Scalar.indexCast v1605
  let c0_577 : Index := 0#32
  ![v1606.toNat, 0]
def k0_off279 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_582 : BitVec 32 := 9#32
  let v1623 : BitVec 32 := Scalar.addi v133 c9_i32_582
  let v1624 : Index := Scalar.indexCast v1623
  let c16_583 : Index := 16#32
  ![v1624.toNat, 16]
def k0_off280 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_588 : BitVec 32 := 9#32
  let v1641 : BitVec 32 := Scalar.addi v133 c9_i32_588
  let v1642 : Index := Scalar.indexCast v1641
  let c32_589 : Index := 32#32
  ![v1642.toNat, 32]
def k0_off281 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_594 : BitVec 32 := 9#32
  let v1659 : BitVec 32 := Scalar.addi v133 c9_i32_594
  let v1660 : Index := Scalar.indexCast v1659
  let c48_595 : Index := 48#32
  ![v1660.toNat, 48]
def k0_off282 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_600 : BitVec 32 := 9#32
  let v1677 : BitVec 32 := Scalar.addi v133 c9_i32_600
  let v1678 : Index := Scalar.indexCast v1677
  let c64_601 : Index := 64#32
  ![v1678.toNat, 64]
def k0_off283 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_606 : BitVec 32 := 9#32
  let v1695 : BitVec 32 := Scalar.addi v133 c9_i32_606
  let v1696 : Index := Scalar.indexCast v1695
  let c80_607 : Index := 80#32
  ![v1696.toNat, 80]
def k0_off284 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_612 : BitVec 32 := 9#32
  let v1713 : BitVec 32 := Scalar.addi v133 c9_i32_612
  let v1714 : Index := Scalar.indexCast v1713
  let c96_613 : Index := 96#32
  ![v1714.toNat, 96]
def k0_off285 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c9_i32_618 : BitVec 32 := 9#32
  let v1731 : BitVec 32 := Scalar.addi v133 c9_i32_618
  let v1732 : Index := Scalar.indexCast v1731
  let c112_619 : Index := 112#32
  ![v1732.toNat, 112]
def k0_off286 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond32 (v1759 : BitVec 32) (v1761 : BitVec 32) : BitVec 1 :=
  let v1762 : BitVec 1 := Scalar.cmpi .eq v1759 v1761
  let true_628 : BitVec 1 := 1#1
  let v1763 : BitVec 1 := Scalar.xori v1762 true_628
  let v1764 : BitVec 32 := Scalar.extui v1763
  let c0_i32_629 : BitVec 32 := 0#32
  let v1765 : BitVec 1 := Scalar.cmpi .ne v1764 c0_i32_629
  v1765

def k0_off287 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r52 : BitVec 32 := 0#32
  ![v2733.toNat, 0]

def k0_chk27 (i : grid0.Coords) (v135 : BitVec 32) (v137 : BitVec 32) (v140 : BitVec 32) (v1759 : BitVec 32) (v1761 : BitVec 32) (v2725 : BitVec 32) : Prop :=
  (∀ (k0_h21 : k0_cond21 v135 v137 v140 = 1#1), ∀ (k0_h32 : k0_cond32 v1759 v1761 = 1#1), ∀ a, (k0_off286 v2725) a + S16.size a ≤ S8320.size a) ∧
  (∀ (k0_h21 : k0_cond21 v135 v137 v140 = 1#1), ∀ (k0_h32 : k0_cond32 v1759 v1761 = 1#1), ∀ a, (k0_off287 i v2725) a + S1x128.size a ≤ S16640x128.size a)
theorem k0_off286_inb : ∀ (i : grid0.Coords) (v135 : BitVec 32) (v137 : BitVec 32) (v140 : BitVec 32) (v1759 : BitVec 32) (v1761 : BitVec 32) (v2725 : BitVec 32) (k0_hw27 : k0_chk27 i v135 v137 v140 v1759 v1761 v2725), ∀ (k0_h21 : k0_cond21 v135 v137 v140 = 1#1), ∀ (k0_h32 : k0_cond32 v1759 v1761 = 1#1), ∀ a, (k0_off286 v2725) a + S16.size a ≤ S8320.size a := fun i v135 v137 v140 v1759 v1761 v2725 k0_hw27 k0_h21 k0_h32 => k0_hw27.1 k0_h21 k0_h32
theorem k0_off287_inb : ∀ (i : grid0.Coords) (v135 : BitVec 32) (v137 : BitVec 32) (v140 : BitVec 32) (v1759 : BitVec 32) (v1761 : BitVec 32) (v2725 : BitVec 32) (k0_hw27 : k0_chk27 i v135 v137 v140 v1759 v1761 v2725), ∀ (k0_h21 : k0_cond21 v135 v137 v140 = 1#1), ∀ (k0_h32 : k0_cond32 v1759 v1761 = 1#1), ∀ a, (k0_off287 i v2725) a + S1x128.size a ≤ S16640x128.size a := fun i v135 v137 v140 v1759 v1761 v2725 k0_hw27 k0_h21 k0_h32 => k0_hw27.2 k0_h21 k0_h32

def k0_off288 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32 : BitVec 32 := 10#32
  let v1766 : BitVec 32 := Scalar.addi v133 c10_i32
  let v1767 : Index := Scalar.indexCast v1766
  let c0_630 : Index := 0#32
  ![v1767.toNat, 0]
def k0_off289 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_635 : BitVec 32 := 10#32
  let v1784 : BitVec 32 := Scalar.addi v133 c10_i32_635
  let v1785 : Index := Scalar.indexCast v1784
  let c16_636 : Index := 16#32
  ![v1785.toNat, 16]
def k0_off290 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_641 : BitVec 32 := 10#32
  let v1802 : BitVec 32 := Scalar.addi v133 c10_i32_641
  let v1803 : Index := Scalar.indexCast v1802
  let c32_642 : Index := 32#32
  ![v1803.toNat, 32]
def k0_off291 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_647 : BitVec 32 := 10#32
  let v1820 : BitVec 32 := Scalar.addi v133 c10_i32_647
  let v1821 : Index := Scalar.indexCast v1820
  let c48_648 : Index := 48#32
  ![v1821.toNat, 48]
def k0_off292 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_653 : BitVec 32 := 10#32
  let v1838 : BitVec 32 := Scalar.addi v133 c10_i32_653
  let v1839 : Index := Scalar.indexCast v1838
  let c64_654 : Index := 64#32
  ![v1839.toNat, 64]
def k0_off293 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_659 : BitVec 32 := 10#32
  let v1856 : BitVec 32 := Scalar.addi v133 c10_i32_659
  let v1857 : Index := Scalar.indexCast v1856
  let c80_660 : Index := 80#32
  ![v1857.toNat, 80]
def k0_off294 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_665 : BitVec 32 := 10#32
  let v1874 : BitVec 32 := Scalar.addi v133 c10_i32_665
  let v1875 : Index := Scalar.indexCast v1874
  let c96_666 : Index := 96#32
  ![v1875.toNat, 96]
def k0_off295 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c10_i32_671 : BitVec 32 := 10#32
  let v1892 : BitVec 32 := Scalar.addi v133 c10_i32_671
  let v1893 : Index := Scalar.indexCast v1892
  let c112_672 : Index := 112#32
  ![v1893.toNat, 112]
def k0_off296 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond33 (v1920 : BitVec 32) (v1922 : BitVec 32) : BitVec 1 :=
  let v1923 : BitVec 1 := Scalar.cmpi .eq v1920 v1922
  let true_681 : BitVec 1 := 1#1
  let v1924 : BitVec 1 := Scalar.xori v1923 true_681
  let v1925 : BitVec 32 := Scalar.extui v1924
  let c0_i32_682 : BitVec 32 := 0#32
  let v1926 : BitVec 1 := Scalar.cmpi .ne v1925 c0_i32_682
  v1926

def k0_off297 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r54 : BitVec 32 := 0#32
  ![v2733.toNat, 0]

def k0_chk28 (i : grid0.Coords) (v135 : BitVec 32) (v137 : BitVec 32) (v140 : BitVec 32) (v1920 : BitVec 32) (v1922 : BitVec 32) (v2725 : BitVec 32) : Prop :=
  (∀ (k0_h21 : k0_cond21 v135 v137 v140 = 1#1), ∀ (k0_h33 : k0_cond33 v1920 v1922 = 1#1), ∀ a, (k0_off296 v2725) a + S16.size a ≤ S8320.size a) ∧
  (∀ (k0_h21 : k0_cond21 v135 v137 v140 = 1#1), ∀ (k0_h33 : k0_cond33 v1920 v1922 = 1#1), ∀ a, (k0_off297 i v2725) a + S1x128.size a ≤ S16640x128.size a)
theorem k0_off296_inb : ∀ (i : grid0.Coords) (v135 : BitVec 32) (v137 : BitVec 32) (v140 : BitVec 32) (v1920 : BitVec 32) (v1922 : BitVec 32) (v2725 : BitVec 32) (k0_hw28 : k0_chk28 i v135 v137 v140 v1920 v1922 v2725), ∀ (k0_h21 : k0_cond21 v135 v137 v140 = 1#1), ∀ (k0_h33 : k0_cond33 v1920 v1922 = 1#1), ∀ a, (k0_off296 v2725) a + S16.size a ≤ S8320.size a := fun i v135 v137 v140 v1920 v1922 v2725 k0_hw28 k0_h21 k0_h33 => k0_hw28.1 k0_h21 k0_h33
theorem k0_off297_inb : ∀ (i : grid0.Coords) (v135 : BitVec 32) (v137 : BitVec 32) (v140 : BitVec 32) (v1920 : BitVec 32) (v1922 : BitVec 32) (v2725 : BitVec 32) (k0_hw28 : k0_chk28 i v135 v137 v140 v1920 v1922 v2725), ∀ (k0_h21 : k0_cond21 v135 v137 v140 = 1#1), ∀ (k0_h33 : k0_cond33 v1920 v1922 = 1#1), ∀ a, (k0_off297 i v2725) a + S1x128.size a ≤ S16640x128.size a := fun i v135 v137 v140 v1920 v1922 v2725 k0_hw28 k0_h21 k0_h33 => k0_hw28.2 k0_h21 k0_h33

def k0_off298 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32 : BitVec 32 := 11#32
  let v1927 : BitVec 32 := Scalar.addi v133 c11_i32
  let v1928 : Index := Scalar.indexCast v1927
  let c0_683 : Index := 0#32
  ![v1928.toNat, 0]
def k0_off299 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_688 : BitVec 32 := 11#32
  let v1945 : BitVec 32 := Scalar.addi v133 c11_i32_688
  let v1946 : Index := Scalar.indexCast v1945
  let c16_689 : Index := 16#32
  ![v1946.toNat, 16]
def k0_off300 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_694 : BitVec 32 := 11#32
  let v1963 : BitVec 32 := Scalar.addi v133 c11_i32_694
  let v1964 : Index := Scalar.indexCast v1963
  let c32_695 : Index := 32#32
  ![v1964.toNat, 32]
def k0_off301 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_700 : BitVec 32 := 11#32
  let v1981 : BitVec 32 := Scalar.addi v133 c11_i32_700
  let v1982 : Index := Scalar.indexCast v1981
  let c48_701 : Index := 48#32
  ![v1982.toNat, 48]
def k0_off302 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_706 : BitVec 32 := 11#32
  let v1999 : BitVec 32 := Scalar.addi v133 c11_i32_706
  let v2000 : Index := Scalar.indexCast v1999
  let c64_707 : Index := 64#32
  ![v2000.toNat, 64]
def k0_off303 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_712 : BitVec 32 := 11#32
  let v2017 : BitVec 32 := Scalar.addi v133 c11_i32_712
  let v2018 : Index := Scalar.indexCast v2017
  let c80_713 : Index := 80#32
  ![v2018.toNat, 80]
def k0_off304 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_718 : BitVec 32 := 11#32
  let v2035 : BitVec 32 := Scalar.addi v133 c11_i32_718
  let v2036 : Index := Scalar.indexCast v2035
  let c96_719 : Index := 96#32
  ![v2036.toNat, 96]
def k0_off305 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c11_i32_724 : BitVec 32 := 11#32
  let v2053 : BitVec 32 := Scalar.addi v133 c11_i32_724
  let v2054 : Index := Scalar.indexCast v2053
  let c112_725 : Index := 112#32
  ![v2054.toNat, 112]
def k0_off306 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond34 (v2081 : BitVec 32) (v2083 : BitVec 32) : BitVec 1 :=
  let v2084 : BitVec 1 := Scalar.cmpi .eq v2081 v2083
  let true_734 : BitVec 1 := 1#1
  let v2085 : BitVec 1 := Scalar.xori v2084 true_734
  let v2086 : BitVec 32 := Scalar.extui v2085
  let c0_i32_735 : BitVec 32 := 0#32
  let v2087 : BitVec 1 := Scalar.cmpi .ne v2086 c0_i32_735
  v2087

def k0_off307 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r56 : BitVec 32 := 0#32
  ![v2733.toNat, 0]

def k0_chk29 (i : grid0.Coords) (v135 : BitVec 32) (v137 : BitVec 32) (v140 : BitVec 32) (v2081 : BitVec 32) (v2083 : BitVec 32) (v2725 : BitVec 32) : Prop :=
  (∀ (k0_h21 : k0_cond21 v135 v137 v140 = 1#1), ∀ (k0_h34 : k0_cond34 v2081 v2083 = 1#1), ∀ a, (k0_off306 v2725) a + S16.size a ≤ S8320.size a) ∧
  (∀ (k0_h21 : k0_cond21 v135 v137 v140 = 1#1), ∀ (k0_h34 : k0_cond34 v2081 v2083 = 1#1), ∀ a, (k0_off307 i v2725) a + S1x128.size a ≤ S16640x128.size a)
theorem k0_off306_inb : ∀ (i : grid0.Coords) (v135 : BitVec 32) (v137 : BitVec 32) (v140 : BitVec 32) (v2081 : BitVec 32) (v2083 : BitVec 32) (v2725 : BitVec 32) (k0_hw29 : k0_chk29 i v135 v137 v140 v2081 v2083 v2725), ∀ (k0_h21 : k0_cond21 v135 v137 v140 = 1#1), ∀ (k0_h34 : k0_cond34 v2081 v2083 = 1#1), ∀ a, (k0_off306 v2725) a + S16.size a ≤ S8320.size a := fun i v135 v137 v140 v2081 v2083 v2725 k0_hw29 k0_h21 k0_h34 => k0_hw29.1 k0_h21 k0_h34
theorem k0_off307_inb : ∀ (i : grid0.Coords) (v135 : BitVec 32) (v137 : BitVec 32) (v140 : BitVec 32) (v2081 : BitVec 32) (v2083 : BitVec 32) (v2725 : BitVec 32) (k0_hw29 : k0_chk29 i v135 v137 v140 v2081 v2083 v2725), ∀ (k0_h21 : k0_cond21 v135 v137 v140 = 1#1), ∀ (k0_h34 : k0_cond34 v2081 v2083 = 1#1), ∀ a, (k0_off307 i v2725) a + S1x128.size a ≤ S16640x128.size a := fun i v135 v137 v140 v2081 v2083 v2725 k0_hw29 k0_h21 k0_h34 => k0_hw29.2 k0_h21 k0_h34

def k0_off308 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_736 : BitVec 32 := 12#32
  let v2088 : BitVec 32 := Scalar.addi v133 c12_i32_736
  let v2089 : Index := Scalar.indexCast v2088
  let c0_737 : Index := 0#32
  ![v2089.toNat, 0]
def k0_off309 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_742 : BitVec 32 := 12#32
  let v2106 : BitVec 32 := Scalar.addi v133 c12_i32_742
  let v2107 : Index := Scalar.indexCast v2106
  let c16_743 : Index := 16#32
  ![v2107.toNat, 16]
def k0_off310 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_748 : BitVec 32 := 12#32
  let v2124 : BitVec 32 := Scalar.addi v133 c12_i32_748
  let v2125 : Index := Scalar.indexCast v2124
  let c32_749 : Index := 32#32
  ![v2125.toNat, 32]
def k0_off311 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_754 : BitVec 32 := 12#32
  let v2142 : BitVec 32 := Scalar.addi v133 c12_i32_754
  let v2143 : Index := Scalar.indexCast v2142
  let c48_755 : Index := 48#32
  ![v2143.toNat, 48]
def k0_off312 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_760 : BitVec 32 := 12#32
  let v2160 : BitVec 32 := Scalar.addi v133 c12_i32_760
  let v2161 : Index := Scalar.indexCast v2160
  let c64_761 : Index := 64#32
  ![v2161.toNat, 64]
def k0_off313 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_766 : BitVec 32 := 12#32
  let v2178 : BitVec 32 := Scalar.addi v133 c12_i32_766
  let v2179 : Index := Scalar.indexCast v2178
  let c80_767 : Index := 80#32
  ![v2179.toNat, 80]
def k0_off314 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_772 : BitVec 32 := 12#32
  let v2196 : BitVec 32 := Scalar.addi v133 c12_i32_772
  let v2197 : Index := Scalar.indexCast v2196
  let c96_773 : Index := 96#32
  ![v2197.toNat, 96]
def k0_off315 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c12_i32_778 : BitVec 32 := 12#32
  let v2214 : BitVec 32 := Scalar.addi v133 c12_i32_778
  let v2215 : Index := Scalar.indexCast v2214
  let c112_779 : Index := 112#32
  ![v2215.toNat, 112]
def k0_off316 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond35 (v2242 : BitVec 32) (v2244 : BitVec 32) : BitVec 1 :=
  let v2245 : BitVec 1 := Scalar.cmpi .eq v2242 v2244
  let true_788 : BitVec 1 := 1#1
  let v2246 : BitVec 1 := Scalar.xori v2245 true_788
  let v2247 : BitVec 32 := Scalar.extui v2246
  let c0_i32_789 : BitVec 32 := 0#32
  let v2248 : BitVec 1 := Scalar.cmpi .ne v2247 c0_i32_789
  v2248

def k0_off317 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r58 : BitVec 32 := 0#32
  ![v2733.toNat, 0]

def k0_chk30 (i : grid0.Coords) (v135 : BitVec 32) (v137 : BitVec 32) (v140 : BitVec 32) (v2242 : BitVec 32) (v2244 : BitVec 32) (v2725 : BitVec 32) : Prop :=
  (∀ (k0_h21 : k0_cond21 v135 v137 v140 = 1#1), ∀ (k0_h35 : k0_cond35 v2242 v2244 = 1#1), ∀ a, (k0_off316 v2725) a + S16.size a ≤ S8320.size a) ∧
  (∀ (k0_h21 : k0_cond21 v135 v137 v140 = 1#1), ∀ (k0_h35 : k0_cond35 v2242 v2244 = 1#1), ∀ a, (k0_off317 i v2725) a + S1x128.size a ≤ S16640x128.size a)
theorem k0_off316_inb : ∀ (i : grid0.Coords) (v135 : BitVec 32) (v137 : BitVec 32) (v140 : BitVec 32) (v2242 : BitVec 32) (v2244 : BitVec 32) (v2725 : BitVec 32) (k0_hw30 : k0_chk30 i v135 v137 v140 v2242 v2244 v2725), ∀ (k0_h21 : k0_cond21 v135 v137 v140 = 1#1), ∀ (k0_h35 : k0_cond35 v2242 v2244 = 1#1), ∀ a, (k0_off316 v2725) a + S16.size a ≤ S8320.size a := fun i v135 v137 v140 v2242 v2244 v2725 k0_hw30 k0_h21 k0_h35 => k0_hw30.1 k0_h21 k0_h35
theorem k0_off317_inb : ∀ (i : grid0.Coords) (v135 : BitVec 32) (v137 : BitVec 32) (v140 : BitVec 32) (v2242 : BitVec 32) (v2244 : BitVec 32) (v2725 : BitVec 32) (k0_hw30 : k0_chk30 i v135 v137 v140 v2242 v2244 v2725), ∀ (k0_h21 : k0_cond21 v135 v137 v140 = 1#1), ∀ (k0_h35 : k0_cond35 v2242 v2244 = 1#1), ∀ a, (k0_off317 i v2725) a + S1x128.size a ≤ S16640x128.size a := fun i v135 v137 v140 v2242 v2244 v2725 k0_hw30 k0_h21 k0_h35 => k0_hw30.2 k0_h21 k0_h35

def k0_off318 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32 : BitVec 32 := 13#32
  let v2249 : BitVec 32 := Scalar.addi v133 c13_i32
  let v2250 : Index := Scalar.indexCast v2249
  let c0_790 : Index := 0#32
  ![v2250.toNat, 0]
def k0_off319 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_795 : BitVec 32 := 13#32
  let v2267 : BitVec 32 := Scalar.addi v133 c13_i32_795
  let v2268 : Index := Scalar.indexCast v2267
  let c16_796 : Index := 16#32
  ![v2268.toNat, 16]
def k0_off320 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_801 : BitVec 32 := 13#32
  let v2285 : BitVec 32 := Scalar.addi v133 c13_i32_801
  let v2286 : Index := Scalar.indexCast v2285
  let c32_802 : Index := 32#32
  ![v2286.toNat, 32]
def k0_off321 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_807 : BitVec 32 := 13#32
  let v2303 : BitVec 32 := Scalar.addi v133 c13_i32_807
  let v2304 : Index := Scalar.indexCast v2303
  let c48_808 : Index := 48#32
  ![v2304.toNat, 48]
def k0_off322 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_813 : BitVec 32 := 13#32
  let v2321 : BitVec 32 := Scalar.addi v133 c13_i32_813
  let v2322 : Index := Scalar.indexCast v2321
  let c64_814 : Index := 64#32
  ![v2322.toNat, 64]
def k0_off323 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_819 : BitVec 32 := 13#32
  let v2339 : BitVec 32 := Scalar.addi v133 c13_i32_819
  let v2340 : Index := Scalar.indexCast v2339
  let c80_820 : Index := 80#32
  ![v2340.toNat, 80]
def k0_off324 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_825 : BitVec 32 := 13#32
  let v2357 : BitVec 32 := Scalar.addi v133 c13_i32_825
  let v2358 : Index := Scalar.indexCast v2357
  let c96_826 : Index := 96#32
  ![v2358.toNat, 96]
def k0_off325 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c13_i32_831 : BitVec 32 := 13#32
  let v2375 : BitVec 32 := Scalar.addi v133 c13_i32_831
  let v2376 : Index := Scalar.indexCast v2375
  let c112_832 : Index := 112#32
  ![v2376.toNat, 112]
def k0_off326 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond36 (v2403 : BitVec 32) (v2405 : BitVec 32) : BitVec 1 :=
  let v2406 : BitVec 1 := Scalar.cmpi .eq v2403 v2405
  let true_841 : BitVec 1 := 1#1
  let v2407 : BitVec 1 := Scalar.xori v2406 true_841
  let v2408 : BitVec 32 := Scalar.extui v2407
  let c0_i32_842 : BitVec 32 := 0#32
  let v2409 : BitVec 1 := Scalar.cmpi .ne v2408 c0_i32_842
  v2409

def k0_off327 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r60 : BitVec 32 := 0#32
  ![v2733.toNat, 0]

def k0_chk31 (i : grid0.Coords) (v135 : BitVec 32) (v137 : BitVec 32) (v140 : BitVec 32) (v2403 : BitVec 32) (v2405 : BitVec 32) (v2725 : BitVec 32) : Prop :=
  (∀ (k0_h21 : k0_cond21 v135 v137 v140 = 1#1), ∀ (k0_h36 : k0_cond36 v2403 v2405 = 1#1), ∀ a, (k0_off326 v2725) a + S16.size a ≤ S8320.size a) ∧
  (∀ (k0_h21 : k0_cond21 v135 v137 v140 = 1#1), ∀ (k0_h36 : k0_cond36 v2403 v2405 = 1#1), ∀ a, (k0_off327 i v2725) a + S1x128.size a ≤ S16640x128.size a)
theorem k0_off326_inb : ∀ (i : grid0.Coords) (v135 : BitVec 32) (v137 : BitVec 32) (v140 : BitVec 32) (v2403 : BitVec 32) (v2405 : BitVec 32) (v2725 : BitVec 32) (k0_hw31 : k0_chk31 i v135 v137 v140 v2403 v2405 v2725), ∀ (k0_h21 : k0_cond21 v135 v137 v140 = 1#1), ∀ (k0_h36 : k0_cond36 v2403 v2405 = 1#1), ∀ a, (k0_off326 v2725) a + S16.size a ≤ S8320.size a := fun i v135 v137 v140 v2403 v2405 v2725 k0_hw31 k0_h21 k0_h36 => k0_hw31.1 k0_h21 k0_h36
theorem k0_off327_inb : ∀ (i : grid0.Coords) (v135 : BitVec 32) (v137 : BitVec 32) (v140 : BitVec 32) (v2403 : BitVec 32) (v2405 : BitVec 32) (v2725 : BitVec 32) (k0_hw31 : k0_chk31 i v135 v137 v140 v2403 v2405 v2725), ∀ (k0_h21 : k0_cond21 v135 v137 v140 = 1#1), ∀ (k0_h36 : k0_cond36 v2403 v2405 = 1#1), ∀ a, (k0_off327 i v2725) a + S1x128.size a ≤ S16640x128.size a := fun i v135 v137 v140 v2403 v2405 v2725 k0_hw31 k0_h21 k0_h36 => k0_hw31.2 k0_h21 k0_h36

def k0_off328 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32 : BitVec 32 := 14#32
  let v2410 : BitVec 32 := Scalar.addi v133 c14_i32
  let v2411 : Index := Scalar.indexCast v2410
  let c0_843 : Index := 0#32
  ![v2411.toNat, 0]
def k0_off329 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_848 : BitVec 32 := 14#32
  let v2428 : BitVec 32 := Scalar.addi v133 c14_i32_848
  let v2429 : Index := Scalar.indexCast v2428
  let c16_849 : Index := 16#32
  ![v2429.toNat, 16]
def k0_off330 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_854 : BitVec 32 := 14#32
  let v2446 : BitVec 32 := Scalar.addi v133 c14_i32_854
  let v2447 : Index := Scalar.indexCast v2446
  let c32_855 : Index := 32#32
  ![v2447.toNat, 32]
def k0_off331 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_860 : BitVec 32 := 14#32
  let v2464 : BitVec 32 := Scalar.addi v133 c14_i32_860
  let v2465 : Index := Scalar.indexCast v2464
  let c48_861 : Index := 48#32
  ![v2465.toNat, 48]
def k0_off332 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_866 : BitVec 32 := 14#32
  let v2482 : BitVec 32 := Scalar.addi v133 c14_i32_866
  let v2483 : Index := Scalar.indexCast v2482
  let c64_867 : Index := 64#32
  ![v2483.toNat, 64]
def k0_off333 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_872 : BitVec 32 := 14#32
  let v2500 : BitVec 32 := Scalar.addi v133 c14_i32_872
  let v2501 : Index := Scalar.indexCast v2500
  let c80_873 : Index := 80#32
  ![v2501.toNat, 80]
def k0_off334 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_878 : BitVec 32 := 14#32
  let v2518 : BitVec 32 := Scalar.addi v133 c14_i32_878
  let v2519 : Index := Scalar.indexCast v2518
  let c96_879 : Index := 96#32
  ![v2519.toNat, 96]
def k0_off335 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c14_i32_884 : BitVec 32 := 14#32
  let v2536 : BitVec 32 := Scalar.addi v133 c14_i32_884
  let v2537 : Index := Scalar.indexCast v2536
  let c112_885 : Index := 112#32
  ![v2537.toNat, 112]
def k0_off336 (v2725 : BitVec 32) : Fin 1 → Nat :=
  let c16_i32_948 : BitVec 32 := 16#32
  let v2728 : BitVec 32 := Scalar.muli v2725 c16_i32_948
  let v2729 : Index := Scalar.indexCast v2728
  ![v2729.toNat]
def k0_cond37 (v2564 : BitVec 32) (v2566 : BitVec 32) : BitVec 1 :=
  let v2567 : BitVec 1 := Scalar.cmpi .eq v2564 v2566
  let true_894 : BitVec 1 := 1#1
  let v2568 : BitVec 1 := Scalar.xori v2567 true_894
  let v2569 : BitVec 32 := Scalar.extui v2568
  let c0_i32_895 : BitVec 32 := 0#32
  let v2570 : BitVec 1 := Scalar.cmpi .ne v2569 c0_i32_895
  v2570

def k0_off337 (i : grid0.Coords) (v2725 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2733 : BitVec 32 := Scalar.addi v5 v2725
  let c0_i32_949_r62 : BitVec 32 := 0#32
  ![v2733.toNat, 0]

def k0_chk32 (i : grid0.Coords) (v135 : BitVec 32) (v137 : BitVec 32) (v140 : BitVec 32) (v2564 : BitVec 32) (v2566 : BitVec 32) (v2725 : BitVec 32) : Prop :=
  (∀ (k0_h21 : k0_cond21 v135 v137 v140 = 1#1), ∀ (k0_h37 : k0_cond37 v2564 v2566 = 1#1), ∀ a, (k0_off336 v2725) a + S16.size a ≤ S8320.size a) ∧
  (∀ (k0_h21 : k0_cond21 v135 v137 v140 = 1#1), ∀ (k0_h37 : k0_cond37 v2564 v2566 = 1#1), ∀ a, (k0_off337 i v2725) a + S1x128.size a ≤ S16640x128.size a)
theorem k0_off336_inb : ∀ (i : grid0.Coords) (v135 : BitVec 32) (v137 : BitVec 32) (v140 : BitVec 32) (v2564 : BitVec 32) (v2566 : BitVec 32) (v2725 : BitVec 32) (k0_hw32 : k0_chk32 i v135 v137 v140 v2564 v2566 v2725), ∀ (k0_h21 : k0_cond21 v135 v137 v140 = 1#1), ∀ (k0_h37 : k0_cond37 v2564 v2566 = 1#1), ∀ a, (k0_off336 v2725) a + S16.size a ≤ S8320.size a := fun i v135 v137 v140 v2564 v2566 v2725 k0_hw32 k0_h21 k0_h37 => k0_hw32.1 k0_h21 k0_h37
theorem k0_off337_inb : ∀ (i : grid0.Coords) (v135 : BitVec 32) (v137 : BitVec 32) (v140 : BitVec 32) (v2564 : BitVec 32) (v2566 : BitVec 32) (v2725 : BitVec 32) (k0_hw32 : k0_chk32 i v135 v137 v140 v2564 v2566 v2725), ∀ (k0_h21 : k0_cond21 v135 v137 v140 = 1#1), ∀ (k0_h37 : k0_cond37 v2564 v2566 = 1#1), ∀ a, (k0_off337 i v2725) a + S1x128.size a ≤ S16640x128.size a := fun i v135 v137 v140 v2564 v2566 v2725 k0_hw32 k0_h21 k0_h37 => k0_hw32.2 k0_h21 k0_h37

def k0_off338 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32 : BitVec 32 := 15#32
  let v2571 : BitVec 32 := Scalar.addi v133 c15_i32
  let v2572 : Index := Scalar.indexCast v2571
  let c0_896 : Index := 0#32
  ![v2572.toNat, 0]
def k0_off339 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_901 : BitVec 32 := 15#32
  let v2589 : BitVec 32 := Scalar.addi v133 c15_i32_901
  let v2590 : Index := Scalar.indexCast v2589
  let c16_902 : Index := 16#32
  ![v2590.toNat, 16]
def k0_off340 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_907 : BitVec 32 := 15#32
  let v2607 : BitVec 32 := Scalar.addi v133 c15_i32_907
  let v2608 : Index := Scalar.indexCast v2607
  let c32_908 : Index := 32#32
  ![v2608.toNat, 32]
def k0_off341 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_913 : BitVec 32 := 15#32
  let v2625 : BitVec 32 := Scalar.addi v133 c15_i32_913
  let v2626 : Index := Scalar.indexCast v2625
  let c48_914 : Index := 48#32
  ![v2626.toNat, 48]
def k0_off342 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_919 : BitVec 32 := 15#32
  let v2643 : BitVec 32 := Scalar.addi v133 c15_i32_919
  let v2644 : Index := Scalar.indexCast v2643
  let c64_920 : Index := 64#32
  ![v2644.toNat, 64]
def k0_off343 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_925 : BitVec 32 := 15#32
  let v2661 : BitVec 32 := Scalar.addi v133 c15_i32_925
  let v2662 : Index := Scalar.indexCast v2661
  let c80_926 : Index := 80#32
  ![v2662.toNat, 80]
def k0_off344 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_931 : BitVec 32 := 15#32
  let v2679 : BitVec 32 := Scalar.addi v133 c15_i32_931
  let v2680 : Index := Scalar.indexCast v2679
  let c96_932 : Index := 96#32
  ![v2680.toNat, 96]
def k0_off345 (k0_t4 : Fin k0_t4_loop.trips) : Fin 2 → Nat :=
  let c400_i32_96 : BitVec 32 := 400#32
  let c0_i32_85 : BitVec 32 := 0#32
  let c1_i32_87 : BitVec 32 := 1#32
  let arg18 : BitVec 32 := Scf.iv c0_i32_85 c1_i32_87 k0_t4
  let c16_i32_95 : BitVec 32 := 16#32
  let v132 : BitVec 32 := Scalar.muli arg18 c16_i32_95
  let v133 : BitVec 32 := Scalar.addi c400_i32_96 v132
  let c15_i32_937 : BitVec 32 := 15#32
  let v2697 : BitVec 32 := Scalar.addi v133 c15_i32_937
  let v2698 : Index := Scalar.indexCast v2697
  let c112_938 : Index := 112#32
  ![v2698.toNat, 112]
def k0_cond38 (k0_t2 : Fin k0_t2_loop.trips) : BitVec 1 :=
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c2_i32_89 : BitVec 32 := 2#32
  let v123 : BitVec 32 := Scalar.addi v102 c2_i32_89
  let c25_i32_90 : BitVec 32 := 25#32
  let v124 : BitVec 1 := Scalar.cmpi .slt v123 c25_i32_90
  let v125 : BitVec 32 := Scalar.extui v124
  let c0_i32_91 : BitVec 32 := 0#32
  let v126 : BitVec 1 := Scalar.cmpi .ne v125 c0_i32_91
  v126

def k0_mult13 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c2_i32_93 : BitVec 32 := 2#32
  let v127 : BitVec 32 := Scalar.addi v102 c2_i32_93
  let c400_i32_94 : BitVec 32 := 400#32
  let v128 : BitVec 32 := Scalar.muli v127 c400_i32_94
  let v129 : BitVec 32 := Scalar.addi v3 v128
  v129
def k0_off346 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c2_i32_93 : BitVec 32 := 2#32
  let v127 : BitVec 32 := Scalar.addi v102 c2_i32_93
  let c400_i32_94 : BitVec 32 := 400#32
  let v128 : BitVec 32 := Scalar.muli v127 c400_i32_94
  let v129 : BitVec 32 := Scalar.addi v3 v128
  let v130 : BitVec 32 := v129
  let c0_i32_98 : BitVec 32 := 0#32
  ![v130.toNat, 0]
def k0_mult14 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c2_i32_102 : BitVec 32 := 2#32
  let v137 : BitVec 32 := Scalar.addi v102 c2_i32_102
  let c400_i32_103 : BitVec 32 := 400#32
  let v138 : BitVec 32 := Scalar.muli v137 c400_i32_103
  let v139 : BitVec 32 := Scalar.addi v3 v138
  v139
def k0_off347 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c2_i32_70 : BitVec 32 := 2#32
  let c0_i32_29 : BitVec 32 := 0#32
  let c1_i32_30 : BitVec 32 := 1#32
  let arg16 : BitVec 32 := Scf.iv c0_i32_29 c1_i32_30 k0_t2
  let v101 : BitVec 32 := Scalar.muli c2_i32_70 arg16
  let c1_i32_71 : BitVec 32 := 1#32
  let v102 : BitVec 32 := Scalar.addi v101 c1_i32_71
  let c2_i32_102 : BitVec 32 := 2#32
  let v137 : BitVec 32 := Scalar.addi v102 c2_i32_102
  let c400_i32_103 : BitVec 32 := 400#32
  let v138 : BitVec 32 := Scalar.muli v137 c400_i32_103
  let v139 : BitVec 32 := Scalar.addi v3 v138
  let v140 : BitVec 32 := v139
  ![v140.toNat]
def k0_mult15 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c9600_i32 : BitVec 32 := 9600#32
  let v46 : BitVec 32 := Scalar.addi v3 c9600_i32
  v46
def k0_mult16 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10000_i32 : BitVec 32 := 10000#32
  let v2 : BitVec 32 := Scalar.muli v1 c10000_i32
  let v3 : BitVec 32 := v2
  let c9600_i32_39 : BitVec 32 := 9600#32
  let v54 : BitVec 32 := Scalar.addi v3 c9600_i32_39
  v54
@[reducible] def k0_t5_loop : Scf.Loop 32 :=
  let c0_i32_44 : BitVec 32 := 0#32
  let c25_i32 : BitVec 32 := 25#32
  let v62 : BitVec 32 := Scalar.addi c0_i32_44 c25_i32
  let c1_i32_45 : BitVec 32 := 1#32
  ⟨c0_i32_44, v62, c1_i32_45⟩
def k0_off348 (k0_t5 : Fin k0_t5_loop.trips) : Fin 1 → Nat :=
  let c0_i32_50 : BitVec 32 := 0#32
  let c0_i32_44 : BitVec 32 := 0#32
  let c1_i32_45 : BitVec 32 := 1#32
  let arg16 : BitVec 32 := Scf.iv c0_i32_44 c1_i32_45 k0_t5
  let c16_i32_49 : BitVec 32 := 16#32
  let v75 : BitVec 32 := Scalar.muli arg16 c16_i32_49
  let v76 : BitVec 32 := Scalar.addi c0_i32_50 v75
  let v77 : Index := Scalar.indexCast v76
  ![v77.toNat]
def k0_off349 (k0_t5 : Fin k0_t5_loop.trips) (c0_i32_57 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v96 : BitVec 32 := Scalar.addi v81 c0_i32_57
  let v97 : Index := Scalar.indexCast v96
  let c0_58 : Index := 0#32
  ![v97.toNat, 0]
def k0_off350 (k0_t5 : Fin k0_t5_loop.trips) (c0_i32_80 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v202 : BitVec 32 := Scalar.addi v81 c0_i32_80
  let v203 : Index := Scalar.indexCast v202
  let c16 : Index := 16#32
  ![v203.toNat, 16]
def k0_off351 (k0_t5 : Fin k0_t5_loop.trips) (c0_i32_115 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v308 : BitVec 32 := Scalar.addi v81 c0_i32_115
  let v309 : Index := Scalar.indexCast v308
  let c32 : Index := 32#32
  ![v309.toNat, 32]
def k0_off352 (k0_t5 : Fin k0_t5_loop.trips) (c0_i32_150 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v414 : BitVec 32 := Scalar.addi v81 c0_i32_150
  let v415 : Index := Scalar.indexCast v414
  let c48 : Index := 48#32
  ![v415.toNat, 48]
def k0_off353 (k0_t5 : Fin k0_t5_loop.trips) (c0_i32_185 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v520 : BitVec 32 := Scalar.addi v81 c0_i32_185
  let v521 : Index := Scalar.indexCast v520
  let c64 : Index := 64#32
  ![v521.toNat, 64]
def k0_off354 (k0_t5 : Fin k0_t5_loop.trips) (c0_i32_220 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v626 : BitVec 32 := Scalar.addi v81 c0_i32_220
  let v627 : Index := Scalar.indexCast v626
  let c80 : Index := 80#32
  ![v627.toNat, 80]
def k0_off355 (k0_t5 : Fin k0_t5_loop.trips) (c0_i32_255 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v732 : BitVec 32 := Scalar.addi v81 c0_i32_255
  let v733 : Index := Scalar.indexCast v732
  let c96 : Index := 96#32
  ![v733.toNat, 96]
def k0_off356 (k0_t5 : Fin k0_t5_loop.trips) (c0_i32_290 : BitVec 32) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let v838 : BitVec 32 := Scalar.addi v81 c0_i32_290
  let v839 : Index := Scalar.indexCast v838
  let c112 : Index := 112#32
  ![v839.toNat, 112]
def k0_off357 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond40 (v83 : BitVec 32) (v85 : BitVec 32) (v88 : BitVec 32) : BitVec 1 :=
  let v86 : BitVec 1 := Scalar.cmpi .eq v83 v85
  let v89 : BitVec 1 := Scalar.cmpi .eq v83 v88
  let v90 : BitVec 1 := Scalar.andi v86 v89
  let v_true : BitVec 1 := 1#1
  let v93 : BitVec 1 := Scalar.xori v90 v_true
  let v94 : BitVec 32 := Scalar.extui v93
  let c0_i32_55 : BitVec 32 := 0#32
  let v95 : BitVec 1 := Scalar.cmpi .ne v94 c0_i32_55
  v95

def k0_cond41 (v97 : BitVec 32) (v99 : BitVec 32) : BitVec 1 :=
  let v100 : BitVec 1 := Scalar.cmpi .eq v97 v99
  let true_58 : BitVec 1 := 1#1
  let v101 : BitVec 1 := Scalar.xori v100 true_58
  let v102 : BitVec 32 := Scalar.extui v101
  let c0_i32_59 : BitVec 32 := 0#32
  let v103 : BitVec 1 := Scalar.cmpi .ne v102 c0_i32_59
  v103

def k0_off358 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r64 : BitVec 32 := 0#32
  ![v2681.toNat, 0]

def k0_chk33 (i : grid0.Coords) (v83 : BitVec 32) (v85 : BitVec 32) (v88 : BitVec 32) (v97 : BitVec 32) (v99 : BitVec 32) (v2673 : BitVec 32) : Prop :=
  (∀ (k0_h40 : k0_cond40 v83 v85 v88 = 1#1), ∀ (k0_h41 : k0_cond41 v97 v99 = 1#1), ∀ a, (k0_off357 v2673) a + S16.size a ≤ S8320.size a) ∧
  (∀ (k0_h40 : k0_cond40 v83 v85 v88 = 1#1), ∀ (k0_h41 : k0_cond41 v97 v99 = 1#1), ∀ a, (k0_off358 i v2673) a + S1x128.size a ≤ S16640x128.size a)
theorem k0_off357_inb : ∀ (i : grid0.Coords) (v83 : BitVec 32) (v85 : BitVec 32) (v88 : BitVec 32) (v97 : BitVec 32) (v99 : BitVec 32) (v2673 : BitVec 32) (k0_hw33 : k0_chk33 i v83 v85 v88 v97 v99 v2673), ∀ (k0_h40 : k0_cond40 v83 v85 v88 = 1#1), ∀ (k0_h41 : k0_cond41 v97 v99 = 1#1), ∀ a, (k0_off357 v2673) a + S16.size a ≤ S8320.size a := fun i v83 v85 v88 v97 v99 v2673 k0_hw33 k0_h40 k0_h41 => k0_hw33.1 k0_h40 k0_h41
theorem k0_off358_inb : ∀ (i : grid0.Coords) (v83 : BitVec 32) (v85 : BitVec 32) (v88 : BitVec 32) (v97 : BitVec 32) (v99 : BitVec 32) (v2673 : BitVec 32) (k0_hw33 : k0_chk33 i v83 v85 v88 v97 v99 v2673), ∀ (k0_h40 : k0_cond40 v83 v85 v88 = 1#1), ∀ (k0_h41 : k0_cond41 v97 v99 = 1#1), ∀ a, (k0_off358 i v2673) a + S1x128.size a ≤ S16640x128.size a := fun i v83 v85 v88 v97 v99 v2673 k0_hw33 k0_h40 k0_h41 => k0_hw33.2 k0_h40 k0_h41

def k0_off359 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_60 : BitVec 32 := 0#32
  let v104 : BitVec 32 := Scalar.addi v81 c0_i32_60
  let v105 : Index := Scalar.indexCast v104
  let c0_61 : Index := 0#32
  ![v105.toNat, 0]
def k0_off360 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_66 : BitVec 32 := 0#32
  let v122 : BitVec 32 := Scalar.addi v81 c0_i32_66
  let v123 : Index := Scalar.indexCast v122
  let c16 : Index := 16#32
  ![v123.toNat, 16]
def k0_off361 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_71 : BitVec 32 := 0#32
  let v140 : BitVec 32 := Scalar.addi v81 c0_i32_71
  let v141 : Index := Scalar.indexCast v140
  let c32 : Index := 32#32
  ![v141.toNat, 32]
def k0_off362 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_76 : BitVec 32 := 0#32
  let v158 : BitVec 32 := Scalar.addi v81 c0_i32_76
  let v159 : Index := Scalar.indexCast v158
  let c48 : Index := 48#32
  ![v159.toNat, 48]
def k0_off363 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_81 : BitVec 32 := 0#32
  let v176 : BitVec 32 := Scalar.addi v81 c0_i32_81
  let v177 : Index := Scalar.indexCast v176
  let c64 : Index := 64#32
  ![v177.toNat, 64]
def k0_off364 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_86 : BitVec 32 := 0#32
  let v194 : BitVec 32 := Scalar.addi v81 c0_i32_86
  let v195 : Index := Scalar.indexCast v194
  let c80 : Index := 80#32
  ![v195.toNat, 80]
def k0_off365 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_91 : BitVec 32 := 0#32
  let v212 : BitVec 32 := Scalar.addi v81 c0_i32_91
  let v213 : Index := Scalar.indexCast v212
  let c96 : Index := 96#32
  ![v213.toNat, 96]
def k0_off366 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c0_i32_96 : BitVec 32 := 0#32
  let v230 : BitVec 32 := Scalar.addi v81 c0_i32_96
  let v231 : Index := Scalar.indexCast v230
  let c112 : Index := 112#32
  ![v231.toNat, 112]
def k0_off367 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond42 (v258 : BitVec 32) (v260 : BitVec 32) : BitVec 1 :=
  let v261 : BitVec 1 := Scalar.cmpi .eq v258 v260
  let true_105 : BitVec 1 := 1#1
  let v262 : BitVec 1 := Scalar.xori v261 true_105
  let v263 : BitVec 32 := Scalar.extui v262
  let c0_i32_106 : BitVec 32 := 0#32
  let v264 : BitVec 1 := Scalar.cmpi .ne v263 c0_i32_106
  v264

def k0_off368 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r66 : BitVec 32 := 0#32
  ![v2681.toNat, 0]

def k0_chk34 (i : grid0.Coords) (v83 : BitVec 32) (v85 : BitVec 32) (v88 : BitVec 32) (v258 : BitVec 32) (v260 : BitVec 32) (v2673 : BitVec 32) : Prop :=
  (∀ (k0_h40 : k0_cond40 v83 v85 v88 = 1#1), ∀ (k0_h42 : k0_cond42 v258 v260 = 1#1), ∀ a, (k0_off367 v2673) a + S16.size a ≤ S8320.size a) ∧
  (∀ (k0_h40 : k0_cond40 v83 v85 v88 = 1#1), ∀ (k0_h42 : k0_cond42 v258 v260 = 1#1), ∀ a, (k0_off368 i v2673) a + S1x128.size a ≤ S16640x128.size a)
theorem k0_off367_inb : ∀ (i : grid0.Coords) (v83 : BitVec 32) (v85 : BitVec 32) (v88 : BitVec 32) (v258 : BitVec 32) (v260 : BitVec 32) (v2673 : BitVec 32) (k0_hw34 : k0_chk34 i v83 v85 v88 v258 v260 v2673), ∀ (k0_h40 : k0_cond40 v83 v85 v88 = 1#1), ∀ (k0_h42 : k0_cond42 v258 v260 = 1#1), ∀ a, (k0_off367 v2673) a + S16.size a ≤ S8320.size a := fun i v83 v85 v88 v258 v260 v2673 k0_hw34 k0_h40 k0_h42 => k0_hw34.1 k0_h40 k0_h42
theorem k0_off368_inb : ∀ (i : grid0.Coords) (v83 : BitVec 32) (v85 : BitVec 32) (v88 : BitVec 32) (v258 : BitVec 32) (v260 : BitVec 32) (v2673 : BitVec 32) (k0_hw34 : k0_chk34 i v83 v85 v88 v258 v260 v2673), ∀ (k0_h40 : k0_cond40 v83 v85 v88 = 1#1), ∀ (k0_h42 : k0_cond42 v258 v260 = 1#1), ∀ a, (k0_off368 i v2673) a + S1x128.size a ≤ S16640x128.size a := fun i v83 v85 v88 v258 v260 v2673 k0_hw34 k0_h40 k0_h42 => k0_hw34.2 k0_h40 k0_h42

def k0_off369 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_107 : BitVec 32 := 1#32
  let v265 : BitVec 32 := Scalar.addi v81 c1_i32_107
  let v266 : Index := Scalar.indexCast v265
  let c0_108 : Index := 0#32
  ![v266.toNat, 0]
def k0_off370 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_113 : BitVec 32 := 1#32
  let v283 : BitVec 32 := Scalar.addi v81 c1_i32_113
  let v284 : Index := Scalar.indexCast v283
  let c16_114 : Index := 16#32
  ![v284.toNat, 16]
def k0_off371 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_119 : BitVec 32 := 1#32
  let v301 : BitVec 32 := Scalar.addi v81 c1_i32_119
  let v302 : Index := Scalar.indexCast v301
  let c32_120 : Index := 32#32
  ![v302.toNat, 32]
def k0_off372 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_125 : BitVec 32 := 1#32
  let v319 : BitVec 32 := Scalar.addi v81 c1_i32_125
  let v320 : Index := Scalar.indexCast v319
  let c48_126 : Index := 48#32
  ![v320.toNat, 48]
def k0_off373 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_131 : BitVec 32 := 1#32
  let v337 : BitVec 32 := Scalar.addi v81 c1_i32_131
  let v338 : Index := Scalar.indexCast v337
  let c64_132 : Index := 64#32
  ![v338.toNat, 64]
def k0_off374 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_137 : BitVec 32 := 1#32
  let v355 : BitVec 32 := Scalar.addi v81 c1_i32_137
  let v356 : Index := Scalar.indexCast v355
  let c80_138 : Index := 80#32
  ![v356.toNat, 80]
def k0_off375 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_143 : BitVec 32 := 1#32
  let v373 : BitVec 32 := Scalar.addi v81 c1_i32_143
  let v374 : Index := Scalar.indexCast v373
  let c96_144 : Index := 96#32
  ![v374.toNat, 96]
def k0_off376 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c1_i32_149 : BitVec 32 := 1#32
  let v391 : BitVec 32 := Scalar.addi v81 c1_i32_149
  let v392 : Index := Scalar.indexCast v391
  let c112_150 : Index := 112#32
  ![v392.toNat, 112]
def k0_off377 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond43 (v419 : BitVec 32) (v421 : BitVec 32) : BitVec 1 :=
  let v422 : BitVec 1 := Scalar.cmpi .eq v419 v421
  let true_159 : BitVec 1 := 1#1
  let v423 : BitVec 1 := Scalar.xori v422 true_159
  let v424 : BitVec 32 := Scalar.extui v423
  let c0_i32_160 : BitVec 32 := 0#32
  let v425 : BitVec 1 := Scalar.cmpi .ne v424 c0_i32_160
  v425

def k0_off378 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r68 : BitVec 32 := 0#32
  ![v2681.toNat, 0]

def k0_chk35 (i : grid0.Coords) (v83 : BitVec 32) (v85 : BitVec 32) (v88 : BitVec 32) (v419 : BitVec 32) (v421 : BitVec 32) (v2673 : BitVec 32) : Prop :=
  (∀ (k0_h40 : k0_cond40 v83 v85 v88 = 1#1), ∀ (k0_h43 : k0_cond43 v419 v421 = 1#1), ∀ a, (k0_off377 v2673) a + S16.size a ≤ S8320.size a) ∧
  (∀ (k0_h40 : k0_cond40 v83 v85 v88 = 1#1), ∀ (k0_h43 : k0_cond43 v419 v421 = 1#1), ∀ a, (k0_off378 i v2673) a + S1x128.size a ≤ S16640x128.size a)
theorem k0_off377_inb : ∀ (i : grid0.Coords) (v83 : BitVec 32) (v85 : BitVec 32) (v88 : BitVec 32) (v419 : BitVec 32) (v421 : BitVec 32) (v2673 : BitVec 32) (k0_hw35 : k0_chk35 i v83 v85 v88 v419 v421 v2673), ∀ (k0_h40 : k0_cond40 v83 v85 v88 = 1#1), ∀ (k0_h43 : k0_cond43 v419 v421 = 1#1), ∀ a, (k0_off377 v2673) a + S16.size a ≤ S8320.size a := fun i v83 v85 v88 v419 v421 v2673 k0_hw35 k0_h40 k0_h43 => k0_hw35.1 k0_h40 k0_h43
theorem k0_off378_inb : ∀ (i : grid0.Coords) (v83 : BitVec 32) (v85 : BitVec 32) (v88 : BitVec 32) (v419 : BitVec 32) (v421 : BitVec 32) (v2673 : BitVec 32) (k0_hw35 : k0_chk35 i v83 v85 v88 v419 v421 v2673), ∀ (k0_h40 : k0_cond40 v83 v85 v88 = 1#1), ∀ (k0_h43 : k0_cond43 v419 v421 = 1#1), ∀ a, (k0_off378 i v2673) a + S1x128.size a ≤ S16640x128.size a := fun i v83 v85 v88 v419 v421 v2673 k0_hw35 k0_h40 k0_h43 => k0_hw35.2 k0_h40 k0_h43

def k0_off379 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32 : BitVec 32 := 2#32
  let v426 : BitVec 32 := Scalar.addi v81 c2_i32
  let v427 : Index := Scalar.indexCast v426
  let c0_161 : Index := 0#32
  ![v427.toNat, 0]
def k0_off380 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_166 : BitVec 32 := 2#32
  let v444 : BitVec 32 := Scalar.addi v81 c2_i32_166
  let v445 : Index := Scalar.indexCast v444
  let c16_167 : Index := 16#32
  ![v445.toNat, 16]
def k0_off381 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_172 : BitVec 32 := 2#32
  let v462 : BitVec 32 := Scalar.addi v81 c2_i32_172
  let v463 : Index := Scalar.indexCast v462
  let c32_173 : Index := 32#32
  ![v463.toNat, 32]
def k0_off382 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_178 : BitVec 32 := 2#32
  let v480 : BitVec 32 := Scalar.addi v81 c2_i32_178
  let v481 : Index := Scalar.indexCast v480
  let c48_179 : Index := 48#32
  ![v481.toNat, 48]
def k0_off383 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_184 : BitVec 32 := 2#32
  let v498 : BitVec 32 := Scalar.addi v81 c2_i32_184
  let v499 : Index := Scalar.indexCast v498
  let c64_185 : Index := 64#32
  ![v499.toNat, 64]
def k0_off384 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_190 : BitVec 32 := 2#32
  let v516 : BitVec 32 := Scalar.addi v81 c2_i32_190
  let v517 : Index := Scalar.indexCast v516
  let c80_191 : Index := 80#32
  ![v517.toNat, 80]
def k0_off385 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_196 : BitVec 32 := 2#32
  let v534 : BitVec 32 := Scalar.addi v81 c2_i32_196
  let v535 : Index := Scalar.indexCast v534
  let c96_197 : Index := 96#32
  ![v535.toNat, 96]
def k0_off386 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c2_i32_202 : BitVec 32 := 2#32
  let v552 : BitVec 32 := Scalar.addi v81 c2_i32_202
  let v553 : Index := Scalar.indexCast v552
  let c112_203 : Index := 112#32
  ![v553.toNat, 112]
def k0_off387 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond44 (v580 : BitVec 32) (v582 : BitVec 32) : BitVec 1 :=
  let v583 : BitVec 1 := Scalar.cmpi .eq v580 v582
  let true_212 : BitVec 1 := 1#1
  let v584 : BitVec 1 := Scalar.xori v583 true_212
  let v585 : BitVec 32 := Scalar.extui v584
  let c0_i32_213 : BitVec 32 := 0#32
  let v586 : BitVec 1 := Scalar.cmpi .ne v585 c0_i32_213
  v586

def k0_off388 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r70 : BitVec 32 := 0#32
  ![v2681.toNat, 0]

def k0_chk36 (i : grid0.Coords) (v83 : BitVec 32) (v85 : BitVec 32) (v88 : BitVec 32) (v580 : BitVec 32) (v582 : BitVec 32) (v2673 : BitVec 32) : Prop :=
  (∀ (k0_h40 : k0_cond40 v83 v85 v88 = 1#1), ∀ (k0_h44 : k0_cond44 v580 v582 = 1#1), ∀ a, (k0_off387 v2673) a + S16.size a ≤ S8320.size a) ∧
  (∀ (k0_h40 : k0_cond40 v83 v85 v88 = 1#1), ∀ (k0_h44 : k0_cond44 v580 v582 = 1#1), ∀ a, (k0_off388 i v2673) a + S1x128.size a ≤ S16640x128.size a)
theorem k0_off387_inb : ∀ (i : grid0.Coords) (v83 : BitVec 32) (v85 : BitVec 32) (v88 : BitVec 32) (v580 : BitVec 32) (v582 : BitVec 32) (v2673 : BitVec 32) (k0_hw36 : k0_chk36 i v83 v85 v88 v580 v582 v2673), ∀ (k0_h40 : k0_cond40 v83 v85 v88 = 1#1), ∀ (k0_h44 : k0_cond44 v580 v582 = 1#1), ∀ a, (k0_off387 v2673) a + S16.size a ≤ S8320.size a := fun i v83 v85 v88 v580 v582 v2673 k0_hw36 k0_h40 k0_h44 => k0_hw36.1 k0_h40 k0_h44
theorem k0_off388_inb : ∀ (i : grid0.Coords) (v83 : BitVec 32) (v85 : BitVec 32) (v88 : BitVec 32) (v580 : BitVec 32) (v582 : BitVec 32) (v2673 : BitVec 32) (k0_hw36 : k0_chk36 i v83 v85 v88 v580 v582 v2673), ∀ (k0_h40 : k0_cond40 v83 v85 v88 = 1#1), ∀ (k0_h44 : k0_cond44 v580 v582 = 1#1), ∀ a, (k0_off388 i v2673) a + S1x128.size a ≤ S16640x128.size a := fun i v83 v85 v88 v580 v582 v2673 k0_hw36 k0_h40 k0_h44 => k0_hw36.2 k0_h40 k0_h44

def k0_off389 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32 : BitVec 32 := 3#32
  let v587 : BitVec 32 := Scalar.addi v81 c3_i32
  let v588 : Index := Scalar.indexCast v587
  let c0_214 : Index := 0#32
  ![v588.toNat, 0]
def k0_off390 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_219 : BitVec 32 := 3#32
  let v605 : BitVec 32 := Scalar.addi v81 c3_i32_219
  let v606 : Index := Scalar.indexCast v605
  let c16_220 : Index := 16#32
  ![v606.toNat, 16]
def k0_off391 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_225 : BitVec 32 := 3#32
  let v623 : BitVec 32 := Scalar.addi v81 c3_i32_225
  let v624 : Index := Scalar.indexCast v623
  let c32_226 : Index := 32#32
  ![v624.toNat, 32]
def k0_off392 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_231 : BitVec 32 := 3#32
  let v641 : BitVec 32 := Scalar.addi v81 c3_i32_231
  let v642 : Index := Scalar.indexCast v641
  let c48_232 : Index := 48#32
  ![v642.toNat, 48]
def k0_off393 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_237 : BitVec 32 := 3#32
  let v659 : BitVec 32 := Scalar.addi v81 c3_i32_237
  let v660 : Index := Scalar.indexCast v659
  let c64_238 : Index := 64#32
  ![v660.toNat, 64]
def k0_off394 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_243 : BitVec 32 := 3#32
  let v677 : BitVec 32 := Scalar.addi v81 c3_i32_243
  let v678 : Index := Scalar.indexCast v677
  let c80_244 : Index := 80#32
  ![v678.toNat, 80]
def k0_off395 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_249 : BitVec 32 := 3#32
  let v695 : BitVec 32 := Scalar.addi v81 c3_i32_249
  let v696 : Index := Scalar.indexCast v695
  let c96_250 : Index := 96#32
  ![v696.toNat, 96]
def k0_off396 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c3_i32_255 : BitVec 32 := 3#32
  let v713 : BitVec 32 := Scalar.addi v81 c3_i32_255
  let v714 : Index := Scalar.indexCast v713
  let c112_256 : Index := 112#32
  ![v714.toNat, 112]
def k0_off397 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond45 (v741 : BitVec 32) (v743 : BitVec 32) : BitVec 1 :=
  let v744 : BitVec 1 := Scalar.cmpi .eq v741 v743
  let true_265 : BitVec 1 := 1#1
  let v745 : BitVec 1 := Scalar.xori v744 true_265
  let v746 : BitVec 32 := Scalar.extui v745
  let c0_i32_266 : BitVec 32 := 0#32
  let v747 : BitVec 1 := Scalar.cmpi .ne v746 c0_i32_266
  v747

def k0_off398 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r72 : BitVec 32 := 0#32
  ![v2681.toNat, 0]

def k0_chk37 (i : grid0.Coords) (v83 : BitVec 32) (v85 : BitVec 32) (v88 : BitVec 32) (v741 : BitVec 32) (v743 : BitVec 32) (v2673 : BitVec 32) : Prop :=
  (∀ (k0_h40 : k0_cond40 v83 v85 v88 = 1#1), ∀ (k0_h45 : k0_cond45 v741 v743 = 1#1), ∀ a, (k0_off397 v2673) a + S16.size a ≤ S8320.size a) ∧
  (∀ (k0_h40 : k0_cond40 v83 v85 v88 = 1#1), ∀ (k0_h45 : k0_cond45 v741 v743 = 1#1), ∀ a, (k0_off398 i v2673) a + S1x128.size a ≤ S16640x128.size a)
theorem k0_off397_inb : ∀ (i : grid0.Coords) (v83 : BitVec 32) (v85 : BitVec 32) (v88 : BitVec 32) (v741 : BitVec 32) (v743 : BitVec 32) (v2673 : BitVec 32) (k0_hw37 : k0_chk37 i v83 v85 v88 v741 v743 v2673), ∀ (k0_h40 : k0_cond40 v83 v85 v88 = 1#1), ∀ (k0_h45 : k0_cond45 v741 v743 = 1#1), ∀ a, (k0_off397 v2673) a + S16.size a ≤ S8320.size a := fun i v83 v85 v88 v741 v743 v2673 k0_hw37 k0_h40 k0_h45 => k0_hw37.1 k0_h40 k0_h45
theorem k0_off398_inb : ∀ (i : grid0.Coords) (v83 : BitVec 32) (v85 : BitVec 32) (v88 : BitVec 32) (v741 : BitVec 32) (v743 : BitVec 32) (v2673 : BitVec 32) (k0_hw37 : k0_chk37 i v83 v85 v88 v741 v743 v2673), ∀ (k0_h40 : k0_cond40 v83 v85 v88 = 1#1), ∀ (k0_h45 : k0_cond45 v741 v743 = 1#1), ∀ a, (k0_off398 i v2673) a + S1x128.size a ≤ S16640x128.size a := fun i v83 v85 v88 v741 v743 v2673 k0_hw37 k0_h40 k0_h45 => k0_hw37.2 k0_h40 k0_h45

def k0_off399 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32 : BitVec 32 := 4#32
  let v748 : BitVec 32 := Scalar.addi v81 c4_i32
  let v749 : Index := Scalar.indexCast v748
  let c0_267 : Index := 0#32
  ![v749.toNat, 0]
def k0_off400 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_272 : BitVec 32 := 4#32
  let v766 : BitVec 32 := Scalar.addi v81 c4_i32_272
  let v767 : Index := Scalar.indexCast v766
  let c16_273 : Index := 16#32
  ![v767.toNat, 16]
def k0_off401 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_278 : BitVec 32 := 4#32
  let v784 : BitVec 32 := Scalar.addi v81 c4_i32_278
  let v785 : Index := Scalar.indexCast v784
  let c32_279 : Index := 32#32
  ![v785.toNat, 32]
def k0_off402 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_284 : BitVec 32 := 4#32
  let v802 : BitVec 32 := Scalar.addi v81 c4_i32_284
  let v803 : Index := Scalar.indexCast v802
  let c48_285 : Index := 48#32
  ![v803.toNat, 48]
def k0_off403 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_290 : BitVec 32 := 4#32
  let v820 : BitVec 32 := Scalar.addi v81 c4_i32_290
  let v821 : Index := Scalar.indexCast v820
  let c64_291 : Index := 64#32
  ![v821.toNat, 64]
def k0_off404 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_296 : BitVec 32 := 4#32
  let v838 : BitVec 32 := Scalar.addi v81 c4_i32_296
  let v839 : Index := Scalar.indexCast v838
  let c80_297 : Index := 80#32
  ![v839.toNat, 80]
def k0_off405 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_302 : BitVec 32 := 4#32
  let v856 : BitVec 32 := Scalar.addi v81 c4_i32_302
  let v857 : Index := Scalar.indexCast v856
  let c96_303 : Index := 96#32
  ![v857.toNat, 96]
def k0_off406 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c4_i32_308 : BitVec 32 := 4#32
  let v874 : BitVec 32 := Scalar.addi v81 c4_i32_308
  let v875 : Index := Scalar.indexCast v874
  let c112_309 : Index := 112#32
  ![v875.toNat, 112]
def k0_off407 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond46 (v902 : BitVec 32) (v904 : BitVec 32) : BitVec 1 :=
  let v905 : BitVec 1 := Scalar.cmpi .eq v902 v904
  let true_318 : BitVec 1 := 1#1
  let v906 : BitVec 1 := Scalar.xori v905 true_318
  let v907 : BitVec 32 := Scalar.extui v906
  let c0_i32_319 : BitVec 32 := 0#32
  let v908 : BitVec 1 := Scalar.cmpi .ne v907 c0_i32_319
  v908

def k0_off408 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r74 : BitVec 32 := 0#32
  ![v2681.toNat, 0]

def k0_chk38 (i : grid0.Coords) (v83 : BitVec 32) (v85 : BitVec 32) (v88 : BitVec 32) (v902 : BitVec 32) (v904 : BitVec 32) (v2673 : BitVec 32) : Prop :=
  (∀ (k0_h40 : k0_cond40 v83 v85 v88 = 1#1), ∀ (k0_h46 : k0_cond46 v902 v904 = 1#1), ∀ a, (k0_off407 v2673) a + S16.size a ≤ S8320.size a) ∧
  (∀ (k0_h40 : k0_cond40 v83 v85 v88 = 1#1), ∀ (k0_h46 : k0_cond46 v902 v904 = 1#1), ∀ a, (k0_off408 i v2673) a + S1x128.size a ≤ S16640x128.size a)
theorem k0_off407_inb : ∀ (i : grid0.Coords) (v83 : BitVec 32) (v85 : BitVec 32) (v88 : BitVec 32) (v902 : BitVec 32) (v904 : BitVec 32) (v2673 : BitVec 32) (k0_hw38 : k0_chk38 i v83 v85 v88 v902 v904 v2673), ∀ (k0_h40 : k0_cond40 v83 v85 v88 = 1#1), ∀ (k0_h46 : k0_cond46 v902 v904 = 1#1), ∀ a, (k0_off407 v2673) a + S16.size a ≤ S8320.size a := fun i v83 v85 v88 v902 v904 v2673 k0_hw38 k0_h40 k0_h46 => k0_hw38.1 k0_h40 k0_h46
theorem k0_off408_inb : ∀ (i : grid0.Coords) (v83 : BitVec 32) (v85 : BitVec 32) (v88 : BitVec 32) (v902 : BitVec 32) (v904 : BitVec 32) (v2673 : BitVec 32) (k0_hw38 : k0_chk38 i v83 v85 v88 v902 v904 v2673), ∀ (k0_h40 : k0_cond40 v83 v85 v88 = 1#1), ∀ (k0_h46 : k0_cond46 v902 v904 = 1#1), ∀ a, (k0_off408 i v2673) a + S1x128.size a ≤ S16640x128.size a := fun i v83 v85 v88 v902 v904 v2673 k0_hw38 k0_h40 k0_h46 => k0_hw38.2 k0_h40 k0_h46

def k0_off409 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32 : BitVec 32 := 5#32
  let v909 : BitVec 32 := Scalar.addi v81 c5_i32
  let v910 : Index := Scalar.indexCast v909
  let c0_320 : Index := 0#32
  ![v910.toNat, 0]
def k0_off410 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_325 : BitVec 32 := 5#32
  let v927 : BitVec 32 := Scalar.addi v81 c5_i32_325
  let v928 : Index := Scalar.indexCast v927
  let c16_326 : Index := 16#32
  ![v928.toNat, 16]
def k0_off411 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_331 : BitVec 32 := 5#32
  let v945 : BitVec 32 := Scalar.addi v81 c5_i32_331
  let v946 : Index := Scalar.indexCast v945
  let c32_332 : Index := 32#32
  ![v946.toNat, 32]
def k0_off412 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_337 : BitVec 32 := 5#32
  let v963 : BitVec 32 := Scalar.addi v81 c5_i32_337
  let v964 : Index := Scalar.indexCast v963
  let c48_338 : Index := 48#32
  ![v964.toNat, 48]
def k0_off413 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_343 : BitVec 32 := 5#32
  let v981 : BitVec 32 := Scalar.addi v81 c5_i32_343
  let v982 : Index := Scalar.indexCast v981
  let c64_344 : Index := 64#32
  ![v982.toNat, 64]
def k0_off414 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_349 : BitVec 32 := 5#32
  let v999 : BitVec 32 := Scalar.addi v81 c5_i32_349
  let v1000 : Index := Scalar.indexCast v999
  let c80_350 : Index := 80#32
  ![v1000.toNat, 80]
def k0_off415 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_355 : BitVec 32 := 5#32
  let v1017 : BitVec 32 := Scalar.addi v81 c5_i32_355
  let v1018 : Index := Scalar.indexCast v1017
  let c96_356 : Index := 96#32
  ![v1018.toNat, 96]
def k0_off416 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c5_i32_361 : BitVec 32 := 5#32
  let v1035 : BitVec 32 := Scalar.addi v81 c5_i32_361
  let v1036 : Index := Scalar.indexCast v1035
  let c112_362 : Index := 112#32
  ![v1036.toNat, 112]
def k0_off417 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond47 (v1063 : BitVec 32) (v1065 : BitVec 32) : BitVec 1 :=
  let v1066 : BitVec 1 := Scalar.cmpi .eq v1063 v1065
  let true_371 : BitVec 1 := 1#1
  let v1067 : BitVec 1 := Scalar.xori v1066 true_371
  let v1068 : BitVec 32 := Scalar.extui v1067
  let c0_i32_372 : BitVec 32 := 0#32
  let v1069 : BitVec 1 := Scalar.cmpi .ne v1068 c0_i32_372
  v1069

def k0_off418 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r76 : BitVec 32 := 0#32
  ![v2681.toNat, 0]

def k0_chk39 (i : grid0.Coords) (v83 : BitVec 32) (v85 : BitVec 32) (v88 : BitVec 32) (v1063 : BitVec 32) (v1065 : BitVec 32) (v2673 : BitVec 32) : Prop :=
  (∀ (k0_h40 : k0_cond40 v83 v85 v88 = 1#1), ∀ (k0_h47 : k0_cond47 v1063 v1065 = 1#1), ∀ a, (k0_off417 v2673) a + S16.size a ≤ S8320.size a) ∧
  (∀ (k0_h40 : k0_cond40 v83 v85 v88 = 1#1), ∀ (k0_h47 : k0_cond47 v1063 v1065 = 1#1), ∀ a, (k0_off418 i v2673) a + S1x128.size a ≤ S16640x128.size a)
theorem k0_off417_inb : ∀ (i : grid0.Coords) (v83 : BitVec 32) (v85 : BitVec 32) (v88 : BitVec 32) (v1063 : BitVec 32) (v1065 : BitVec 32) (v2673 : BitVec 32) (k0_hw39 : k0_chk39 i v83 v85 v88 v1063 v1065 v2673), ∀ (k0_h40 : k0_cond40 v83 v85 v88 = 1#1), ∀ (k0_h47 : k0_cond47 v1063 v1065 = 1#1), ∀ a, (k0_off417 v2673) a + S16.size a ≤ S8320.size a := fun i v83 v85 v88 v1063 v1065 v2673 k0_hw39 k0_h40 k0_h47 => k0_hw39.1 k0_h40 k0_h47
theorem k0_off418_inb : ∀ (i : grid0.Coords) (v83 : BitVec 32) (v85 : BitVec 32) (v88 : BitVec 32) (v1063 : BitVec 32) (v1065 : BitVec 32) (v2673 : BitVec 32) (k0_hw39 : k0_chk39 i v83 v85 v88 v1063 v1065 v2673), ∀ (k0_h40 : k0_cond40 v83 v85 v88 = 1#1), ∀ (k0_h47 : k0_cond47 v1063 v1065 = 1#1), ∀ a, (k0_off418 i v2673) a + S1x128.size a ≤ S16640x128.size a := fun i v83 v85 v88 v1063 v1065 v2673 k0_hw39 k0_h40 k0_h47 => k0_hw39.2 k0_h40 k0_h47

def k0_off419 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32 : BitVec 32 := 6#32
  let v1070 : BitVec 32 := Scalar.addi v81 c6_i32
  let v1071 : Index := Scalar.indexCast v1070
  let c0_373 : Index := 0#32
  ![v1071.toNat, 0]
def k0_off420 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_378 : BitVec 32 := 6#32
  let v1088 : BitVec 32 := Scalar.addi v81 c6_i32_378
  let v1089 : Index := Scalar.indexCast v1088
  let c16_379 : Index := 16#32
  ![v1089.toNat, 16]
def k0_off421 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_384 : BitVec 32 := 6#32
  let v1106 : BitVec 32 := Scalar.addi v81 c6_i32_384
  let v1107 : Index := Scalar.indexCast v1106
  let c32_385 : Index := 32#32
  ![v1107.toNat, 32]
def k0_off422 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_390 : BitVec 32 := 6#32
  let v1124 : BitVec 32 := Scalar.addi v81 c6_i32_390
  let v1125 : Index := Scalar.indexCast v1124
  let c48_391 : Index := 48#32
  ![v1125.toNat, 48]
def k0_off423 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_396 : BitVec 32 := 6#32
  let v1142 : BitVec 32 := Scalar.addi v81 c6_i32_396
  let v1143 : Index := Scalar.indexCast v1142
  let c64_397 : Index := 64#32
  ![v1143.toNat, 64]
def k0_off424 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_402 : BitVec 32 := 6#32
  let v1160 : BitVec 32 := Scalar.addi v81 c6_i32_402
  let v1161 : Index := Scalar.indexCast v1160
  let c80_403 : Index := 80#32
  ![v1161.toNat, 80]
def k0_off425 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_408 : BitVec 32 := 6#32
  let v1178 : BitVec 32 := Scalar.addi v81 c6_i32_408
  let v1179 : Index := Scalar.indexCast v1178
  let c96_409 : Index := 96#32
  ![v1179.toNat, 96]
def k0_off426 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c6_i32_414 : BitVec 32 := 6#32
  let v1196 : BitVec 32 := Scalar.addi v81 c6_i32_414
  let v1197 : Index := Scalar.indexCast v1196
  let c112_415 : Index := 112#32
  ![v1197.toNat, 112]
def k0_off427 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond48 (v1224 : BitVec 32) (v1226 : BitVec 32) : BitVec 1 :=
  let v1227 : BitVec 1 := Scalar.cmpi .eq v1224 v1226
  let true_424 : BitVec 1 := 1#1
  let v1228 : BitVec 1 := Scalar.xori v1227 true_424
  let v1229 : BitVec 32 := Scalar.extui v1228
  let c0_i32_425 : BitVec 32 := 0#32
  let v1230 : BitVec 1 := Scalar.cmpi .ne v1229 c0_i32_425
  v1230

def k0_off428 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r78 : BitVec 32 := 0#32
  ![v2681.toNat, 0]

def k0_chk40 (i : grid0.Coords) (v83 : BitVec 32) (v85 : BitVec 32) (v88 : BitVec 32) (v1224 : BitVec 32) (v1226 : BitVec 32) (v2673 : BitVec 32) : Prop :=
  (∀ (k0_h40 : k0_cond40 v83 v85 v88 = 1#1), ∀ (k0_h48 : k0_cond48 v1224 v1226 = 1#1), ∀ a, (k0_off427 v2673) a + S16.size a ≤ S8320.size a) ∧
  (∀ (k0_h40 : k0_cond40 v83 v85 v88 = 1#1), ∀ (k0_h48 : k0_cond48 v1224 v1226 = 1#1), ∀ a, (k0_off428 i v2673) a + S1x128.size a ≤ S16640x128.size a)
theorem k0_off427_inb : ∀ (i : grid0.Coords) (v83 : BitVec 32) (v85 : BitVec 32) (v88 : BitVec 32) (v1224 : BitVec 32) (v1226 : BitVec 32) (v2673 : BitVec 32) (k0_hw40 : k0_chk40 i v83 v85 v88 v1224 v1226 v2673), ∀ (k0_h40 : k0_cond40 v83 v85 v88 = 1#1), ∀ (k0_h48 : k0_cond48 v1224 v1226 = 1#1), ∀ a, (k0_off427 v2673) a + S16.size a ≤ S8320.size a := fun i v83 v85 v88 v1224 v1226 v2673 k0_hw40 k0_h40 k0_h48 => k0_hw40.1 k0_h40 k0_h48
theorem k0_off428_inb : ∀ (i : grid0.Coords) (v83 : BitVec 32) (v85 : BitVec 32) (v88 : BitVec 32) (v1224 : BitVec 32) (v1226 : BitVec 32) (v2673 : BitVec 32) (k0_hw40 : k0_chk40 i v83 v85 v88 v1224 v1226 v2673), ∀ (k0_h40 : k0_cond40 v83 v85 v88 = 1#1), ∀ (k0_h48 : k0_cond48 v1224 v1226 = 1#1), ∀ a, (k0_off428 i v2673) a + S1x128.size a ≤ S16640x128.size a := fun i v83 v85 v88 v1224 v1226 v2673 k0_hw40 k0_h40 k0_h48 => k0_hw40.2 k0_h40 k0_h48

def k0_off429 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32 : BitVec 32 := 7#32
  let v1231 : BitVec 32 := Scalar.addi v81 c7_i32
  let v1232 : Index := Scalar.indexCast v1231
  let c0_426 : Index := 0#32
  ![v1232.toNat, 0]
def k0_off430 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_431 : BitVec 32 := 7#32
  let v1249 : BitVec 32 := Scalar.addi v81 c7_i32_431
  let v1250 : Index := Scalar.indexCast v1249
  let c16_432 : Index := 16#32
  ![v1250.toNat, 16]
def k0_off431 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_437 : BitVec 32 := 7#32
  let v1267 : BitVec 32 := Scalar.addi v81 c7_i32_437
  let v1268 : Index := Scalar.indexCast v1267
  let c32_438 : Index := 32#32
  ![v1268.toNat, 32]
def k0_off432 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_443 : BitVec 32 := 7#32
  let v1285 : BitVec 32 := Scalar.addi v81 c7_i32_443
  let v1286 : Index := Scalar.indexCast v1285
  let c48_444 : Index := 48#32
  ![v1286.toNat, 48]
def k0_off433 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_449 : BitVec 32 := 7#32
  let v1303 : BitVec 32 := Scalar.addi v81 c7_i32_449
  let v1304 : Index := Scalar.indexCast v1303
  let c64_450 : Index := 64#32
  ![v1304.toNat, 64]
def k0_off434 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_455 : BitVec 32 := 7#32
  let v1321 : BitVec 32 := Scalar.addi v81 c7_i32_455
  let v1322 : Index := Scalar.indexCast v1321
  let c80_456 : Index := 80#32
  ![v1322.toNat, 80]
def k0_off435 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_461 : BitVec 32 := 7#32
  let v1339 : BitVec 32 := Scalar.addi v81 c7_i32_461
  let v1340 : Index := Scalar.indexCast v1339
  let c96_462 : Index := 96#32
  ![v1340.toNat, 96]
def k0_off436 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c7_i32_467 : BitVec 32 := 7#32
  let v1357 : BitVec 32 := Scalar.addi v81 c7_i32_467
  let v1358 : Index := Scalar.indexCast v1357
  let c112_468 : Index := 112#32
  ![v1358.toNat, 112]
def k0_off437 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond49 (v1385 : BitVec 32) (v1387 : BitVec 32) : BitVec 1 :=
  let v1388 : BitVec 1 := Scalar.cmpi .eq v1385 v1387
  let true_477 : BitVec 1 := 1#1
  let v1389 : BitVec 1 := Scalar.xori v1388 true_477
  let v1390 : BitVec 32 := Scalar.extui v1389
  let c0_i32_478 : BitVec 32 := 0#32
  let v1391 : BitVec 1 := Scalar.cmpi .ne v1390 c0_i32_478
  v1391

def k0_off438 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r80 : BitVec 32 := 0#32
  ![v2681.toNat, 0]

def k0_chk41 (i : grid0.Coords) (v83 : BitVec 32) (v85 : BitVec 32) (v88 : BitVec 32) (v1385 : BitVec 32) (v1387 : BitVec 32) (v2673 : BitVec 32) : Prop :=
  (∀ (k0_h40 : k0_cond40 v83 v85 v88 = 1#1), ∀ (k0_h49 : k0_cond49 v1385 v1387 = 1#1), ∀ a, (k0_off437 v2673) a + S16.size a ≤ S8320.size a) ∧
  (∀ (k0_h40 : k0_cond40 v83 v85 v88 = 1#1), ∀ (k0_h49 : k0_cond49 v1385 v1387 = 1#1), ∀ a, (k0_off438 i v2673) a + S1x128.size a ≤ S16640x128.size a)
theorem k0_off437_inb : ∀ (i : grid0.Coords) (v83 : BitVec 32) (v85 : BitVec 32) (v88 : BitVec 32) (v1385 : BitVec 32) (v1387 : BitVec 32) (v2673 : BitVec 32) (k0_hw41 : k0_chk41 i v83 v85 v88 v1385 v1387 v2673), ∀ (k0_h40 : k0_cond40 v83 v85 v88 = 1#1), ∀ (k0_h49 : k0_cond49 v1385 v1387 = 1#1), ∀ a, (k0_off437 v2673) a + S16.size a ≤ S8320.size a := fun i v83 v85 v88 v1385 v1387 v2673 k0_hw41 k0_h40 k0_h49 => k0_hw41.1 k0_h40 k0_h49
theorem k0_off438_inb : ∀ (i : grid0.Coords) (v83 : BitVec 32) (v85 : BitVec 32) (v88 : BitVec 32) (v1385 : BitVec 32) (v1387 : BitVec 32) (v2673 : BitVec 32) (k0_hw41 : k0_chk41 i v83 v85 v88 v1385 v1387 v2673), ∀ (k0_h40 : k0_cond40 v83 v85 v88 = 1#1), ∀ (k0_h49 : k0_cond49 v1385 v1387 = 1#1), ∀ a, (k0_off438 i v2673) a + S1x128.size a ≤ S16640x128.size a := fun i v83 v85 v88 v1385 v1387 v2673 k0_hw41 k0_h40 k0_h49 => k0_hw41.2 k0_h40 k0_h49

def k0_off439 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32 : BitVec 32 := 8#32
  let v1392 : BitVec 32 := Scalar.addi v81 c8_i32
  let v1393 : Index := Scalar.indexCast v1392
  let c0_479 : Index := 0#32
  ![v1393.toNat, 0]
def k0_off440 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_484 : BitVec 32 := 8#32
  let v1410 : BitVec 32 := Scalar.addi v81 c8_i32_484
  let v1411 : Index := Scalar.indexCast v1410
  let c16_485 : Index := 16#32
  ![v1411.toNat, 16]
def k0_off441 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_490 : BitVec 32 := 8#32
  let v1428 : BitVec 32 := Scalar.addi v81 c8_i32_490
  let v1429 : Index := Scalar.indexCast v1428
  let c32_491 : Index := 32#32
  ![v1429.toNat, 32]
def k0_off442 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_496 : BitVec 32 := 8#32
  let v1446 : BitVec 32 := Scalar.addi v81 c8_i32_496
  let v1447 : Index := Scalar.indexCast v1446
  let c48_497 : Index := 48#32
  ![v1447.toNat, 48]
def k0_off443 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_502 : BitVec 32 := 8#32
  let v1464 : BitVec 32 := Scalar.addi v81 c8_i32_502
  let v1465 : Index := Scalar.indexCast v1464
  let c64_503 : Index := 64#32
  ![v1465.toNat, 64]
def k0_off444 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_508 : BitVec 32 := 8#32
  let v1482 : BitVec 32 := Scalar.addi v81 c8_i32_508
  let v1483 : Index := Scalar.indexCast v1482
  let c80_509 : Index := 80#32
  ![v1483.toNat, 80]
def k0_off445 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_514 : BitVec 32 := 8#32
  let v1500 : BitVec 32 := Scalar.addi v81 c8_i32_514
  let v1501 : Index := Scalar.indexCast v1500
  let c96_515 : Index := 96#32
  ![v1501.toNat, 96]
def k0_off446 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c8_i32_520 : BitVec 32 := 8#32
  let v1518 : BitVec 32 := Scalar.addi v81 c8_i32_520
  let v1519 : Index := Scalar.indexCast v1518
  let c112_521 : Index := 112#32
  ![v1519.toNat, 112]
def k0_off447 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond50 (v1546 : BitVec 32) (v1548 : BitVec 32) : BitVec 1 :=
  let v1549 : BitVec 1 := Scalar.cmpi .eq v1546 v1548
  let true_530 : BitVec 1 := 1#1
  let v1550 : BitVec 1 := Scalar.xori v1549 true_530
  let v1551 : BitVec 32 := Scalar.extui v1550
  let c0_i32_531 : BitVec 32 := 0#32
  let v1552 : BitVec 1 := Scalar.cmpi .ne v1551 c0_i32_531
  v1552

def k0_off448 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r82 : BitVec 32 := 0#32
  ![v2681.toNat, 0]

def k0_chk42 (i : grid0.Coords) (v83 : BitVec 32) (v85 : BitVec 32) (v88 : BitVec 32) (v1546 : BitVec 32) (v1548 : BitVec 32) (v2673 : BitVec 32) : Prop :=
  (∀ (k0_h40 : k0_cond40 v83 v85 v88 = 1#1), ∀ (k0_h50 : k0_cond50 v1546 v1548 = 1#1), ∀ a, (k0_off447 v2673) a + S16.size a ≤ S8320.size a) ∧
  (∀ (k0_h40 : k0_cond40 v83 v85 v88 = 1#1), ∀ (k0_h50 : k0_cond50 v1546 v1548 = 1#1), ∀ a, (k0_off448 i v2673) a + S1x128.size a ≤ S16640x128.size a)
theorem k0_off447_inb : ∀ (i : grid0.Coords) (v83 : BitVec 32) (v85 : BitVec 32) (v88 : BitVec 32) (v1546 : BitVec 32) (v1548 : BitVec 32) (v2673 : BitVec 32) (k0_hw42 : k0_chk42 i v83 v85 v88 v1546 v1548 v2673), ∀ (k0_h40 : k0_cond40 v83 v85 v88 = 1#1), ∀ (k0_h50 : k0_cond50 v1546 v1548 = 1#1), ∀ a, (k0_off447 v2673) a + S16.size a ≤ S8320.size a := fun i v83 v85 v88 v1546 v1548 v2673 k0_hw42 k0_h40 k0_h50 => k0_hw42.1 k0_h40 k0_h50
theorem k0_off448_inb : ∀ (i : grid0.Coords) (v83 : BitVec 32) (v85 : BitVec 32) (v88 : BitVec 32) (v1546 : BitVec 32) (v1548 : BitVec 32) (v2673 : BitVec 32) (k0_hw42 : k0_chk42 i v83 v85 v88 v1546 v1548 v2673), ∀ (k0_h40 : k0_cond40 v83 v85 v88 = 1#1), ∀ (k0_h50 : k0_cond50 v1546 v1548 = 1#1), ∀ a, (k0_off448 i v2673) a + S1x128.size a ≤ S16640x128.size a := fun i v83 v85 v88 v1546 v1548 v2673 k0_hw42 k0_h40 k0_h50 => k0_hw42.2 k0_h40 k0_h50

def k0_off449 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32 : BitVec 32 := 9#32
  let v1553 : BitVec 32 := Scalar.addi v81 c9_i32
  let v1554 : Index := Scalar.indexCast v1553
  let c0_532 : Index := 0#32
  ![v1554.toNat, 0]
def k0_off450 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_537 : BitVec 32 := 9#32
  let v1571 : BitVec 32 := Scalar.addi v81 c9_i32_537
  let v1572 : Index := Scalar.indexCast v1571
  let c16_538 : Index := 16#32
  ![v1572.toNat, 16]
def k0_off451 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_543 : BitVec 32 := 9#32
  let v1589 : BitVec 32 := Scalar.addi v81 c9_i32_543
  let v1590 : Index := Scalar.indexCast v1589
  let c32_544 : Index := 32#32
  ![v1590.toNat, 32]
def k0_off452 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_549 : BitVec 32 := 9#32
  let v1607 : BitVec 32 := Scalar.addi v81 c9_i32_549
  let v1608 : Index := Scalar.indexCast v1607
  let c48_550 : Index := 48#32
  ![v1608.toNat, 48]
def k0_off453 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_555 : BitVec 32 := 9#32
  let v1625 : BitVec 32 := Scalar.addi v81 c9_i32_555
  let v1626 : Index := Scalar.indexCast v1625
  let c64_556 : Index := 64#32
  ![v1626.toNat, 64]
def k0_off454 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_561 : BitVec 32 := 9#32
  let v1643 : BitVec 32 := Scalar.addi v81 c9_i32_561
  let v1644 : Index := Scalar.indexCast v1643
  let c80_562 : Index := 80#32
  ![v1644.toNat, 80]
def k0_off455 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_567 : BitVec 32 := 9#32
  let v1661 : BitVec 32 := Scalar.addi v81 c9_i32_567
  let v1662 : Index := Scalar.indexCast v1661
  let c96_568 : Index := 96#32
  ![v1662.toNat, 96]
def k0_off456 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c9_i32_573 : BitVec 32 := 9#32
  let v1679 : BitVec 32 := Scalar.addi v81 c9_i32_573
  let v1680 : Index := Scalar.indexCast v1679
  let c112_574 : Index := 112#32
  ![v1680.toNat, 112]
def k0_off457 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond51 (v1707 : BitVec 32) (v1709 : BitVec 32) : BitVec 1 :=
  let v1710 : BitVec 1 := Scalar.cmpi .eq v1707 v1709
  let true_583 : BitVec 1 := 1#1
  let v1711 : BitVec 1 := Scalar.xori v1710 true_583
  let v1712 : BitVec 32 := Scalar.extui v1711
  let c0_i32_584 : BitVec 32 := 0#32
  let v1713 : BitVec 1 := Scalar.cmpi .ne v1712 c0_i32_584
  v1713

def k0_off458 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r84 : BitVec 32 := 0#32
  ![v2681.toNat, 0]

def k0_chk43 (i : grid0.Coords) (v83 : BitVec 32) (v85 : BitVec 32) (v88 : BitVec 32) (v1707 : BitVec 32) (v1709 : BitVec 32) (v2673 : BitVec 32) : Prop :=
  (∀ (k0_h40 : k0_cond40 v83 v85 v88 = 1#1), ∀ (k0_h51 : k0_cond51 v1707 v1709 = 1#1), ∀ a, (k0_off457 v2673) a + S16.size a ≤ S8320.size a) ∧
  (∀ (k0_h40 : k0_cond40 v83 v85 v88 = 1#1), ∀ (k0_h51 : k0_cond51 v1707 v1709 = 1#1), ∀ a, (k0_off458 i v2673) a + S1x128.size a ≤ S16640x128.size a)
theorem k0_off457_inb : ∀ (i : grid0.Coords) (v83 : BitVec 32) (v85 : BitVec 32) (v88 : BitVec 32) (v1707 : BitVec 32) (v1709 : BitVec 32) (v2673 : BitVec 32) (k0_hw43 : k0_chk43 i v83 v85 v88 v1707 v1709 v2673), ∀ (k0_h40 : k0_cond40 v83 v85 v88 = 1#1), ∀ (k0_h51 : k0_cond51 v1707 v1709 = 1#1), ∀ a, (k0_off457 v2673) a + S16.size a ≤ S8320.size a := fun i v83 v85 v88 v1707 v1709 v2673 k0_hw43 k0_h40 k0_h51 => k0_hw43.1 k0_h40 k0_h51
theorem k0_off458_inb : ∀ (i : grid0.Coords) (v83 : BitVec 32) (v85 : BitVec 32) (v88 : BitVec 32) (v1707 : BitVec 32) (v1709 : BitVec 32) (v2673 : BitVec 32) (k0_hw43 : k0_chk43 i v83 v85 v88 v1707 v1709 v2673), ∀ (k0_h40 : k0_cond40 v83 v85 v88 = 1#1), ∀ (k0_h51 : k0_cond51 v1707 v1709 = 1#1), ∀ a, (k0_off458 i v2673) a + S1x128.size a ≤ S16640x128.size a := fun i v83 v85 v88 v1707 v1709 v2673 k0_hw43 k0_h40 k0_h51 => k0_hw43.2 k0_h40 k0_h51

def k0_off459 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32 : BitVec 32 := 10#32
  let v1714 : BitVec 32 := Scalar.addi v81 c10_i32
  let v1715 : Index := Scalar.indexCast v1714
  let c0_585 : Index := 0#32
  ![v1715.toNat, 0]
def k0_off460 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_590 : BitVec 32 := 10#32
  let v1732 : BitVec 32 := Scalar.addi v81 c10_i32_590
  let v1733 : Index := Scalar.indexCast v1732
  let c16_591 : Index := 16#32
  ![v1733.toNat, 16]
def k0_off461 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_596 : BitVec 32 := 10#32
  let v1750 : BitVec 32 := Scalar.addi v81 c10_i32_596
  let v1751 : Index := Scalar.indexCast v1750
  let c32_597 : Index := 32#32
  ![v1751.toNat, 32]
def k0_off462 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_602 : BitVec 32 := 10#32
  let v1768 : BitVec 32 := Scalar.addi v81 c10_i32_602
  let v1769 : Index := Scalar.indexCast v1768
  let c48_603 : Index := 48#32
  ![v1769.toNat, 48]
def k0_off463 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_608 : BitVec 32 := 10#32
  let v1786 : BitVec 32 := Scalar.addi v81 c10_i32_608
  let v1787 : Index := Scalar.indexCast v1786
  let c64_609 : Index := 64#32
  ![v1787.toNat, 64]
def k0_off464 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_614 : BitVec 32 := 10#32
  let v1804 : BitVec 32 := Scalar.addi v81 c10_i32_614
  let v1805 : Index := Scalar.indexCast v1804
  let c80_615 : Index := 80#32
  ![v1805.toNat, 80]
def k0_off465 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_620 : BitVec 32 := 10#32
  let v1822 : BitVec 32 := Scalar.addi v81 c10_i32_620
  let v1823 : Index := Scalar.indexCast v1822
  let c96_621 : Index := 96#32
  ![v1823.toNat, 96]
def k0_off466 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c10_i32_626 : BitVec 32 := 10#32
  let v1840 : BitVec 32 := Scalar.addi v81 c10_i32_626
  let v1841 : Index := Scalar.indexCast v1840
  let c112_627 : Index := 112#32
  ![v1841.toNat, 112]
def k0_off467 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond52 (v1868 : BitVec 32) (v1870 : BitVec 32) : BitVec 1 :=
  let v1871 : BitVec 1 := Scalar.cmpi .eq v1868 v1870
  let true_636 : BitVec 1 := 1#1
  let v1872 : BitVec 1 := Scalar.xori v1871 true_636
  let v1873 : BitVec 32 := Scalar.extui v1872
  let c0_i32_637 : BitVec 32 := 0#32
  let v1874 : BitVec 1 := Scalar.cmpi .ne v1873 c0_i32_637
  v1874

def k0_off468 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r86 : BitVec 32 := 0#32
  ![v2681.toNat, 0]

def k0_chk44 (i : grid0.Coords) (v83 : BitVec 32) (v85 : BitVec 32) (v88 : BitVec 32) (v1868 : BitVec 32) (v1870 : BitVec 32) (v2673 : BitVec 32) : Prop :=
  (∀ (k0_h40 : k0_cond40 v83 v85 v88 = 1#1), ∀ (k0_h52 : k0_cond52 v1868 v1870 = 1#1), ∀ a, (k0_off467 v2673) a + S16.size a ≤ S8320.size a) ∧
  (∀ (k0_h40 : k0_cond40 v83 v85 v88 = 1#1), ∀ (k0_h52 : k0_cond52 v1868 v1870 = 1#1), ∀ a, (k0_off468 i v2673) a + S1x128.size a ≤ S16640x128.size a)
theorem k0_off467_inb : ∀ (i : grid0.Coords) (v83 : BitVec 32) (v85 : BitVec 32) (v88 : BitVec 32) (v1868 : BitVec 32) (v1870 : BitVec 32) (v2673 : BitVec 32) (k0_hw44 : k0_chk44 i v83 v85 v88 v1868 v1870 v2673), ∀ (k0_h40 : k0_cond40 v83 v85 v88 = 1#1), ∀ (k0_h52 : k0_cond52 v1868 v1870 = 1#1), ∀ a, (k0_off467 v2673) a + S16.size a ≤ S8320.size a := fun i v83 v85 v88 v1868 v1870 v2673 k0_hw44 k0_h40 k0_h52 => k0_hw44.1 k0_h40 k0_h52
theorem k0_off468_inb : ∀ (i : grid0.Coords) (v83 : BitVec 32) (v85 : BitVec 32) (v88 : BitVec 32) (v1868 : BitVec 32) (v1870 : BitVec 32) (v2673 : BitVec 32) (k0_hw44 : k0_chk44 i v83 v85 v88 v1868 v1870 v2673), ∀ (k0_h40 : k0_cond40 v83 v85 v88 = 1#1), ∀ (k0_h52 : k0_cond52 v1868 v1870 = 1#1), ∀ a, (k0_off468 i v2673) a + S1x128.size a ≤ S16640x128.size a := fun i v83 v85 v88 v1868 v1870 v2673 k0_hw44 k0_h40 k0_h52 => k0_hw44.2 k0_h40 k0_h52

def k0_off469 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32 : BitVec 32 := 11#32
  let v1875 : BitVec 32 := Scalar.addi v81 c11_i32
  let v1876 : Index := Scalar.indexCast v1875
  let c0_638 : Index := 0#32
  ![v1876.toNat, 0]
def k0_off470 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_643 : BitVec 32 := 11#32
  let v1893 : BitVec 32 := Scalar.addi v81 c11_i32_643
  let v1894 : Index := Scalar.indexCast v1893
  let c16_644 : Index := 16#32
  ![v1894.toNat, 16]
def k0_off471 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_649 : BitVec 32 := 11#32
  let v1911 : BitVec 32 := Scalar.addi v81 c11_i32_649
  let v1912 : Index := Scalar.indexCast v1911
  let c32_650 : Index := 32#32
  ![v1912.toNat, 32]
def k0_off472 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_655 : BitVec 32 := 11#32
  let v1929 : BitVec 32 := Scalar.addi v81 c11_i32_655
  let v1930 : Index := Scalar.indexCast v1929
  let c48_656 : Index := 48#32
  ![v1930.toNat, 48]
def k0_off473 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_661 : BitVec 32 := 11#32
  let v1947 : BitVec 32 := Scalar.addi v81 c11_i32_661
  let v1948 : Index := Scalar.indexCast v1947
  let c64_662 : Index := 64#32
  ![v1948.toNat, 64]
def k0_off474 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_667 : BitVec 32 := 11#32
  let v1965 : BitVec 32 := Scalar.addi v81 c11_i32_667
  let v1966 : Index := Scalar.indexCast v1965
  let c80_668 : Index := 80#32
  ![v1966.toNat, 80]
def k0_off475 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_673 : BitVec 32 := 11#32
  let v1983 : BitVec 32 := Scalar.addi v81 c11_i32_673
  let v1984 : Index := Scalar.indexCast v1983
  let c96_674 : Index := 96#32
  ![v1984.toNat, 96]
def k0_off476 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c11_i32_679 : BitVec 32 := 11#32
  let v2001 : BitVec 32 := Scalar.addi v81 c11_i32_679
  let v2002 : Index := Scalar.indexCast v2001
  let c112_680 : Index := 112#32
  ![v2002.toNat, 112]
def k0_off477 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond53 (v2029 : BitVec 32) (v2031 : BitVec 32) : BitVec 1 :=
  let v2032 : BitVec 1 := Scalar.cmpi .eq v2029 v2031
  let true_689 : BitVec 1 := 1#1
  let v2033 : BitVec 1 := Scalar.xori v2032 true_689
  let v2034 : BitVec 32 := Scalar.extui v2033
  let c0_i32_690 : BitVec 32 := 0#32
  let v2035 : BitVec 1 := Scalar.cmpi .ne v2034 c0_i32_690
  v2035

def k0_off478 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r88 : BitVec 32 := 0#32
  ![v2681.toNat, 0]

def k0_chk45 (i : grid0.Coords) (v83 : BitVec 32) (v85 : BitVec 32) (v88 : BitVec 32) (v2029 : BitVec 32) (v2031 : BitVec 32) (v2673 : BitVec 32) : Prop :=
  (∀ (k0_h40 : k0_cond40 v83 v85 v88 = 1#1), ∀ (k0_h53 : k0_cond53 v2029 v2031 = 1#1), ∀ a, (k0_off477 v2673) a + S16.size a ≤ S8320.size a) ∧
  (∀ (k0_h40 : k0_cond40 v83 v85 v88 = 1#1), ∀ (k0_h53 : k0_cond53 v2029 v2031 = 1#1), ∀ a, (k0_off478 i v2673) a + S1x128.size a ≤ S16640x128.size a)
theorem k0_off477_inb : ∀ (i : grid0.Coords) (v83 : BitVec 32) (v85 : BitVec 32) (v88 : BitVec 32) (v2029 : BitVec 32) (v2031 : BitVec 32) (v2673 : BitVec 32) (k0_hw45 : k0_chk45 i v83 v85 v88 v2029 v2031 v2673), ∀ (k0_h40 : k0_cond40 v83 v85 v88 = 1#1), ∀ (k0_h53 : k0_cond53 v2029 v2031 = 1#1), ∀ a, (k0_off477 v2673) a + S16.size a ≤ S8320.size a := fun i v83 v85 v88 v2029 v2031 v2673 k0_hw45 k0_h40 k0_h53 => k0_hw45.1 k0_h40 k0_h53
theorem k0_off478_inb : ∀ (i : grid0.Coords) (v83 : BitVec 32) (v85 : BitVec 32) (v88 : BitVec 32) (v2029 : BitVec 32) (v2031 : BitVec 32) (v2673 : BitVec 32) (k0_hw45 : k0_chk45 i v83 v85 v88 v2029 v2031 v2673), ∀ (k0_h40 : k0_cond40 v83 v85 v88 = 1#1), ∀ (k0_h53 : k0_cond53 v2029 v2031 = 1#1), ∀ a, (k0_off478 i v2673) a + S1x128.size a ≤ S16640x128.size a := fun i v83 v85 v88 v2029 v2031 v2673 k0_hw45 k0_h40 k0_h53 => k0_hw45.2 k0_h40 k0_h53

def k0_off479 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_691 : BitVec 32 := 12#32
  let v2036 : BitVec 32 := Scalar.addi v81 c12_i32_691
  let v2037 : Index := Scalar.indexCast v2036
  let c0_692 : Index := 0#32
  ![v2037.toNat, 0]
def k0_off480 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_697 : BitVec 32 := 12#32
  let v2054 : BitVec 32 := Scalar.addi v81 c12_i32_697
  let v2055 : Index := Scalar.indexCast v2054
  let c16_698 : Index := 16#32
  ![v2055.toNat, 16]
def k0_off481 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_703 : BitVec 32 := 12#32
  let v2072 : BitVec 32 := Scalar.addi v81 c12_i32_703
  let v2073 : Index := Scalar.indexCast v2072
  let c32_704 : Index := 32#32
  ![v2073.toNat, 32]
def k0_off482 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_709 : BitVec 32 := 12#32
  let v2090 : BitVec 32 := Scalar.addi v81 c12_i32_709
  let v2091 : Index := Scalar.indexCast v2090
  let c48_710 : Index := 48#32
  ![v2091.toNat, 48]
def k0_off483 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_715 : BitVec 32 := 12#32
  let v2108 : BitVec 32 := Scalar.addi v81 c12_i32_715
  let v2109 : Index := Scalar.indexCast v2108
  let c64_716 : Index := 64#32
  ![v2109.toNat, 64]
def k0_off484 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_721 : BitVec 32 := 12#32
  let v2126 : BitVec 32 := Scalar.addi v81 c12_i32_721
  let v2127 : Index := Scalar.indexCast v2126
  let c80_722 : Index := 80#32
  ![v2127.toNat, 80]
def k0_off485 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_727 : BitVec 32 := 12#32
  let v2144 : BitVec 32 := Scalar.addi v81 c12_i32_727
  let v2145 : Index := Scalar.indexCast v2144
  let c96_728 : Index := 96#32
  ![v2145.toNat, 96]
def k0_off486 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c12_i32_733 : BitVec 32 := 12#32
  let v2162 : BitVec 32 := Scalar.addi v81 c12_i32_733
  let v2163 : Index := Scalar.indexCast v2162
  let c112_734 : Index := 112#32
  ![v2163.toNat, 112]
def k0_off487 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond54 (v2190 : BitVec 32) (v2192 : BitVec 32) : BitVec 1 :=
  let v2193 : BitVec 1 := Scalar.cmpi .eq v2190 v2192
  let true_743 : BitVec 1 := 1#1
  let v2194 : BitVec 1 := Scalar.xori v2193 true_743
  let v2195 : BitVec 32 := Scalar.extui v2194
  let c0_i32_744 : BitVec 32 := 0#32
  let v2196 : BitVec 1 := Scalar.cmpi .ne v2195 c0_i32_744
  v2196

def k0_off488 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r90 : BitVec 32 := 0#32
  ![v2681.toNat, 0]

def k0_chk46 (i : grid0.Coords) (v83 : BitVec 32) (v85 : BitVec 32) (v88 : BitVec 32) (v2190 : BitVec 32) (v2192 : BitVec 32) (v2673 : BitVec 32) : Prop :=
  (∀ (k0_h40 : k0_cond40 v83 v85 v88 = 1#1), ∀ (k0_h54 : k0_cond54 v2190 v2192 = 1#1), ∀ a, (k0_off487 v2673) a + S16.size a ≤ S8320.size a) ∧
  (∀ (k0_h40 : k0_cond40 v83 v85 v88 = 1#1), ∀ (k0_h54 : k0_cond54 v2190 v2192 = 1#1), ∀ a, (k0_off488 i v2673) a + S1x128.size a ≤ S16640x128.size a)
theorem k0_off487_inb : ∀ (i : grid0.Coords) (v83 : BitVec 32) (v85 : BitVec 32) (v88 : BitVec 32) (v2190 : BitVec 32) (v2192 : BitVec 32) (v2673 : BitVec 32) (k0_hw46 : k0_chk46 i v83 v85 v88 v2190 v2192 v2673), ∀ (k0_h40 : k0_cond40 v83 v85 v88 = 1#1), ∀ (k0_h54 : k0_cond54 v2190 v2192 = 1#1), ∀ a, (k0_off487 v2673) a + S16.size a ≤ S8320.size a := fun i v83 v85 v88 v2190 v2192 v2673 k0_hw46 k0_h40 k0_h54 => k0_hw46.1 k0_h40 k0_h54
theorem k0_off488_inb : ∀ (i : grid0.Coords) (v83 : BitVec 32) (v85 : BitVec 32) (v88 : BitVec 32) (v2190 : BitVec 32) (v2192 : BitVec 32) (v2673 : BitVec 32) (k0_hw46 : k0_chk46 i v83 v85 v88 v2190 v2192 v2673), ∀ (k0_h40 : k0_cond40 v83 v85 v88 = 1#1), ∀ (k0_h54 : k0_cond54 v2190 v2192 = 1#1), ∀ a, (k0_off488 i v2673) a + S1x128.size a ≤ S16640x128.size a := fun i v83 v85 v88 v2190 v2192 v2673 k0_hw46 k0_h40 k0_h54 => k0_hw46.2 k0_h40 k0_h54

def k0_off489 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32 : BitVec 32 := 13#32
  let v2197 : BitVec 32 := Scalar.addi v81 c13_i32
  let v2198 : Index := Scalar.indexCast v2197
  let c0_745 : Index := 0#32
  ![v2198.toNat, 0]
def k0_off490 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_750 : BitVec 32 := 13#32
  let v2215 : BitVec 32 := Scalar.addi v81 c13_i32_750
  let v2216 : Index := Scalar.indexCast v2215
  let c16_751 : Index := 16#32
  ![v2216.toNat, 16]
def k0_off491 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_756 : BitVec 32 := 13#32
  let v2233 : BitVec 32 := Scalar.addi v81 c13_i32_756
  let v2234 : Index := Scalar.indexCast v2233
  let c32_757 : Index := 32#32
  ![v2234.toNat, 32]
def k0_off492 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_762 : BitVec 32 := 13#32
  let v2251 : BitVec 32 := Scalar.addi v81 c13_i32_762
  let v2252 : Index := Scalar.indexCast v2251
  let c48_763 : Index := 48#32
  ![v2252.toNat, 48]
def k0_off493 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_768 : BitVec 32 := 13#32
  let v2269 : BitVec 32 := Scalar.addi v81 c13_i32_768
  let v2270 : Index := Scalar.indexCast v2269
  let c64_769 : Index := 64#32
  ![v2270.toNat, 64]
def k0_off494 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_774 : BitVec 32 := 13#32
  let v2287 : BitVec 32 := Scalar.addi v81 c13_i32_774
  let v2288 : Index := Scalar.indexCast v2287
  let c80_775 : Index := 80#32
  ![v2288.toNat, 80]
def k0_off495 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_780 : BitVec 32 := 13#32
  let v2305 : BitVec 32 := Scalar.addi v81 c13_i32_780
  let v2306 : Index := Scalar.indexCast v2305
  let c96_781 : Index := 96#32
  ![v2306.toNat, 96]
def k0_off496 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c13_i32_786 : BitVec 32 := 13#32
  let v2323 : BitVec 32 := Scalar.addi v81 c13_i32_786
  let v2324 : Index := Scalar.indexCast v2323
  let c112_787 : Index := 112#32
  ![v2324.toNat, 112]
def k0_off497 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond55 (v2351 : BitVec 32) (v2353 : BitVec 32) : BitVec 1 :=
  let v2354 : BitVec 1 := Scalar.cmpi .eq v2351 v2353
  let true_796 : BitVec 1 := 1#1
  let v2355 : BitVec 1 := Scalar.xori v2354 true_796
  let v2356 : BitVec 32 := Scalar.extui v2355
  let c0_i32_797 : BitVec 32 := 0#32
  let v2357 : BitVec 1 := Scalar.cmpi .ne v2356 c0_i32_797
  v2357

def k0_off498 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r92 : BitVec 32 := 0#32
  ![v2681.toNat, 0]

def k0_chk47 (i : grid0.Coords) (v83 : BitVec 32) (v85 : BitVec 32) (v88 : BitVec 32) (v2351 : BitVec 32) (v2353 : BitVec 32) (v2673 : BitVec 32) : Prop :=
  (∀ (k0_h40 : k0_cond40 v83 v85 v88 = 1#1), ∀ (k0_h55 : k0_cond55 v2351 v2353 = 1#1), ∀ a, (k0_off497 v2673) a + S16.size a ≤ S8320.size a) ∧
  (∀ (k0_h40 : k0_cond40 v83 v85 v88 = 1#1), ∀ (k0_h55 : k0_cond55 v2351 v2353 = 1#1), ∀ a, (k0_off498 i v2673) a + S1x128.size a ≤ S16640x128.size a)
theorem k0_off497_inb : ∀ (i : grid0.Coords) (v83 : BitVec 32) (v85 : BitVec 32) (v88 : BitVec 32) (v2351 : BitVec 32) (v2353 : BitVec 32) (v2673 : BitVec 32) (k0_hw47 : k0_chk47 i v83 v85 v88 v2351 v2353 v2673), ∀ (k0_h40 : k0_cond40 v83 v85 v88 = 1#1), ∀ (k0_h55 : k0_cond55 v2351 v2353 = 1#1), ∀ a, (k0_off497 v2673) a + S16.size a ≤ S8320.size a := fun i v83 v85 v88 v2351 v2353 v2673 k0_hw47 k0_h40 k0_h55 => k0_hw47.1 k0_h40 k0_h55
theorem k0_off498_inb : ∀ (i : grid0.Coords) (v83 : BitVec 32) (v85 : BitVec 32) (v88 : BitVec 32) (v2351 : BitVec 32) (v2353 : BitVec 32) (v2673 : BitVec 32) (k0_hw47 : k0_chk47 i v83 v85 v88 v2351 v2353 v2673), ∀ (k0_h40 : k0_cond40 v83 v85 v88 = 1#1), ∀ (k0_h55 : k0_cond55 v2351 v2353 = 1#1), ∀ a, (k0_off498 i v2673) a + S1x128.size a ≤ S16640x128.size a := fun i v83 v85 v88 v2351 v2353 v2673 k0_hw47 k0_h40 k0_h55 => k0_hw47.2 k0_h40 k0_h55

def k0_off499 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32 : BitVec 32 := 14#32
  let v2358 : BitVec 32 := Scalar.addi v81 c14_i32
  let v2359 : Index := Scalar.indexCast v2358
  let c0_798 : Index := 0#32
  ![v2359.toNat, 0]
def k0_off500 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_803 : BitVec 32 := 14#32
  let v2376 : BitVec 32 := Scalar.addi v81 c14_i32_803
  let v2377 : Index := Scalar.indexCast v2376
  let c16_804 : Index := 16#32
  ![v2377.toNat, 16]
def k0_off501 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_809 : BitVec 32 := 14#32
  let v2394 : BitVec 32 := Scalar.addi v81 c14_i32_809
  let v2395 : Index := Scalar.indexCast v2394
  let c32_810 : Index := 32#32
  ![v2395.toNat, 32]
def k0_off502 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_815 : BitVec 32 := 14#32
  let v2412 : BitVec 32 := Scalar.addi v81 c14_i32_815
  let v2413 : Index := Scalar.indexCast v2412
  let c48_816 : Index := 48#32
  ![v2413.toNat, 48]
def k0_off503 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_821 : BitVec 32 := 14#32
  let v2430 : BitVec 32 := Scalar.addi v81 c14_i32_821
  let v2431 : Index := Scalar.indexCast v2430
  let c64_822 : Index := 64#32
  ![v2431.toNat, 64]
def k0_off504 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_827 : BitVec 32 := 14#32
  let v2448 : BitVec 32 := Scalar.addi v81 c14_i32_827
  let v2449 : Index := Scalar.indexCast v2448
  let c80_828 : Index := 80#32
  ![v2449.toNat, 80]
def k0_off505 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_833 : BitVec 32 := 14#32
  let v2466 : BitVec 32 := Scalar.addi v81 c14_i32_833
  let v2467 : Index := Scalar.indexCast v2466
  let c96_834 : Index := 96#32
  ![v2467.toNat, 96]
def k0_off506 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c14_i32_839 : BitVec 32 := 14#32
  let v2484 : BitVec 32 := Scalar.addi v81 c14_i32_839
  let v2485 : Index := Scalar.indexCast v2484
  let c112_840 : Index := 112#32
  ![v2485.toNat, 112]
def k0_off507 (v2673 : BitVec 32) : Fin 1 → Nat :=
  let c16_i32_903 : BitVec 32 := 16#32
  let v2676 : BitVec 32 := Scalar.muli v2673 c16_i32_903
  let v2677 : Index := Scalar.indexCast v2676
  ![v2677.toNat]
def k0_cond56 (v2512 : BitVec 32) (v2514 : BitVec 32) : BitVec 1 :=
  let v2515 : BitVec 1 := Scalar.cmpi .eq v2512 v2514
  let true_849 : BitVec 1 := 1#1
  let v2516 : BitVec 1 := Scalar.xori v2515 true_849
  let v2517 : BitVec 32 := Scalar.extui v2516
  let c0_i32_850 : BitVec 32 := 0#32
  let v2518 : BitVec 1 := Scalar.cmpi .ne v2517 c0_i32_850
  v2518

def k0_off508 (i : grid0.Coords) (v2673 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v2681 : BitVec 32 := Scalar.addi v5 v2673
  let c0_i32_904_r94 : BitVec 32 := 0#32
  ![v2681.toNat, 0]

def k0_chk48 (i : grid0.Coords) (v83 : BitVec 32) (v85 : BitVec 32) (v88 : BitVec 32) (v2512 : BitVec 32) (v2514 : BitVec 32) (v2673 : BitVec 32) : Prop :=
  (∀ (k0_h40 : k0_cond40 v83 v85 v88 = 1#1), ∀ (k0_h56 : k0_cond56 v2512 v2514 = 1#1), ∀ a, (k0_off507 v2673) a + S16.size a ≤ S8320.size a) ∧
  (∀ (k0_h40 : k0_cond40 v83 v85 v88 = 1#1), ∀ (k0_h56 : k0_cond56 v2512 v2514 = 1#1), ∀ a, (k0_off508 i v2673) a + S1x128.size a ≤ S16640x128.size a)
theorem k0_off507_inb : ∀ (i : grid0.Coords) (v83 : BitVec 32) (v85 : BitVec 32) (v88 : BitVec 32) (v2512 : BitVec 32) (v2514 : BitVec 32) (v2673 : BitVec 32) (k0_hw48 : k0_chk48 i v83 v85 v88 v2512 v2514 v2673), ∀ (k0_h40 : k0_cond40 v83 v85 v88 = 1#1), ∀ (k0_h56 : k0_cond56 v2512 v2514 = 1#1), ∀ a, (k0_off507 v2673) a + S16.size a ≤ S8320.size a := fun i v83 v85 v88 v2512 v2514 v2673 k0_hw48 k0_h40 k0_h56 => k0_hw48.1 k0_h40 k0_h56
theorem k0_off508_inb : ∀ (i : grid0.Coords) (v83 : BitVec 32) (v85 : BitVec 32) (v88 : BitVec 32) (v2512 : BitVec 32) (v2514 : BitVec 32) (v2673 : BitVec 32) (k0_hw48 : k0_chk48 i v83 v85 v88 v2512 v2514 v2673), ∀ (k0_h40 : k0_cond40 v83 v85 v88 = 1#1), ∀ (k0_h56 : k0_cond56 v2512 v2514 = 1#1), ∀ a, (k0_off508 i v2673) a + S1x128.size a ≤ S16640x128.size a := fun i v83 v85 v88 v2512 v2514 v2673 k0_hw48 k0_h40 k0_h56 => k0_hw48.2 k0_h40 k0_h56

def k0_off509 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32 : BitVec 32 := 15#32
  let v2519 : BitVec 32 := Scalar.addi v81 c15_i32
  let v2520 : Index := Scalar.indexCast v2519
  let c0_851 : Index := 0#32
  ![v2520.toNat, 0]
def k0_off510 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_856 : BitVec 32 := 15#32
  let v2537 : BitVec 32 := Scalar.addi v81 c15_i32_856
  let v2538 : Index := Scalar.indexCast v2537
  let c16_857 : Index := 16#32
  ![v2538.toNat, 16]
def k0_off511 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_862 : BitVec 32 := 15#32
  let v2555 : BitVec 32 := Scalar.addi v81 c15_i32_862
  let v2556 : Index := Scalar.indexCast v2555
  let c32_863 : Index := 32#32
  ![v2556.toNat, 32]
def k0_off512 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_868 : BitVec 32 := 15#32
  let v2573 : BitVec 32 := Scalar.addi v81 c15_i32_868
  let v2574 : Index := Scalar.indexCast v2573
  let c48_869 : Index := 48#32
  ![v2574.toNat, 48]
def k0_off513 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_874 : BitVec 32 := 15#32
  let v2591 : BitVec 32 := Scalar.addi v81 c15_i32_874
  let v2592 : Index := Scalar.indexCast v2591
  let c64_875 : Index := 64#32
  ![v2592.toNat, 64]
def k0_off514 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_880 : BitVec 32 := 15#32
  let v2609 : BitVec 32 := Scalar.addi v81 c15_i32_880
  let v2610 : Index := Scalar.indexCast v2609
  let c80_881 : Index := 80#32
  ![v2610.toNat, 80]
def k0_off515 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_886 : BitVec 32 := 15#32
  let v2627 : BitVec 32 := Scalar.addi v81 c15_i32_886
  let v2628 : Index := Scalar.indexCast v2627
  let c96_887 : Index := 96#32
  ![v2628.toNat, 96]
def k0_off516 (k0_t5 : Fin k0_t5_loop.trips) : Fin 2 → Nat :=
  let c0_i32_52 : BitVec 32 := 0#32
  let c0_i32_44 : BitVec 32 := 0#32
  let c1_i32_45 : BitVec 32 := 1#32
  let arg16 : BitVec 32 := Scf.iv c0_i32_44 c1_i32_45 k0_t5
  let c16_i32_51 : BitVec 32 := 16#32
  let v80 : BitVec 32 := Scalar.muli arg16 c16_i32_51
  let v81 : BitVec 32 := Scalar.addi c0_i32_52 v80
  let c15_i32_892 : BitVec 32 := 15#32
  let v2645 : BitVec 32 := Scalar.addi v81 c15_i32_892
  let v2646 : Index := Scalar.indexCast v2645
  let c112_893 : Index := 112#32
  ![v2646.toNat, 112]
def k0_off517 (v65 : BitVec 32) : Fin 1 → Nat :=
  let c16_i32_48 : BitVec 32 := 16#32
  let v68 : BitVec 32 := Scalar.muli v65 c16_i32_48
  let v69 : Index := Scalar.indexCast v68
  ![v69.toNat]

def k0_off518 (i : grid0.Coords) (v65 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c520_i32 : BitVec 32 := 520#32
  let v4 : BitVec 32 := Scalar.muli v1 c520_i32
  let v5 : BitVec 32 := v4
  let v73 : BitVec 32 := Scalar.addi v5 v65
  let c0_i32_49_r96 : BitVec 32 := 0#32
  ![v73.toNat, 0]

def k0_chk49 (i : grid0.Coords) (v65 : BitVec 32) : Prop :=
  (∀ a, (k0_off517 v65) a + S16.size a ≤ S8320.size a) ∧
  (∀ a, (k0_off518 i v65) a + S1x128.size a ≤ S16640x128.size a)
theorem k0_off517_inb : ∀ (i : grid0.Coords) (v65 : BitVec 32) (k0_hw49 : k0_chk49 i v65), ∀ a, (k0_off517 v65) a + S16.size a ≤ S8320.size a := fun i v65 k0_hw49 => k0_hw49.1
theorem k0_off518_inb : ∀ (i : grid0.Coords) (v65 : BitVec 32) (k0_hw49 : k0_chk49 i v65), ∀ a, (k0_off518 i v65) a + S1x128.size a ≤ S16640x128.size a := fun i v65 k0_hw49 => k0_hw49.2

def k0_off519 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_50_r98 : BitVec 32 := 0#32
  ![v1.toNat, 0]
abbrev grid1 : Pipeline.Grid := .none

abbrev stage1_0 : Fin 1 → Memref sig .tc .vmem S16640x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16640x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S_ : Shape := ⟨0, ![]⟩
abbrev S512x128 : Shape := ⟨2, ![512, 128]⟩
abbrev S320000x1 : Shape := ⟨2, ![320000, 1]⟩
abbrev S512x1 : Shape := ⟨2, ![512, 1]⟩
abbrev S320000x1x1 : Shape := ⟨3, ![320000, 1, 1]⟩
abbrev S1x512x1 : Shape := ⟨3, ![1, 512, 1]⟩
abbrev S320000x512x1 : Shape := ⟨3, ![320000, 512, 1]⟩
abbrev S320000x1x128 : Shape := ⟨3, ![320000, 1, 128]⟩
abbrev S320000x512x128 : Shape := ⟨3, ![320000, 512, 128]⟩
abbrev S512x384 : Shape := ⟨2, ![512, 384]⟩

abbrev nBuf : Space → Nat
  | .hbm => 40
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .f32⟩
  | .hbm, ⟨3, _⟩ => ⟨S512x128, .f32⟩
  | .hbm, ⟨4, _⟩ => ⟨S320000x1, .i32⟩
  | .hbm, ⟨5, _⟩ => ⟨S512x128, .f32⟩
  | .hbm, ⟨6, _⟩ => ⟨S_, .f32⟩
  | .hbm, ⟨7, _⟩ => ⟨S320000x1, .f32⟩
  | .hbm, ⟨8, _⟩ => ⟨S_, .f32⟩
  | .hbm, ⟨9, _⟩ => ⟨S512x1, .f32⟩
  | .hbm, ⟨10, _⟩ => ⟨S320000x1, .i32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x128, .f32⟩
  | .hbm, ⟨16, _⟩ => ⟨S512x128, .f32⟩
  | .hbm, ⟨17, _⟩ => ⟨S320000x1x1, .i32⟩
  | .hbm, ⟨18, _⟩ => ⟨S1x512x1, .i32⟩
  | .hbm, ⟨19, _⟩ => ⟨S320000x512x1, .i32⟩
  | .hbm, ⟨20, _⟩ => ⟨S320000x512x1, .i32⟩
  | .hbm, ⟨21, _⟩ => ⟨S320000x512x1, .i1⟩
  | .hbm, ⟨22, _⟩ => ⟨S320000x1x128, .f32⟩
  | .hbm, ⟨23, _⟩ => ⟨S_, .f32⟩
  | .hbm, ⟨24, _⟩ => ⟨S_, .f32⟩
  | .hbm, ⟨25, _⟩ => ⟨S320000x512x128, .i1⟩
  | .hbm, ⟨26, _⟩ => ⟨S320000x512x128, .f32⟩
  | .hbm, ⟨27, _⟩ => ⟨S320000x512x128, .f32⟩
  | .hbm, ⟨28, _⟩ => ⟨S320000x512x128, .f32⟩
  | .hbm, ⟨29, _⟩ => ⟨S_, .f32⟩
  | .hbm, ⟨30, _⟩ => ⟨S512x128, .f32⟩
  | .hbm, ⟨31, _⟩ => ⟨S_, .f32⟩
  | .hbm, ⟨32, _⟩ => ⟨S512x1, .f32⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x128, .i1⟩
  | .hbm, ⟨37, _⟩ => ⟨S512x128, .f32⟩
  | .hbm, ⟨38, _⟩ => ⟨S512x128, .f32⟩
  | .hbm, ⟨39, _⟩ => ⟨S512x384, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.Pool.Pre.lean ====
/-
  What the precondition says of the segments: each lies in 0 … 511, and they do not decrease.
-/
module

public import proofs.«01_k».proof.Defs
public import proofs.«01_k».proof.Proof.Gen.Pre_in_range_sorted
public import Idealize.ShloMosaic.Lib.ReduceAll
public import Idealize.ShloMosaic.Lib.Pointwise.Index

@[expose] public section

noncomputable section

namespace Cert.Pool

open Idealize.ShloMosaic Idealize.ShloMosaic.Tactic

variable {F : FTy → Type} [FloatOps F]

theorem andi_one {p q : BitVec 1} : IntOp.andi p q = 1#1 ↔ p = 1#1 ∧ q = 1#1 := by
  revert p q; decide

instance : Subsingleton (⟨0, ![]⟩ : Shape).Idx := ⟨fun a b => funext fun k => k.elim0⟩

theorem range_of {v : BitVec 32} (h1 : IntOp.cmpi .sge v 0#32 = 1#1) (h2 : IntOp.cmpi .slt v 512#32 = 1#1) : v.toNat < 512 := by
  have ob : ∀ p : Bool, BitVec.ofBool p = 1#1 → p = true := by decide
  have h1 := ob _ h1
  have h2 := ob _ h2
  simp only [BitVec.sle_eq_decide, BitVec.slt_eq_decide, decide_eq_true_eq, BitVec.toInt_eq_toNat_cond, BitVec.toNat_ofNat] at h1 h2
  omega

theorem le_of {v w : BitVec 32} (hv : v.toNat < 512) (hw : w.toNat < 512) (h : IntOp.cmpi .sle v w = 1#1) : v.toNat ≤ w.toNat := by
  have ob : ∀ p : Bool, BitVec.ofBool p = 1#1 → p = true := by decide
  have h := ob _ h
  simp only [BitVec.sle_eq_decide, decide_eq_true_eq, BitVec.toInt_eq_toNat_cond] at h
  omega

/-- Row `r`'s segment. -/
def seg (b : IVec ⟨1, ![320000]⟩ 32) (r : Nat) (h : r < 320000) : BitVec 32 := b (ix1 (n0 := 320000) ⟨r, h⟩)

theorem pre_facts [Cert.Pre_in_range_sorted.Facts] (x : FVec F ⟨2, ![320000, 128]⟩ .f32) (b : IVec ⟨1, ![320000]⟩ 32)
    (h : Cert.Pre_in_range_sorted.fn x b = fun _ => 1#1) :
    (∀ r (hr : r < 320000), (seg b r hr).toNat < 512) ∧ ∀ r (hr : r + 1 < 320000), (seg b r (by omega)).toNat ≤ (seg b (r + 1) hr).toNat := by
  have e := congrFun h (fun k => k.elim0)
  simp only [Cert.Pre_in_range_sorted.fn, andi] at e
  rw [andi_one, andi_one] at e
  obtain ⟨⟨e1, e2⟩, e3⟩ := e
  have hr : ∀ r (hr : r < 320000), (seg b r hr).toNat < 512 := fun r hr =>
    range_of (Host.reduce_andi_all _ _ _ _ _ e1 (ix1 (n0 := 320000) ⟨r, hr⟩)) (Host.reduce_andi_all _ _ _ _ _ e2 (ix1 (n0 := 320000) ⟨r, hr⟩))
  refine ⟨hr, fun r h1 => ?_⟩
  have e := Host.reduce_andi_all _ _ _ _ _ e3 (ix1 (n0 := 319999) ⟨r, by omega⟩)
  refine le_of (hr _ _) (hr _ _) (Eq.trans ?_ e)
  refine congrArg₂ (IntOp.cmpi .sle) (congrArg b ?_) (congrArg b ?_) <;>
    (funext k; match k with | ⟨0, _⟩ => exact Fin.ext (by simp [ix1]; try omega))

/-- The segments do not decrease. -/
theorem sorted_of [Cert.Pre_in_range_sorted.Facts] (x : FVec F ⟨2, ![320000, 128]⟩ .f32) (b : IVec ⟨1, ![320000]⟩ 32)
    (h : Cert.Pre_in_range_sorted.fn x b = fun _ => 1#1) (r s : Nat) (hrs : r ≤ s) (hs : s < 320000) :
    (seg b r (by omega)).toNat ≤ (seg b s hs).toNat := by
  induction s, hrs using Nat.le_induction with
  | base => exact le_refl _
  | succ s _ ih => exact (ih (by omega)).trans ((pre_facts x b h).2 s hs)

end Cert.Pool
-- ==== Proof.Kernel.Frame.lean ====
/-
  From the precondition: every run of the kernel ends, its arguments unchanged, its result the merge of what the workers leave.
-/
module

public import proofs.«01_k».proof.Proof.Kernel.Launch
public import proofs.«01_k».proof.Proof.Pool.Pre

@[expose] public section

noncomputable section

namespace Cert.Kernel.Pool

open Idealize.ShloMosaic Idealize.ShloMosaic.TcCoe Idealize.SL.Sem
open Cert.Kernel Cert.Kernel.Gen

variable {F : FTy → Type} [FloatOps F] [Cert.Pre_in_range_sorted.Facts]

theorem ok_of_pre (m : (ℓ : Loc nD τ sig) → Buf (Elt F) ℓ)
    (h : ∀ c : Dev nD, Cert.Pre_in_range_sorted.fn (F := F) (m (xLoc c)) (m (bLoc c)) = fun _ => 1#1) : PreOK m := fun d r =>
  Nat.le_of_lt ((Cert.Pool.pre_facts (F := F) _ _ (h d)).1 (r % 320000) (Nat.mod_lt _ (by decide)))

/-- The kernel's frame. -/
theorem frame : Cert.quiescent_Kernel := fun m ρ hpre =>
  (θ_run Cert.Kernel.defs _ _).mono (fun _ h => ⟨fun c => ⟨(h.1 c).1, (h.1 c).2.1⟩, h.2⟩) (run_main m ρ (ok_of_pre m hpre))

end Cert.Kernel.Pool
-- ==== Proof.KernelIdeal.Text.lean ====
/-
  The pooling kernel's body, said once per row and once per 16-column piece.

  The printed body spells out sixteen rows times eight pieces of each of its three group loops, cut into windows
  of sixty statements. Here is the same program with the rows and the pieces indexed (`rowG`, `pieceG`, `fastG`,
  `groupG`), so that what a row does is proved once. `TextEq.lean` proves the printed body equal to `bodyG`.
-/
module

public import proofs.«01_k».proof.KernelIdeal

@[expose] public section

noncomputable section

namespace Cert.KernelIdeal.Pool

open Idealize.ShloMosaic Idealize.SL.Sem Cert.KernelIdeal

variable {F : FTy → Type} [FloatOps F] [Facts]
open Facts₀ Facts

/-! ## The buffers -/

/-- The rows. -/
abbrev mX : Memref sig .scVector .hbm S320000x128 .f32 := Memref.whole main_arg0_scv
/-- The rows' segments. -/
abbrev mB : Memref sig .scVector .hbm S320000 .i32 := Memref.whole main_arg1_scv
/-- The sums by worker and segment. -/
abbrev mOS : Memref sig .scVector .hbm S16640x128 .f32 := Memref.whole main_v0_0_scv
/-- The counts by worker and segment. -/
abbrev mOC : Memref sig .scVector .hbm S32x8192 .f32 := Memref.whole main_v0_1_scv
/-- The maxima by worker and segment. -/
abbrev mOM : Memref sig .scVector .hbm S16640x128 .f32 := Memref.whole main_v0_2_scv
/-- Two chunks of rows. -/
abbrev mXb : Memref sig .scVector .vmem S800x128 .f32 := Memref.whole cc0_scratch0
/-- Two chunks of segments. -/
abbrev mIb : Memref sig .scVector .vmem S800 .i32 := Memref.whole cc0_scratch1
/-- This worker's counts, sixteen lanes for each segment. -/
abbrev mTab : Memref sig .scVector .vmem S8320 .f32 := Memref.whole cc0_scratch2
/-- The current run's maximum. -/
abbrev mAcc : Memref sig .scVector .vmem S128 .f32 := Memref.whole cc0_scratch3
/-- The current run's sum. -/
abbrev mSum : Memref sig .scVector .vmem S128 .f32 := Memref.whole cc0_scratch4
/-- The current run's count. -/
abbrev mCnt : Memref sig .scVector .vmem S16 .f32 := Memref.whole cc0_scratch5
/-- The current run's segment. -/
abbrev mCur : Memref sig .scVector .smem S1 .i32 := Memref.whole cc0_scratch6

/-- The programs of one vector subcore. -/
abbrev TP (F : FTy → Type) (i : grid0.Coords) (α : Type) : Type 1 :=
  Prog (TpuEff nD τ sig (Elt F) Λ₀ (.scVector ((i 0).castLE hcore0) ((i 1).castLE hsub0))) α

/-- The `n` steps from step `k` on, of the `N` steps `f`. -/
def seqN {i : grid0.Coords} {N : Nat} (f : Fin N → TP F i PUnit.{1}) : (n k : Nat) → k + n = N → TP F i PUnit.{1}
  | 0, _, _ => pure ⟨⟩
  | n + 1, k, h => f ⟨k, by omega⟩ >>= fun _ => seqN f n (k + 1) (by omega)

/-- No steps. -/
theorem seqNil {i : grid0.Coords} {N : Nat} {f : Fin N → TP F i PUnit.{1}} {k : Nat} {h : k + 0 = N} {β : Type}
    {K : PUnit.{1} → TP F i β} {R : TP F i β} (hR : R = K ⟨⟩) : R = Prog.bind (seqN f 0 k h) K := hR

/-! ## One piece of one row -/

/-- Row `j` of the group at row `base`, its piece `k`. -/
def offX (base : BitVec 32) (j : Fin 16) (k : Fin 8) : Fin 2 → Nat :=
  ![(Scalar.indexCast (Scalar.addi base (BitVec.ofNat 32 j.val))).toNat, 16 * k.val]

/-- Every row of the group lies in the chunk buffer. -/
def InX (base : BitVec 32) : Prop := ∀ j k a, offX base j k a + S1x16.size a ≤ S800x128.size a

theorem inbK (k : Fin 8) : ∀ a, (![16 * k.val] : Fin 1 → Nat) a + S16.size a ≤ S128.size a := by
  intro a; have := k.2; fin_cases a; simp only [Fin.zero_eta, Matrix.cons_val_zero, S16, S128]; simp; omega

theorem slJ (j : Fin 16) : S16.Slices ![j.val] S1 := by revert j; decide

/-- Sixteen lanes of the run's row, at piece `k`. -/
abbrev rK (k : Fin 8) : Rect S128 := Rect.unit (s := S128) ![16 * k.val] S16.size (inbK k)
/-- The sixteen lanes of the count. -/
abbrev rC : Rect S16 := Rect.unit (s := S16) ![0] S16.size inb_S16_S16_0
/-- The one word of the current segment. -/
abbrev rW : Rect S1 := Rect.unit (s := S1) ![0] S1.size inb_S1_S1_0
/-- Sixteen lanes of one row of the chunk buffer. -/
abbrev rX (base : BitVec 32) (h : InX base) (j : Fin 16) (k : Fin 8) : Rect S800x128 :=
  Rect.unit (s := S800x128) (offX base j k) S1x16.size (h j k)

/-- What piece `k` of row `j` does to the run's row: `same` says whether the row continues the run. -/
def pieceG (i : grid0.Coords) (base : BitVec 32) (h : InX base) (j : Fin 16) (same : BitVec 1) (k : Fin 8) :
    TP F i PUnit.{1} := do
  let x : Vec F S1x16 .f32 ← Prog.lift (.load mXb (rX base h j k).toLoadRect (View.loadsAt_vmem h_S1x16))
  let a : Vec F S16 .f32 ← Prog.lift (.load mAcc (rK k).toLoadRect (View.loadsAt_vmem h_S16))
  let s : Vec F S16 .f32 ← Prog.lift (.load mSum (rK k).toLoadRect (View.loadsAt_vmem h_S16))
  let _ : Vec F S16 .f32 ← Prog.lift (.load mAcc (rK k).toLoadRect (View.loadsAt_vmem h_S16))
  Prog.lift (.store mAcc (rK k)
    (shapeCast S16 (Scalar.select same (maximumf (shapeCast S16 a shapeCasts_S16_S16 : FVec F S16 .f32)
        (shapeCast S16 x shapeCasts_S1x16_S16))
      (shapeCast S16 x shapeCasts_S1x16_S16)) shapeCasts_S16_S16 : FVec F S16 .f32)
    Finset.univ (View.stores_vmem_bits_univ h_S16 rfl) (.inl rfl))
  let _ : Vec F S16 .f32 ← Prog.lift (.load mSum (rK k).toLoadRect (View.loadsAt_vmem h_S16))
  Prog.lift (.store mSum (rK k)
    (shapeCast S16 (Scalar.select same (addf (shapeCast S16 s shapeCasts_S16_S16 : FVec F S16 .f32)
        (shapeCast S16 x shapeCasts_S1x16_S16))
      (shapeCast S16 x shapeCasts_S1x16_S16)) shapeCasts_S16_S16 : FVec F S16 .f32)
    Finset.univ (View.stores_vmem_bits_univ h_S16 rfl) (.inl rfl))

/-! ## One row of the slow path -/

/-- The segment of row `j` of the group. -/
def segJ (ids : IVec S16 32) (j : Fin 16) : BitVec 32 :=
  extractAt ![0] (extractStridedSlice S1 ![j.val] ids (slJ j)) inpos_S1_p0

/-- One row of the run's sums or maxima, sent out. -/
def sendG (i : grid0.Coords) (src : Memref sig .scVector .vmem S128 .f32) (hs : src.IsWhole)
    (dst : Memref sig .scVector .hbm S16640x128 .f32) (hd : dst.IsWhole) (o : Fin 2 → Nat)
    (ho : ∀ a, o a + S1x128.size a ≤ S16640x128.size a) (sem : DmaSems sig S_) : TP F i PUnit.{1} := do
  Prog.lift (.enqueueDma src
    (.here ((dst.slice (Rect.unit (s := S16640x128) o S1x128.size ho) (fun _ => rfl)).squeeze S128
      squeezes_S1x128_S128)) (.dma sem.sem) hs.wordExact ((View.wordExact_bits rfl).reshape _ _) ⟨Or.inl rfl, trivial⟩)
  Prog.lift (.waitDma2 sem.sem src
    ((dst.slice (Rect.unit (s := S16640x128) o S1x128.size ho) (fun _ => rfl)).squeeze S128 squeezes_S1x128_S128)
    hs.wordExact ((View.wordExact_bits rfl).reshape _ _))

/-- The run's count goes to slot `o` of the table. -/
def tabG (i : grid0.Coords) (o : Fin 1 → Nat) (ho : ∀ a, o a + S16.size a ≤ S8320.size a) : TP F i PUnit.{1} := do
  let c : Vec F S16 .f32 ← Prog.lift (.load mCnt rC.toLoadRect (View.loadsAt_vmem h_S16))
  let _ : Vec F S16 .f32 ← Prog.lift (.load mTab
    (Rect.unit (s := S8320) o S16.size ho).toLoadRect (View.loadsAt_vmem h_S16))
  Prog.lift (.store mTab (Rect.unit (s := S8320) o S16.size ho)
    (shapeCast S16 (shapeCast S16 c shapeCasts_S16_S16) shapeCasts_S16_S16 : FVec F S16 .f32)
    Finset.univ (View.stores_vmem_bits_univ h_S16 rfl) (.inl rfl))

/-- The run ends: its count, maximum and sum are put away under its segment. -/
def flushG (i : grid0.Coords) (sA sB : DmaSems sig S_) (f l c0 seg cur : BitVec 32) (hslow : k0_cond2 f l c0 = 1#1)
    (hnew : k0_cond3 seg cur = 1#1) : TP F i PUnit.{1} := do
  let cur' : Elt F .i32 ← smemLoad mCur rW numel1_S1 rfl
  have hw : k0_chk1 i f l c0 seg cur cur' :=
    (← Prog.lift (TpuEff.assume (k0_chk1 i f l c0 seg cur cur') (k0_chk1.dec i f l c0 seg cur cur'))).down
  tabG i (k0_off15 cur') (hw.1 hslow hnew)
  sendG i mAcc (Memref.isWhole_whole _) mOM (Memref.isWhole_whole _) (k0_off16 i cur') (hw.2 hslow hnew) sA
  sendG i mSum (Memref.isWhole_whole _) mOS (Memref.isWhole_whole _) (k0_off16 i cur') (hw.2 hslow hnew) sB

/-- The row's count and segment. -/
def markG (i : grid0.Coords) (ones : FVec F S16 .f32) (same : BitVec 1) (seg : BitVec 32) : TP F i PUnit.{1} := do
  let c : Vec F S16 .f32 ← Prog.lift (.load mCnt rC.toLoadRect (View.loadsAt_vmem h_S16))
  let _ : Vec F S16 .f32 ← Prog.lift (.load mCnt rC.toLoadRect (View.loadsAt_vmem h_S16))
  Prog.lift (.store mCnt rC
    (shapeCast S16 (Scalar.select same (addf (shapeCast S16 c shapeCasts_S16_S16 : FVec F S16 .f32) ones) ones)
      shapeCasts_S16_S16 : FVec F S16 .f32)
    Finset.univ (View.stores_vmem_bits_univ h_S16 rfl) (.inl rfl))
  let _ : Elt F .i32 ← smemLoad mCur rW numel1_S1 rfl
  Prog.lift (.store mCur rW (fun _ => seg) Finset.univ (View.stores_smem_one rfl numel1_S1) (.inl rfl))

/-- Row `j` of the group, on the slow path. -/
def rowG (i : grid0.Coords) (base : BitVec 32) (h : InX base) (ids : IVec S16 32) (ones : FVec F S16 .f32)
    (sA sB : Fin 16 → DmaSems sig S_) (c0 : BitVec 32)
    (hslow : k0_cond2 (segJ ids 0) (segJ ids 15) c0 = 1#1) (j : Fin 16) : TP F i PUnit.{1} := do
  let cur : Elt F .i32 ← smemLoad mCur rW numel1_S1 rfl
  if hnew : k0_cond3 (segJ ids j) cur = 1#1 then
    flushG i (sA j) (sB j) (segJ ids 0) (segJ ids 15) c0 (segJ ids j) cur hslow hnew
  seqN (pieceG i base h j (Scalar.cmpi .eq (segJ ids j) cur)) 8 0 rfl
  markG i ones (Scalar.cmpi .eq (segJ ids j) cur) (segJ ids j)

/-! ## Sixteen rows of one run -/

/-- Sixteen values combined two by two. -/
def tree16 {α : Type} (f : α → α → α) (v0 v1 v2 v3 v4 v5 v6 v7 v8 v9 v10 v11 v12 v13 v14 v15 : α) : α :=
  f (f (f (f v0 v1) (f v2 v3)) (f (f v4 v5) (f v6 v7))) (f (f (f v8 v9) (f v10 v11)) (f (f v12 v13) (f v14 v15)))

/-- Row `j`'s piece `k`, loaded. -/
abbrev ldX (i : grid0.Coords) (base : BitVec 32) (h : InX base) (k : Fin 8) (j : Fin 16) :
    TP F i (Vec F S1x16 .f32) :=
  Prog.lift (.load mXb (rX base h j k).toLoadRect (View.loadsAt_vmem h_S1x16))

/-- Sixteen lanes of a row as a vector. -/
abbrev sx (x : Vec F S1x16 .f32) : FVec F S16 .f32 := shapeCast S16 x shapeCasts_S1x16_S16

/-- Piece `k` of sixteen rows that all continue the run. -/
def fastPieceG (i : grid0.Coords) (base : BitVec 32) (h : InX base) (k : Fin 8) : TP F i PUnit.{1} := do
  let x0 ← ldX i base h k 0
  let x1 ← ldX i base h k 1
  let x2 ← ldX i base h k 2
  let x3 ← ldX i base h k 3
  let x4 ← ldX i base h k 4
  let x5 ← ldX i base h k 5
  let x6 ← ldX i base h k 6
  let x7 ← ldX i base h k 7
  let x8 ← ldX i base h k 8
  let x9 ← ldX i base h k 9
  let x10 ← ldX i base h k 10
  let x11 ← ldX i base h k 11
  let x12 ← ldX i base h k 12
  let x13 ← ldX i base h k 13
  let x14 ← ldX i base h k 14
  let x15 ← ldX i base h k 15
  let a : Vec F S16 .f32 ← Prog.lift (.load mAcc (rK k).toLoadRect (View.loadsAt_vmem h_S16))
  let _ : Vec F S16 .f32 ← Prog.lift (.load mAcc (rK k).toLoadRect (View.loadsAt_vmem h_S16))
  Prog.lift (.store mAcc (rK k)
    (shapeCast S16 (maximumf (shapeCast S16 a shapeCasts_S16_S16 : FVec F S16 .f32)
      (tree16 maximumf (sx x0) (sx x1) (sx x2) (sx x3) (sx x4) (sx x5) (sx x6) (sx x7) (sx x8) (sx x9) (sx x10)
        (sx x11) (sx x12) (sx x13) (sx x14) (sx x15))) shapeCasts_S16_S16 : FVec F S16 .f32)
    Finset.univ (View.stores_vmem_bits_univ h_S16 rfl) (.inl rfl))
  let s : Vec F S16 .f32 ← Prog.lift (.load mSum (rK k).toLoadRect (View.loadsAt_vmem h_S16))
  let _ : Vec F S16 .f32 ← Prog.lift (.load mSum (rK k).toLoadRect (View.loadsAt_vmem h_S16))
  Prog.lift (.store mSum (rK k)
    (shapeCast S16 (addf (shapeCast S16 s shapeCasts_S16_S16 : FVec F S16 .f32)
      (tree16 addf (sx x0) (sx x1) (sx x2) (sx x3) (sx x4) (sx x5) (sx x6) (sx x7) (sx x8) (sx x9) (sx x10)
        (sx x11) (sx x12) (sx x13) (sx x14) (sx x15))) shapeCasts_S16_S16 : FVec F S16 .f32)
    Finset.univ (View.stores_vmem_bits_univ h_S16 rfl) (.inl rfl))

/-- Sixteen rows more in the run's count. -/
def fastCntG (i : grid0.Coords) : TP F i PUnit.{1} := do
  let c : Vec F S16 .f32 ← Prog.lift (.load mCnt rC.toLoadRect (View.loadsAt_vmem h_S16))
  let _ : Vec F S16 .f32 ← Prog.lift (.load mCnt rC.toLoadRect (View.loadsAt_vmem h_S16))
  Prog.lift (.store mCnt rC
    (shapeCast S16 (addf (shapeCast S16 c shapeCasts_S16_S16 : FVec F S16 .f32)
      (broadcast S16 (Scalar.ofBits .f32 0x41800000#32 : F .f32))) shapeCasts_S16_S16 : FVec F S16 .f32)
    Finset.univ (View.stores_vmem_bits_univ h_S16 rfl) (.inl rfl))

/-- Sixteen rows that all continue the run. -/
def fastG (i : grid0.Coords) (base : BitVec 32) (h : InX base) : TP F i PUnit.{1} := do
  seqN (fastPieceG i base h) 8 0 rfl
  fastCntG i

/-! ## One group of sixteen rows -/

/-- Where group `t` of the chunk at row `b` of the buffer begins. -/
def baseG (b : BitVec 32) (t : Nat) : BitVec 32 := Scalar.addi b (Scalar.muli (Scf.iv 0#32 1#32 t) 16#32)

/-- The group's segments. -/
def offI (b : BitVec 32) (t : Nat) : Fin 1 → Nat := ![(Scalar.indexCast (baseG b t)).toNat]

/-- One group: its segments are loaded; sixteen rows of the current segment go in at once, any other group row by
    row. -/
def groupG (i : grid0.Coords) (b : BitVec 32) (t : Nat) (h : InX (baseG b t))
    (hi : ∀ a, offI b t a + S16.size a ≤ S800.size a) (ones : FVec F S16 .f32)
    (sA sB : Fin 16 → DmaSems sig S_) : TP F i (BitVec 32) := do
  let v : Vec F S16 .i32 ← Prog.lift (.load mIb
    (Rect.unit (s := S800) (offI b t) S16.size hi).toLoadRect (View.loadsAt_vmem h_S16))
  let c0 : Elt F .i32 ← smemLoad mCur rW numel1_S1 rfl
  if Scalar.cmpi .ne (Scalar.extui (Scalar.andi
      (Scalar.cmpi .eq (segJ (shapeCast S16 v shapeCasts_S16_S16) 0) (segJ (shapeCast S16 v shapeCasts_S16_S16) 15))
      (Scalar.cmpi .eq (segJ (shapeCast S16 v shapeCasts_S16_S16) 0) c0))) 0#32 = 1#1 then
    fastG i (baseG b t) h
  if hslow : k0_cond2 (segJ (shapeCast S16 v shapeCasts_S16_S16) 0)
      (segJ (shapeCast S16 v shapeCasts_S16_S16) 15) c0 = 1#1 then
    seqN (rowG i (baseG b t) h (shapeCast S16 v shapeCasts_S16_S16) ones sA sB c0 hslow) 16 0 rfl
  pure 0#32

/-! ## The chunks -/

/-- Where group `t` of either half begins. -/
theorem baseG_toNat (q : Fin 2) (t : Fin 25) : (baseG (BitVec.ofNat 32 (400 * q.val)) t.val).toNat = 400 * q.val + 16 * t.val := by
  revert q t; decide

theorem offX_zero (q : Fin 2) (t : Fin 25) (j : Fin 16) (k : Fin 8) :
    offX (baseG (BitVec.ofNat 32 (400 * q.val)) t.val) j k 0 = 400 * q.val + 16 * t.val + j.val := by
  show (baseG _ _ + BitVec.ofNat 32 j.val).toNat = _
  rw [BitVec.toNat_add, baseG_toNat, BitVec.toNat_ofNat]
  omega

theorem inX (q : Fin 2) (t : Fin 25) : InX (baseG (BitVec.ofNat 32 (400 * q.val)) t.val) := by
  intro j k a
  have hk := k.2
  have hj := j.2
  have ht := t.2
  have hq := q.2
  have h0 := offX_zero q t j k
  have h1 : offX (baseG (BitVec.ofNat 32 (400 * q.val)) t.val) j k 1 = 16 * k.val := rfl
  fin_cases a
  · show offX _ j k 0 + 1 ≤ 800
    omega
  · show offX _ j k 1 + 16 ≤ 128
    omega

theorem offI_zero (q : Fin 2) (t : Fin 25) : offI (BitVec.ofNat 32 (400 * q.val)) t.val 0 = 400 * q.val + 16 * t.val :=
  baseG_toNat q t

theorem inI (q : Fin 2) (t : Fin 25) : ∀ a, offI (BitVec.ofNat 32 (400 * q.val)) t.val a + S16.size a ≤ S800.size a := by
  intro a
  have ht := t.2
  have hq := q.2
  have h0 := offI_zero q t
  fin_cases a
  show offI _ t.val 0 + 16 ≤ 800
  omega

/-- The scoped semaphore numbered `n` of the body's ninety-nine. -/
abbrev scopedN (n : Nat) (h : 4 + n + S_.numel ≤ 107) : DmaSems sig S_ := SemArray.consecutive (4 + n) S_ h

theorem numel_S_ : S_.numel = 1 := by decide

theorem scoped_le {n : Nat} (h : n < 103) : 4 + n + S_.numel ≤ 107 := by
  have := numel_S_
  omega

/-- The semaphore of row `j`'s maximum, in the group loop whose semaphores begin at `w`. -/
abbrev semA (w : Fin 3) (j : Fin 16) : DmaSems sig S_ :=
  scopedN (32 * w.val + 2 * j.val) (scoped_le (by omega))
/-- The semaphore of row `j`'s sum. -/
abbrev semB (w : Fin 3) (j : Fin 16) : DmaSems sig S_ :=
  scopedN (32 * w.val + (2 * j.val + 1)) (scoped_le (by omega))

/-- The constant one in every lane. -/
abbrev onesG : FVec F S16 .f32 := broadcast S16 (Scalar.ofBits .f32 0x3F800000#32 : F .f32)
/-- The constant zero in every lane. -/
abbrev zerosG : FVec F S16 .f32 := broadcast S16 (Scalar.ofBits .f32 0x00000000#32 : F .f32)

theorem inbXh (q : Fin 2) : ∀ a, (![400 * q.val, 0] : Fin 2 → Nat) a + S400x128.size a ≤ S800x128.size a := by
  revert q; decide
theorem inbIh (q : Fin 2) : ∀ a, (![400 * q.val] : Fin 1 → Nat) a + S400.size a ≤ S800.size a := by
  revert q; decide
theorem inbS (q : Fin 2) : ∀ a, (![q.val] : Fin 1 → Nat) a + S1.size a ≤ S2.size a := by
  revert q; decide

/-- Half `q` of the chunk buffer. -/
abbrev rXh (q : Fin 2) : Rect S800x128 := Rect.unit (s := S800x128) ![400 * q.val, 0] S400x128.size (inbXh q)
/-- Half `q` of the segments' buffer. -/
abbrev rIh (q : Fin 2) : Rect S800 := Rect.unit (s := S800) ![400 * q.val] S400.size (inbIh q)
abbrev mXh (q : Fin 2) : Memref sig .scVector .vmem S400x128 .f32 := mXb.slice (rXh q) (fun _ => rfl)
abbrev mIh (q : Fin 2) : Memref sig .scVector .vmem S400 .i32 := mIb.slice (rIh q) (fun _ => rfl)
/-- The semaphore of half `q`'s rows. -/
abbrev semX (q : Fin 2) : DmaSems sig S_ :=
  (cc0_scratch7.slice (Rect.unit (s := S2) ![q.val] S1.size (inbS q))).squeeze S_ squeezes_S1_S_
/-- The semaphore of half `q`'s segments. -/
abbrev semI (q : Fin 2) : DmaSems sig S_ :=
  (cc0_scratch8.slice (Rect.unit (s := S2) ![q.val] S1.size (inbS q))).squeeze S_ squeezes_S1_S_

/-- Four hundred rows. -/
abbrev mXc (o : Fin 2 → Nat) (ho : ∀ a, o a + S400x128.size a ≤ S320000x128.size a) :
    Memref sig .scVector .hbm S400x128 .f32 := mX.slice (Rect.unit (s := S320000x128) o S400x128.size ho) (fun _ => rfl)
/-- Four hundred segments. -/
abbrev mBc (o : Fin 1 → Nat) (ho : ∀ a, o a + S400.size a ≤ S320000.size a) :
    Memref sig .scVector .hbm S400 .i32 := mB.slice (Rect.unit (s := S320000) o S400.size ho) (fun _ => rfl)

/-- A chunk's rows and segments are asked for. -/
def fetchG (i : grid0.Coords) (q : Fin 2) (o : Fin 2 → Nat) (ho : ∀ a, o a + S400x128.size a ≤ S320000x128.size a)
    (o' : Fin 1 → Nat) (ho' : ∀ a, o' a + S400.size a ≤ S320000.size a) : TP F i PUnit.{1} := do
  Prog.lift (.enqueueDma (mXc o ho) (.here (mXh q)) (.dma (semX q).sem) (View.wordExact_bits rfl)
    (View.wordExact_bits rfl) ⟨Or.inl rfl, trivial⟩)
  Prog.lift (.enqueueDma (mBc o' ho') (.here (mIh q)) (.dma (semI q).sem) (View.wordExact_bits rfl)
    (View.wordExact_bits rfl) ⟨Or.inl rfl, trivial⟩)

/-- A chunk's rows and segments are awaited. -/
def awaitG (i : grid0.Coords) (q : Fin 2) (o : Fin 2 → Nat) (ho : ∀ a, o a + S400x128.size a ≤ S320000x128.size a)
    (o' : Fin 1 → Nat) (ho' : ∀ a, o' a + S400.size a ≤ S320000.size a) : TP F i PUnit.{1} := do
  Prog.lift (.waitDma2 (semX q).sem (mXc o ho) (mXh q) (View.wordExact_bits rfl) (View.wordExact_bits rfl))
  Prog.lift (.waitDma2 (semI q).sem (mBc o' ho') (mIh q) (View.wordExact_bits rfl) (View.wordExact_bits rfl))

/-- The twenty-five groups of a chunk. -/
def chunkG (i : grid0.Coords) (q : Fin 2) (w : Fin 3) : TP F i (BitVec 32) :=
  Scf.Loop.for k0_t3_loop k0_t3_ok 0#32 fun t _ =>
    groupG i (BitVec.ofNat 32 (400 * q.val)) t.val (inX q t) (inI q t) onesG (semA w) (semB w)

/-- Two chunks, each replaced by the next one of its half. -/
def outerG (i : grid0.Coords) (t : Fin k0_t2_loop.trips) : TP F i (BitVec 32) := do
  awaitG i 0 (k0_off4 i t 0#32) (k0_off4_inb i t 0) (k0_off5 i t 0#32) (k0_off5_inb i t 0)
  let _ ← chunkG i 0 0
  if h : k0_cond19 t = 1#1 then
    fetchG i 0 (k0_off175 i t) (k0_off175_inb i t h) (k0_off176 i t) (k0_off176_inb i t h)
  awaitG i 1 (k0_off4 i t 1#32) (k0_off4_inb i t 1) (k0_off5 i t 1#32) (k0_off5_inb i t 1)
  let _ ← chunkG i 1 1
  if h : k0_cond38 t = 1#1 then
    fetchG i 1 (k0_off346 i t) (k0_off346_inb i t h) (k0_off347 i t) (k0_off347_inb i t h)
  pure 0#32

/-- The table cleared. -/
def clearG (i : grid0.Coords) : TP F i (BitVec 32) :=
  Scf.Loop.for k0_t1_loop k0_t1_ok 0#32 fun t _ => do
    let _ : Vec F S16 .f32 ← Prog.lift (.load mTab
      (Rect.unit (s := S8320) (k0_off3 t) S16.size (k0_off3_inb t)).toLoadRect (View.loadsAt_vmem h_S16))
    Prog.lift (.store mTab (Rect.unit (s := S8320) (k0_off3 t) S16.size (k0_off3_inb t))
      (shapeCast S16 zerosG shapeCasts_S16_S16 : FVec F S16 .f32)
      Finset.univ (View.stores_vmem_bits_univ h_S16 rfl) (.inl rfl))
    pure 0#32

/-- The first two chunks are asked for, and no segment is current. -/
def startG (i : grid0.Coords) : TP F i PUnit.{1} := do
  fetchG i 0 (k0_off1 i 0#32) (k0_off1_inb i 0) (k0_off2 i 0#32) (k0_off2_inb i 0)
  fetchG i 1 (k0_off1 i 400#32) (k0_off1_inb i 1) (k0_off2 i 400#32) (k0_off2_inb i 1)
  let _ : Elt F .i32 ← smemLoad mCur rW numel1_S1 rfl
  Prog.lift (.store mCur rW (fun _ => 512#32) Finset.univ (View.stores_smem_one rfl numel1_S1) (.inl rfl))

/-- This worker's 512 counts. -/
abbrev mTabOut : Memref sig .scVector .vmem S8192 .f32 :=
  mTab.slice (Rect.unit (s := S8320) ![0] S8192.size inb_S8320_S8192_0) (fun _ => rfl)
/-- This worker's row of counts. -/
abbrev mRowOut (i : grid0.Coords) : Memref sig .scVector .hbm S8192 .f32 :=
  (mOC.slice (Rect.unit (s := S32x8192) (k0_off519 i) S1x8192.size (k0_off519_inb i)) (fun _ => rfl)).squeeze S8192
    squeezes_S1x8192_S8192

/-- The last run ends. -/
def lastG (i : grid0.Coords) : TP F i PUnit.{1} := do
  let cur : Elt F .i32 ← smemLoad mCur rW numel1_S1 rfl
  have hw : k0_chk49 i cur :=
    (← Prog.lift (TpuEff.assume (k0_chk49 i cur) (k0_chk49.dec i cur))).down
  tabG i (k0_off517 cur) hw.1
  sendG i mAcc (Memref.isWhole_whole _) mOM (Memref.isWhole_whole _) (k0_off518 i cur) hw.2
    (scopedN 96 (scoped_le (by omega)))
  sendG i mSum (Memref.isWhole_whole _) mOS (Memref.isWhole_whole _) (k0_off518 i cur) hw.2
    (scopedN 97 (scoped_le (by omega)))

/-- The counts are sent out. -/
def countsG (i : grid0.Coords) : TP F i PUnit.{1} := do
  Prog.lift (.enqueueDma mTabOut (.here (mRowOut i)) (.dma (scopedN 98 (scoped_le (by omega))).sem)
    (View.wordExact_bits rfl) ((View.wordExact_bits rfl).reshape _ _) ⟨Or.inl rfl, trivial⟩)
  Prog.lift (.waitDma2 (scopedN 98 (scoped_le (by omega))).sem mTabOut (mRowOut i)
    (View.wordExact_bits rfl) ((View.wordExact_bits rfl).reshape _ _))

/-- The whole body. -/
def bodyG (i : grid0.Coords) : TP F i PUnit.{1} := do
  startG i
  let _ ← clearG i
  let _ ← Scf.Loop.for k0_t2_loop k0_t2_ok 0#32 fun t _ => outerG i t
  awaitG i 0 (k0_off1 i 9600#32) (k0_off1_inb i 2) (k0_off2 i 9600#32) (k0_off2_inb i 2)
  let _ ← chunkG i 0 2
  lastG i
  countsG i

end Cert.KernelIdeal.Pool
-- ==== Proof.KernelIdeal.Model.lean ====
/-
  What the pooling kernel's worker computes, as functions on the contents of its buffers.

  A worker walks its rows in order and keeps one run: the current segment, the run's maximum, sum and count. A row of
  another segment puts the run away (`St.flush`) and starts a new one. `St.groups` is that walk in groups of sixteen
  rows, as the kernel takes them.
-/
module

public import proofs.«01_k».proof.Proof.KernelIdeal.Text
public import Idealize.ShloMosaic.Lib.Pointwise.Index

@[expose] public section

noncomputable section

namespace Cert.KernelIdeal.Pool

open Idealize.ShloMosaic Idealize.SL.Sem Cert.KernelIdeal

variable {F : FTy → Type} [FloatOps F]

/-- One row. -/
abbrev Row (F : FTy → Type) : Type := FVec F S128 .f32

/-- What a worker holds: the current segment, its run's maximum, sum and count, the table of counts, and the two
    arrays its runs are sent to. -/
structure St (F : FTy → Type) where
  cur : BitVec 32
  acc : FVec F S128 .f32
  sum : FVec F S128 .f32
  cnt : FVec F S16 .f32
  tab : FVec F S8320 .f32
  om : FVec F S16640x128 .f32
  os : FVec F S16640x128 .f32

/-- The worker's number. -/
def wid (i : grid0.Coords) : Nat := (i 0).val * 16 + (i 1).val

theorem wid_lt (i : grid0.Coords) : wid i < 32 := by
  have h0 : (i 0).val < 2 := (i 0).2
  have h1 : (i 1).val < 16 := (i 1).2
  unfold wid
  omega

/-- Sixteen lanes of a table written at slot `n`. -/
def slot (n : Nat) (c : FVec F S16 .f32) (t : FVec F S8320 .f32) : FVec F S8320 .f32 := fun y =>
  if h : 16 * n ≤ (y 0).val ∧ (y 0).val < 16 * n + 16 then c (ix1 (n0 := 16) ⟨(y 0).val - 16 * n, by omega⟩) else t y

/-- Row `r` of an array replaced. -/
def setRow (r : Nat) (x : Row F) (t : FVec F S16640x128 .f32) : FVec F S16640x128 .f32 := fun y =>
  if (y 0).val = r then x (ix1 (n0 := 128) (y 1)) else t y

/-- The run put away under its segment. -/
def St.flush (w : Nat) (s : St F) : St F :=
  { s with
    tab := slot s.cur.toNat s.cnt s.tab
    om := setRow (520 * w + s.cur.toNat) s.acc s.om
    os := setRow (520 * w + s.cur.toNat) s.sum s.os }

/-- A row taken into the run if it is of the run's segment, and as a new run if not. -/
def St.take (x : Row F) (seg : BitVec 32) (s : St F) : St F :=
  { s with
    cur := seg
    acc := if seg = s.cur then maximumf s.acc x else x
    sum := if seg = s.cur then addf s.sum x else x
    cnt := if seg = s.cur then addf s.cnt onesG else onesG }

/-- One row of the slow path. -/
def St.row (w : Nat) (x : Row F) (seg : BitVec 32) (s : St F) : St F :=
  (if seg = s.cur then s else s.flush w).take x seg

/-- The first `n` rows of a group, one by one. -/
def St.rows (w : Nat) (xs : Nat → Row F) (ids : Nat → BitVec 32) (s : St F) : Nat → St F
  | 0 => s
  | n + 1 => (St.rows w xs ids s n).row w (xs n) (ids n)

/-- Sixteen rows combined two by two. -/
def fold16 (f : Row F → Row F → Row F) (xs : Nat → Row F) : Row F :=
  tree16 f (xs 0) (xs 1) (xs 2) (xs 3) (xs 4) (xs 5) (xs 6) (xs 7) (xs 8) (xs 9) (xs 10) (xs 11) (xs 12) (xs 13) (xs 14)
    (xs 15)

/-- Sixteen rows of the current segment, at once. -/
def St.fast (xs : Nat → Row F) (s : St F) : St F :=
  { s with
    acc := maximumf s.acc (fold16 maximumf xs)
    sum := addf s.sum (fold16 addf xs)
    cnt := addf s.cnt (broadcast S16 (Scalar.ofBits .f32 0x41800000#32 : F .f32)) }

/-- One group. -/
def St.group (w : Nat) (xs : Nat → Row F) (ids : Nat → BitVec 32) (s : St F) : St F :=
  if ids 0 = ids 15 ∧ ids 0 = s.cur then s.fast xs else s.rows w xs ids 16

/-- The first `n` groups. -/
def St.groups (w : Nat) (X : Nat → Row F) (B : Nat → BitVec 32) (s : St F) : Nat → St F
  | 0 => s
  | n + 1 => (St.groups w X B s n).group w (fun j => X (16 * n + j)) (fun j => B (16 * n + j))

/-- The current segment stays in the tables' range. -/
theorem St.rows_cur_le {w : Nat} {xs : Nat → Row F} {ids : Nat → BitVec 32} {s : St F} (hs : s.cur.toNat ≤ 512)
    (h : ∀ n, n < 16 → (ids n).toNat ≤ 512) (n : Nat) (hn : n ≤ 16) : (s.rows w xs ids n).cur.toNat ≤ 512 := by
  cases n with
  | zero => exact hs
  | succ n => exact h n (by omega)

theorem St.group_cur_le {w : Nat} {xs : Nat → Row F} {ids : Nat → BitVec 32} {s : St F} (hs : s.cur.toNat ≤ 512)
    (h : ∀ n, n < 16 → (ids n).toNat ≤ 512) : (s.group w xs ids).cur.toNat ≤ 512 := by
  unfold St.group
  split
  · exact hs
  · exact St.rows_cur_le hs h 16 (by omega)

theorem St.groups_cur_le {w : Nat} {X : Nat → Row F} {B : Nat → BitVec 32} {s : St F} (hs : s.cur.toNat ≤ 512)
    (N : Nat) (h : ∀ n, n < 16 * N → (B n).toNat ≤ 512) : ∀ n, n ≤ N → (s.groups w X B n).cur.toNat ≤ 512
  | 0, _ => hs
  | n + 1, hn => St.group_cur_le (St.groups_cur_le hs N h n (by omega)) fun j hj => h _ (by omega)

/-- Row `r` of the chunk buffer. -/
def rowOf (g : FVec F S800x128 .f32) (r : Nat) : Row F := fun y => g (ix2 (n0 := 800) (n1 := 128) ⟨r % 800, Nat.mod_lt _ (by decide)⟩ (y 0))

/-- Segment `r` of the segments' buffer. -/
def idOf (g : IVec S800 32) (r : Nat) : BitVec 32 := g (ix1 (n0 := 800) ⟨r % 800, Nat.mod_lt _ (by decide)⟩)

/-- The first `k` pieces of a row replaced. -/
def part (k : Nat) (new old : Row F) : Row F := fun y => if (y 0).val < 16 * k then new y else old y

theorem part_zero (new old : Row F) : part 0 new old = old := funext fun y => if_neg (by omega)

theorem part_eight (new old : Row F) : part 8 new old = new :=
  funext fun y => if_pos (by have : (y 0).val < 128 := (y 0).2; omega)

/-! ## Loads and stores of whole buffers -/

/-- Contents that agree with what is stored, and with the old contents elsewhere, are what the store leaves. -/
theorem write_ext {κ : Kind} {Val : EltTy → Type} (b : Ref sig κ) (r : Rect b.ty.shape) (f g : b.ty.Contents Val)
    (w : r.shape.Idx → Val b.ty.elt) (h1 : ∀ x, g (r.emb x) = w x) (h2 : ∀ y, y ∉ r.set → g y = f y) :
    ((Memref.whole b : Memref sig κ _ _ _).access r).write Val f w Finset.univ = g := by
  funext y
  by_cases hy : y ∈ r.set
  · rw [← Rect.map_emb_univ, Finset.mem_map] at hy
    obtain ⟨x, -, rfl⟩ := hy
    rw [h1]
    exact View.write_emb_of_mem (v := (Memref.whole b : Memref sig κ _ _ _).access r) f w (Finset.mem_univ x)
  · rw [h2 y hy]
    refine View.write_of_not_mem (v := (Memref.whole b : Memref sig κ _ _ _).access r) f w _ ?_
    rw [View.setOn_univ]
    show y ∉ ((View.whole b).slice r).set
    rw [View.set_slice_whole]
    exact hy

end Cert.KernelIdeal.Pool
-- ==== Proof.KernelIdeal.Piece.lean ====
/-
  The pooling kernel's smallest steps: what one sixteen-column piece of a row does to the run's row.
-/
module

public import proofs.«01_k».proof.Proof.KernelIdeal.Model
public import Idealize.ShloMosaic.Lib.SparseCore.Quiescent
public import Idealize.ShloMosaic.Lib.Pipeline.Value
public import Idealize.ShloMosaic.Lib.Tactic

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.KernelIdeal

variable {F : FTy → Type} [FloatOps F] [Facts]
variable {U : Type} [URA U] [CountersIn U]
open Facts₀ Facts

local notation "𝕄" => MT nD τ sig (HIx 1) (Elt F) ℕ U ℕ

/-- The worker's thread. -/
abbrev thr (d : Dev nD) (i : grid0.Coords) : Thread nD τ := V d ((i 0).castLE hcore0) ((i 1).castLE hsub0)

/-- The weakest precondition of a worker's program. -/
abbrev wpW (U : Type) [URA U] (d : Dev nD) (i : grid0.Coords) {α : Type} (p : TP F i α) (Q : α → sProp (MT nD τ sig (HIx 1) (Elt F) ℕ U ℕ)) :
    sProp (MT nD τ sig (HIx 1) (Elt F) ℕ U ℕ) :=
  wp frame (wpE (defs₀ (F := F)) Variants.none (thr d i) none) Set.univ p Q

variable (d : Dev nD) (i : grid0.Coords)

/-- A program run before another: what it leaves is what the other starts from. -/
theorem wp_seq {α β : Type} {p : TP F i α} {K : α → TP F i β} {P : sProp 𝕄} {R : α → sProp 𝕄} {Q : β → sProp 𝕄}
    (h : P ⊢ wpW U d i p R) (hK : ∀ a, R a ⊢ wpW U d i (K a) Q) : P ⊢ wpW U d i (p >>= K) Q := by
  unfold wpW
  rw [wp_bind]
  exact h.trans (wp_mono _ _ _ hK)

/-- What a program leaves, weakened. -/
theorem wp_post {α : Type} {p : TP F i α} {P : sProp 𝕄} {R R' : α → sProp 𝕄} (h : P ⊢ wpW U d i p R) (hR : ∀ a, R a ⊢ R' a) :
    P ⊢ wpW U d i p R' :=
  h.trans (wp_mono _ _ _ hR)

/-- What a program does not touch stays. -/
theorem wp_frame_right {α : Type} {p : TP F i α} {P H : sProp 𝕄} {R : α → sProp 𝕄} (h : P ⊢ wpW U d i p R) :
    iprop(P ∗ H) ⊢ wpW U d i p fun a => iprop(R a ∗ H) :=
  (sep_mono h .rfl).trans (wp_frame_r _ _ _)

/-- A program that is over. -/
theorem wpW_ret {α : Type} (a : α) (Q : α → sProp 𝕄) : Q a ⊢ wpW U d i (.ret a : TP F i α) Q := by
  unfold wpW
  rw [wp_ret]
  iintro H
  imodintro
  iexact H

/-- The run's maximum, its sum, its count, the current segment, the table: held whole. -/
abbrev hAcc (f : FVec F S128 .f32) : sProp 𝕄 := mAcc.view.loc (thr d i) ↦{fullShare} f
abbrev hSum (f : FVec F S128 .f32) : sProp 𝕄 := mSum.view.loc (thr d i) ↦{fullShare} f
abbrev hCnt (f : FVec F S16 .f32) : sProp 𝕄 := mCnt.view.loc (thr d i) ↦{fullShare} f
abbrev hTab (f : FVec F S8320 .f32) : sProp 𝕄 := mTab.view.loc (thr d i) ↦{fullShare} f
abbrev hCur (v : BitVec 32) : sProp 𝕄 := mCur.view.loc (thr d i) ↦{fullShare} (fun _ => v)
/-- Part of the chunk buffer. -/
abbrev hXb (S : Finset S800x128.Idx) (g : FVec F S800x128 .f32) : sProp 𝕄 := mXb.view.loc (thr d i) ↦[S]{fullShare} g
/-- Part of the segments' buffer. -/
abbrev hIb (S : Finset S800.Idx) (g : IVec S800 32) : sProp 𝕄 := mIb.view.loc (thr d i) ↦[S]{fullShare} g

theorem sx_apply (x : Vec F S1x16 .f32) (l : S16.Idx) :
    sx x l = x (ix2 (n0 := 1) (n1 := 16) ⟨0, Nat.one_pos⟩ (l 0)) := by
  refine congrArg x (Shape.reshapeEquiv_eq_of_rowMajor _ ?_)
  rw [Shape.rowMajor_val_two, Shape.rowMajor_val_one]
  simp

/-- The sixteen lanes a row's piece loads. -/
theorem load_piece (base : BitVec 32) (h : InX base) (j : Fin 16) (k : Fin 8) (b : Nat) (hb : b + 16 ≤ 800)
    (h0 : ∀ j k, offX base j k 0 = b + j.val) (g : FVec F S800x128 .f32) (l : S16.Idx) :
    sx ((mXb.access (rX base h j k)).read (Elt F) g) l = rowOf g (b + j.val) ((rK k).emb l) := by
  rw [sx_apply]
  show g _ = g _
  congr 1
  funext a
  apply Fin.ext
  have hj := j.2
  match a with
  | ⟨0, _⟩ =>
    show offX base j k 0 + 1 * 0 = (b + j.val) % 800
    rw [h0, Nat.mod_eq_of_lt (by omega), Nat.mul_zero, Nat.add_zero]
  | ⟨1, _⟩ => rfl

/-- A store, its outcome named. -/
theorem wp_store_to {cs : CoreSpace} {s : Shape} {e : EltTy} {m : Memref sig .scVector cs s e} {r : Rect s}
    {w : r.shape.Idx → Elt F e} {hx : (m.access r).Stores Finset.univ}
    {hm : (Finset.univ : Finset r.shape.Idx) = Finset.univ ∨ ∀ a, r.stride a = 1} {α : Type} {k : PUnit → TP F i α}
    {f : Buf (Elt F) ((m.access r).loc (thr d i))} {Q : α → sProp 𝕄} (g : Buf (Elt F) ((m.access r).loc (thr d i)))
    (hg : (m.access r).write (Elt F) f w Finset.univ = g) :
    ((m.access r).loc (thr d i) ↦{fullShare} f)
      ⊢ iprop((((m.access r).loc (thr d i) ↦{fullShare} g) -∗ wpW U d i (k ⟨⟩) Q)
        -∗ wpW U d i (.op (.store m r w Finset.univ hx hm) k) Q) := by
  subst hg
  exact wp_store (c := thr d i) (m := m) (r := r) (hm := hm) (k := k) Variants.none none Set.univ (Finset.subset_univ _)

/-- A piece stored is one piece more of the new row. -/
theorem part_ext (k : Fin 8) (new old : Row F) (w : FVec F S16 .f32) (hw : ∀ l, w l = new ((rK k).emb l)) :
    (∀ x, part (k.val + 1) new old ((rK k).emb x) = w x)
      ∧ ∀ y, y ∉ (rK k).set → part (k.val + 1) new old y = part k.val new old y := by
  constructor
  · intro x
    rw [hw x]
    refine if_pos ?_
    show 16 * k.val + 1 * (x 0).val < _
    have : (x 0).val < 16 := (x 0).2
    omega
  · intro y hy
    rw [Rect.mem_set_unit] at hy
    have h0 : ¬ (16 * k.val ≤ (y 0).val ∧ (y 0).val < 16 * k.val + 16) := fun h => hy fun a => match a with | 0 => h
    unfold part
    by_cases h1 : (y 0).val < 16 * k.val
    · rw [if_pos h1, if_pos (by omega)]
    · rw [if_neg h1, if_neg (by omega)]

/-- What a piece not yet replaced still holds. -/
theorem part_old (k : Fin 8) (new old : Row F) (l : S16.Idx) : part k.val new old ((rK k).emb l) = old ((rK k).emb l) := by
  refine if_neg ?_
  show ¬ (16 * k.val + 1 * (l 0).val < _)
  omega

theorem piece_wp (base : BitVec 32) (h : InX base) (j : Fin 16) (k : Fin 8) (b : Nat) (hb : b + 16 ≤ 800)
    (h0 : ∀ j k, offX base j k 0 = b + j.val) (same : BitVec 1)
    (S : Finset S800x128.Idx) (hS : ∀ y : S800x128.Idx, b ≤ (y 0).val → (y 0).val < b + 16 → y ∈ S)
    (g : FVec F S800x128 .f32) (A A' B B' : Row F)
    (hA : A' = Scalar.select same (maximumf A (rowOf g (b + j.val))) (rowOf g (b + j.val)))
    (hB : B' = Scalar.select same (addf B (rowOf g (b + j.val))) (rowOf g (b + j.val))) :
    iprop(hXb d i S g ∗ hAcc d i (part k.val A' A) ∗ hSum d i (part k.val B' B))
      ⊢ wpW U d i (pieceG i base h j same k) fun _ =>
        iprop(hXb d i S g ∗ hAcc d i (part (k.val + 1) A' A) ∗ hSum d i (part (k.val + 1) B' B)) := by
  unfold pieceG wpW
  simp only [Prog.lift, Prog.bind_op, Prog.bind_ret, Prog.pure_eq_ret]
  iintro ⟨HX, HA, HB⟩
  have hSX : (mXb.access (rX base h j k)).set ⊆ S := by
    intro y hy
    rw [show (mXb.access (rX base h j k)).set = (rX base h j k).set from View.set_slice_whole _ _, Rect.mem_set_unit] at hy
    have h1 := (hy 0).1
    have h2 := (hy 0).2
    rw [h0] at h1 h2
    have hj := j.2
    have h3 : (y 0).val < b + j.val + 1 := h2
    exact hS y (by omega) (by omega)
  iapply (wp_load_rect (m := mXb) (r := rX base h j k) Variants.none (thr d i) none Set.univ hSX) $$ HX
  iintro HX
  iapply (wp_load_rect (m := mAcc) (r := rK k) Variants.none (thr d i) none Set.univ (Finset.subset_univ _)) $$ HA
  iintro HA
  iapply (wp_load_rect (m := mSum) (r := rK k) Variants.none (thr d i) none Set.univ (Finset.subset_univ _)) $$ HB
  iintro HB
  iapply (wp_load_rect (m := mAcc) (r := rK k) Variants.none (thr d i) none Set.univ (Finset.subset_univ _)) $$ HA
  iintro HA
  have hx := fun l => load_piece base h j k b hb h0 g l
  iapply (wp_store_to d i (m := mAcc) (r := rK k) (part (k.val + 1) A' A) ?ha) $$ HA
  case ha =>
    refine write_ext cc0_scratch3 (rK k) _ _ _ (part_ext k A' A _ fun l => ?_).1 (part_ext k A' A (fun l => A' ((rK k).emb l)) fun l => rfl).2
    rw [shapeCast_self, shapeCast_self, hA]
    simp only [Scalar.select]
    split
    · show FloatOps.maximumf _ (sx _ l) = FloatOps.maximumf _ _
      rw [hx l]
      exact congrArg (fun z => FloatOps.maximumf z _) (part_old k _ A l)
    · exact hx l
  iintro HA
  iapply (wp_load_rect (m := mSum) (r := rK k) Variants.none (thr d i) none Set.univ (Finset.subset_univ _)) $$ HB
  iintro HB
  iapply (wp_store_to d i (m := mSum) (r := rK k) (part (k.val + 1) B' B) ?hb) $$ HB
  case hb =>
    refine write_ext cc0_scratch4 (rK k) _ _ _ (part_ext k B' B _ fun l => ?_).1 (part_ext k B' B (fun l => B' ((rK k).emb l)) fun l => rfl).2
    rw [shapeCast_self, shapeCast_self, hB]
    simp only [Scalar.select]
    split
    · show FloatOps.addf _ (sx _ l) = FloatOps.addf _ _
      rw [hx l]
      exact congrArg (fun z => FloatOps.addf z _) (part_old k _ B l)
    · exact hx l
  iintro HB
  iapply (wpW_ret d i)
  isplitl [HX]; · iexact HX
  isplitl [HA]; · iexact HA
  iexact HB

end Cert.KernelIdeal.Pool
-- ==== Proof.KernelIdeal.Row.lean ====
/-
  One row of the slow path: the run put away when the row is of another segment, the row's eight pieces taken in, the
  count and the current segment updated.
-/
module

public import proofs.«01_k».proof.Proof.KernelIdeal.Piece
public import Idealize.ShloMosaic.Lib.Transfers

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Cert.KernelIdeal

variable {F : FTy → Type} [FloatOps F] [Facts]
variable {U : Type} [URA U] [CountersIn U]
open Facts₀ Facts

local notation "𝕄" => MT nD τ sig (HIx 1) (Elt F) ℕ U ℕ

variable (d : Dev nD) (i : grid0.Coords)

/-! ## The count and the current segment -/

theorem emb_rC (l : S16.Idx) : rC.emb l = l := by
  funext a
  apply Fin.ext
  match a with
  | ⟨0, _⟩ =>
    show 0 + 1 * (l 0).val = (l 0).val
    omega

/-- The count read. -/
theorem wp_getCnt {c : FVec F S16 .f32} {hl : mCnt.view.LoadsAt rC.toLoadRect} {α : Type}
    {k : (rC.toLoadRect.shape.Idx → Elt F .f32) → TP F i α} {Q : α → sProp 𝕄} :
    hCnt (U := U) d i c ⊢ iprop((hCnt d i c -∗ wpW U d i (k c) Q) -∗ wpW U d i (.op (.load mCnt rC.toLoadRect hl) k) Q) := by
  have h : hCnt (U := U) d i c ⊢ iprop((hCnt d i c -∗ wpW U d i (k ((mCnt.access rC).read (Elt F) c)) Q)
      -∗ wpW U d i (.op (.load mCnt rC.toLoadRect hl) k) Q) :=
    wp_load_rect (c := thr d i) (m := mCnt) (r := rC) (hl := hl) (k := k) (Q := Q) (f := c) (q := fullShare)
      (defs := defs₀ (F := F)) Variants.none none Set.univ (Finset.subset_univ _)
  rwa [show (mCnt.access rC).read (Elt F) c = c from funext fun l => congrArg c (emb_rC l)] at h

/-- The count written. -/
theorem wp_setCnt {c : FVec F S16 .f32} {w : rC.shape.Idx → Elt F .f32} {hx : (mCnt.access rC).Stores Finset.univ}
    {hm : (Finset.univ : Finset rC.shape.Idx) = Finset.univ ∨ ∀ a, rC.stride a = 1} {α : Type} {k : PUnit → TP F i α}
    {Q : α → sProp 𝕄} (c' : FVec F S16 .f32) (hc : w = c') :
    hCnt (U := U) d i c ⊢ iprop((hCnt d i c' -∗ wpW U d i (k ⟨⟩) Q)
      -∗ wpW U d i (.op (.store mCnt rC w Finset.univ hx hm) k) Q) := by
  subst hc
  exact wp_store_to d i (m := mCnt) (r := rC) _ (write_ext cc0_scratch5 rC _ _ _ (fun x => congrArg w (emb_rC x)) fun y hy => absurd (by
    rw [← emb_rC y, ← Rect.map_emb_univ]
    exact Finset.mem_map_of_mem _ (Finset.mem_univ _)) hy)

theorem emb_rW (l : S1.Idx) : rW.emb l = l := by
  funext a
  apply Fin.ext
  match a with
  | ⟨0, _⟩ =>
    show 0 + 1 * (l 0).val = (l 0).val
    omega

/-- The current segment read. -/
theorem wp_getCur {v : BitVec 32} {hl : mCur.view.LoadsAt rW.toLoadRect} {α : Type}
    {k : (rW.toLoadRect.shape.Idx → Elt F .i32) → TP F i α} {Q : α → sProp 𝕄} :
    hCur (U := U) (F := F) d i v
      ⊢ iprop((hCur d i v -∗ wpW U d i (k fun _ => v) Q) -∗ wpW U d i (.op (.load mCur rW.toLoadRect hl) k) Q) :=
  wp_load_rect (c := thr d i) (m := mCur) (r := rW) (hl := hl) (k := k) (Q := Q) (f := fun _ => v) (q := fullShare)
    (defs := defs₀ (F := F)) Variants.none none Set.univ (Finset.subset_univ _)

/-- The current segment written. -/
theorem wp_setCur {f : Buf (Elt F) (mCur.view.loc (thr d i))} {seg : BitVec 32} {hx : (mCur.access rW).Stores Finset.univ}
    {hm : (Finset.univ : Finset rW.shape.Idx) = Finset.univ ∨ ∀ a, rW.stride a = 1} {α : Type} {k : PUnit → TP F i α}
    {Q : α → sProp 𝕄} :
    (mCur.view.loc (thr d i) ↦{fullShare} f : sProp 𝕄) ⊢ iprop((hCur d i seg -∗ wpW U d i (k ⟨⟩) Q)
      -∗ wpW U d i (.op (.store mCur rW (fun _ => seg) Finset.univ hx hm) k) Q) := by
  exact wp_store_to d i (m := mCur) (r := rW) _ (write_ext cc0_scratch6 rW _ _ _ (fun x => rfl) fun y hy => absurd (by
    rw [← emb_rW y, ← Rect.map_emb_univ]
    exact Finset.mem_map_of_mem _ (Finset.mem_univ _)) hy)

theorem mark_wp (ones c : FVec F S16 .f32) (same : BitVec 1) (v seg : BitVec 32) :
    iprop(hCnt d i c ∗ hCur d i v)
      ⊢ wpW U d i (markG i ones same seg) fun _ =>
        iprop(hCnt d i (Scalar.select same (addf c ones) ones) ∗ hCur d i seg) := by
  unfold markG
  simp only [Prog.lift, Prog.bind_op, Prog.bind_ret, Prog.pure_eq_ret, smemLoad, smemLoadElt]
  iintro ⟨HC, HV⟩
  iapply (wp_getCnt d i) $$ HC
  iintro HC
  iapply (wp_getCnt d i) $$ HC
  iintro HC
  iapply (wp_setCnt d i (Scalar.select same (addf c ones) ones) (by rw [shapeCast_self, shapeCast_self])) $$ HC
  iintro HC
  iapply (wp_getCur d i) $$ HV
  iintro HV
  iapply (wp_setCur d i) $$ HV
  iintro HV
  iapply (wpW_ret d i)
  isplitl [HC]; · iexact HC
  iexact HV

/-! ## The run put away -/

theorem tab_wp (n : Nat) (o : Fin 1 → Nat) (ho : ∀ a, o a + S16.size a ≤ S8320.size a) (h0 : o 0 = 16 * n)
    (c : FVec F S16 .f32) (t : FVec F S8320 .f32) :
    iprop(hCnt d i c ∗ hTab d i t)
      ⊢ wpW U d i (tabG i o ho) fun _ => iprop(hCnt d i c ∗ hTab d i (slot n c t)) := by
  unfold tabG
  simp only [Prog.lift, Prog.bind_op, Prog.bind_ret, Prog.pure_eq_ret]
  iintro ⟨HC, HT⟩
  iapply (wp_getCnt d i) $$ HC
  iintro HC
  iapply (wp_load_rect (m := mTab) (r := Rect.unit (s := S8320) o S16.size ho) Variants.none (thr d i) none Set.univ (Finset.subset_univ _)) $$ HT
  iintro HT
  iapply (wp_store_to d i (m := mTab) (r := Rect.unit (s := S8320) o S16.size ho) (slot n c t) ?h) $$ HT
  case h =>
    refine write_ext cc0_scratch2 _ _ _ _ (fun x => ?_) fun y hy => ?_
    · rw [shapeCast_self, shapeCast_self]
      have hx : (x 0).val < 16 := (x 0).2
      have hv : (((Rect.unit (s := S8320) o S16.size ho).emb x) 0).val = 16 * n + (x 0).val := by
        show o 0 + 1 * (x 0).val = _
        omega
      unfold slot
      rw [dif_pos (by omega)]
      congr 1
      funext a
      apply Fin.ext
      match a with
      | ⟨0, _⟩ =>
        show (((Rect.unit (s := S8320) o S16.size ho).emb x) 0).val - 16 * n = (x 0).val
        omega
    · refine dif_neg fun h => hy ?_
      rw [Rect.mem_set_unit]
      intro a
      match a with
      | ⟨0, _⟩ =>
        show o 0 ≤ (y 0).val ∧ (y 0).val < o 0 + 16
        omega
  iintro HT
  iapply (wpW_ret d i)
  isplitl [HC]; · iexact HC
  iexact HT

/-- The rows of the worker's part of the sent arrays. -/
def slab (w : Nat) : Finset S16640x128.Idx := Finset.univ.filter fun y => 520 * w ≤ (y 0).val ∧ (y 0).val < 520 * w + 520

abbrev hOM (f : FVec F S16640x128 .f32) : sProp 𝕄 := mOM.view.loc (thr d i) ↦[slab (wid i)]{fullShare} f
abbrev hOS (f : FVec F S16640x128 .f32) : sProp 𝕄 := mOS.view.loc (thr d i) ↦[slab (wid i)]{fullShare} f

/-- What the worker owes, and that it may wait on its own semaphores meanwhile. -/
def Ow (O : CellTallies nD τ sig (HIx 1)) (W : Waits sig (HIx 1)) : sProp 𝕄 :=
  iprop(MayWaits (thr d i) none O ∗ ∃ W', ⌜∀ p ∈ W', p ∈ W ∨ p.2 = none⌝ ∗ owes (thr d i) O W')

variable (O : CellTallies nD τ sig (HIx 1)) (W : Waits sig (HIx 1))

/-- A local transfer awaited. -/
theorem wp_await {s' s : Shape} {e' e : EltTy} {sp' sp : Space} {κ' : Kind} {sem : DmaSem sig}
    {srcw : Memref sig .scVector sp' s' e'} {dstw : Memref sig κ' sp s e} {hsrc : srcw.view.WordExact}
    {hdst : dstw.view.WordExact} {α : Type} {k : PUnit → TP F i α} {Q : α → sProp 𝕄} {N : ℕ} (hN : dstw.view.dmaCredit = N) {D : sProp 𝕄} :
    iprop(Flight countersEmb (thr d i) (.dma sem) none N D ∗ Ow d i O W)
      ⊢ iprop((iprop(D ∗ semVal (thr d i, .dma sem) 0 ∗ Ow d i O W) -∗ wpW U d i (k ⟨⟩) Q)
        -∗ wpW U d i (.op (.waitDma2 sem srcw dstw hsrc hdst) k) Q) := by
  unfold Ow
  iintro ⟨HF, #HM, %W', %hW, HO⟩ Hk
  iapply (wp_waitLocalO countersEmb Variants.none (thr d i) none none hN (W := W') (O := O) (D := D)) $$ [HF HO]
  · isplitl [HF]; · iexact HF
    isplitl [HO]; · iexact HO
    iapply (MayWaits.elim (.dma sem)) $$ HM
  iintro ⟨HD, HS, HO⟩
  iapply Hk
  isplitl [HD]; · iexact HD
  isplitl [HS]; · iexact HS
  isplitr; · iexact HM
  iexists (insert (SemLoc.dma sem, none) W')
  isplitr
  · ipureintro
    intro p hp
    rcases Finset.mem_insert.mp hp with rfl | hp
    · exact Or.inr rfl
    · exact hW p hp
  · iexact HO

/-- A local copy made and awaited. -/
theorem copy_wp {s : Shape} {e : EltTy} {sp sp' : Space} (src : Memref sig .scVector sp s e) (dst : Memref sig .scVector sp' s e)
    (sem : DmaSem sig) (hsrc : src.view.WordExact) (hdst : dst.view.WordExact)
    (hsem : DmaTarget.Typed (nD := nD) sp (.dma sem) (.here dst : DmaTarget nD τ sig (thr d i).2 sp' s e)) (hpos : 0 < s.numel)
    (Sd : Finset (Idx (dst.view.loc (thr d i)))) (hSd : dst.view.set ⊆ Sd) (fs : Buf (Elt F) (src.view.loc (thr d i)))
    (fd : Buf (Elt F) (dst.view.loc (thr d i))) (q : PosShare TreeShare) {hsrc' : src.view.WordExact} {hdst' : dst.view.WordExact} :
    iprop((src.view.loc (thr d i) ↦[src.view.set]{q} fs) ∗ (dst.view.loc (thr d i) ↦[Sd]{fullShare} fd)
        ∗ semVal (thr d i, .dma sem) 0 ∗ Ow d i O W)
      ⊢ wpW U d i (do
          Prog.lift (.enqueueDma src (.here dst) (.dma sem) hsrc hdst hsem)
          Prog.lift (.waitDma2 sem src dst hsrc' hdst') : TP F i PUnit.{1}) fun _ =>
        iprop((src.view.loc (thr d i) ↦[src.view.set]{q} fs)
          ∗ (dst.view.loc (thr d i) ↦[Sd]{fullShare} (dst.view.write (Elt F) fd (src.view.read (Elt F) fs) Finset.univ))
          ∗ semVal (thr d i, .dma sem) 0 ∗ Ow d i O W) := by
  simp only [Prog.lift, Prog.bind_op, Prog.bind_ret, Prog.pure_eq_ret]
  iintro ⟨Hs, Hd, HV, HO⟩
  iapply (wp_dmaLocal countersEmb Variants.none (thr d i) none (src := src) (dst := dst) none _ rfl (View.amount_pos _ _ hpos) hSd) $$ [Hs Hd HV]
  · isplitl [Hs]; · iexact Hs
    isplitl [Hd]; · iexact Hd
    iexact HV
  iintro HF
  iapply (wp_await d i O W rfl) $$ [HF HO]
  · isplitl [HF]; · iexact HF
    iexact HO
  iintro ⟨⟨Hd, Hs⟩, HV, HO⟩
  iapply (wpW_ret d i)
  isplitl [Hs]; · iexact Hs
  isplitl [Hd]; · iexact Hd
  isplitl [HV]; · iexact HV
  iexact HO

/-- The cells of the worker's copies, each at rest. -/
abbrev Sems (C : Finset (GSem nD τ sig)) : sProp 𝕄 := bigSep C fun g => semVal g 0

theorem sems_split {C : Finset (GSem nD τ sig)} {g : GSem nD τ sig} (h : g ∈ C) :
    (Sems C : sProp 𝕄) = iprop(semVal g 0 ∗ Sems (C.erase g)) := BI.bigSep_erase h

/-- A local copy made and awaited on one of the cells at rest, what it leaves named. -/
theorem copyC_wp {s : Shape} {e : EltTy} {sp sp' : Space} (src : Memref sig .scVector sp s e) (dst : Memref sig .scVector sp' s e)
    (sem : DmaSem sig) (hsrc : src.view.WordExact) (hdst : dst.view.WordExact)
    (hsem : DmaTarget.Typed (nD := nD) sp (.dma sem) (.here dst : DmaTarget nD τ sig (thr d i).2 sp' s e)) (hpos : 0 < s.numel)
    (Sd : Finset (Idx (dst.view.loc (thr d i)))) (hSd : dst.view.set ⊆ Sd) (fs : Buf (Elt F) (src.view.loc (thr d i)))
    (Ss : Finset (Idx (src.view.loc (thr d i)))) (hSs : src.view.set = Ss)
    (fd fd' : Buf (Elt F) (dst.view.loc (thr d i))) (q : PosShare TreeShare) {hsrc' : src.view.WordExact} {hdst' : dst.view.WordExact}
    (C : Finset (GSem nD τ sig)) (hC : (thr d i, SemLoc.dma sem) ∈ C)
    (hfd : dst.view.write (Elt F) fd (src.view.read (Elt F) fs) Finset.univ = fd') :
    iprop((src.view.loc (thr d i) ↦[Ss]{q} fs) ∗ (dst.view.loc (thr d i) ↦[Sd]{fullShare} fd) ∗ Sems C ∗ Ow d i O W)
      ⊢ wpW U d i (do
          Prog.lift (.enqueueDma src (.here dst) (.dma sem) hsrc hdst hsem)
          Prog.lift (.waitDma2 sem src dst hsrc' hdst') : TP F i PUnit.{1}) fun _ =>
        iprop((src.view.loc (thr d i) ↦[Ss]{q} fs) ∗ (dst.view.loc (thr d i) ↦[Sd]{fullShare} fd') ∗ Sems C ∗ Ow d i O W) := by
  subst hSs hfd
  rw [sems_split hC]
  refine (?e : _ ⊢ iprop(((src.view.loc (thr d i) ↦[src.view.set]{q} fs)
        ∗ (dst.view.loc (thr d i) ↦[Sd]{fullShare} fd) ∗ semVal (thr d i, .dma sem) 0 ∗ Ow d i O W)
        ∗ Sems (C.erase (thr d i, SemLoc.dma sem)))).trans
    (wp_post d i (wp_frame_right d i (copy_wp d i O W src dst sem hsrc hdst hsem hpos Sd hSd fs fd q)) fun a => ?_)
  · iintro ⟨Hs, Hd, ⟨HV, HC⟩, HO⟩
    isplitr [HC]
    · isplitl [Hs]; · iexact Hs
      isplitl [Hd]; · iexact Hd
      isplitl [HV]; · iexact HV
      iexact HO
    iexact HC
  · iintro ⟨⟨Hs, Hd, HV, HO⟩, HC⟩
    isplitl [Hs]; · iexact Hs
    isplitl [Hd]; · iexact Hd
    isplitr [HO]
    · isplitl [HV]; · iexact HV
      iexact HC
    iexact HO

/-- A row written through a slice of a whole buffer. -/
theorem write_slice_ext {κ : Kind} {Val : EltTy → Type} (b : Ref sig κ) (r : Rect b.ty.shape) {s' : Shape}
    (h : s'.numel = r.shape.numel) (f g : b.ty.Contents Val) (w : s'.Idx → Val b.ty.elt)
    (h1 : ∀ x, g (r.emb (Shape.reshapeEquiv h x)) = w x) (h2 : ∀ y, y ∉ r.set → g y = f y) :
    (((View.whole b).slice r).reshape s' h).write Val f w Finset.univ = g := by
  rw [View.write_reshape_univ]
  refine write_ext b r f g _ (fun x => ?_) h2
  rw [← h1, Equiv.apply_symm_apply]

theorem setRow_ext (n : Nat) (o : Fin 2 → Nat) (ho : ∀ a, o a + S1x128.size a ≤ S16640x128.size a) (h0 : o 0 = n)
    (h1 : o 1 = 0) (x : Row F) (f : FVec F S16640x128 .f32) (h : S128.numel = S1x128.numel) :
    (∀ y, setRow n x f ((Rect.unit (s := S16640x128) o S1x128.size ho).emb (Shape.reshapeEquiv h y)) = x y)
      ∧ ∀ y, y ∉ (Rect.unit (s := S16640x128) o S1x128.size ho).set → setRow n x f y = f y := by
  constructor
  · intro y
    rw [show Shape.reshapeEquiv h y = ix2 (n0 := 1) (n1 := 128) ⟨0, Nat.one_pos⟩ (y 0) from
      Shape.reshapeEquiv_eq_of_rowMajor _ (by
        rw [Shape.rowMajor_val_two, Shape.rowMajor_val_one]
        simp)]
    refine (if_pos (show o 0 + 1 * 0 = n by omega)).trans ?_
    congr 1
    funext a
    apply Fin.ext
    match a with
    | ⟨0, _⟩ =>
      show o 1 + 1 * (y 0).val = (y 0).val
      omega
  · intro y hy
    refine if_neg fun hn => hy ?_
    rw [Rect.mem_set_unit]
    intro a
    match a with
    | ⟨0, _⟩ =>
      show o 0 ≤ (y 0).val ∧ (y 0).val < o 0 + 1
      omega
    | ⟨1, _⟩ =>
      have : (y 1).val < 128 := (y 1).2
      show o 1 ≤ (y 1).val ∧ (y 1).val < o 1 + 128
      omega

theorem row_slab (n : Nat) (w : Nat) (hn : 520 * w ≤ n ∧ n < 520 * w + 520) (o : Fin 2 → Nat)
    (ho : ∀ a, o a + S1x128.size a ≤ S16640x128.size a) (h0 : o 0 = n) :
    (Rect.unit (s := S16640x128) o S1x128.size ho).set ⊆ slab w := by
  intro y hy
  rw [Rect.mem_set_unit] at hy
  have h := hy 0
  have h' : o 0 ≤ (y 0).val ∧ (y 0).val < o 0 + 1 := h
  unfold slab
  rw [Finset.mem_filter]
  exact ⟨Finset.mem_univ _, by omega, by omega⟩

variable (C : Finset (GSem nD τ sig))

theorem numel_S128_pos : 0 < S128.numel := by decide

/-- The run's maximum sent to row `n`. -/
theorem sendA_wp (n : Nat) (hn : 520 * wid i ≤ n ∧ n < 520 * wid i + 520) (o : Fin 2 → Nat)
    (ho : ∀ a, o a + S1x128.size a ≤ S16640x128.size a) (h0 : o 0 = n) (h1 : o 1 = 0) (sem : DmaSems sig S_)
    (hC : (thr d i, SemLoc.dma sem.sem) ∈ C) (A : Row F) (f : FVec F S16640x128 .f32) :
    iprop(hAcc d i A ∗ hOM d i f ∗ Sems C ∗ Ow d i O W)
      ⊢ wpW U d i (sendG i mAcc (Memref.isWhole_whole _) mOM (Memref.isWhole_whole _) o ho sem) fun _ =>
        iprop(hAcc d i A ∗ hOM d i (setRow n A f) ∗ Sems C ∗ Ow d i O W) := by
  have hext := setRow_ext n o ho h0 h1 A f squeezes_S1x128_S128.numel_eq
  exact copyC_wp d i O W mAcc
    ((mOM.slice (Rect.unit (s := S16640x128) o S1x128.size ho) (fun _ => rfl)).squeeze S128 squeezes_S1x128_S128) sem.sem
    _ _ _ numel_S128_pos (slab (wid i)) (by
      show (((View.whole main_v0_2_scv).slice (Rect.unit (s := S16640x128) o S1x128.size ho)).reshape S128 _).set ⊆ _
      rw [View.set_reshape, View.set_slice_whole]
      exact row_slab n _ hn o ho h0) A Finset.univ (View.set_whole _) f (setRow n A f) fullShare C hC
    (write_slice_ext (Val := Elt F) main_v0_2_scv (Rect.unit (s := S16640x128) o S1x128.size ho) squeezes_S1x128_S128.numel_eq f (setRow n A f) A hext.1 hext.2)

/-- The run's sum sent to row `n`. -/
theorem sendB_wp (n : Nat) (hn : 520 * wid i ≤ n ∧ n < 520 * wid i + 520) (o : Fin 2 → Nat)
    (ho : ∀ a, o a + S1x128.size a ≤ S16640x128.size a) (h0 : o 0 = n) (h1 : o 1 = 0) (sem : DmaSems sig S_)
    (hC : (thr d i, SemLoc.dma sem.sem) ∈ C) (A : Row F) (f : FVec F S16640x128 .f32) :
    iprop(hSum d i A ∗ hOS d i f ∗ Sems C ∗ Ow d i O W)
      ⊢ wpW U d i (sendG i mSum (Memref.isWhole_whole _) mOS (Memref.isWhole_whole _) o ho sem) fun _ =>
        iprop(hSum d i A ∗ hOS d i (setRow n A f) ∗ Sems C ∗ Ow d i O W) := by
  have hext := setRow_ext n o ho h0 h1 A f squeezes_S1x128_S128.numel_eq
  exact copyC_wp d i O W mSum
    ((mOS.slice (Rect.unit (s := S16640x128) o S1x128.size ho) (fun _ => rfl)).squeeze S128 squeezes_S1x128_S128) sem.sem
    _ _ _ numel_S128_pos (slab (wid i)) (by
      show (((View.whole main_v0_0_scv).slice (Rect.unit (s := S16640x128) o S1x128.size ho)).reshape S128 _).set ⊆ _
      rw [View.set_reshape, View.set_slice_whole]
      exact row_slab n _ hn o ho h0) A Finset.univ (View.set_whole _) f (setRow n A f) fullShare C hC
    (write_slice_ext (Val := Elt F) main_v0_0_scv (Rect.unit (s := S16640x128) o S1x128.size ho) squeezes_S1x128_S128.numel_eq f (setRow n A f) A hext.1 hext.2)

end Cert.KernelIdeal.Pool
-- ==== Proof.KernelIdeal.Group.lean ====
/-
  One group of sixteen rows: what the worker holds before it and after it.
-/
module

public import proofs.«01_k».proof.Proof.KernelIdeal.Row

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Cert.KernelIdeal

variable {F : FTy → Type} [FloatOps F] [Facts]
variable {U : Type} [URA U] [CountersIn U]
open Facts₀ Facts

local notation "𝕄" => MT nD τ sig (HIx 1) (Elt F) ℕ U ℕ

variable (d : Dev nD) (i : grid0.Coords)
variable (O : CellTallies nD τ sig (HIx 1)) (W : Waits sig (HIx 1)) (C : Finset (GSem nD τ sig))

/-! ## Steps in a row -/

/-- A program whose run is known, at the head of another. -/
theorem wp_call {α β : Type} {p : TP F i α} {K : α → TP F i β} {P : sProp 𝕄} {R : α → sProp 𝕄} {Q : β → sProp 𝕄}
    (h : P ⊢ wpW U d i p R) : P ⊢ iprop((∀ a, R a -∗ wpW U d i (K a) Q) -∗ wpW U d i (p >>= K) Q) := by
  unfold wpW at h ⊢
  rw [wp_bind]
  iintro HP HK
  iapply (wp_wand_r frame (wpE (defs₀ (F := F)) Variants.none (thr d i) none) Set.univ)
  isplitl [HP]
  · iapply h $$ HP
  · iexact HK

/-- The same, at the end. -/
theorem wp_last {α : Type} {p : TP F i α} {P : sProp 𝕄} {R Q : α → sProp 𝕄}
    (h : P ⊢ wpW U d i p R) : P ⊢ iprop((∀ a, R a -∗ Q a) -∗ wpW U d i p Q) := by
  unfold wpW at h ⊢
  iintro HP HK
  iapply (wp_wand_r frame (wpE (defs₀ (F := F)) Variants.none (thr d i) none) Set.univ)
  isplitl [HP]
  · iapply h $$ HP
  · iexact HK

/-- Steps run in turn, each taking what holds before it to what holds after. -/
theorem seqN_wp {N : Nat} (f : Fin N → TP F i PUnit.{1}) (I : Nat → sProp 𝕄)
    (h : ∀ k : Fin N, I k.val ⊢ wpW U d i (f k) fun _ => I (k.val + 1)) :
    ∀ (n k : Nat) (hk : k + n = N), I k ⊢ wpW U d i (seqN f n k hk) fun _ => I N
  | 0, k, hk => by
    obtain rfl : k = N := by omega
    exact wpW_ret d i _ _
  | n + 1, k, hk => wp_seq d i (h ⟨k, by omega⟩) fun _ => seqN_wp f I h n (k + 1) (by omega)

/-! ## What the worker holds -/

/-- The run and the tables. -/
def Own (s : St F) : sProp 𝕄 :=
  iprop(hCur (F := F) d i s.cur ∗ hAcc d i s.acc ∗ hSum d i s.sum ∗ hCnt d i s.cnt ∗ hTab d i s.tab ∗ hOM d i s.om ∗ hOS d i s.os)

/-- With the cells its sends use, and what it owes. -/
def Core (s : St F) : sProp 𝕄 := iprop(Own d i s ∗ Sems C ∗ Ow d i O W)

/-- The cells of the sends are among those at rest. -/
def HasScoped : Prop := ∀ (n : Nat) (h : 4 + n + S_.numel ≤ 107), (thr d i, SemLoc.dma (scopedN n h).sem) ∈ C

theorem off15_val {v : BitVec 32} (hv : v.toNat ≤ 512) : k0_off15 v 0 = 16 * v.toNat := by
  show (v * 16#32).toNat = _
  rw [BitVec.toNat_mul]
  show v.toNat * 16 % 4294967296 = _
  omega

theorem wid_toNat : (BitVec.ofNat 32 (i 0).val * 16#32 + BitVec.ofNat 32 (i 1).val : BitVec 32).toNat = wid i := by
  have h0 : (i 0).val < 2 := (i 0).2
  have h1 : (i 1).val < 16 := (i 1).2
  rw [BitVec.toNat_add, BitVec.toNat_mul, BitVec.toNat_ofNat, BitVec.toNat_ofNat]
  show ((i 0).val % 4294967296 * 16 % 4294967296 + (i 1).val % 4294967296) % 4294967296 = (i 0).val * 16 + (i 1).val
  omega

theorem off16_val {v : BitVec 32} (hv : v.toNat ≤ 512) : k0_off16 i v 0 = 520 * wid i + v.toNat := by
  have := wid_lt i
  show ((BitVec.ofNat 32 (i 0).val * 16#32 + BitVec.ofNat 32 (i 1).val) * 520#32 + v).toNat = _
  rw [BitVec.toNat_add, BitVec.toNat_mul, wid_toNat]
  show (wid i * 520 % 4294967296 + v.toNat) % 4294967296 = _
  omega

/-- Where a run is put away lies in the tables. -/
theorem put_inb {v : BitVec 32} (hv : v.toNat ≤ 512) :
    (∀ a, k0_off15 v a + S16.size a ≤ S8320.size a) ∧ ∀ a, k0_off16 i v a + S1x128.size a ≤ S16640x128.size a := by
  have := wid_lt i
  have h5 := off15_val hv
  have h6 := off16_val i hv
  constructor
  · intro a
    match a with
    | ⟨0, _⟩ =>
      show k0_off15 v 0 + 16 ≤ 8320
      omega
  · intro a
    match a with
    | ⟨0, _⟩ =>
      show k0_off16 i v 0 + 1 ≤ 16640
      omega
    | ⟨1, _⟩ =>
      show 0 + 128 ≤ 128
      omega

variable {C} in
/-- The run put away: its count to the table, its maximum and its sum sent. -/
theorem put_wp (hC : HasScoped d i C) (nA nB : Nat) (hA : 4 + nA + S_.numel ≤ 107) (hB : 4 + nB + S_.numel ≤ 107)
    (s : St F) (hs : s.cur.toNat ≤ 512) (o : Fin 1 → Nat) (ho : ∀ a, o a + S16.size a ≤ S8320.size a)
    (o' : Fin 2 → Nat) (ho' : ∀ a, o' a + S1x128.size a ≤ S16640x128.size a)
    (h0 : o = k0_off15 s.cur) (h1 : o' = k0_off16 i s.cur) :
    Core d i O W C s ⊢ wpW U d i (do
        tabG i o ho
        sendG i mAcc (Memref.isWhole_whole _) mOM (Memref.isWhole_whole _) o' ho' (scopedN nA hA)
        sendG i mSum (Memref.isWhole_whole _) mOS (Memref.isWhole_whole _) o' ho' (scopedN nB hB) : TP F i PUnit.{1})
      fun _ => Core d i O W C (s.flush (wid i)) := by
  subst h0 h1
  have hn : 520 * wid i ≤ 520 * wid i + s.cur.toNat ∧ 520 * wid i + s.cur.toNat < 520 * wid i + 520 := by omega
  unfold Core Own
  iintro ⟨⟨HU, HA, HS, HC, HT, HM, HZ⟩, HE, HO⟩
  iapply (wp_call d i (tab_wp d i s.cur.toNat _ ho (off15_val hs) s.cnt s.tab)) $$ [HC HT]
  · isplitl [HC]; · iexact HC
    iexact HT
  iintro %a ⟨HC, HT⟩
  iapply (wp_call d i (sendA_wp d i O W C _ hn _ ho' (off16_val i hs) rfl (scopedN nA hA) (hC _ _) s.acc s.om)) $$ [HA HM HE HO]
  · isplitl [HA]; · iexact HA
    isplitl [HM]; · iexact HM
    isplitl [HE]; · iexact HE
    iexact HO
  iintro %a' ⟨HA, HM, HE, HO⟩
  iapply (wp_last d i (sendB_wp d i O W C _ hn _ ho' (off16_val i hs) rfl (scopedN nB hB) (hC _ _) s.sum s.os)) $$ [HS HZ HE HO]
  · isplitl [HS]; · iexact HS
    isplitl [HZ]; · iexact HZ
    isplitl [HE]; · iexact HE
    iexact HO
  iintro %a'' ⟨HS, HZ, HE, HO⟩
  isplitr [HE HO]
  · isplitl [HU]; · iexact HU
    isplitl [HA]; · iexact HA
    isplitl [HS]; · iexact HS
    isplitl [HC]; · iexact HC
    isplitl [HT]; · iexact HT
    isplitl [HM]; · iexact HM
    iexact HZ
  isplitl [HE]; · iexact HE
  iexact HO

/-- The current segment read by one who holds the run. -/
theorem core_getCur {s : St F} {hl : mCur.view.LoadsAt rW.toLoadRect} {α : Type}
    {k : (rW.toLoadRect.shape.Idx → Elt F .i32) → TP F i α} {Q : α → sProp 𝕄} :
    Core (U := U) d i O W C s
      ⊢ iprop((Core d i O W C s -∗ wpW U d i (k fun _ => s.cur) Q) -∗ wpW U d i (.op (.load mCur rW.toLoadRect hl) k) Q) := by
  unfold Core Own
  iintro ⟨⟨HU, HR⟩, HE⟩ Hk
  iapply (wp_getCur d i) $$ HU
  iintro HU
  iapply Hk
  isplitr [HE]
  · isplitl [HU]; · iexact HU
    iexact HR
  iexact HE

theorem flush_wp (hC : HasScoped d i C) (w : Fin 3) (j : Fin 16) (f l c0 seg cur : BitVec 32) (hslow : k0_cond2 f l c0 = 1#1)
    (hnew : k0_cond3 seg cur = 1#1) (s : St F) (hs : s.cur.toNat ≤ 512) :
    Core (U := U) d i O W C s ⊢ wpW U d i (flushG i (semA w j) (semB w j) f l c0 seg cur hslow hnew)
      fun _ => Core d i O W C (s.flush (wid i)) := by
  have hb := put_inb i hs
  have hw : k0_chk1 i f l c0 seg cur s.cur := ⟨fun _ _ => hb.1, fun _ _ => hb.2⟩
  unfold flushG
  simp only [smemLoad, smemLoadElt, Prog.lift, Prog.bind_op, Prog.bind_ret, Prog.pure_eq_ret]
  iintro H
  iapply (core_getCur d i O W C) $$ H
  iintro H
  iapply (wp_assume Variants.none (thr d i) none Set.univ hw)
  iapply (put_wp d i O W hC _ _ _ _ s hs _ _ _ _ rfl rfl) $$ H

theorem lastG_wp (hC : HasScoped d i C) (s : St F) (hs : s.cur.toNat ≤ 512) :
    Core (U := U) d i O W C s ⊢ wpW U d i (lastG i) fun _ => Core d i O W C (s.flush (wid i)) := by
  have hb := put_inb i hs
  have hw : k0_chk49 i s.cur := ⟨hb.1, hb.2⟩
  unfold lastG
  simp only [smemLoad, smemLoadElt, Prog.lift, Prog.bind_op, Prog.bind_ret, Prog.pure_eq_ret]
  iintro H
  iapply (core_getCur d i O W C) $$ H
  iintro H
  iapply (wp_assume Variants.none (thr d i) none Set.univ hw)
  iapply (put_wp d i O W hC _ _ _ _ s hs _ _ _ _ rfl rfl) $$ H

/-! ## One row -/

theorem cmp_eq (a b : BitVec 32) : Scalar.cmpi .eq a b = if a = b then 1#1 else 0#1 := by
  by_cases h : a = b
  · subst h; simp [Scalar.cmpi, IntOp.cmpi]
  · rw [if_neg h]
    show BitVec.ofBool (a == b) = 0#1
    rw [beq_false_of_ne h]
    rfl

theorem sel_eq {α : Type} (a b : BitVec 32) (x y : α) : Scalar.select (Scalar.cmpi .eq a b) x y = if a = b then x else y := by
  rw [cmp_eq]
  by_cases h : a = b
  · rw [if_pos h, if_pos h]; rfl
  · rw [if_neg h, if_neg h]; rfl

theorem cond3_iff (a b : BitVec 32) : k0_cond3 a b = 1#1 ↔ a ≠ b := by
  show Scalar.cmpi .ne (Scalar.extui (Scalar.xori (Scalar.cmpi .eq a b) 1#1)) 0#32 = 1#1 ↔ _
  rw [cmp_eq]
  by_cases h : a = b
  · rw [if_pos h]
    exact ⟨fun h' => absurd h' (by decide), fun h' => absurd h h'⟩
  · rw [if_neg h]
    exact ⟨fun _ => h, fun _ => by decide⟩

theorem row_rest (base : BitVec 32) (h : InX base) (b : Nat) (hb : b + 16 ≤ 800)
    (h0 : ∀ j k, offX base j k 0 = b + j.val)
    (S : Finset S800x128.Idx) (hS : ∀ y : S800x128.Idx, b ≤ (y 0).val → (y 0).val < b + 16 → y ∈ S)
    (g : FVec F S800x128 .f32) (j : Fin 16) (seg : BitVec 32) (s : St F) :
    iprop(Core d i O W C s ∗ hXb d i S g)
      ⊢ wpW U d i (do
          seqN (pieceG i base h j (Scalar.cmpi .eq seg s.cur)) 8 0 rfl
          markG i onesG (Scalar.cmpi .eq seg s.cur) seg : TP F i PUnit.{1}) fun _ =>
        iprop(Core d i O W C (s.take (rowOf g (b + j.val)) seg) ∗ hXb d i S g) := by
  unfold Core Own
  iintro ⟨⟨⟨HU, HA, HS, HC, HT⟩, HE⟩, HX⟩
  have hp := seqN_wp (U := U) d i (pieceG (F := F) i base h j (Scalar.cmpi .eq seg s.cur))
    (fun k => iprop(hXb d i S g ∗ hAcc d i (part k (s.take (rowOf g (b + j.val)) seg).acc s.acc)
      ∗ hSum d i (part k (s.take (rowOf g (b + j.val)) seg).sum s.sum)))
    (fun k => piece_wp d i base h j k b hb h0 (Scalar.cmpi .eq seg s.cur) S hS g s.acc _ s.sum _ (sel_eq ..).symm (sel_eq ..).symm) 8 0 rfl
  simp only [part_zero, part_eight] at hp
  iapply (wp_call d i hp) $$ [HX HA HS]
  · isplitl [HX]; · iexact HX
    isplitl [HA]; · iexact HA
    iexact HS
  iintro %a ⟨HX, HA, HS⟩
  iapply (wp_last d i (mark_wp d i onesG s.cnt (Scalar.cmpi .eq seg s.cur) s.cur seg)) $$ [HC HU]
  · isplitl [HC]; · iexact HC
    iexact HU
  rw [sel_eq]
  iintro %a' ⟨HC, HU⟩
  isplitr [HX]
  · isplitr [HE]
    · isplitl [HU]; · iexact HU
      isplitl [HA]; · iexact HA
      isplitl [HS]; · iexact HS
      isplitl [HC]; · iexact HC
      iexact HT
    iexact HE
  iexact HX

theorem row_wp (hC : HasScoped d i C) (base : BitVec 32) (h : InX base) (b : Nat) (hb : b + 16 ≤ 800)
    (h0 : ∀ j k, offX base j k 0 = b + j.val)
    (S : Finset S800x128.Idx) (hS : ∀ y : S800x128.Idx, b ≤ (y 0).val → (y 0).val < b + 16 → y ∈ S)
    (g : FVec F S800x128 .f32) (ids : IVec S16 32) (w : Fin 3) (c0 : BitVec 32)
    (hslow : k0_cond2 (segJ ids 0) (segJ ids 15) c0 = 1#1) (j : Fin 16) (s : St F) (hs : s.cur.toNat ≤ 512) :
    iprop(Core d i O W C s ∗ hXb d i S g)
      ⊢ wpW U d i (rowG i base h ids onesG (semA w) (semB w) c0 hslow j) fun _ =>
        iprop(Core d i O W C (s.row (wid i) (rowOf g (b + j.val)) (segJ ids j)) ∗ hXb d i S g) := by
  unfold rowG
  simp only [smemLoad, smemLoadElt, Prog.lift, Prog.bind_op, Prog.bind_ret, Prog.pure_eq_ret]
  iintro ⟨H, HX⟩
  iapply (core_getCur d i O W C) $$ H
  iintro H
  by_cases hn : segJ ids j = s.cur
  · rw [dif_neg (fun h => (cond3_iff _ _).mp h hn)]
    simp only [Prog.bind_ret, Prog.pure_eq_ret]
    unfold St.row
    rw [if_pos hn]
    iapply (row_rest d i O W C base h b hb h0 S hS g j (segJ ids j) s) $$ [H HX]
    isplitl [H]; · iexact H
    iexact HX
  · rw [dif_pos ((cond3_iff _ _).mpr hn)]
    unfold St.row
    rw [if_neg hn]
    iapply (wp_call d i (flush_wp d i O W C hC w j _ _ _ _ _ _ _ s hs)) $$ H
    iintro %a H
    iapply (row_rest d i O W C base h b hb h0 S hS g j (segJ ids j) (s.flush (wid i))) $$ [H HX]
    isplitl [H]; · iexact H
    iexact HX

/-! ## Sixteen rows of the current segment -/

/-- A piece of a row read from the part of the chunk buffer held. -/
theorem wp_ldX {base : BitVec 32} {h : InX base} {j : Fin 16} {k : Fin 8} {S : Finset S800x128.Idx}
    (hS : (mXb.access (rX base h j k)).set ⊆ S) {g : FVec F S800x128 .f32} {hl : mXb.view.LoadsAt (rX base h j k).toLoadRect} {α : Type}
    {K : ((rX base h j k).toLoadRect.shape.Idx → Elt F .f32) → TP F i α} {Q : α → sProp 𝕄} :
    hXb (U := U) d i S g ⊢ iprop((hXb d i S g -∗ wpW U d i (K ((mXb.access (rX base h j k)).read (Elt F) g)) Q)
      -∗ wpW U d i (.op (.load mXb (rX base h j k).toLoadRect hl) K) Q) :=
  wp_load_rect (m := mXb) (r := rX base h j k) Variants.none (thr d i) none Set.univ hS

theorem fastPiece_wp (base : BitVec 32) (h : InX base) (k : Fin 8) (b : Nat) (hb : b + 16 ≤ 800)
    (h0 : ∀ j k, offX base j k 0 = b + j.val)
    (S : Finset S800x128.Idx) (hS : ∀ y : S800x128.Idx, b ≤ (y 0).val → (y 0).val < b + 16 → y ∈ S)
    (g : FVec F S800x128 .f32) (A A' B B' : Row F)
    (hA : A' = maximumf A (fold16 maximumf fun j => rowOf g (b + j)))
    (hB : B' = addf B (fold16 addf fun j => rowOf g (b + j))) :
    iprop(hXb d i S g ∗ hAcc d i (part k.val A' A) ∗ hSum d i (part k.val B' B))
      ⊢ wpW U d i (fastPieceG i base h k) fun _ =>
        iprop(hXb d i S g ∗ hAcc d i (part (k.val + 1) A' A) ∗ hSum d i (part (k.val + 1) B' B)) := by
  unfold fastPieceG
  simp only [Prog.lift, Prog.bind_op, Prog.bind_ret, Prog.pure_eq_ret, ldX]
  iintro ⟨HX, HA, HB⟩
  have hSX : ∀ j : Fin 16, (mXb.access (rX base h j k)).set ⊆ S := by
    intro j y hy
    rw [show (mXb.access (rX base h j k)).set = (rX base h j k).set from View.set_slice_whole _ _, Rect.mem_set_unit] at hy
    have h1 := (hy 0).1
    have h2 := (hy 0).2
    rw [h0] at h1 h2
    have hj := j.2
    have h3 : (y 0).val < b + j.val + 1 := h2
    exact hS y (by omega) (by omega)
  have hx := fun (j : Fin 16) => funext fun l => load_piece base h j k b hb h0 g l
  iterate 16
    iapply (wp_ldX d i (hSX _)) $$ HX
    iintro HX
  iapply (wp_load_rect (m := mAcc) (r := rK k) Variants.none (thr d i) none Set.univ (Finset.subset_univ _)) $$ HA
  iintro HA
  iapply (wp_load_rect (m := mAcc) (r := rK k) Variants.none (thr d i) none Set.univ (Finset.subset_univ _)) $$ HA
  iintro HA
  iapply (wp_store_to d i (m := mAcc) (r := rK k) (part (k.val + 1) A' A) ?ha) $$ HA
  case ha =>
    refine write_ext cc0_scratch3 (rK k) _ _ _ (part_ext k A' A _ fun l => ?_).1 (part_ext k A' A (fun l => A' ((rK k).emb l)) fun l => rfl).2
    rw [shapeCast_self, shapeCast_self, hA, hx 0, hx 1, hx 2, hx 3, hx 4, hx 5, hx 6, hx 7, hx 8, hx 9, hx 10, hx 11, hx 12,
      hx 13, hx 14, hx 15]
    exact congrArg (fun z => FloatOps.maximumf z _) (part_old k _ A l)
  iintro HA
  iapply (wp_load_rect (m := mSum) (r := rK k) Variants.none (thr d i) none Set.univ (Finset.subset_univ _)) $$ HB
  iintro HB
  iapply (wp_load_rect (m := mSum) (r := rK k) Variants.none (thr d i) none Set.univ (Finset.subset_univ _)) $$ HB
  iintro HB
  iapply (wp_store_to d i (m := mSum) (r := rK k) (part (k.val + 1) B' B) ?hb) $$ HB
  case hb =>
    refine write_ext cc0_scratch4 (rK k) _ _ _ (part_ext k B' B _ fun l => ?_).1 (part_ext k B' B (fun l => B' ((rK k).emb l)) fun l => rfl).2
    rw [shapeCast_self, shapeCast_self, hB, hx 0, hx 1, hx 2, hx 3, hx 4, hx 5, hx 6, hx 7, hx 8, hx 9, hx 10, hx 11, hx 12,
      hx 13, hx 14, hx 15]
    exact congrArg (fun z => FloatOps.addf z _) (part_old k _ B l)
  iintro HB
  iapply (wpW_ret d i)
  isplitl [HX]; · iexact HX
  isplitl [HA]; · iexact HA
  iexact HB

theorem fastCnt_wp (c : FVec F S16 .f32) :
    hCnt (U := U) d i c ⊢ wpW U d i (fastCntG i) fun _ =>
      hCnt d i (addf c (broadcast S16 (Scalar.ofBits .f32 0x41800000#32 : F .f32))) := by
  unfold fastCntG
  simp only [Prog.lift, Prog.bind_op, Prog.bind_ret, Prog.pure_eq_ret]
  iintro HC
  iapply (wp_getCnt d i) $$ HC
  iintro HC
  iapply (wp_getCnt d i) $$ HC
  iintro HC
  iapply (wp_setCnt d i (addf c (broadcast S16 (Scalar.ofBits .f32 0x41800000#32 : F .f32))) (by rw [shapeCast_self, shapeCast_self])) $$ HC
  iintro HC
  iapply (wpW_ret d i)
  iexact HC

theorem fast_wp (base : BitVec 32) (h : InX base) (b : Nat) (hb : b + 16 ≤ 800)
    (h0 : ∀ j k, offX base j k 0 = b + j.val)
    (S : Finset S800x128.Idx) (hS : ∀ y : S800x128.Idx, b ≤ (y 0).val → (y 0).val < b + 16 → y ∈ S)
    (g : FVec F S800x128 .f32) (s : St F) :
    iprop(Core d i O W C s ∗ hXb d i S g)
      ⊢ wpW U d i (fastG i base h) fun _ =>
        iprop(Core d i O W C (s.fast fun j => rowOf g (b + j)) ∗ hXb d i S g) := by
  unfold fastG Core Own
  iintro ⟨⟨⟨HU, HA, HS, HC, HT⟩, HE⟩, HX⟩
  have hp := seqN_wp (U := U) d i (fastPieceG (F := F) i base h)
    (fun k => iprop(hXb d i S g ∗ hAcc d i (part k (s.fast fun j => rowOf g (b + j)).acc s.acc)
      ∗ hSum d i (part k (s.fast fun j => rowOf g (b + j)).sum s.sum)))
    (fun k => fastPiece_wp d i base h k b hb h0 S hS g s.acc _ s.sum _ rfl rfl) 8 0 rfl
  simp only [part_zero, part_eight] at hp
  iapply (wp_call d i hp) $$ [HX HA HS]
  · isplitl [HX]; · iexact HX
    isplitl [HA]; · iexact HA
    iexact HS
  iintro %a ⟨HX, HA, HS⟩
  iapply (wp_last d i (fastCnt_wp d i s.cnt)) $$ HC
  iintro %a' HC
  isplitr [HX]
  · isplitr [HE]
    · isplitl [HU]; · iexact HU
      isplitl [HA]; · iexact HA
      isplitl [HS]; · iexact HS
      isplitl [HC]; · iexact HC
      iexact HT
    iexact HE
  iexact HX

/-! ## The group -/

theorem both_iff (a b c : BitVec 32) :
    Scalar.andi (Scalar.cmpi .eq a b) (Scalar.cmpi .eq a c) = if a = b ∧ a = c then 1#1 else 0#1 := by
  rw [cmp_eq, cmp_eq]
  by_cases h : a = b
  · by_cases h' : a = c
    · rw [if_pos h, if_pos h', if_pos ⟨h, h'⟩]; rfl
    · rw [if_pos h, if_neg h', if_neg fun e => h' e.2]; rfl
  · by_cases h' : a = c
    · rw [if_neg h, if_pos h', if_neg fun e => h e.1]; rfl
    · rw [if_neg h, if_neg h', if_neg fun e => h e.1]; rfl

theorem fastCond_iff (a b c : BitVec 32) :
    Scalar.cmpi .ne (Scalar.extui (Scalar.andi (Scalar.cmpi .eq a b) (Scalar.cmpi .eq a c)) : BitVec 32) 0#32 = 1#1 ↔ a = b ∧ a = c := by
  rw [both_iff]
  by_cases h : a = b ∧ a = c
  · rw [if_pos h]
    exact ⟨fun _ => h, fun _ => by decide⟩
  · rw [if_neg h]
    exact ⟨fun h' => absurd h' (by decide), fun h' => absurd h' h⟩

theorem cond2_iff (a b c : BitVec 32) : k0_cond2 a b c = 1#1 ↔ ¬(a = b ∧ a = c) := by
  show Scalar.cmpi .ne (Scalar.extui (Scalar.xori (Scalar.andi (Scalar.cmpi .eq a b) (Scalar.cmpi .eq a c)) 1#1) : BitVec 32) 0#32 = 1#1 ↔ _
  rw [both_iff]
  by_cases h : a = b ∧ a = c
  · rw [if_pos h]
    exact ⟨fun h' => absurd h' (by decide), fun h' => absurd h h'⟩
  · rw [if_neg h]
    exact ⟨fun _ => h, fun _ => by decide⟩

/-- Rows one by one. -/
theorem rows_wp (hC : HasScoped d i C) (base : BitVec 32) (h : InX base) (b : Nat) (hb : b + 16 ≤ 800)
    (h0 : ∀ j k, offX base j k 0 = b + j.val)
    (S : Finset S800x128.Idx) (hS : ∀ y : S800x128.Idx, b ≤ (y 0).val → (y 0).val < b + 16 → y ∈ S)
    (g : FVec F S800x128 .f32) (v : IVec S16 32) (w : Fin 3) (c0 : BitVec 32)
    (hslow : k0_cond2 (segJ v 0) (segJ v 15) c0 = 1#1) (s : St F) (hs : s.cur.toNat ≤ 512)
    (ids : Nat → BitVec 32) (hv : ∀ j : Fin 16, segJ v j = ids j.val) (hids : ∀ n, n < 16 → (ids n).toNat ≤ 512) :
    iprop(Core d i O W C s ∗ hXb d i S g)
      ⊢ wpW U d i (seqN (rowG i base h v onesG (semA w) (semB w) c0 hslow) 16 0 rfl) fun _ =>
        iprop(Core d i O W C (s.rows (wid i) (fun j => rowOf g (b + j)) ids 16) ∗ hXb d i S g) := by
  refine seqN_wp d i _ (fun n => iprop(Core d i O W C (s.rows (wid i) (fun j => rowOf g (b + j)) ids n) ∗ hXb d i S g)) (fun j => ?_) 16 0 rfl
  have hr := row_wp (U := U) d i O W C hC base h b hb h0 S hS g v w c0 hslow j (s.rows (wid i) (fun j => rowOf g (b + j)) ids j.val)
    (St.rows_cur_le hs hids j.val (by omega))
  rw [hv j] at hr
  exact hr

theorem segJ_apply (v : IVec S16 32) (j : Fin 16) : segJ v j = v (ix1 (n0 := 16) j) := by
  show v _ = v _
  congr 1
  funext a
  apply Fin.ext
  match a with
  | ⟨0, _⟩ =>
    show j.val + 1 * 0 = j.val
    omega

theorem group_wp (hC : HasScoped d i C) (q : Fin 2) (t : Fin 25) (w : Fin 3)
    (S : Finset S800x128.Idx) (hS : ∀ y : S800x128.Idx, 400 * q.val + 16 * t.val ≤ (y 0).val → (y 0).val < 400 * q.val + 16 * t.val + 16 → y ∈ S)
    (S' : Finset S800.Idx) (hS' : ∀ y : S800.Idx, 400 * q.val + 16 * t.val ≤ (y 0).val → (y 0).val < 400 * q.val + 16 * t.val + 16 → y ∈ S')
    (g : FVec F S800x128 .f32) (g' : IVec S800 32) (s : St F) (hs : s.cur.toNat ≤ 512)
    (hids : ∀ n, n < 16 → (idOf g' (400 * q.val + 16 * t.val + n)).toNat ≤ 512) :
    iprop(Core d i O W C s ∗ hXb d i S g ∗ hIb d i S' g')
      ⊢ wpW U d i (groupG i (BitVec.ofNat 32 (400 * q.val)) t.val (inX q t) (inI q t) onesG (semA w) (semB w)) fun _ =>
        iprop(Core d i O W C (s.group (wid i) (fun j => rowOf g (400 * q.val + 16 * t.val + j)) fun j => idOf g' (400 * q.val + 16 * t.val + j))
          ∗ hXb d i S g ∗ hIb d i S' g') := by
  have hb : 400 * q.val + 16 * t.val + 16 ≤ 800 := by omega
  have hbI := offI_zero q t
  have hload : (mIb.access (Rect.unit (s := S800) (offI (BitVec.ofNat 32 (400 * q.val)) t.val) S16.size (inI q t))).set ⊆ S' := by
    intro y hy
    rw [show (mIb.access (Rect.unit (s := S800) (offI (BitVec.ofNat 32 (400 * q.val)) t.val) S16.size (inI q t))).set = _ from View.set_slice_whole _ _, Rect.mem_set_unit] at hy
    have h1 := (hy 0).1
    have h2 : (y 0).val < offI (BitVec.ofNat 32 (400 * q.val)) t.val 0 + 16 := (hy 0).2
    exact hS' y (by omega) (by omega)
  have hseg : ∀ j : Fin 16, segJ (shapeCast S16 ((mIb.access (Rect.unit (s := S800) (offI (BitVec.ofNat 32 (400 * q.val)) t.val) S16.size (inI q t))).read (Elt F) g') shapeCasts_S16_S16 : IVec S16 32) j
      = idOf g' (400 * q.val + 16 * t.val + j.val) := by
    intro j
    rw [segJ_apply]
    refine (congrFun (shapeCast_self (s := S16) _ _) _).trans ?_
    show g' _ = g' _
    congr 1
    funext a
    apply Fin.ext
    have hj := j.2
    match a with
    | ⟨0, _⟩ =>
      show offI (BitVec.ofNat 32 (400 * q.val)) t.val 0 + 1 * j.val = (400 * q.val + 16 * t.val + j.val) % 800
      rw [Nat.mod_eq_of_lt (by omega)]
      omega
  unfold groupG
  simp only [smemLoad, smemLoadElt, Prog.lift, Prog.bind_op, Prog.bind_ret, Prog.pure_eq_ret]
  iintro ⟨H, HX, HI⟩
  iapply (wp_load_rect (m := mIb) Variants.none (thr d i) none Set.univ hload) $$ HI
  iintro HI
  iapply (core_getCur d i O W C) $$ H
  iintro H
  generalize hv : shapeCast S16 ((mIb.access (Rect.unit (s := S800) (offI (BitVec.ofNat 32 (400 * q.val)) t.val) S16.size (inI q t))).read (Elt F) g') shapeCasts_S16_S16 = v at hseg ⊢
  have e0 := hseg 0
  have e15 := hseg 15
  by_cases hf : idOf g' (400 * q.val + 16 * t.val + 0) = idOf g' (400 * q.val + 16 * t.val + 15) ∧ idOf g' (400 * q.val + 16 * t.val + 0) = s.cur
  · have hf' : segJ v 0 = segJ v 15 ∧ segJ v 0 = s.cur := by
      rw [e0, e15]
      exact hf
    rw [if_pos ((fastCond_iff _ _ _).mpr hf'), dif_neg (fun h => (cond2_iff _ _ _).mp h hf')]
    unfold St.group
    rw [if_pos hf]
    iapply (wp_call d i (fast_wp d i O W C _ (inX q t) _ hb (fun j k => offX_zero q t j k) S hS g s)) $$ [H HX]
    · isplitl [H]; · iexact H
      iexact HX
    iintro %a ⟨H, HX⟩
    iapply (wpW_ret d i)
    isplitl [H]; · iexact H
    isplitl [HX]; · iexact HX
    iexact HI
  · have hf' : ¬(segJ v 0 = segJ v 15 ∧ segJ v 0 = s.cur) := by
      rw [e0, e15]
      exact hf
    rw [if_neg (fun h => hf' ((fastCond_iff _ _ _).mp h)), dif_pos ((cond2_iff _ _ _).mpr hf')]
    unfold St.group
    rw [if_neg hf]
    iapply (wp_call d i (rows_wp d i O W C hC _ (inX q t) _ hb (fun j k => offX_zero q t j k) S hS g v w s.cur ((cond2_iff _ _ _).mpr hf') s hs _ hseg hids)) $$ [H HX]
    · isplitl [H]; · iexact H
      iexact HX
    iintro %a ⟨H, HX⟩
    iapply (wpW_ret d i)
    isplitl [H]; · iexact H
    isplitl [HX]; · iexact HX
    iexact HI

end Cert.KernelIdeal.Pool
-- ==== Proof.KernelIdeal.Chunk.lean ====
/-
  A chunk of four hundred rows: asked for, awaited, and walked in twenty-five groups.
-/
module

public import proofs.«01_k».proof.Proof.KernelIdeal.Group

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Cert.KernelIdeal

variable {F : FTy → Type} [FloatOps F] [Facts]
variable {U : Type} [URA U] [CountersIn U]
open Facts₀ Facts

local notation "𝕄" => MT nD τ sig (HIx 1) (Elt F) ℕ U ℕ

variable (d : Dev nD) (i : grid0.Coords)
variable (O : CellTallies nD τ sig (HIx 1)) (W : Waits sig (HIx 1)) (C : Finset (GSem nD τ sig))

/-! ## Rows that agree give groups that agree -/

theorem St.rows_congr {w : Nat} {xs xs' : Nat → Row F} {ids ids' : Nat → BitVec 32} {s : St F} :
    ∀ n, (∀ j, j < n → xs j = xs' j) → (∀ j, j < n → ids j = ids' j) → s.rows w xs ids n = s.rows w xs' ids' n
  | 0, _, _ => rfl
  | n + 1, h, h' => by
    unfold St.rows
    rw [St.rows_congr n (fun j hj => h j (by omega)) (fun j hj => h' j (by omega)), h n (by omega), h' n (by omega)]

theorem St.group_congr {w : Nat} {xs xs' : Nat → Row F} {ids ids' : Nat → BitVec 32} {s : St F}
    (h : ∀ j, j < 16 → xs j = xs' j) (h' : ∀ j, j < 16 → ids j = ids' j) : s.group w xs ids = s.group w xs' ids' := by
  unfold St.group
  rw [St.rows_congr 16 h h', h' 0 (by omega), h' 15 (by omega)]
  have hf : s.fast xs = s.fast xs' := by
    unfold St.fast fold16
    rw [h 0 (by omega), h 1 (by omega), h 2 (by omega), h 3 (by omega), h 4 (by omega), h 5 (by omega), h 6 (by omega),
      h 7 (by omega), h 8 (by omega), h 9 (by omega), h 10 (by omega), h 11 (by omega), h 12 (by omega), h 13 (by omega),
      h 14 (by omega), h 15 (by omega)]
  rw [hf]

/-! ## The worker's rows -/

/-- Row `r` of the input. -/
def xRow (x : FVec F S320000x128 .f32) (r : Nat) : Row F := fun y =>
  x (ix2 (n0 := 320000) (n1 := 128) ⟨r % 320000, Nat.mod_lt _ (by decide)⟩ (y 0))
/-- Row `r`'s segment. -/
def bAt (b : IVec S320000 32) (r : Nat) : BitVec 32 := b (ix1 (n0 := 320000) ⟨r % 320000, Nat.mod_lt _ (by decide)⟩)

/-- The worker's rows of the input, and of the segments. -/
def xSlab (w : Nat) : Finset S320000x128.Idx := Finset.univ.filter fun y => 10000 * w ≤ (y 0).val ∧ (y 0).val < 10000 * w + 10000
def bSlab (w : Nat) : Finset S320000.Idx := Finset.univ.filter fun y => 10000 * w ≤ (y 0).val ∧ (y 0).val < 10000 * w + 10000

/-- Half `q` of the chunk buffer, and of the segments' buffer. -/
def xHalf (q : Fin 2) : Finset S800x128.Idx := Finset.univ.filter fun y => 400 * q.val ≤ (y 0).val ∧ (y 0).val < 400 * q.val + 400
def iHalf (q : Fin 2) : Finset S800.Idx := Finset.univ.filter fun y => 400 * q.val ≤ (y 0).val ∧ (y 0).val < 400 * q.val + 400

theorem set_mXh (q : Fin 2) : (mXh q).view.set = xHalf q := by
  show ((View.whole cc0_scratch0).slice (rXh q)).set = _
  rw [View.set_slice_whole]
  ext y
  rw [Rect.mem_set_unit]
  unfold xHalf
  rw [Finset.mem_filter]
  have h1 : (y 1).val < 128 := (y 1).2
  refine ⟨fun h => ⟨Finset.mem_univ _, h 0⟩, fun h a => ?_⟩
  match a with
  | ⟨0, _⟩ => exact h.2
  | ⟨1, _⟩ => exact ⟨Nat.zero_le _, by show (y 1).val < 0 + 128; omega⟩

theorem set_mIh (q : Fin 2) : (mIh q).view.set = iHalf q := by
  show ((View.whole cc0_scratch1).slice (rIh q)).set = _
  rw [View.set_slice_whole]
  ext y
  rw [Rect.mem_set_unit]
  unfold iHalf
  rw [Finset.mem_filter]
  refine ⟨fun h => ⟨Finset.mem_univ _, h 0⟩, fun h a => ?_⟩
  match a with
  | ⟨0, _⟩ => exact h.2

/-- Where the worker's chunk `c` begins. -/
abbrev offC (c : Nat) : Fin 2 → Nat := ![10000 * wid i + 400 * c, 0]
abbrev offCI (c : Nat) : Fin 1 → Nat := ![10000 * wid i + 400 * c]

theorem inbC {c : Nat} (hc : c < 25) : ∀ a, offC i c a + S400x128.size a ≤ S320000x128.size a := by
  have := wid_lt i
  intro a
  match a with
  | ⟨0, _⟩ =>
    show 10000 * wid i + 400 * c + 400 ≤ 320000
    omega
  | ⟨1, _⟩ =>
    show 0 + 128 ≤ 128
    omega

theorem inbCI {c : Nat} (hc : c < 25) : ∀ a, offCI i c a + S400.size a ≤ S320000.size a := by
  have := wid_lt i
  intro a
  match a with
  | ⟨0, _⟩ =>
    show 10000 * wid i + 400 * c + 400 ≤ 320000
    omega

variable (x : FVec F S320000x128 .f32) (b : IVec S320000 32)

/-- Half `q` of the buffers holds the worker's chunk `c`. -/
def Holds (q : Fin 2) (c : Nat) (g : FVec F S800x128 .f32) (g' : IVec S800 32) : Prop :=
  (∀ r, r < 400 → rowOf g (400 * q.val + r) = xRow x (10000 * wid i + (400 * c + r)))
    ∧ ∀ r, r < 400 → idOf g' (400 * q.val + r) = bAt b (10000 * wid i + (400 * c + r))

theorem holdsX (q : Fin 2) {c : Nat} (hc : c < 25) (fd : FVec F S800x128 .f32) (r : Nat) (hr : r < 400) :
    rowOf ((mXh q).view.write (Elt F) fd ((mXc (offC i c) (inbC i hc)).view.read (Elt F) x) Finset.univ) (400 * q.val + r)
      = xRow x (10000 * wid i + (400 * c + r)) := by
  have := wid_lt i
  funext y
  have hq := q.2
  have e : (ix2 (n0 := 800) (n1 := 128) ⟨(400 * q.val + r) % 800, Nat.mod_lt _ (by decide)⟩ (y 0) : S800x128.Idx)
      = (mXh q).view.emb (ix2 (n0 := 400) (n1 := 128) ⟨r, hr⟩ (y 0)) := by
    funext a
    apply Fin.ext
    match a with
    | ⟨0, _⟩ =>
      show (400 * q.val + r) % 800 = 400 * q.val + 1 * r
      rw [Nat.mod_eq_of_lt (by omega)]
      omega
    | ⟨1, _⟩ =>
      show (y 0).val = 0 + 1 * (y 0).val
      omega
  unfold rowOf
  rw [e]
  refine (View.write_emb_of_mem (v := (mXh q).view) (Val := Elt F) fd _ (Finset.mem_univ _)).trans ?_
  show x _ = x _
  congr 1
  funext a
  apply Fin.ext
  match a with
  | ⟨0, _⟩ =>
    show 10000 * wid i + 400 * c + 1 * r = (10000 * wid i + (400 * c + r)) % 320000
    rw [Nat.mod_eq_of_lt (by omega)]
    omega
  | ⟨1, _⟩ =>
    show 0 + 1 * (y 0).val = (y 0).val
    omega

theorem holdsI (q : Fin 2) {c : Nat} (hc : c < 25) (fd : IVec S800 32) (r : Nat) (hr : r < 400) :
    idOf ((mIh q).view.write (Elt F) fd ((mBc (offCI i c) (inbCI i hc)).view.read (Elt F) b) Finset.univ) (400 * q.val + r)
      = bAt b (10000 * wid i + (400 * c + r)) := by
  have := wid_lt i
  have hq := q.2
  have e : (ix1 (n0 := 800) ⟨(400 * q.val + r) % 800, Nat.mod_lt _ (by decide)⟩ : S800.Idx)
      = (mIh q).view.emb (ix1 (n0 := 400) ⟨r, hr⟩) := by
    funext a
    apply Fin.ext
    match a with
    | ⟨0, _⟩ =>
      show (400 * q.val + r) % 800 = 400 * q.val + 1 * r
      rw [Nat.mod_eq_of_lt (by omega)]
      omega
  unfold idOf
  rw [e]
  refine (View.write_emb_of_mem (v := (mIh q).view) (Val := Elt F) fd _ (Finset.mem_univ _)).trans ?_
  show b _ = b _
  congr 1
  funext a
  apply Fin.ext
  match a with
  | ⟨0, _⟩ =>
    show 10000 * wid i + 400 * c + 1 * r = (10000 * wid i + (400 * c + r)) % 320000
    rw [Nat.mod_eq_of_lt (by omega)]
    omega

/-! ## A half of the buffers, at rest, filled, and in flight -/

/-- The share of the input that half `q`'s fetches read. -/
abbrev hsh (q : Fin 2) : PosShare TreeShare := if q.val = 0 then fullShare.left else fullShare.right

/-- What half `q` has besides its buffers: its two cells at rest and its share of the worker's rows. -/
def Rest (q : Fin 2) : sProp 𝕄 :=
  iprop(semVal (thr d i, .dma (semX q).sem) 0 ∗ semVal (thr d i, .dma (semI q).sem) 0
    ∗ (mX.view.loc (thr d i) ↦[xSlab (wid i)]{hsh q} x) ∗ (mB.view.loc (thr d i) ↦[bSlab (wid i)]{hsh q} b))

/-- Half `q` at rest. -/
def Free (q : Fin 2) : sProp 𝕄 := iprop((∃ g, hXb d i (xHalf q) g) ∗ (∃ g', hIb (F := F) d i (iHalf q) g') ∗ Rest d i x b q)

/-- Half `q` holding chunk `c`. -/
def Full (q : Fin 2) (c : Nat) : sProp 𝕄 :=
  iprop(∃ g g', ⌜Holds i x b q c g g'⌝ ∗ hXb d i (xHalf q) g ∗ hIb (F := F) d i (iHalf q) g' ∗ Rest d i x b q)

abbrev NX (q : Fin 2) : ℕ := (mXh q).view.dmaCredit
abbrev NI (q : Fin 2) : ℕ := (mIh q).view.dmaCredit
theorem NX_pos (q : Fin 2) : 0 < NX q := View.dmaCredit_pos _ (by decide)
theorem NI_pos (q : Fin 2) : 0 < NI q := View.dmaCredit_pos _ (by decide)

/-- The rows of the worker's chunk `c`. -/
def xCh (c : Nat) : Finset S320000x128.Idx :=
  Finset.univ.filter fun y => 10000 * wid i + 400 * c ≤ (y 0).val ∧ (y 0).val < 10000 * wid i + 400 * c + 400
def bCh (c : Nat) : Finset S320000.Idx :=
  Finset.univ.filter fun y => 10000 * wid i + 400 * c ≤ (y 0).val ∧ (y 0).val < 10000 * wid i + 400 * c + 400

theorem xCh_sub {c : Nat} (hc : c < 25) : xCh i c ⊆ xSlab (wid i) := by
  intro y hy
  unfold xCh at hy
  unfold xSlab
  rw [Finset.mem_filter] at hy ⊢
  exact ⟨hy.1, by omega, by omega⟩

theorem bCh_sub {c : Nat} (hc : c < 25) : bCh i c ⊆ bSlab (wid i) := by
  intro y hy
  unfold bCh at hy
  unfold bSlab
  rw [Finset.mem_filter] at hy ⊢
  exact ⟨hy.1, by omega, by omega⟩

theorem set_mXc {c : Nat} (hc : c < 25) : (mXc (offC i c) (inbC i hc)).view.set = xCh i c := by
  show ((View.whole main_arg0_scv).slice (Rect.unit (s := S320000x128) (offC i c) S400x128.size (inbC i hc))).set = _
  rw [View.set_slice_whole]
  ext y
  rw [Rect.mem_set_unit]
  unfold xCh
  rw [Finset.mem_filter]
  have h1 : (y 1).val < 128 := (y 1).2
  refine ⟨fun h => ⟨Finset.mem_univ _, h 0⟩, fun h a => ?_⟩
  match a with
  | ⟨0, _⟩ => exact h.2
  | ⟨1, _⟩ => exact ⟨Nat.zero_le _, by show (y 1).val < 0 + 128; omega⟩

theorem set_mBc {c : Nat} (hc : c < 25) : (mBc (offCI i c) (inbCI i hc)).view.set = bCh i c := by
  show ((View.whole main_arg1_scv).slice (Rect.unit (s := S320000) (offCI i c) S400.size (inbCI i hc))).set = _
  rw [View.set_slice_whole]
  ext y
  rw [Rect.mem_set_unit]
  unfold bCh
  rw [Finset.mem_filter]
  refine ⟨fun h => ⟨Finset.mem_univ _, h 0⟩, fun h a => ?_⟩
  match a with
  | ⟨0, _⟩ => exact h.2

/-- Half `q` with chunk `c` on its way. -/
def InF (q : Fin 2) (c : Nat) : sProp 𝕄 :=
  iprop(Flight countersEmb (thr d i) (.dma (semX q).sem) none (NX q)
      iprop((∃ g, ⌜∀ r, r < 400 → rowOf g (400 * q.val + r) = xRow x (10000 * wid i + (400 * c + r))⌝ ∗ hXb d i (xHalf q) g)
        ∗ (mX.view.loc (thr d i) ↦[xCh i c]{hsh q} x))
    ∗ Flight countersEmb (thr d i) (.dma (semI q).sem) none (NI q)
      iprop((∃ g', ⌜∀ r, r < 400 → idOf g' (400 * q.val + r) = bAt b (10000 * wid i + (400 * c + r))⌝ ∗ hIb (F := F) d i (iHalf q) g')
        ∗ (mB.view.loc (thr d i) ↦[bCh i c]{hsh q} b))
    ∗ (mX.view.loc (thr d i) ↦[xSlab (wid i) \ xCh i c]{hsh q} x)
    ∗ (mB.view.loc (thr d i) ↦[bSlab (wid i) \ bCh i c]{hsh q} b))

theorem fetch_wp (q : Fin 2) {c : Nat} (hc : c < 25) (o : Fin 2 → Nat) (ho : ∀ a, o a + S400x128.size a ≤ S320000x128.size a)
    (o' : Fin 1 → Nat) (ho' : ∀ a, o' a + S400.size a ≤ S320000.size a) (h0 : o = offC i c) (h1 : o' = offCI i c) :
    Free (U := U) d i x b q ⊢ wpW U d i (fetchG i q o ho o' ho') fun _ => InF d i x b q c := by
  subst h0 h1
  unfold fetchG Free Rest
  simp only [Prog.lift, Prog.bind_op, Prog.bind_ret, Prog.pure_eq_ret]
  iintro ⟨⟨%g, HX⟩, ⟨%g', HI⟩, HV, HV', Hx, Hb⟩
  ihave Hx2 := (pointsTo_split_subset (xCh_sub i hc)).1 $$ Hx
  ihave Hb2 := (pointsTo_split_subset (bCh_sub i hc)).1 $$ Hb
  icases Hx2 with ⟨Hx, Hxr⟩
  icases Hb2 with ⟨Hb, Hbr⟩
  ihave Hx := (Entails.of_eq (congrArg (fun S => (mX.view.loc (thr d i) ↦[S]{hsh q} x : sProp 𝕄)) (set_mXc i hc).symm)) $$ Hx
  ihave Hb := (Entails.of_eq (congrArg (fun S => (mB.view.loc (thr d i) ↦[S]{hsh q} b : sProp 𝕄)) (set_mBc i hc).symm)) $$ Hb
  iapply (wp_dmaLocal countersEmb Variants.none (thr d i) none (src := mXc (offC i c) ho) (dst := mXh q) none (NX q) rfl
    (NX_pos q) (set_mXh q).subset) $$ [Hx HX HV]
  · isplitl [Hx]; · iexact Hx
    isplitl [HX]; · iexact HX
    iexact HV
  iintro HF
  iapply (wp_dmaLocal countersEmb Variants.none (thr d i) none (src := mBc (offCI i c) ho') (dst := mIh q) none (NI q) rfl
    (NI_pos q) (set_mIh q).subset) $$ [Hb HI HV']
  · isplitl [Hb]; · iexact Hb
    isplitl [HI]; · iexact HI
    iexact HV'
  iintro HF'
  iapply (wpW_ret d i)
  unfold InF
  isplitl [HF]
  · iapply (Flight_mono countersEmb ?h) $$ HF
    case h =>
      iintro ⟨HX, Hx⟩
      isplitl [HX]
      · iexists _
        isplitr; · ipureintro; exact holdsX (F := F) i x q hc g
        iexact HX
      · iapply (Entails.of_eq (congrArg (fun S => (mX.view.loc (thr d i) ↦[S]{hsh q} x : sProp 𝕄)) (set_mXc i hc))) $$ Hx
  isplitl [HF']
  · iapply (Flight_mono countersEmb ?h) $$ HF'
    case h =>
      iintro ⟨HI, Hb⟩
      isplitl [HI]
      · iexists _
        isplitr; · ipureintro; exact holdsI (F := F) i b q hc g'
        iexact HI
      · iapply (Entails.of_eq (congrArg (fun S => (mB.view.loc (thr d i) ↦[S]{hsh q} b : sProp 𝕄)) (set_mBc i hc))) $$ Hb
  isplitl [Hxr]; · iexact Hxr
  iexact Hbr

theorem await_wp (q : Fin 2) {c : Nat} (hc : c < 25) (o : Fin 2 → Nat) (ho : ∀ a, o a + S400x128.size a ≤ S320000x128.size a)
    (o' : Fin 1 → Nat) (ho' : ∀ a, o' a + S400.size a ≤ S320000.size a) :
    iprop(InF d i x b q c ∗ Ow d i O W) ⊢ wpW U d i (awaitG i q o ho o' ho') fun _ => iprop(Full d i x b q c ∗ Ow d i O W) := by
  unfold awaitG InF
  simp only [Prog.lift, Prog.bind_op, Prog.bind_ret, Prog.pure_eq_ret]
  iintro ⟨⟨HF, HF', Hxr, Hbr⟩, HO⟩
  iapply (wp_await d i O W (N := NX q) rfl) $$ [HF HO]
  · isplitl [HF]; · iexact HF
    iexact HO
  iintro ⟨⟨⟨%g, %hg, HX⟩, Hx⟩, HV, HO⟩
  iapply (wp_await d i O W (N := NI q) rfl) $$ [HF' HO]
  · isplitl [HF']; · iexact HF'
    iexact HO
  iintro ⟨⟨⟨%g', %hg', HI⟩, Hb⟩, HV', HO⟩
  iapply (wpW_ret d i)
  isplitr [HO]
  · unfold Full Rest
    iexists g
    iexists g'
    isplitr; · ipureintro; exact ⟨hg, hg'⟩
    isplitl [HX]; · iexact HX
    isplitl [HI]; · iexact HI
    isplitl [HV]; · iexact HV
    isplitl [HV']; · iexact HV'
    isplitl [Hx Hxr]
    · iapply (pointsTo_split_subset (xCh_sub i hc)).2
      isplitl [Hx]; · iexact Hx
      iexact Hxr
    · iapply (pointsTo_split_subset (bCh_sub i hc)).2
      isplitl [Hb]; · iexact Hb
      iexact Hbr
  · iexact HO

/-! ## The walk over a chunk -/

/-- What the worker has after its first `n` groups. -/
abbrev St.at (s : St F) (n : Nat) : St F :=
  s.groups (wid i) (fun r => xRow x (10000 * wid i + r)) (fun r => bAt b (10000 * wid i + r)) n

theorem chunk_wp (hC : HasScoped d i C) (q : Fin 2) (w : Fin 3) {c : Nat} (hc : c < 25) (s : St F) (hs : s.cur.toNat ≤ 512)
    (hB : ∀ r, r < 10000 → (bAt b (10000 * wid i + r)).toNat ≤ 512) :
    iprop(Core d i O W C (St.at i x b s (25 * c)) ∗ Full d i x b q c)
      ⊢ wpW U d i (chunkG i q w) fun _ => iprop(Core d i O W C (St.at i x b s (25 * (c + 1))) ∗ Free d i x b q) := by
  unfold Full chunkG
  iintro ⟨H, %g, %g', %hg, HX, HI, HR⟩
  iapply (Scf.wp_for frame (wpE (defs₀ (F := F)) Variants.none (thr d i) none) Set.univ _ _ _ _ _ _
    (fun k _ => iprop(Core d i O W C (St.at i x b s (25 * c + k)) ∗ hXb d i (xHalf q) g ∗ hIb (F := F) d i (iHalf q) g')) ?hbody)
  case hbody =>
    intro k acc
    have hk : k.val < 25 := k.2
    have hcur : (St.at i x b s (25 * c + k.val)).cur.toNat ≤ 512 :=
      St.groups_cur_le hs 625 (fun n hn => hB n (by omega)) (25 * c + k.val) (by omega)
    have hid : ∀ n, n < 16 → idOf g' (400 * q.val + 16 * k.val + n) = bAt b (10000 * wid i + (16 * (25 * c + k.val) + n)) := by
      intro n hn
      have h := hg.2 (16 * k.val + n) (by omega)
      rw [← Nat.add_assoc] at h
      rw [h]
      congr 2
      omega
    have hx : ∀ n, n < 16 → rowOf g (400 * q.val + 16 * k.val + n) = xRow x (10000 * wid i + (16 * (25 * c + k.val) + n)) := by
      intro n hn
      have h := hg.1 (16 * k.val + n) (by omega)
      rw [← Nat.add_assoc] at h
      rw [h]
      congr 2
      omega
    have h := group_wp (U := U) d i O W C hC q k w (xHalf q) (fun y h1 h2 => by
        unfold xHalf
        rw [Finset.mem_filter]
        exact ⟨Finset.mem_univ _, by omega, by omega⟩) (iHalf q) (fun y h1 h2 => by
        unfold iHalf
        rw [Finset.mem_filter]
        exact ⟨Finset.mem_univ _, by omega, by omega⟩) g g' (St.at i x b s (25 * c + k.val)) hcur
      (fun n hn => by rw [hid n hn]; exact hB _ (by omega))
    rw [St.group_congr hx hid] at h
    exact h
  isplitl [H HX HI]
  · isplitl [H]; · iexact H
    isplitl [HX]; · iexact HX
    iexact HI
  · iintro %acc ⟨H, HX, HI⟩
    isplitl [H]; · iexact H
    unfold Free
    isplitl [HX]; · iexists g; iexact HX
    isplitl [HI]; · iexists g'; iexact HI
    iexact HR

end Cert.KernelIdeal.Pool
-- ==== Proof.KernelIdeal.Body.lean ====
/-
  The worker's whole body: the table cleared, twenty-five chunks walked, the last run put away, the counts sent.
-/
module

public import proofs.«01_k».proof.Proof.KernelIdeal.Chunk

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Cert.KernelIdeal

variable {F : FTy → Type} [FloatOps F] [Facts]
variable {U : Type} [URA U] [CountersIn U]
open Facts₀ Facts

local notation "𝕄" => MT nD τ sig (HIx 1) (Elt F) ℕ U ℕ

variable (d : Dev nD) (i : grid0.Coords)
variable (O : CellTallies nD τ sig (HIx 1)) (W : Waits sig (HIx 1)) (C : Finset (GSem nD τ sig))
variable (x : FVec F S320000x128 .f32) (b : IVec S320000 32)

/-! ## Where the chunks begin, as the body computes it -/

theorem base_toNat (v : BitVec 32) (hv : v.toNat < 10000) :
    ((BitVec.ofNat 32 (i 0).val * 16#32 + BitVec.ofNat 32 (i 1).val) * 10000#32 + v).toNat = 10000 * wid i + v.toNat := by
  have := wid_lt i
  rw [BitVec.toNat_add, BitVec.toNat_mul, wid_toNat]
  show (wid i * 10000 % 4294967296 + v.toNat) % 4294967296 = _
  omega

theorem offC_ext {o : Fin 2 → Nat} {c : Nat} (h0 : o 0 = 10000 * wid i + 400 * c) (h1 : o 1 = 0) : o = offC i c := by
  funext a
  match a with
  | ⟨0, _⟩ => exact h0
  | ⟨1, _⟩ => exact h1

theorem offCI_ext {o : Fin 1 → Nat} {c : Nat} (h0 : o 0 = 10000 * wid i + 400 * c) : o = offCI i c := by
  funext a
  match a with
  | ⟨0, _⟩ => exact h0

theorem off1_eq (v : BitVec 32) (c : Nat) (hv : v.toNat = 400 * c) (hc : c < 25) : k0_off1 i v = offC i c :=
  offC_ext i ((base_toNat i v (by omega)).trans (by rw [hv])) rfl
theorem off2_eq (v : BitVec 32) (c : Nat) (hv : v.toNat = 400 * c) (hc : c < 25) : k0_off2 i v = offCI i c :=
  offCI_ext i ((base_toNat i v (by omega)).trans (by rw [hv]))

/-- The chunk asked for after chunk `2 t + q`, in rows. -/
abbrev nextV (t : Fin 12) (q : Fin 2) : BitVec 32 :=
  Scalar.muli (Scalar.addi (Scalar.addi (Scalar.muli 2#32 (Scf.iv 0#32 1#32 t.val)) (BitVec.ofNat 32 q.val)) 2#32) 400#32

theorem nextV_val (t : Fin 12) (q : Fin 2) : (nextV t q).toNat = 400 * (2 * t.val + q.val + 2) := by
  revert t q; decide

theorem off175_eq (t : Fin 12) (h : 2 * t.val + 2 < 25) : k0_off175 i t = offC i (2 * t.val + 2) :=
  offC_ext i ((base_toNat i (nextV t 0) (by rw [nextV_val]; show 400 * (2 * t.val + 0 + 2) < _; omega)).trans (by rw [nextV_val]; rfl)) rfl
theorem off176_eq (t : Fin 12) (h : 2 * t.val + 2 < 25) : k0_off176 i t = offCI i (2 * t.val + 2) :=
  offCI_ext i ((base_toNat i (nextV t 0) (by rw [nextV_val]; show 400 * (2 * t.val + 0 + 2) < _; omega)).trans (by rw [nextV_val]; rfl))
theorem off346_eq (t : Fin 12) (h : 2 * t.val + 3 < 25) : k0_off346 i t = offC i (2 * t.val + 3) :=
  offC_ext i ((base_toNat i (nextV t 1) (by rw [nextV_val]; show 400 * (2 * t.val + 1 + 2) < _; omega)).trans (by rw [nextV_val]; rfl)) rfl
theorem off347_eq (t : Fin 12) (h : 2 * t.val + 3 < 25) : k0_off347 i t = offCI i (2 * t.val + 3) :=
  offCI_ext i ((base_toNat i (nextV t 1) (by rw [nextV_val]; show 400 * (2 * t.val + 1 + 2) < _; omega)).trans (by rw [nextV_val]; rfl))

theorem cond19_all : ∀ t : Fin 12, (k0_cond19 t == 1#1) = decide (2 * t.val + 2 < 25) := by decide
theorem cond38_all : ∀ t : Fin 12, (k0_cond38 t == 1#1) = decide (2 * t.val + 3 < 25) := by decide
theorem cond19_iff (t : Fin 12) : k0_cond19 t = 1#1 ↔ 2 * t.val + 2 < 25 := by
  rw [← decide_eq_true_iff (p := 2 * t.val + 2 < 25), ← cond19_all t, beq_iff_eq]
theorem cond38_iff (t : Fin 12) : k0_cond38 t = 1#1 ↔ 2 * t.val + 3 < 25 := by
  rw [← decide_eq_true_iff (p := 2 * t.val + 3 < 25), ← cond38_all t, beq_iff_eq]

/-! ## The chunks in turn -/

/-- Half `q`, its next chunk `c` on its way if there is one. -/
def Slot (q : Fin 2) (c : Nat) : sProp 𝕄 := if c < 25 then InF d i x b q c else Free d i x b q

/-- A chunk awaited and walked. -/
theorem proc_wp (hC : HasScoped d i C) (q : Fin 2) (w : Fin 3) {c : Nat} (hc : c < 25) (s : St F) (hs : s.cur.toNat ≤ 512)
    (hB : ∀ r, r < 10000 → (bAt b (10000 * wid i + r)).toNat ≤ 512)
    (o : Fin 2 → Nat) (ho : ∀ a, o a + S400x128.size a ≤ S320000x128.size a)
    (o' : Fin 1 → Nat) (ho' : ∀ a, o' a + S400.size a ≤ S320000.size a) {α : Type} {K : BitVec 32 → TP F i α} {Q : α → sProp 𝕄} :
    iprop(Core d i O W C (St.at i x b s (25 * c)) ∗ InF d i x b q c)
      ⊢ iprop((iprop(Core d i O W C (St.at i x b s (25 * (c + 1))) ∗ Free d i x b q) -∗ (∀ v, wpW U d i (K v) Q))
        -∗ wpW U d i (awaitG i q o ho o' ho' >>= fun _ => chunkG i q w >>= K) Q) := by
  iintro ⟨H, HF⟩ HK
  unfold Core
  icases H with ⟨HW, HE, HO⟩
  iapply (wp_call d i (await_wp d i O W x b q hc o ho o' ho')) $$ [HF HO]
  · isplitl [HF]; · iexact HF
    iexact HO
  iintro %a ⟨HF, HO⟩
  iapply (wp_call d i (chunk_wp d i O W C x b hC q w hc s hs hB)) $$ [HW HE HO HF]
  · isplitr [HF]
    · unfold Core
      isplitl [HW]; · iexact HW
      isplitl [HE]; · iexact HE
      iexact HO
    iexact HF
  iintro %a' ⟨H, HF⟩
  iapply HK $$ [H HF]
  unfold Core
  isplitl [H]; · iexact H
  iexact HF

theorem outer_wp (hC : HasScoped d i C) (s : St F) (hs : s.cur.toNat ≤ 512)
    (hB : ∀ r, r < 10000 → (bAt b (10000 * wid i + r)).toNat ≤ 512) (t : Fin 12) :
    iprop(Core d i O W C (St.at i x b s (50 * t.val)) ∗ Slot d i x b 0 (2 * t.val) ∗ Slot d i x b 1 (2 * t.val + 1))
      ⊢ wpW U d i (outerG i t) fun _ =>
        iprop(Core d i O W C (St.at i x b s (50 * (t.val + 1))) ∗ Slot d i x b 0 (2 * (t.val + 1)) ∗ Slot d i x b 1 (2 * (t.val + 1) + 1)) := by
  have ht := t.2
  rw [show 50 * t.val = 25 * (2 * t.val) by omega, show 50 * (t.val + 1) = 25 * (2 * t.val + 1 + 1) by omega,
    show 2 * (t.val + 1) + 1 = 2 * t.val + 3 by omega, show 2 * (t.val + 1) = 2 * t.val + 2 by omega]
  unfold Slot outerG
  rw [if_pos (show 2 * t.val < 25 by omega), if_pos (show 2 * t.val + 1 < 25 by omega), if_pos (show 2 * t.val + 2 < 25 by omega),
    dif_pos ((cond19_iff t).mpr (by omega))]
  iintro ⟨H, HA, HB⟩
  iapply (proc_wp d i O W C x b hC 0 0 (c := 2 * t.val) (by omega) s hs hB) $$ [H HA]
  · isplitl [H]; · iexact H
    iexact HA
  iintro ⟨H, HA⟩ %v
  iapply (wp_call d i (fetch_wp d i x b 0 (c := 2 * t.val + 2) (by omega) _ _ _ _ (off175_eq i t (by omega)) (off176_eq i t (by omega)))) $$ HA
  iintro %a HA
  iapply (proc_wp d i O W C x b hC 1 1 (c := 2 * t.val + 1) (by omega) s hs hB) $$ [H HB]
  · isplitl [H]; · iexact H
    iexact HB
  iintro ⟨H, HB⟩ %v'
  by_cases h : 2 * t.val + 3 < 25
  · rw [dif_pos ((cond38_iff t).mpr h), if_pos h]
    iapply (wp_call d i (fetch_wp d i x b 1 (c := 2 * t.val + 3) h _ _ _ _ (off346_eq i t h) (off347_eq i t h))) $$ HB
    iintro %a' HB
    iapply (wpW_ret d i)
    isplitl [H]; · iexact H
    isplitl [HA]; · iexact HA
    iexact HB
  · rw [dif_neg (fun h' => h ((cond38_iff t).mp h')), if_neg h]
    iapply (wpW_ret d i)
    isplitl [H]; · iexact H
    isplitl [HA]; · iexact HA
    iexact HB

/-! ## The table cleared -/

/-- The first `k` slots of the table at zero. -/
def cleared (k : Nat) (f : FVec F S8320 .f32) : FVec F S8320 .f32 := fun y =>
  if (y 0).val < 16 * k then Scalar.ofBits .f32 0x00000000#32 else f y

theorem off3_val (t : Fin 520) : k0_off3 t 0 = 16 * t.val := by
  have ht := t.2
  show ((0#32 + BitVec.ofNat 32 t.val * 1#32) * 16#32).toNat = _
  rw [BitVec.toNat_mul, BitVec.toNat_add, BitVec.toNat_mul, BitVec.toNat_ofNat]
  show (0 + t.val % 4294967296 * 1 % 4294967296) % 4294967296 * 16 % 4294967296 = _
  omega

theorem clear_wp (f : FVec F S8320 .f32) :
    hTab (U := U) d i f ⊢ wpW U d i (clearG i) fun _ => hTab d i fun _ => Scalar.ofBits .f32 0x00000000#32 := by
  unfold clearG
  iintro H
  iapply (Scf.wp_for frame (wpE (defs₀ (F := F)) Variants.none (thr d i) none) Set.univ _ _ _ _ _ _
    (fun k _ => hTab d i (cleared k f)) ?hbody)
  case hbody =>
    intro t acc
    simp only [Prog.lift, Prog.bind_op, Prog.bind_ret, Prog.pure_eq_ret]
    iintro H
    iapply (wp_load_rect (m := mTab) (r := Rect.unit (s := S8320) (k0_off3 t) S16.size (k0_off3_inb t)) Variants.none (thr d i) none Set.univ
      (Finset.subset_univ _)) $$ H
    iintro H
    iapply (wp_store_to d i (m := mTab) (r := Rect.unit (s := S8320) (k0_off3 t) S16.size (k0_off3_inb t)) (cleared (t.val + 1) f) ?h) $$ H
    case h =>
      have h3 := off3_val t
      refine write_ext cc0_scratch2 _ _ _ _ (fun y => ?_) fun y hy => ?_
      · rw [shapeCast_self]
        have hy : (y 0).val < 16 := (y 0).2
        refine if_pos ?_
        show k0_off3 t 0 + 1 * (y 0).val < _
        omega
      · unfold cleared
        rw [Rect.mem_set_unit] at hy
        have h0 : ¬ (k0_off3 t 0 ≤ (y 0).val ∧ (y 0).val < k0_off3 t 0 + 16) := fun h => hy fun a => match a with | 0 => h
        by_cases h1 : (y 0).val < 16 * t.val
        · rw [if_pos h1, if_pos (by omega)]
        · rw [if_neg h1, if_neg (by omega)]
    iintro H
    iapply (wpW_ret d i)
    iexact H
  isplitl [H]
  · rw [show cleared 0 f = f from funext fun y => if_neg (by omega)]
    iexact H
  · iintro %acc H
    rw [show cleared (F := F) (Scf.trips k0_t1_loop.lb k0_t1_loop.ub k0_t1_loop.st) f = fun _ => Scalar.ofBits .f32 0x00000000#32 from
      funext fun y => if_pos (by
        have : (y 0).val < 8320 := (y 0).2
        show (y 0).val < 16 * 520
        omega)]
    iexact H

/-! ## The counts sent -/

/-- The worker's row of the counts. -/
def cRow (w : Nat) : Finset S32x8192.Idx := Finset.univ.filter fun y => (y 0).val = w

abbrev hOC (f : FVec F S32x8192 .f32) : sProp 𝕄 := mOC.view.loc (thr d i) ↦[cRow (wid i)]{fullShare} f

/-- The table's first 512 slots as row `w` of the counts. -/
def cntRow (w : Nat) (t : FVec F S8320 .f32) (f : FVec F S32x8192 .f32) : FVec F S32x8192 .f32 := fun y =>
  if (y 0).val = w then t (ix1 (n0 := 8320) ⟨(y 1).val, by have : (y 1).val < 8192 := (y 1).2; omega⟩) else f y

theorem off519_val : k0_off519 i 0 = wid i := wid_toNat i

theorem counts_wp (hC : HasScoped d i C) (t : FVec F S8320 .f32) (f : FVec F S32x8192 .f32) :
    iprop(hTab d i t ∗ hOC d i f ∗ Sems C ∗ Ow d i O W)
      ⊢ wpW U d i (countsG i) fun _ => iprop(hTab d i t ∗ hOC d i (cntRow (wid i) t f) ∗ Sems C ∗ Ow d i O W) := by
  have h519 := off519_val i
  have hsub : (mRowOut i).view.set ⊆ cRow (wid i) := by
    show (((View.whole main_v0_1_scv).slice (Rect.unit (s := S32x8192) (k0_off519 i) S1x8192.size (k0_off519_inb i))).reshape S8192 _).set ⊆ _
    rw [View.set_reshape, View.set_slice_whole]
    intro y hy
    rw [Rect.mem_set_unit] at hy
    have h : k0_off519 i 0 ≤ (y 0).val ∧ (y 0).val < k0_off519 i 0 + 1 := hy 0
    unfold cRow
    rw [Finset.mem_filter]
    exact ⟨Finset.mem_univ _, by omega⟩
  have hval : (mRowOut i).view.write (Elt F) f (mTabOut.view.read (Elt F) t) Finset.univ = cntRow (wid i) t f := by
    refine write_slice_ext (Val := Elt F) main_v0_1_scv (Rect.unit (s := S32x8192) (k0_off519 i) S1x8192.size (k0_off519_inb i))
      squeezes_S1x8192_S8192.numel_eq f _ _ (fun y => ?_) fun y hy => ?_
    · rw [show Shape.reshapeEquiv squeezes_S1x8192_S8192.numel_eq y = ix2 (n0 := 1) (n1 := 8192) ⟨0, Nat.one_pos⟩ (y 0) from
        Shape.reshapeEquiv_eq_of_rowMajor _ (by
          rw [Shape.rowMajor_val_two, Shape.rowMajor_val_one]
          simp)]
      refine (if_pos (show k0_off519 i 0 + 1 * 0 = wid i by omega)).trans ?_
      show t _ = t _
      congr 1
      funext a
      apply Fin.ext
      match a with
      | ⟨0, _⟩ =>
        show 0 + 1 * (y 0).val = 0 + 1 * (y 0).val
        rfl
    · refine if_neg fun hn => hy ?_
      rw [Rect.mem_set_unit]
      intro a
      match a with
      | ⟨0, _⟩ =>
        show k0_off519 i 0 ≤ (y 0).val ∧ (y 0).val < k0_off519 i 0 + 1
        omega
      | ⟨1, _⟩ =>
        have : (y 1).val < 8192 := (y 1).2
        show 0 ≤ (y 1).val ∧ (y 1).val < 0 + 8192
        omega
  unfold countsG
  iintro ⟨HT, HC, HE, HO⟩
  ihave HT2 := (pointsTo_split_subset (Finset.subset_univ mTabOut.view.set)).1 $$ HT
  icases HT2 with ⟨HT, HTr⟩
  iapply (wp_last d i (copyC_wp d i O W mTabOut (mRowOut i) (scopedN 98 (scoped_le (by omega))).sem _ _ _ (by decide) (cRow (wid i)) hsub t
    mTabOut.view.set rfl f (cntRow (wid i) t f) fullShare C (hC _ _) hval)) $$ [HT HC HE HO]
  · isplitl [HT]; · iexact HT
    isplitl [HC]; · iexact HC
    isplitl [HE]; · iexact HE
    iexact HO
  iintro %a ⟨HT, HC, HE, HO⟩
  isplitl [HT HTr]
  · iapply (pointsTo_split_subset (Finset.subset_univ mTabOut.view.set)).2
    isplitl [HT]; · iexact HT
    iexact HTr
  isplitl [HC]; · iexact HC
  isplitl [HE]; · iexact HE
  iexact HO

end Cert.KernelIdeal.Pool
-- ==== Proof.KernelIdeal.Whole.lean ====
/-
  The worker's whole body, from its two halves at rest to its counts and runs sent.
-/
module

public import proofs.«01_k».proof.Proof.KernelIdeal.Body

@[expose] public section

noncomputable section

namespace Cert.KernelIdeal.Pool

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers
open Cert.KernelIdeal

variable {F : FTy → Type} [FloatOps F] [Facts]
variable {U : Type} [URA U] [CountersIn U]
open Facts₀ Facts

local notation "𝕄" => MT nD τ sig (HIx 1) (Elt F) ℕ U ℕ

variable (d : Dev nD) (i : grid0.Coords)
variable (O : CellTallies nD τ sig (HIx 1)) (W : Waits sig (HIx 1)) (C : Finset (GSem nD τ sig))
variable (x : FVec F S320000x128 .f32) (b : IVec S320000 32)

/-! ## The two halves -/

theorem xHalf_one : Finset.univ \ xHalf 0 = xHalf 1 := by
  ext y
  have h : (y 0).val < 800 := (y 0).2
  unfold xHalf
  rw [Finset.mem_sdiff, Finset.mem_filter, Finset.mem_filter]
  show _ ∧ ¬ (_ ∧ 400 * 0 ≤ _ ∧ _ < 400 * 0 + 400) ↔ _ ∧ 400 * 1 ≤ _ ∧ _ < 400 * 1 + 400
  have := Finset.mem_univ y
  constructor
  · rintro ⟨-, h'⟩
    refine ⟨this, ?_, by omega⟩
    by_contra hn
    exact h' ⟨this, by omega, by omega⟩
  · rintro ⟨-, h1, h2⟩
    exact ⟨this, fun h' => by omega⟩

theorem iHalf_one : Finset.univ \ iHalf 0 = iHalf 1 := by
  ext y
  have h : (y 0).val < 800 := (y 0).2
  unfold iHalf
  rw [Finset.mem_sdiff, Finset.mem_filter, Finset.mem_filter]
  show _ ∧ ¬ (_ ∧ 400 * 0 ≤ _ ∧ _ < 400 * 0 + 400) ↔ _ ∧ 400 * 1 ≤ _ ∧ _ < 400 * 1 + 400
  have := Finset.mem_univ y
  constructor
  · rintro ⟨-, h'⟩
    refine ⟨this, ?_, by omega⟩
    by_contra hn
    exact h' ⟨this, by omega, by omega⟩
  · rintro ⟨-, h1, h2⟩
    exact ⟨this, fun h' => by omega⟩

/-- What the two halves are cut from: the chunk buffers, the worker's rows and segments, the four cells at rest. -/
def Src : sProp 𝕄 :=
  iprop((∃ g, hXb d i Finset.univ g) ∗ (∃ g', hIb (F := F) d i Finset.univ g')
    ∗ (mX.view.loc (thr d i) ↦[xSlab (wid i)]{fullShare} x) ∗ (mB.view.loc (thr d i) ↦[bSlab (wid i)]{fullShare} b)
    ∗ semVal (thr d i, .dma (semX 0).sem) 0 ∗ semVal (thr d i, .dma (semX 1).sem) 0
    ∗ semVal (thr d i, .dma (semI 0).sem) 0 ∗ semVal (thr d i, .dma (semI 1).sem) 0)

theorem src_split : Src (U := U) d i x b ⊢ iprop(Free d i x b 0 ∗ Free d i x b 1) := by
  unfold Src Free Rest
  iintro ⟨⟨%g, HX⟩, ⟨%g', HI⟩, Hx, Hb, Ha, Ha', Hi, Hi'⟩
  ihave HX := (pointsTo_split_subset (Finset.subset_univ (xHalf 0))).1 $$ HX
  ihave HI := (pointsTo_split_subset (Finset.subset_univ (iHalf 0))).1 $$ HI
  icases HX with ⟨HX, HX'⟩
  icases HI with ⟨HI, HI'⟩
  ihave HX' := (Entails.of_eq (congrArg (fun S => (hXb d i S g : sProp 𝕄)) xHalf_one)) $$ HX'
  ihave HI' := (Entails.of_eq (congrArg (fun S => (hIb (F := F) d i S g' : sProp 𝕄)) iHalf_one)) $$ HI'
  ihave Hx := (pointsTo_share (PosShare.mem_left_op_right fullShare)).1 $$ Hx
  ihave Hb := (pointsTo_share (PosShare.mem_left_op_right fullShare)).1 $$ Hb
  icases Hx with ⟨Hx, Hx'⟩
  icases Hb with ⟨Hb, Hb'⟩
  isplitl [HX HI Ha Hi Hx Hb]
  · isplitl [HX]; · iexists g; iexact HX
    isplitl [HI]; · iexists g'; iexact HI
    isplitl [Ha]; · iexact Ha
    isplitl [Hi]; · iexact Hi
    isplitl [Hx]; · iexact Hx
    iexact Hb
  · isplitl [HX']; · iexists g; iexact HX'
    isplitl [HI']; · iexists g'; iexact HI'
    isplitl [Ha']; · iexact Ha'
    isplitl [Hi']; · iexact Hi'
    isplitl [Hx']; · iexact Hx'
    iexact Hb'

theorem src_join : iprop(Free (U := U) d i x b 0 ∗ Free d i x b 1) ⊢ Src d i x b := by
  unfold Src Free Rest
  iintro ⟨⟨⟨%g, HX⟩, ⟨%g', HI⟩, Ha, Hi, Hx, Hb⟩, ⟨%k, HX'⟩, ⟨%k', HI'⟩, Ha', Hi', Hx', Hb'⟩
  ihave HX' := (Entails.of_eq (congrArg (fun S => (hXb d i S k : sProp 𝕄)) xHalf_one.symm)) $$ HX'
  ihave HI' := (Entails.of_eq (congrArg (fun S => (hIb (F := F) d i S k' : sProp 𝕄)) iHalf_one.symm)) $$ HI'
  isplitl [HX HX']
  · iexists _
    iapply (pointsTo_join_subset (Finset.subset_univ (xHalf 0)))
    isplitl [HX]; · iexact HX
    iexact HX'
  isplitl [HI HI']
  · iexists _
    iapply (pointsTo_join_subset (Finset.subset_univ (iHalf 0)))
    isplitl [HI]; · iexact HI
    iexact HI'
  isplitl [Hx Hx']
  · iapply (pointsTo_share (PosShare.mem_left_op_right fullShare)).2
    isplitl [Hx]; · iexact Hx
    iexact Hx'
  isplitl [Hb Hb']
  · iapply (pointsTo_share (PosShare.mem_left_op_right fullShare)).2
    isplitl [Hb]; · iexact Hb
    iexact Hb'
  isplitl [Ha]; · iexact Ha
  isplitl [Ha']; · iexact Ha'
  isplitl [Hi]; · iexact Hi
  iexact Hi'

/-! ## The start -/

theorem start_wp (v : BitVec 32) :
    iprop(Free (U := U) d i x b 0 ∗ Free d i x b 1 ∗ hCur (F := F) d i v)
      ⊢ wpW U d i (startG i) fun _ => iprop(InF d i x b 0 0 ∗ InF d i x b 1 1 ∗ hCur (F := F) d i 512#32) := by
  unfold startG
  iintro ⟨HA, HB, HC⟩
  iapply (wp_call d i (fetch_wp d i x b 0 (c := 0) (by omega) _ _ _ _ (off1_eq i 0#32 0 rfl (by omega)) (off2_eq i 0#32 0 rfl (by omega)))) $$ HA
  iintro %a HA
  iapply (wp_call d i (fetch_wp d i x b 1 (c := 1) (by omega) _ _ _ _ (off1_eq i 400#32 1 rfl (by omega)) (off2_eq i 400#32 1 rfl (by omega)))) $$ HB
  iintro %a' HB
  simp only [smemLoad, smemLoadElt, Prog.lift, Prog.bind_op, Prog.bind_ret, Prog.pure_eq_ret]
  iapply (wp_getCur d i) $$ HC
  iintro HC
  iapply (wp_setCur d i) $$ HC
  iintro HC
  iapply (wpW_ret d i)
  isplitl [HA]; · iexact HA
  isplitl [HB]; · iexact HB
  iexact HC

/-! ## The whole body -/

/-- Where the worker begins: no segment current, no segment counted. -/
abbrev St.start (fa fs : FVec F S128 .f32) (fc : FVec F S16 .f32) (om os : FVec F S16640x128 .f32) : St F where
  cur := 512#32
  acc := fa
  sum := fs
  cnt := fc
  tab := fun _ => Scalar.ofBits .f32 0x00000000#32
  om := om
  os := os

/-- Where it ends. -/
abbrev St.done (s : St F) : St F := (St.at i x b s 625).flush (wid i)

theorem slot_last (P : sProp 𝕄) :
    iprop(P ∗ Slot d i x b 0 (2 * 12) ∗ Slot d i x b 1 (2 * 12 + 1)) ⊢ iprop(P ∗ InF d i x b 0 24 ∗ Free d i x b 1) := by
  unfold Slot
  rw [if_pos (show 2 * 12 < 25 by omega), if_neg (show ¬ 2 * 12 + 1 < 25 by omega)]

theorem bodyG_wp (hC : HasScoped d i C) (hB : ∀ r, r < 10000 → (bAt b (10000 * wid i + r)).toNat ≤ 512)
    (v : BitVec 32) (ft : FVec F S8320 .f32) (fa fs : FVec F S128 .f32) (fc : FVec F S16 .f32)
    (om os : FVec F S16640x128 .f32) (oc : FVec F S32x8192 .f32) :
    iprop(Src d i x b ∗ hCur (F := F) d i v ∗ hTab d i ft ∗ hAcc d i fa ∗ hSum d i fs ∗ hCnt d i fc ∗ hOM d i om ∗ hOS d i os
        ∗ hOC d i oc ∗ Sems C ∗ Ow d i O W)
      ⊢ wpW U d i (bodyG i) fun _ => iprop(Src d i x b ∗ Own d i (St.done i x b (St.start fa fs fc om os))
        ∗ hOC d i (cntRow (wid i) (St.done i x b (St.start fa fs fc om os)).tab oc) ∗ Sems C ∗ Ow d i O W) := by
  have h512 : (512#32 : BitVec 32).toNat ≤ 512 := by decide
  unfold bodyG
  iintro ⟨HS, HU, HT, HA, HB, HN, HM, HP, HK, HE, HO⟩
  ihave HS := (src_split d i x b) $$ HS
  icases HS with ⟨H0, H1⟩
  iapply (wp_call d i (start_wp d i x b v)) $$ [H0 H1 HU]
  · isplitl [H0]; · iexact H0
    isplitl [H1]; · iexact H1
    iexact HU
  iintro %a ⟨H0, H1, HU⟩
  iapply (wp_call d i (clear_wp d i ft)) $$ HT
  iintro %a1 HT
  iapply (wp_call d i (P := iprop(Core d i O W C (St.at i x b (St.start fa fs fc om os) (50 * 0)) ∗ Slot d i x b 0 (2 * 0) ∗ Slot d i x b 1 (2 * 0 + 1)))
    (R := fun _ => iprop(Core d i O W C (St.at i x b (St.start fa fs fc om os) (50 * 12)) ∗ Slot d i x b 0 (2 * 12) ∗ Slot d i x b 1 (2 * 12 + 1))) ?hloop)
    $$ [H0 H1 HU HT HA HB HN HM HP HE HO]
  case hloop =>
    iintro H
    iapply (Scf.wp_for frame (wpE (defs₀ (F := F)) Variants.none (thr d i) none) Set.univ _ _ _ _ _ _
      (fun k _ => iprop(Core d i O W C (St.at i x b (St.start fa fs fc om os) (50 * k)) ∗ Slot d i x b 0 (2 * k) ∗ Slot d i x b 1 (2 * k + 1))) ?hbody)
    case hbody =>
      intro t acc
      exact outer_wp d i O W C x b hC _ h512 hB t
    isplitl [H]; · iexact H
    iintro %acc H
    iexact H
  · isplitr [H0 H1]
    · unfold Core Own
      isplitr [HE HO]
      · isplitl [HU]; · iexact HU
        isplitl [HA]; · iexact HA
        isplitl [HB]; · iexact HB
        isplitl [HN]; · iexact HN
        isplitl [HT]; · iexact HT
        isplitl [HM]; · iexact HM
        iexact HP
      isplitl [HE]; · iexact HE
      iexact HO
    unfold Slot
    rw [if_pos (by omega), if_pos (by omega)]
    isplitl [H0]; · iexact H0
    iexact H1
  iintro %a2 H
  ihave H := (slot_last d i x b _) $$ H
  icases H with ⟨H, H0, H1⟩
  iapply (proc_wp d i O W C x b hC 0 2 (c := 24) (by omega) (St.start fa fs fc om os) h512 hB) $$ [H H0]
  · isplitl [H]; · iexact H
    iexact H0
  iintro ⟨H, H0⟩ %a3
  have hcur : (St.at i x b (St.start fa fs fc om os) 625).cur.toNat ≤ 512 :=
    St.groups_cur_le h512 625 (fun n hn => hB n (by omega)) 625 (le_refl _)
  iapply (wp_call d i (lastG_wp d i O W C hC _ hcur)) $$ H
  iintro %a4 H
  unfold Core Own
  icases H with ⟨⟨HU, HA, HB, HN, HT, HM, HP⟩, HE, HO⟩
  iapply (wp_last d i (counts_wp d i O W C hC _ oc)) $$ [HT HK HE HO]
  · isplitl [HT]; · iexact HT
    isplitl [HK]; · iexact HK
    isplitl [HE]; · iexact HE
    iexact HO
  iintro %a5 ⟨HT, HK, HE, HO⟩
  isplitl [H0 H1]
  · iapply (src_join d i x b)
    isplitl [H0]; · iexact H0
    iexact H1
  isplitl [HU HA HB HN HT HM HP]
  · isplitl [HU]; · iexact HU
    isplitl [HA]; · iexact HA
    isplitl [HB]; · iexact HB
    isplitl [HN]; · iexact HN
    isplitl [HT]; · iexact HT
    isplitl [HM]; · iexact HM
    iexact HP
  isplitl [HK]; · iexact HK
  isplitl [HE]; · iexact HE
  iexact HO

end Cert.KernelIdeal.Pool
-- ==== Proof.KernelIdeal.Walk.lean ====
/-
  Programs compared statement by statement.

  Each lemma drops one step off both sides of an equation between two programs followed by what is left to run.
-/
module

public import Idealize.ShloMosaic.Lib.Scf

@[expose] public section

noncomputable section

namespace Cert.KernelIdeal.Walk

open Idealize.ShloMosaic Idealize.SL.Sem

universe v
variable {E : Type → Type v} {α β γ δ ε : Type}

/-- Two programs agree once they agree with nothing left to run. -/
theorem start {p q : Prog E α} (h : Prog.bind p Prog.ret = Prog.bind q Prog.ret) : p = q :=
  (Prog.bind_pure p).symm.trans (h.trans (Prog.bind_pure q))

/-- A nested sequence on the left runs its first part first. -/
theorem assocL {p : Prog E α} {k : α → Prog E β} {K : β → Prog E γ} {R : Prog E γ}
    (h : Prog.bind p (fun x => Prog.bind (k x) K) = R) : Prog.bind (Prog.bind p k) K = R :=
  (Prog.bind_assoc p k K).trans h

/-- A nested sequence on the right runs its first part first. -/
theorem assocR {p : Prog E α} {k : α → Prog E β} {K : β → Prog E γ} {R : Prog E γ}
    (h : R = Prog.bind p (fun x => Prog.bind (k x) K)) : R = Prog.bind (Prog.bind p k) K :=
  h.trans (Prog.bind_assoc p k K).symm

/-- A value on the left goes to what is left to run. -/
theorem retL {a : α} {K : α → Prog E β} {R : Prog E β} (h : K a = R) : Prog.bind (Prog.ret a) K = R := h

/-- A value on the right goes to what is left to run. -/
theorem retR {a : α} {K : α → Prog E β} {R : Prog E β} (h : R = K a) : R = Prog.bind (Prog.ret a) K := h

/-- The first part on the left, said otherwise. -/
theorem swapL {p q : Prog E α} {K : α → Prog E β} {R : Prog E β} (e : p = q) (h : Prog.bind q K = R) :
    Prog.bind p K = R := e ▸ h

/-- The same effect on both sides. -/
theorem op {e : E α} {K K' : α → Prog E β} (h : ∀ x, K x = K' x) :
    Prog.bind (Prog.lift e) K = Prog.bind (Prog.lift e) K' := by
  rw [show K = K' from funext h]

/-- The same counted loop on both sides. -/
theorem loop {w : Nat} {L : Scf.Loop w} {ok ok' : L.OK} {s : α} {b b' : Fin L.trips → α → Prog E α}
    {K K' : α → Prog E β} (hb : ∀ t s, Prog.bind (b t s) Prog.ret = Prog.bind (b' t s) Prog.ret)
    (h : ∀ x, K x = K' x) :
    Prog.bind (Scf.Loop.for L ok s b) K = Prog.bind (Scf.Loop.for L ok' s b') K' := by
  rw [show b = b' from funext fun t => funext fun s => start (hb t s), show K = K' from funext h]

/-- The same condition on both sides; what follows it is compared once. -/
theorem cond {c : Prop} [Decidable c] {X : c → Prog E α} {Y : Prog E α} {A : c → Prog E γ} {B : Prog E γ}
    {K : α → Prog E β} {K' : γ → Prog E β} (hK : Prog.bind Y K = Prog.bind B K')
    (hA : (Prog.bind Y K = Prog.bind B K') → ∀ h : c, Prog.bind (X h) K = Prog.bind (A h) K') :
    Prog.bind (dite c X (fun _ => Y)) K = Prog.bind (dite c A (fun _ => B)) K' := by
  by_cases h : c
  · rw [dif_pos h, dif_pos h]
    exact hA hK h
  · rw [dif_neg h, dif_neg h]
    exact hK

/-- The same condition on both sides, where the branches say nothing of it. -/
theorem condI {c : Prop} [Decidable c] {X : Prog E α} {Y : Prog E α} {A B : Prog E γ}
    {K : α → Prog E β} {K' : γ → Prog E β} (hK : Prog.bind Y K = Prog.bind B K')
    (hA : (Prog.bind Y K = Prog.bind B K') → Prog.bind X K = Prog.bind A K') :
    Prog.bind (ite c X Y) K = Prog.bind (ite c A B) K' := by
  by_cases h : c
  · rw [if_pos h, if_pos h]
    exact hA hK
  · rw [if_neg h, if_neg h]
    exact hK

end Cert.KernelIdeal.Walk
-- ==== Proof.KernelIdeal.Eq1.lean ====
/-
  The printed first half of the outer loop's body: one chunk of the buffer's first half.
-/
module

public import proofs.«01_k».proof.Proof.KernelIdeal.Text
public import proofs.«01_k».proof.Proof.KernelIdeal.Walk

@[expose] public section

noncomputable section

namespace Cert.KernelIdeal.Pool

open Idealize.ShloMosaic Idealize.SL.Sem Cert.KernelIdeal

variable {F : FTy → Type} [FloatOps F] [Facts]
open Facts₀ Facts

set_option maxHeartbeats 8000000 in
set_option maxRecDepth 1000000 in
theorem part165_eq (i : grid0.Coords) (v3 v5 : BitVec 32) (t : Fin k0_t2_loop.trips) :
        k0_part165 (F := F) i mX (Memref.isWhole_whole _) mB (Memref.isWhole_whole _) mOS (Memref.isWhole_whole
      _) mOC (Memref.isWhole_whole _) mOM (Memref.isWhole_whole _) mXb (Memref.isWhole_whole _) mIb
      (Memref.isWhole_whole _) mTab (Memref.isWhole_whole _) mAcc (Memref.isWhole_whole _) mSum
      (Memref.isWhole_whole _) mCnt (Memref.isWhole_whole _) mCur (Memref.isWhole_whole _) cc0_scratch7
      cc0_scratch8 cc0_scoped0 cc0_scoped1 cc0_scoped2 cc0_scoped3 cc0_scoped4 cc0_scoped5 cc0_scoped6
      cc0_scoped7 cc0_scoped8 cc0_scoped9 cc0_scoped10 cc0_scoped11 cc0_scoped12 cc0_scoped13 cc0_scoped14
      cc0_scoped15 cc0_scoped16 cc0_scoped17 cc0_scoped18 cc0_scoped19 cc0_scoped20 cc0_scoped21 cc0_scoped22
      cc0_scoped23 cc0_scoped24 cc0_scoped25 cc0_scoped26 cc0_scoped27 cc0_scoped28 cc0_scoped29 cc0_scoped30
      cc0_scoped31 cc0_scoped32 cc0_scoped33 cc0_scoped34 cc0_scoped35 cc0_scoped36 cc0_scoped37 cc0_scoped38
      cc0_scoped39 cc0_scoped40 cc0_scoped41 cc0_scoped42 cc0_scoped43 cc0_scoped44 cc0_scoped45 cc0_scoped46
      cc0_scoped47 cc0_scoped48 cc0_scoped49 cc0_scoped50 cc0_scoped51 cc0_scoped52 cc0_scoped53 cc0_scoped54
      cc0_scoped55 cc0_scoped56 cc0_scoped57 cc0_scoped58 cc0_scoped59 cc0_scoped60 cc0_scoped61 cc0_scoped62
      cc0_scoped63 cc0_scoped64 cc0_scoped65 cc0_scoped66 cc0_scoped67 cc0_scoped68 cc0_scoped69 cc0_scoped70
      cc0_scoped71 cc0_scoped72 cc0_scoped73 cc0_scoped74 cc0_scoped75 cc0_scoped76 cc0_scoped77 cc0_scoped78
      cc0_scoped79 cc0_scoped80 cc0_scoped81 cc0_scoped82 cc0_scoped83 cc0_scoped84 cc0_scoped85 cc0_scoped86
      cc0_scoped87 cc0_scoped88 cc0_scoped89 cc0_scoped90 cc0_scoped91 cc0_scoped92 cc0_scoped93 cc0_scoped94
      cc0_scoped95 cc0_scoped96 cc0_scoped97 cc0_scoped98 v3 v5 onesG 0#32 1#32 t =
      (do
        awaitG i 0 (k0_off4 i t 0#32) (k0_off4_inb i t 0) (k0_off5 i t 0#32) (k0_off5_inb i t 0)
        let _ ← chunkG i 0 0
        if h : k0_cond19 t = 1#1 then
          fetchG i 0 (k0_off175 i t) (k0_off175_inb i t h) (k0_off176 i t) (k0_off176_inb i t h)
        pure (Scalar.addi (Scalar.muli 2#32 (Scf.iv 0#32 1#32 t.val)) 1#32)) := by
  refine Walk.start ?_
  repeat' first
    | with_reducible exact hc
    | with_reducible rfl
    | with_reducible refine seqNil ?_
    | with_reducible_and_instances refine Walk.retL ?_
    | with_reducible_and_instances refine Walk.retR ?_
    | refine Walk.assocL ?_
    | refine Walk.assocR ?_
    | refine Walk.op fun _ => ?_
    | refine Walk.loop (fun _ _ => ?_) (fun _ => ?_)
    | refine Walk.cond ?_ (fun hc _ => ?_)
    | refine Walk.condI ?_ (fun hc => ?_)

end Cert.KernelIdeal.Pool
-- ==== Proof.KernelIdeal.Eq2.lean ====
/-
  The printed prologue's end and outer loop.
-/
module

public import proofs.«01_k».proof.Proof.KernelIdeal.Text
public import proofs.«01_k».proof.Proof.KernelIdeal.Walk
public import proofs.«01_k».proof.Proof.KernelIdeal.Eq1

@[expose] public section

noncomputable section

namespace Cert.KernelIdeal.Pool

open Idealize.ShloMosaic Idealize.SL.Sem Cert.KernelIdeal

variable {F : FTy → Type} [FloatOps F] [Facts]
open Facts₀ Facts

set_option maxHeartbeats 8000000 in
set_option maxRecDepth 1000000 in
theorem part249_eq (i : grid0.Coords) (v3 v5 v30 : BitVec 32) :
        k0_part249 (F := F) i mX (Memref.isWhole_whole _) mB (Memref.isWhole_whole _) mOS (Memref.isWhole_whole
      _) mOC (Memref.isWhole_whole _) mOM (Memref.isWhole_whole _) mXb (Memref.isWhole_whole _) mIb
      (Memref.isWhole_whole _) mTab (Memref.isWhole_whole _) mAcc (Memref.isWhole_whole _) mSum
      (Memref.isWhole_whole _) mCnt (Memref.isWhole_whole _) mCur (Memref.isWhole_whole _) cc0_scratch7
      cc0_scratch8 cc0_scoped0 cc0_scoped1 cc0_scoped2 cc0_scoped3 cc0_scoped4 cc0_scoped5 cc0_scoped6
      cc0_scoped7 cc0_scoped8 cc0_scoped9 cc0_scoped10 cc0_scoped11 cc0_scoped12 cc0_scoped13 cc0_scoped14
      cc0_scoped15 cc0_scoped16 cc0_scoped17 cc0_scoped18 cc0_scoped19 cc0_scoped20 cc0_scoped21 cc0_scoped22
      cc0_scoped23 cc0_scoped24 cc0_scoped25 cc0_scoped26 cc0_scoped27 cc0_scoped28 cc0_scoped29 cc0_scoped30
      cc0_scoped31 cc0_scoped32 cc0_scoped33 cc0_scoped34 cc0_scoped35 cc0_scoped36 cc0_scoped37 cc0_scoped38
      cc0_scoped39 cc0_scoped40 cc0_scoped41 cc0_scoped42 cc0_scoped43 cc0_scoped44 cc0_scoped45 cc0_scoped46
      cc0_scoped47 cc0_scoped48 cc0_scoped49 cc0_scoped50 cc0_scoped51 cc0_scoped52 cc0_scoped53 cc0_scoped54
      cc0_scoped55 cc0_scoped56 cc0_scoped57 cc0_scoped58 cc0_scoped59 cc0_scoped60 cc0_scoped61 cc0_scoped62
      cc0_scoped63 cc0_scoped64 cc0_scoped65 cc0_scoped66 cc0_scoped67 cc0_scoped68 cc0_scoped69 cc0_scoped70
      cc0_scoped71 cc0_scoped72 cc0_scoped73 cc0_scoped74 cc0_scoped75 cc0_scoped76 cc0_scoped77 cc0_scoped78
      cc0_scoped79 cc0_scoped80 cc0_scoped81 cc0_scoped82 cc0_scoped83 cc0_scoped84 cc0_scoped85 cc0_scoped86
      cc0_scoped87 cc0_scoped88 cc0_scoped89 cc0_scoped90 cc0_scoped91 cc0_scoped92 cc0_scoped93 cc0_scoped94
      cc0_scoped95 cc0_scoped96 cc0_scoped97 cc0_scoped98 v3 v5 v30 =
      (do
        Prog.lift (.enqueueDma (mBc (k0_off2 i 400#32) (k0_off2_inb i 1)) (.here (mIh 1)) (.dma (semI 1).sem)
          (View.wordExact_bits rfl) (View.wordExact_bits rfl) ⟨Or.inl rfl, trivial⟩)
        let _ : Elt F .i32 ← smemLoad mCur rW numel1_S1 rfl
        Prog.lift (.store mCur rW (fun _ => 512#32) Finset.univ (View.stores_smem_one rfl numel1_S1) (.inl rfl))
        let _ ← clearG i
        let _ ← Scf.Loop.for k0_t2_loop k0_t2_ok 0#32 fun t _ => outerG i t
        Prog.lift (.waitDma2 (semX 0).sem (mXc (k0_off1 i 9600#32) (k0_off1_inb i 2)) (mXh 0) (View.wordExact_bits rfl)
          (View.wordExact_bits rfl))
        pure onesG) := by
  refine Walk.start ?_
  repeat' first
    | with_reducible exact hc
    | with_reducible rfl
    | with_reducible refine seqNil ?_
    | with_reducible_and_instances refine Walk.retL ?_
    | with_reducible_and_instances refine Walk.retR ?_
    | with_reducible refine Walk.swapL (part165_eq _ _ _ _) ?_
    | refine Walk.assocL ?_
    | refine Walk.assocR ?_
    | refine Walk.op fun _ => ?_
    | refine Walk.loop (fun _ _ => ?_) (fun _ => ?_)
    | refine Walk.cond ?_ (fun hc _ => ?_)
    | refine Walk.condI ?_ (fun hc => ?_)

end Cert.KernelIdeal.Pool
-- ==== Proof.KernelIdeal.Eq3.lean ====
/-
  The printed last chunk and epilogue.
-/
module

public import proofs.«01_k».proof.Proof.KernelIdeal.Text
public import proofs.«01_k».proof.Proof.KernelIdeal.Walk

@[expose] public section

noncomputable section

namespace Cert.KernelIdeal.Pool

open Idealize.ShloMosaic Idealize.SL.Sem Cert.KernelIdeal

variable {F : FTy → Type} [FloatOps F] [Facts]
open Facts₀ Facts

set_option maxHeartbeats 8000000 in
set_option maxRecDepth 1000000 in
theorem part250_eq (i : grid0.Coords) (v5 : BitVec 32) :
        k0_part250 (F := F) i mX (Memref.isWhole_whole _) mB (Memref.isWhole_whole _) mOS (Memref.isWhole_whole
      _) mOC (Memref.isWhole_whole _) mOM (Memref.isWhole_whole _) mXb (Memref.isWhole_whole _) mIb
      (Memref.isWhole_whole _) mTab (Memref.isWhole_whole _) mAcc (Memref.isWhole_whole _) mSum
      (Memref.isWhole_whole _) mCnt (Memref.isWhole_whole _) mCur (Memref.isWhole_whole _) cc0_scratch7
      cc0_scratch8 cc0_scoped0 cc0_scoped1 cc0_scoped2 cc0_scoped3 cc0_scoped4 cc0_scoped5 cc0_scoped6
      cc0_scoped7 cc0_scoped8 cc0_scoped9 cc0_scoped10 cc0_scoped11 cc0_scoped12 cc0_scoped13 cc0_scoped14
      cc0_scoped15 cc0_scoped16 cc0_scoped17 cc0_scoped18 cc0_scoped19 cc0_scoped20 cc0_scoped21 cc0_scoped22
      cc0_scoped23 cc0_scoped24 cc0_scoped25 cc0_scoped26 cc0_scoped27 cc0_scoped28 cc0_scoped29 cc0_scoped30
      cc0_scoped31 cc0_scoped32 cc0_scoped33 cc0_scoped34 cc0_scoped35 cc0_scoped36 cc0_scoped37 cc0_scoped38
      cc0_scoped39 cc0_scoped40 cc0_scoped41 cc0_scoped42 cc0_scoped43 cc0_scoped44 cc0_scoped45 cc0_scoped46
      cc0_scoped47 cc0_scoped48 cc0_scoped49 cc0_scoped50 cc0_scoped51 cc0_scoped52 cc0_scoped53 cc0_scoped54
      cc0_scoped55 cc0_scoped56 cc0_scoped57 cc0_scoped58 cc0_scoped59 cc0_scoped60 cc0_scoped61 cc0_scoped62
      cc0_scoped63 cc0_scoped64 cc0_scoped65 cc0_scoped66 cc0_scoped67 cc0_scoped68 cc0_scoped69 cc0_scoped70
      cc0_scoped71 cc0_scoped72 cc0_scoped73 cc0_scoped74 cc0_scoped75 cc0_scoped76 cc0_scoped77 cc0_scoped78
      cc0_scoped79 cc0_scoped80 cc0_scoped81 cc0_scoped82 cc0_scoped83 cc0_scoped84 cc0_scoped85 cc0_scoped86
      cc0_scoped87 cc0_scoped88 cc0_scoped89 cc0_scoped90 cc0_scoped91 cc0_scoped92 cc0_scoped93 cc0_scoped94
      cc0_scoped95 cc0_scoped96 cc0_scoped97 cc0_scoped98 v5 onesG =
      (do
        Prog.lift (.waitDma2 (semI 0).sem (mBc (k0_off2 i 9600#32) (k0_off2_inb i 2)) (mIh 0) (View.wordExact_bits rfl)
          (View.wordExact_bits rfl))
        let _ ← chunkG i 0 2
        lastG i) := by
  refine Walk.start ?_
  repeat' first
    | with_reducible exact hc
    | with_reducible rfl
    | with_reducible refine seqNil ?_
    | with_reducible_and_instances refine Walk.retL ?_
    | with_reducible_and_instances refine Walk.retR ?_
    | refine Walk.assocL ?_
    | refine Walk.assocR ?_
    | refine Walk.op fun _ => ?_
    | refine Walk.loop (fun _ _ => ?_) (fun _ => ?_)
    | refine Walk.cond ?_ (fun hc _ => ?_)
    | refine Walk.condI ?_ (fun hc => ?_)

end Cert.KernelIdeal.Pool
-- ==== Proof.KernelIdeal.TextEq.lean ====
/-
  The printed body is `bodyG`.
-/
module

public import proofs.«01_k».proof.Proof.KernelIdeal.Text
public import proofs.«01_k».proof.Proof.KernelIdeal.Walk
public import proofs.«01_k».proof.Proof.KernelIdeal.Eq2
public import proofs.«01_k».proof.Proof.KernelIdeal.Eq3

@[expose] public section

noncomputable section

namespace Cert.KernelIdeal.Pool

open Idealize.ShloMosaic Idealize.SL.Sem Cert.KernelIdeal

variable {F : FTy → Type} [FloatOps F] [Facts]
open Facts₀ Facts

set_option maxHeartbeats 8000000 in
set_option maxRecDepth 1000000 in
theorem body_eq (i : grid0.Coords) :
        cc0_sc_pool (F := F) i mX (Memref.isWhole_whole _) mB (Memref.isWhole_whole _) mOS (Memref.isWhole_whole
      _) mOC (Memref.isWhole_whole _) mOM (Memref.isWhole_whole _) mXb (Memref.isWhole_whole _) mIb
      (Memref.isWhole_whole _) mTab (Memref.isWhole_whole _) mAcc (Memref.isWhole_whole _) mSum
      (Memref.isWhole_whole _) mCnt (Memref.isWhole_whole _) mCur (Memref.isWhole_whole _) cc0_scratch7
      cc0_scratch8 cc0_scoped0 cc0_scoped1 cc0_scoped2 cc0_scoped3 cc0_scoped4 cc0_scoped5 cc0_scoped6
      cc0_scoped7 cc0_scoped8 cc0_scoped9 cc0_scoped10 cc0_scoped11 cc0_scoped12 cc0_scoped13 cc0_scoped14
      cc0_scoped15 cc0_scoped16 cc0_scoped17 cc0_scoped18 cc0_scoped19 cc0_scoped20 cc0_scoped21 cc0_scoped22
      cc0_scoped23 cc0_scoped24 cc0_scoped25 cc0_scoped26 cc0_scoped27 cc0_scoped28 cc0_scoped29 cc0_scoped30
      cc0_scoped31 cc0_scoped32 cc0_scoped33 cc0_scoped34 cc0_scoped35 cc0_scoped36 cc0_scoped37 cc0_scoped38
      cc0_scoped39 cc0_scoped40 cc0_scoped41 cc0_scoped42 cc0_scoped43 cc0_scoped44 cc0_scoped45 cc0_scoped46
      cc0_scoped47 cc0_scoped48 cc0_scoped49 cc0_scoped50 cc0_scoped51 cc0_scoped52 cc0_scoped53 cc0_scoped54
      cc0_scoped55 cc0_scoped56 cc0_scoped57 cc0_scoped58 cc0_scoped59 cc0_scoped60 cc0_scoped61 cc0_scoped62
      cc0_scoped63 cc0_scoped64 cc0_scoped65 cc0_scoped66 cc0_scoped67 cc0_scoped68 cc0_scoped69 cc0_scoped70
      cc0_scoped71 cc0_scoped72 cc0_scoped73 cc0_scoped74 cc0_scoped75 cc0_scoped76 cc0_scoped77 cc0_scoped78
      cc0_scoped79 cc0_scoped80 cc0_scoped81 cc0_scoped82 cc0_scoped83 cc0_scoped84 cc0_scoped85 cc0_scoped86
      cc0_scoped87 cc0_scoped88 cc0_scoped89 cc0_scoped90 cc0_scoped91 cc0_scoped92 cc0_scoped93 cc0_scoped94
      cc0_scoped95 cc0_scoped96 cc0_scoped97 cc0_scoped98 = bodyG i := by
  refine Walk.start ?_
  repeat' first
    | with_reducible exact hc
    | with_reducible rfl
    | with_reducible refine seqNil ?_
    | with_reducible_and_instances refine Walk.retL ?_
    | with_reducible_and_instances refine Walk.retR ?_
    | with_reducible refine Walk.swapL (part249_eq _ _ _ _) ?_
    | with_reducible refine Walk.swapL (part250_eq _ _) ?_
    | refine Walk.assocL ?_
    | refine Walk.assocR ?_
    | refine Walk.op fun _ => ?_
    | refine Walk.loop (fun _ _ => ?_) (fun _ => ?_)
    | refine Walk.cond ?_ (fun hc _ => ?_)
    | refine Walk.condI ?_ (fun hc => ?_)

end Cert.KernelIdeal.Pool
-- ==== Proof.KernelIdeal.Tile.lean ====
/-
  The launch's set-up, what the call hands each worker and takes back, and one worker's task.
-/
module

public import proofs.«01_k».proof.Proof.KernelIdeal.Whole
public import proofs.«01_k».proof.Proof.KernelIdeal.TextEq
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.KernelIdeal.Pool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers Idealize.ShloMosaic.Rounds
open Cert.KernelIdeal Cert.KernelIdeal.Gen

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The launch memory -/

variable (m : (ℓ : Loc nD τ sig) → Buf (Elt F) ℓ) (ρ : Dev nD → PrngReg)

abbrev xLoc (d : Dev nD) : Loc nD τ sig := (SparseCore.T d).loc main_arg0
abbrev bLoc (d : Dev nD) : Loc nD τ sig := (SparseCore.T d).loc main_arg1
abbrev osLoc (d : Dev nD) : Loc nD τ sig := (SparseCore.T d).loc main_v0_0
abbrev ocLoc (d : Dev nD) : Loc nD τ sig := (SparseCore.T d).loc main_v0_1
abbrev omLoc (d : Dev nD) : Loc nD τ sig := (SparseCore.T d).loc main_v0_2

variable [FloatOps F]

abbrev xIn (d : Dev nD) : FVec F S320000x128 .f32 := m (xLoc d)
abbrev bIn (d : Dev nD) : IVec S320000 32 := m (bLoc d)

/-- The worker on SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a worker leaves: its runs put away from some start, over what the arrays held at launch. -/
def Done (d : Dev nD) (i : grid0.Coords) (om os : FVec F S16640x128 .f32) (oc : FVec F S32x8192 .f32) : Prop :=
  ∃ (fa fs : FVec F S128 .f32) (fc : FVec F S16 .f32),
    om = (St.done i (xIn m d) (bIn m d) (St.start fa fs fc (m (omLoc d)) (m (osLoc d)))).om
    ∧ os = (St.done i (xIn m d) (bIn m d) (St.start fa fs fc (m (omLoc d)) (m (osLoc d)))).os
    ∧ oc = cntRow (wid i) (St.done i (xIn m d) (bIn m d) (St.start fa fs fc (m (omLoc d)) (m (osLoc d)))).tab (m (ocLoc d))

/-- What the proof asks of the launch memory: every row's segment is at most 512. -/
def PreOK : Prop := ∀ (d : Dev nD) (r : Nat), (bAt (bIn m d) r).toNat ≤ 512

abbrev goI (d : Dev nD) (i : grid0.Coords) : sProp 𝕄 :=
  iprop((xLoc d ↦[xSlab (wid i)]{fullShare} m (xLoc d)) ∗ (bLoc d ↦[bSlab (wid i)]{fullShare} m (bLoc d))
    ∗ (omLoc d ↦[slab (wid i)]{fullShare} m (omLoc d)) ∗ (osLoc d ↦[slab (wid i)]{fullShare} m (osLoc d))
    ∗ (ocLoc d ↦[cRow (wid i)]{fullShare} m (ocLoc d)))

abbrev tdI (d : Dev nD) (i : grid0.Coords) : sProp 𝕄 :=
  iprop((xLoc d ↦[xSlab (wid i)]{fullShare} m (xLoc d)) ∗ (bLoc d ↦[bSlab (wid i)]{fullShare} m (bLoc d))
    ∗ ∃ (om : Buf (Elt F) (omLoc d)) (os : Buf (Elt F) (osLoc d)) (oc : Buf (Elt F) (ocLoc d)), ⌜Done m d i om os oc⌝
      ∗ (omLoc d ↦[slab (wid i)]{fullShare} om) ∗ (osLoc d ↦[slab (wid i)]{fullShare} os) ∗ (ocLoc d ↦[cRow (wid i)]{fullShare} oc))

theorem nCore_zero : (K (F := F)).nCore 0 = grid0.bound 0 := rfl
theorem nSub_zero : (K (F := F)).nSub 0 = grid0.bound 1 := rfl

/-- The call takes and gives back, for each SparseCore, its sixteen workers' parts. -/
def P : (K (F := F)).Pay (nD := nD) (Val := Elt F) (Name := ℕ) (U := UU) where
  st := fun q d c => match q with | 0 => bigSep Finset.univ fun s : Fin (grid0.bound 1) => goI m d (coordsV (Fin.cast nCore_zero c) s)
  dn := fun q d c => match q with | 0 => bigSep Finset.univ fun s : Fin (grid0.bound 1) => tdI m d (coordsV (Fin.cast nCore_zero c) s)
  go := fun q d c i => match q with | 0 => goI m d (coordsV (Fin.cast nCore_zero c) (Fin.cast nSub_zero i))
  td := fun q d c i => match q with | 0 => tdI m d (coordsV (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin (grid0.bound 1) => goI m d (coordsV (Fin.cast nCore_zero c) s)))
  dn q d c := match q with
    | 0 => (inferInstance : BI.Storable (upEmb : UEmb _ 𝕄) (bigSep Finset.univ fun s : Fin (grid0.bound 1) => tdI m d (coordsV (Fin.cast nCore_zero c) s)))
  go q d c i := match q with
    | 0 => (inferInstance : BI.Storable (upEmb : UEmb _ 𝕄) (goI m d (coordsV (Fin.cast nCore_zero c) (Fin.cast nSub_zero i))))
  td q d c i := match q with
    | 0 => (inferInstance : BI.Storable (upEmb : UEmb _ 𝕄) (tdI m d (coordsV (Fin.cast nCore_zero c) (Fin.cast nSub_zero i))))

/-! ## The worker's own cells and buffers -/

section Tile

variable (d : Dev nD) (i : grid0.Coords)

abbrev cell (sm : SemLoc sig) : GSem nD τ sig := (thr d i, sm)

theorem scoped_all : ∀ s : DmaSem sig, (SemLoc.dma s : SemLoc sig).isScoped .scVector = true := by decide

/-- The cells at rest besides the four of the halves. -/
def restCells : Finset (GSem nD τ sig) :=
  ((((ownCells (thr d i)).erase (cell d i (.dma (semX 0).sem))).erase (cell d i (.dma (semX 1).sem))).erase
    (cell d i (.dma (semI 0).sem))).erase (cell d i (.dma (semI 1).sem))

theorem cell_mem (s : DmaSem sig) : cell d i (.dma s) ∈ ownCells (thr d i) := mem_ownCells.mpr ⟨rfl, scoped_all s⟩

theorem cell_ne {s s' : DmaSem sig} (h : s ≠ s') : cell d i (.dma s) ≠ cell d i (.dma s') :=
  fun e => h (SemLoc.dma.inj (Prod.mk.inj e).2)

theorem ownSems0_V :
    (ownSems0 (thr d i) : sProp 𝕄)
      = iprop(semVal (cell d i (.dma (semX 0).sem)) 0 ∗ semVal (cell d i (.dma (semX 1).sem)) 0
        ∗ semVal (cell d i (.dma (semI 0).sem)) 0 ∗ semVal (cell d i (.dma (semI 1).sem)) 0 ∗ Sems (restCells d i)) := by
  unfold SparseCore.Cfg.ownSems0
  rw [SparseCore.bigSep_erase' (cell_mem d i (semX 0).sem),
    SparseCore.bigSep_erase' (Finset.mem_erase.mpr ⟨cell_ne d i (by decide), cell_mem d i (semX 1).sem⟩),
    SparseCore.bigSep_erase' (Finset.mem_erase.mpr ⟨cell_ne d i (by decide), Finset.mem_erase.mpr ⟨cell_ne d i (by decide), cell_mem d i (semI 0).sem⟩⟩),
    SparseCore.bigSep_erase' (Finset.mem_erase.mpr ⟨cell_ne d i (by decide), Finset.mem_erase.mpr ⟨cell_ne d i (by decide), Finset.mem_erase.mpr ⟨cell_ne d i (by decide), cell_mem d i (semI 1).sem⟩⟩⟩)]
  rfl

theorem scoped_ne (q : Fin 2) : ∀ n : Fin 103, (⟨4 + n.val, by have := n.2; show _ < 107; omega⟩ : DmaSem sig) ≠ (semX q).sem
    ∧ (⟨4 + n.val, by have := n.2; show _ < 107; omega⟩ : DmaSem sig) ≠ (semI q).sem := by
  revert q; decide

theorem hasScoped : HasScoped d i (restCells d i) := by
  intro n h
  have hn : n < 103 := by have : S_.numel = 1 := rfl; omega
  have e : (scopedN n h).sem = (⟨4 + n, by show _ < 107; omega⟩ : DmaSem sig) := rfl
  rw [e]
  have h0 := scoped_ne 0 ⟨n, hn⟩
  have h1 := scoped_ne 1 ⟨n, hn⟩
  unfold restCells
  exact Finset.mem_erase.mpr ⟨cell_ne d i h1.2, Finset.mem_erase.mpr ⟨cell_ne d i h0.2, Finset.mem_erase.mpr ⟨cell_ne d i h1.1,
    Finset.mem_erase.mpr ⟨cell_ne d i h0.1, cell_mem d i _⟩⟩⟩⟩

abbrev own (b : Ref sig .scVector) : DevRef τ sig := (thr d i).2.devRef b

theorem own_ne {b b' : Ref sig .scVector} (h : b ≠ b') : own d i b ≠ own d i b' := fun e => h (Proc.devRef_injective _ e)

theorem own_mem (b : Ref sig .scVector) (h : (own d i b).owner = .proc (thr d i).2) : own d i b ∈ ownRefs (τ := τ) (thr d i).2 :=
  SparseCore.Cfg.mem_ownRefs_of_owner h

/-- The buffers a worker does not use. -/
def restRefs : Finset (DevRef τ sig) :=
  (((((((ownRefs (τ := τ) (thr d i).2).erase (own d i cc0_scratch0)).erase (own d i cc0_scratch1)).erase (own d i cc0_scratch2)).erase
    (own d i cc0_scratch3)).erase (own d i cc0_scratch4)).erase (own d i cc0_scratch5)).erase (own d i cc0_scratch6)

theorem ownBufs_V :
    (ownBufs (thr d i) : sProp 𝕄)
      = iprop((∃ f, (thr d i).loc cc0_scratch0 ↦{fullShare} f) ∗ (∃ f, (thr d i).loc cc0_scratch1 ↦{fullShare} f)
        ∗ (∃ f, (thr d i).loc cc0_scratch2 ↦{fullShare} f) ∗ (∃ f, (thr d i).loc cc0_scratch3 ↦{fullShare} f)
        ∗ (∃ f, (thr d i).loc cc0_scratch4 ↦{fullShare} f) ∗ (∃ f, (thr d i).loc cc0_scratch5 ↦{fullShare} f)
        ∗ (∃ f, (thr d i).loc cc0_scratch6 ↦{fullShare} f)
        ∗ bigSep (restRefs d i) fun b => iprop(∃ f, ((d, b) : Loc nD τ sig) ↦{fullShare} f)) := by
  unfold SparseCore.Cfg.ownBufs
  refine (SparseCore.bigSep_erase' (own_mem d i cc0_scratch0 rfl)).trans ?_
  rw [SparseCore.bigSep_erase' (Finset.mem_erase.mpr ⟨own_ne d i (by decide), own_mem d i cc0_scratch1 rfl⟩),
    SparseCore.bigSep_erase' (Finset.mem_erase.mpr ⟨own_ne d i (by decide), Finset.mem_erase.mpr ⟨own_ne d i (by decide), own_mem d i cc0_scratch2 rfl⟩⟩),
    SparseCore.bigSep_erase' (Finset.mem_erase.mpr ⟨own_ne d i (by decide), Finset.mem_erase.mpr ⟨own_ne d i (by decide),
      Finset.mem_erase.mpr ⟨own_ne d i (by decide), own_mem d i cc0_scratch3 rfl⟩⟩⟩),
    SparseCore.bigSep_erase' (Finset.mem_erase.mpr ⟨own_ne d i (by decide), Finset.mem_erase.mpr ⟨own_ne d i (by decide),
      Finset.mem_erase.mpr ⟨own_ne d i (by decide), Finset.mem_erase.mpr ⟨own_ne d i (by decide), own_mem d i cc0_scratch4 rfl⟩⟩⟩⟩),
    SparseCore.bigSep_erase' (Finset.mem_erase.mpr ⟨own_ne d i (by decide), Finset.mem_erase.mpr ⟨own_ne d i (by decide),
      Finset.mem_erase.mpr ⟨own_ne d i (by decide), Finset.mem_erase.mpr ⟨own_ne d i (by decide), Finset.mem_erase.mpr ⟨own_ne d i (by decide),
        own_mem d i cc0_scratch5 rfl⟩⟩⟩⟩⟩),
    SparseCore.bigSep_erase' (Finset.mem_erase.mpr ⟨own_ne d i (by decide), Finset.mem_erase.mpr ⟨own_ne d i (by decide),
      Finset.mem_erase.mpr ⟨own_ne d i (by decide), Finset.mem_erase.mpr ⟨own_ne d i (by decide), Finset.mem_erase.mpr ⟨own_ne d i (by decide),
        Finset.mem_erase.mpr ⟨own_ne d i (by decide), own_mem d i cc0_scratch6 rfl⟩⟩⟩⟩⟩⟩)]
  rfl

/-- The current segment's buffer at whatever it holds is at one word. -/
theorem cur_any (f : Buf (Elt F) ((thr d i).loc cc0_scratch6)) :
    ((thr d i).loc cc0_scratch6 ↦{fullShare} f : sProp 𝕄) ⊢ iprop(∃ v, hCur (F := F) d i v) := by
  have h : f = fun _ => f (ix1 (n0 := 1) ⟨0, Nat.one_pos⟩) := by
    funext y
    congr 1
    funext a
    match a with
    | 0 =>
      apply Fin.ext
      have : (y 0).val < 1 := (y 0).2
      show (y 0).val = 0
      omega
  rw [h]
  iintro H
  iexists _
  iexact H

/-- The worker's task. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goI m d i ∗ scopedBufs (thr d i) ∗ scopedSems0 (thr d i) ∗ owes (thr d i) O W)
      ⊢ wpW UU d i (bodyG i) fun _ => iprop(tdI m d i ∗ scopedBufs (thr d i) ∗ scopedSems0 (thr d i)
          ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  iintro ⟨#Hlv, -, ⟨Hx, Hb, Hom, Hos, Hoc⟩, ⟨H0, H1, ⟨%ft, H2⟩, ⟨%fa, H3⟩, ⟨%fs, H4⟩, ⟨%fc, H5⟩, ⟨%fv, H6⟩, Hbufs⟩, ⟨Ha, Ha', Hi, Hi', Hsems⟩, HO⟩
  ihave H6 := (cur_any d i fv) $$ H6
  icases H6 with ⟨%v, H6⟩
  ihave #HW := ((K (F := F)).mayWaits_none (thr := thr d i) hO) $$ Hlv
  have hbody := wp_frame_right d i (H := bigSep (restRefs d i) fun b => iprop(∃ f, ((d, b) : Loc nD τ sig) ↦{fullShare} f))
    (bodyG_wp (U := UU) d i O W (restCells d i) (xIn m d) (bIn m d) (hasScoped d i) (fun r _ => hpre d _) v ft fa fs fc
      (m (omLoc d)) (m (osLoc d)) (m (ocLoc d)))
  iapply (wp_post d i hbody ?hpost) $$ [Hx Hb Hom Hos Hoc H0 H1 H2 H3 H4 H5 H6 Hbufs Ha Ha' Hi Hi' Hsems HO]
  case hpost =>
    intro _
    unfold Src Own Ow
    iintro ⟨⟨⟨H0, H1, Hx, Hb, Ha, Ha', Hi, Hi'⟩, ⟨H6, H3, H4, H5, H2, Hom, Hos⟩, Hoc, Hsems, -, HO⟩, Hbufs⟩
    isplitl [Hx Hb Hom Hos Hoc]
    · isplitl [Hx]; · iexact Hx
      isplitl [Hb]; · iexact Hb
      iexists _
      iexists _
      iexists _
      isplitr
      · ipureintro; exact ⟨fa, fs, fc, rfl, rfl, rfl⟩
      isplitl [Hom]; · iexact Hom
      isplitl [Hos]; · iexact Hos
      iexact Hoc
    isplitl [H0 H1 H2 H3 H4 H5 H6 Hbufs]
    · isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      iexact Hbufs
    isplitl [Ha Ha' Hi Hi' Hsems]
    · isplitl [Ha]; · iexact Ha
      isplitl [Ha']; · iexact Ha'
      isplitl [Hi]; · iexact Hi
      isplitl [Hi']; · iexact Hi'
      iexact Hsems
    iexact HO
  isplitr [Hbufs]
  · unfold Src Ow
    isplitl [H0 H1 Hx Hb Ha Ha' Hi Hi']
    · isplitl [H0]; · iexact H0
      isplitl [H1]; · iexact H1
      isplitl [Hx]; · iexact Hx
      isplitl [Hb]; · iexact Hb
      isplitl [Ha]; · iexact Ha
      isplitl [Ha']; · iexact Ha'
      isplitl [Hi]; · iexact Hi
      iexact Hi'
    isplitl [H6]; · iexact H6
    isplitl [H2]; · iexact H2
    isplitl [H3]; · iexact H3
    isplitl [H4]; · iexact H4
    isplitl [H5]; · iexact H5
    isplitl [Hom]; · iexact Hom
    isplitl [Hos]; · iexact Hos
    isplitl [Hoc]; · iexact Hoc
    isplitl [Hsems]; · iexact Hsems
    isplitr
    · iexact HW
    iexists W
    isplitr
    · ipureintro; exact fun p hp => Or.inl hp
    iexact HO
  iexact Hbufs

end Tile

/-! ## The task as the launch theorem asks for it -/

theorem defs₀_vector (c : Fin τ.nSC) (s : Fin τ.nSub) :
    defs₀ (F := F) (.scVector c s) 0 ()
      = SparseCore.onTile hcore0 hsub0 (fun c s => bodyG (coordsV c s)) ⟨⟩ c s := by
  have h : (fun (c : Fin (grid0.bound 0)) (s : Fin (grid0.bound 1)) => bodyG (F := F) (coordsV c s)) = _ := funext fun c => funext fun s => (body_eq (coordsV c s)).symm
  rw [h]
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- A SparseCore's part is its workers' parts, both ways. -/
theorem vecSplit : (K (F := F)).VecSplit' (P m) 0 := by
  intro d c
  show (bigSep Finset.univ fun s : Fin (grid0.bound 1) => goI m d (coordsV (Fin.cast nCore_zero c) s)) ⊢ |={Set.univ}=> iprop(
      (bigSep Finset.univ fun i : Fin (grid0.bound 1) => goI m d (coordsV (Fin.cast nCore_zero c) i))
      ∗ ((bigSep Finset.univ fun i : Fin (grid0.bound 1) => tdI m d (coordsV (Fin.cast nCore_zero c) i))
          -∗ bigSep Finset.univ fun s : Fin (grid0.bound 1) => tdI m d (coordsV (Fin.cast nCore_zero c) s)))
  iintro H
  imodintro
  isplitl [H]; · iexact H
  iintro H
  iexact H

end Cert.KernelIdeal.Pool
-- ==== Proof.KernelIdeal.Split.lean ====
/-
  The arrays in the 32 workers' parts, and back together.
-/
module

public import proofs.«01_k».proof.Proof.KernelIdeal.Tile
public import Idealize.ShloMosaic.Lib.Ring.WriteBehind

@[expose] public section

noncomputable section

namespace Cert.KernelIdeal.Pool

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers Idealize.ShloMosaic.Rounds
open Cert.KernelIdeal Cert.KernelIdeal.Gen

variable {F : FTy → Type} [FloatOps F]

local notation "𝕄" => MT nD τ sig (HIx 1) (Elt F) ℕ UU ℕ

/-- The workers: SparseCore and subcore. -/
abbrev Wk : Type := Fin (grid0.bound 0) × Fin (grid0.bound 1)

/-- A worker's coordinates. -/
abbrev co (p : Wk) : grid0.Coords := coordsV p.1 p.2

theorem wid_co (p : Wk) : wid (co p) = p.1.val * 16 + p.2.val := rfl

theorem wid_inj {p p' : Wk} (h : wid (co p) = wid (co p')) : p = p' := by
  have h1 : p.2.val < 16 := p.2.2
  have h2 : p'.2.val < 16 := p'.2.2
  rw [wid_co, wid_co] at h
  exact Prod.ext (Fin.ext (by omega)) (Fin.ext (by omega))

theorem exists_wid {w : Nat} (h : w < 32) : ∃ p : Wk, wid (co p) = w :=
  ⟨(⟨w / 16, by show w / 16 < 2; omega⟩, ⟨w % 16, by show w % 16 < 16; omega⟩), by
    rw [wid_co]; show w / 16 * 16 + w % 16 = w; omega⟩

theorem mem_xSlab (w : Nat) (y : S320000x128.Idx) : y ∈ xSlab w ↔ (y 0).val / 10000 = w := by
  unfold xSlab; rw [Finset.mem_filter]; constructor
  · rintro ⟨-, h⟩; omega
  · intro h; exact ⟨Finset.mem_univ _, by omega⟩

theorem mem_bSlab (w : Nat) (y : S320000.Idx) : y ∈ bSlab w ↔ (y 0).val / 10000 = w := by
  unfold bSlab; rw [Finset.mem_filter]; constructor
  · rintro ⟨-, h⟩; omega
  · intro h; exact ⟨Finset.mem_univ _, by omega⟩

theorem mem_slab (w : Nat) (y : S16640x128.Idx) : y ∈ slab w ↔ (y 0).val / 520 = w := by
  unfold slab; rw [Finset.mem_filter]; constructor
  · rintro ⟨-, h⟩; omega
  · intro h; exact ⟨Finset.mem_univ _, by omega⟩

theorem mem_cRow (w : Nat) (y : S32x8192.Idx) : y ∈ cRow w ↔ (y 0).val = w := by
  unfold cRow; rw [Finset.mem_filter]; exact ⟨fun h => h.2, fun h => ⟨Finset.mem_univ _, h⟩⟩

section Parts

variable {ι : Type} [DecidableEq ι] [Fintype ι] (Kk : Nat → Finset ι) (g : ι → Nat) (hmem : ∀ w y, y ∈ Kk w ↔ g y = w)

include hmem in
theorem parts_disj : ∀ t ∈ (Finset.univ : Finset Wk), ∀ t' ∈ (Finset.univ : Finset Wk), t ≠ t' → Disjoint (Kk (wid (co t))) (Kk (wid (co t'))) :=
  fun t _ t' _ hne => Finset.disjoint_left.2 fun y h h' => hne (wid_inj (((hmem _ _).1 h).symm.trans ((hmem _ _).1 h')))

include hmem in
theorem parts_cover (hlt : ∀ y, g y < 32) : (Finset.univ : Finset Wk).biUnion (fun p => Kk (wid (co p))) = Finset.univ :=
  Finset.eq_univ_of_forall fun y => by
    obtain ⟨p, hp⟩ := exists_wid (hlt y)
    exact Finset.mem_biUnion.2 ⟨p, Finset.mem_univ _, (hmem _ _).2 hp.symm⟩

end Parts

theorem split_whole {ℓ : Loc nD τ sig} (Kk : Nat → Finset (Idx ℓ)) (g : Idx ℓ → Nat) (hmem : ∀ w y, y ∈ Kk w ↔ g y = w) (hlt : ∀ y, g y < 32)
    (f : Buf (Elt F) ℓ) :
    (ℓ ↦{fullShare} f : sProp 𝕄) = bigSep Finset.univ fun p : Wk => ℓ ↦[Kk (wid (co p))]{fullShare} f := by
  rw [← pointsTo_biUnion _ _ (parts_disj Kk g hmem), parts_cover Kk g hmem hlt]

theorem join_whole {ℓ : Loc nD τ sig} (Kk : Nat → Finset (Idx ℓ)) (g : Idx ℓ → Nat) (hmem : ∀ w y, y ∈ Kk w ↔ g y = w) (hlt : ∀ y, g y < 32)
    (fs : Wk → Buf (Elt F) ℓ) (f₀ : Buf (Elt F) ℓ) :
    (bigSep Finset.univ fun p : Wk => ℓ ↦[Kk (wid (co p))]{fullShare} fs p)
      ⊢ (iprop(∃ f, ⌜∀ p, ∀ y ∈ Kk (wid (co p)), f y = fs p y⌝ ∗ ℓ ↦{fullShare} f) : sProp 𝕄) := by
  have h := pointsTo_biUnion_join (q := fullShare) (ℓ := ℓ) (Finset.univ : Finset Wk) (fun p => Kk (wid (co p))) fs f₀ (parts_disj Kk g hmem)
    (Ix := HIx 1) (Val := Elt F) (Name := ℕ) (U := UU) (Lvl := ℕ)
  rw [parts_cover Kk g hmem hlt] at h
  refine h.trans ?_
  iintro ⟨%f, %hf, H⟩
  iexists f
  isplitr
  · ipureintro; exact fun p => hf p (Finset.mem_univ _)
  iexact H

theorem lt_x (y : S320000x128.Idx) : (y 0).val / 10000 < 32 := by have : (y 0).val < 320000 := (y 0).2; omega
theorem lt_b (y : S320000.Idx) : (y 0).val / 10000 < 32 := by have : (y 0).val < 320000 := (y 0).2; omega
theorem lt_s (y : S16640x128.Idx) : (y 0).val / 520 < 32 := by have : (y 0).val < 16640 := (y 0).2; omega
theorem lt_c (y : S32x8192.Idx) : (y 0).val < 32 := (y 0).2

variable (m : (ℓ : Loc nD τ sig) → Buf (Elt F) ℓ) (d : Dev nD)

/-- The five arrays at launch are the workers' parts. -/
theorem goAll_eq : (bigSep Finset.univ fun c : Fin ((K (F := F)).nCore 0) => (P m).st 0 d c)
    = iprop((xLoc d ↦{fullShare} m (xLoc d)) ∗ (bLoc d ↦{fullShare} m (bLoc d)) ∗ (omLoc d ↦{fullShare} m (omLoc d))
      ∗ (osLoc d ↦{fullShare} m (osLoc d)) ∗ (ocLoc d ↦{fullShare} m (ocLoc d)) : sProp 𝕄) := by
  rw [split_whole (ℓ := xLoc d) xSlab (fun y => (y 0).val / 10000) mem_xSlab lt_x,
    split_whole (ℓ := bLoc d) bSlab (fun y => (y 0).val / 10000) mem_bSlab lt_b,
    split_whole (ℓ := omLoc d) slab (fun y => (y 0).val / 520) mem_slab lt_s,
    split_whole (ℓ := osLoc d) slab (fun y => (y 0).val / 520) mem_slab lt_s,
    split_whole (ℓ := ocLoc d) cRow (fun y => (y 0).val) mem_cRow lt_c]
  rw [← bigSep_sep', ← bigSep_sep', ← bigSep_sep', ← bigSep_sep']
  exact (bigSep_univ_prod (fun p : Wk => goI m d (co p))).symm

/-- What the workers leave, put together: the inputs as launched, and three arrays each of whose parts is what its worker leaves. -/
def Joined (os om : FVec F S16640x128 .f32) (oc : FVec F S32x8192 .f32) : Prop :=
  ∀ p : Wk, ∃ om' os' oc', Done m d (co p) om' os' oc' ∧ (∀ y ∈ slab (wid (co p)), om y = om' y) ∧ (∀ y ∈ slab (wid (co p)), os y = os' y)
    ∧ ∀ y ∈ cRow (wid (co p)), oc y = oc' y

theorem tdAll : (bigSep Finset.univ fun c : Fin ((K (F := F)).nCore 0) => (P m).dn 0 d c)
    ⊢ (iprop((xLoc d ↦{fullShare} m (xLoc d)) ∗ (bLoc d ↦{fullShare} m (bLoc d)) ∗ ∃ (om : Buf (Elt F) (omLoc d)) (os : Buf (Elt F) (osLoc d)) (oc : Buf (Elt F) (ocLoc d)),
      ⌜Joined m d os om oc⌝ ∗ (omLoc d ↦{fullShare} om) ∗ (osLoc d ↦{fullShare} os) ∗ (ocLoc d ↦{fullShare} oc)) : sProp 𝕄) := by
  have hE : (bigSep Finset.univ fun p : Wk => iprop(∃ (om : Buf (Elt F) (omLoc d)) (os : Buf (Elt F) (osLoc d)) (oc : Buf (Elt F) (ocLoc d)),
        ⌜Done m d (co p) om os oc⌝ ∗ (omLoc d ↦[slab (wid (co p))]{fullShare} om) ∗ (osLoc d ↦[slab (wid (co p))]{fullShare} os) ∗ (ocLoc d ↦[cRow (wid (co p))]{fullShare} oc)))
      ⊢ (iprop(∃ z : Wk → (Buf (Elt F) (omLoc d) × Buf (Elt F) (osLoc d) × Buf (Elt F) (ocLoc d)), ⌜∀ p, Done m d (co p) (z p).1 (z p).2.1 (z p).2.2⌝
        ∗ (bigSep Finset.univ fun p : Wk => omLoc d ↦[slab (wid (co p))]{fullShare} (z p).1)
        ∗ (bigSep Finset.univ fun p : Wk => osLoc d ↦[slab (wid (co p))]{fullShare} (z p).2.1)
        ∗ (bigSep Finset.univ fun p : Wk => ocLoc d ↦[cRow (wid (co p))]{fullShare} (z p).2.2)) : sProp 𝕄) := by
    refine BI.Entails.trans (Q := bigSep Finset.univ fun p : Wk => iprop(∃ z : Buf (Elt F) (omLoc d) × Buf (Elt F) (osLoc d) × Buf (Elt F) (ocLoc d),
        ⌜Done m d (co p) z.1 z.2.1 z.2.2⌝ ∗ (omLoc d ↦[slab (wid (co p))]{fullShare} z.1) ∗ (osLoc d ↦[slab (wid (co p))]{fullShare} z.2.1) ∗ (ocLoc d ↦[cRow (wid (co p))]{fullShare} z.2.2)))
      (bigSep_mono fun p _ => ?m1) ((Idealize.SL.BI.bigSep_exists_pi Finset.univ _).trans ?m2)
    case m1 =>
      have h : (iprop(∃ (om : Buf (Elt F) (omLoc d)) (os : Buf (Elt F) (osLoc d)) (oc : Buf (Elt F) (ocLoc d)),
          ⌜Done m d (co p) om os oc⌝ ∗ (omLoc d ↦[slab (wid (co p))]{fullShare} om) ∗ (osLoc d ↦[slab (wid (co p))]{fullShare} os) ∗ (ocLoc d ↦[cRow (wid (co p))]{fullShare} oc)) : sProp 𝕄)
          ⊢ iprop(∃ z : Buf (Elt F) (omLoc d) × Buf (Elt F) (osLoc d) × Buf (Elt F) (ocLoc d),
          ⌜Done m d (co p) z.1 z.2.1 z.2.2⌝ ∗ (omLoc d ↦[slab (wid (co p))]{fullShare} z.1) ∗ (osLoc d ↦[slab (wid (co p))]{fullShare} z.2.1) ∗ (ocLoc d ↦[cRow (wid (co p))]{fullShare} z.2.2)) := by
        iintro ⟨%om, %os, %oc, H⟩
        iexists (om, os, oc)
        iexact H
      exact h
    case m2 =>
      iintro ⟨%z, H⟩
      iexists z
      ihave H := (bigSep_pure_sep Finset.univ (fun p => Done m d (co p) (z p).1 (z p).2.1 (z p).2.2) _) $$ H
      icases H with ⟨%h, H⟩
      isplitr
      · ipureintro; exact fun p => h p (Finset.mem_univ _)
      ihave H := (Entails.of_eq (bigSep_sep' (s := Finset.univ) (Φ := fun p : Wk => omLoc d ↦[slab (wid (co p))]{fullShare} (z p).1) (Ψ := _))) $$ H
      icases H with ⟨H1, H⟩
      ihave H := (Entails.of_eq (bigSep_sep' (s := Finset.univ) (Φ := fun p : Wk => osLoc d ↦[slab (wid (co p))]{fullShare} (z p).2.1) (Ψ := _))) $$ H
      icases H with ⟨H2, H3⟩
      isplitl [H1]; · iexact H1
      isplitl [H2]; · iexact H2
      iexact H3
  have hJ : (iprop((xLoc d ↦{fullShare} m (xLoc d)) ∗ (bLoc d ↦{fullShare} m (bLoc d)) ∗
      bigSep Finset.univ fun p : Wk => iprop(∃ (om : Buf (Elt F) (omLoc d)) (os : Buf (Elt F) (osLoc d)) (oc : Buf (Elt F) (ocLoc d)),
        ⌜Done m d (co p) om os oc⌝ ∗ (omLoc d ↦[slab (wid (co p))]{fullShare} om) ∗ (osLoc d ↦[slab (wid (co p))]{fullShare} os) ∗ (ocLoc d ↦[cRow (wid (co p))]{fullShare} oc))) : sProp 𝕄)
      ⊢ iprop((xLoc d ↦{fullShare} m (xLoc d)) ∗ (bLoc d ↦{fullShare} m (bLoc d)) ∗ ∃ (om : Buf (Elt F) (omLoc d)) (os : Buf (Elt F) (osLoc d)) (oc : Buf (Elt F) (ocLoc d)),
      ⌜Joined m d os om oc⌝ ∗ (omLoc d ↦{fullShare} om) ∗ (osLoc d ↦{fullShare} os) ∗ (ocLoc d ↦{fullShare} oc)) := by
    iintro ⟨Hx, Hb, H⟩
    isplitl [Hx]; · iexact Hx
    isplitl [Hb]; · iexact Hb
    ihave H := hE $$ H
    icases H with ⟨%z, %hz, H1, H2, H3⟩
    ihave H1 := (join_whole (ℓ := omLoc d) slab (fun y => (y 0).val / 520) mem_slab lt_s (fun p => (z p).1) (m (omLoc d))) $$ H1
    ihave H2 := (join_whole (ℓ := osLoc d) slab (fun y => (y 0).val / 520) mem_slab lt_s (fun p => (z p).2.1) (m (osLoc d))) $$ H2
    ihave H3 := (join_whole (ℓ := ocLoc d) cRow (fun y => (y 0).val) mem_cRow lt_c (fun p => (z p).2.2) (m (ocLoc d))) $$ H3
    icases H1 with ⟨%om, %hom, H1⟩
    icases H2 with ⟨%os, %hos, H2⟩
    icases H3 with ⟨%oc, %hoc, H3⟩
    iexists om
    iexists os
    iexists oc
    isplitr
    · ipureintro; exact fun p => ⟨_, _, _, hz p, hom p, hos p, hoc p⟩
    isplitl [H1]; · iexact H1
    isplitl [H2]; · iexact H2
    iexact H3
  refine (BI.Entails.trans (Q := bigSep Finset.univ fun p : Wk => tdI m d (co p)) (Entails.of_eq (bigSep_univ_prod (fun p : Wk => tdI m d (co p))).symm) ?_)
  rw [bigSep_sep', bigSep_sep',
    ← split_whole (ℓ := xLoc d) xSlab (fun y => (y 0).val / 10000) mem_xSlab lt_x,
    ← split_whole (ℓ := bLoc d) bSlab (fun y => (y 0).val / 10000) mem_bSlab lt_b]
  exact hJ

end Cert.KernelIdeal.Pool
-- ==== Proof.KernelIdeal.Merge.lean ====
/-
  The merge of the workers' tables, said once per worker.
-/
module

public import proofs.«01_k».proof.KernelIdeal

@[expose] public section

noncomputable section

namespace Cert.KernelIdeal.Pool

open Idealize.ShloMosaic Idealize.SL.Sem Cert.KernelIdeal

variable {F : FTy → Type} [FloatOps F] [Facts]
open Facts₀ Facts

/-- The merged sums, maxima and counts so far. -/
structure Mg (F : FTy → Type) where
  s : FVec F S512x128 .f32
  m : FVec F S512x128 .f32
  c : FVec F S512x1 .f32

/-- Nothing merged. -/
def Mg.zero : Mg F where
  s := broadcast S512x128 (Scalar.ofBits .f32 0x00000000#32 : F .f32)
  m := broadcast S512x128 (Scalar.ofBits .f32 0xFF800000#32 : F .f32)
  c := broadcast S512x1 (Scalar.ofBits .f32 0x00000000#32 : F .f32)

/-- The segments a worker has rows of. -/
def hasRows (cw : FVec F S512x1 .f32) : IVec S512x1 1 :=
  cmpf .ogt (shapeCast S512x1 cw shapeCasts_S512x1_S512x1) (broadcast S512x1 (Scalar.ofBits .f32 0x00000000#32 : F .f32))

/-- A worker's rows of the segments it has rows of, and `z` elsewhere. -/
def maskQ (cw : FVec F S512x1 .f32) (t : FVec F S512x128 .f32) (z : F .f32) : FVec F S512x128 .f32 :=
  select (broadcastTo S512x128 (shapeCast S512x1 (hasRows cw) shapeCasts_S512x1_S512x1) broadcasts_S512x1_S512x128)
    (shapeCast S512x128 t shapeCasts_S512x128_S512x128) (broadcast S512x128 z)

/-- One worker merged. -/
def Mg.add (a : Mg F) (cw : FVec F S512x1 .f32) (sw mw : FVec F S512x128 .f32) : Mg F where
  s := addf a.s (maskQ cw sw (Scalar.ofBits .f32 0x00000000#32))
  m := maximumf a.m (maskQ cw mw (Scalar.ofBits .f32 0xFF800000#32))
  c := addf a.c (shapeCast S512x1 cw shapeCasts_S512x1_S512x1)

/-- The three columns of the result. -/
def Mg.out (a : Mg F) : FVec F S512x384 .f32 :=
  concatenate S512x384 1 [
    ⟨S512x128, divf a.s (broadcastTo S512x128 (maximumf a.c (broadcast S512x1 (Scalar.ofBits .f32 0x3F800000#32 : F .f32))) broadcasts_S512x1_S512x128)⟩,
    ⟨S512x128, select (broadcastTo S512x128 (shapeCast S512x1 (cmpf .ogt a.c (broadcast S512x1 (Scalar.ofBits .f32 0x00000000#32 : F .f32)))
      shapeCasts_S512x1_S512x1) broadcasts_S512x1_S512x128) a.m (broadcast S512x128 (Scalar.ofBits .f32 0x00000000#32 : F .f32))⟩,
    ⟨S512x128, a.s⟩] concatenates_S512x128_S512x128_S512x128_S512x384_d1

theorem inbQC {w : Nat} (h : w < 32) : ∀ a, (![512 * w, 0] : Fin 2 → Nat) a + S512x1.size a ≤ S16384x16.size a := by
  intro a
  match a with
  | 0 => show 512 * w + 512 ≤ 16384; omega
  | 1 => show 0 + 1 ≤ 16; omega

theorem inbQT {w : Nat} (h : w < 32) : ∀ a, (![520 * w, 0] : Fin 2 → Nat) a + S512x128.size a ≤ S16640x128.size a := by
  intro a
  match a with
  | 0 => show 520 * w + 512 ≤ 16640; omega
  | 1 => show 0 + 128 ≤ 128; omega

abbrev qC (w : Nat) (h : w < 32) : Rect S16384x16 := Rect.unit (s := S16384x16) ![512 * w, 0] S512x1.size (inbQC h)
abbrev qT (w : Nat) (h : w < 32) : Rect S16640x128 := Rect.unit (s := S16640x128) ![520 * w, 0] S512x128.size (inbQT h)
abbrev qO : Rect S512x384 := Rect.unit (s := S512x384) ![0, 0] S512x384.size inb_S512x384_S512x384_0_0

variable (a0 : Memref sig .tc .vmem S16640x128 .f32) (a1 : Memref sig .tc .vmem S16384x16 .f32)
  (a2 : Memref sig .tc .vmem S16640x128 .f32) (a3 : Memref sig .tc .vmem S512x384 .f32)

/-- The last `n` workers merged and the result stored. -/
def mergeG : (n w : Nat) → w + n = 32 → Mg F → Prog (TpuEff nD τ sig (Elt F) Λ₀ .tc) PUnit
  | 0, _, _, a => do
    let _ ← Prog.lift (.load a3 qO.toLoadRect (View.loadsAt_vmem h_S512x384))
    Prog.lift (.store a3 qO a.out Finset.univ (View.stores_vmem_bits_univ h_S512x384 rfl) (.inl rfl))
    pure ⟨⟩
  | n + 1, w, h, a => do
    let cw ← Prog.lift (.load a1 (qC w (by omega)).toLoadRect (View.loadsAt_vmem h_S512x1))
    let sw ← Prog.lift (.load a0 (qT w (by omega)).toLoadRect (View.loadsAt_vmem h_S512x128))
    let mw ← Prog.lift (.load a2 (qT w (by omega)).toLoadRect (View.loadsAt_vmem h_S512x128))
    mergeG n (w + 1) (by omega) (a.add cw sw mw)

set_option maxRecDepth 100000 in
set_option maxHeartbeats 0 in
theorem merge_eq (h0 : a0.IsWhole) (h1 : a1.IsWhole) (h2 : a2.IsWhole) (h3 : a3.IsWhole) :
    cc1__merge_kernel (F := F) a0 h0 a1 h1 a2 h2 a3 h3 = mergeG a0 a1 a2 a3 32 0 rfl Mg.zero := rfl

end Cert.KernelIdeal.Pool
-- ==== Proof.KernelIdeal.Region.lean ====
/-
  The merge as the pipeline runs it: its loads and its store, what its windows hold, and the region.
-/
module

public import proofs.«01_k».proof.Proof.KernelIdeal.Tile
public import proofs.«01_k».proof.Proof.KernelIdeal.Merge
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.Value

@[expose] public section

noncomputable section

namespace Cert.KernelIdeal.Pool

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers Idealize.ShloMosaic.Rounds
open Idealize.ShloMosaic.Pipeline (Dat BodyObligation)
open Cert.KernelIdeal Cert.KernelIdeal.Gen

variable {F : FTy → Type} [FloatOps F]

local notation "𝕄" => MT nD τ sig (HIx 1) (Elt F) ℕ UU ℕ

/-! ## The merge of whole arrays -/

/-- Worker `w`'s counts, one per segment, of the counts' array. -/
def cOf (C : FVec F S16384x16 .f32) (w : Nat) : FVec F S512x1 .f32 := fun y =>
  C (ix2 (n0 := 16384) (n1 := 16) ⟨(512 * w + (y 0).val) % 16384, Nat.mod_lt _ (by decide)⟩ ⟨(y 1).val % 16, Nat.mod_lt _ (by decide)⟩)

/-- Worker `w`'s rows, one per segment, of a table's array. -/
def tOf (A : FVec F S16640x128 .f32) (w : Nat) : FVec F S512x128 .f32 := fun y =>
  A (ix2 (n0 := 16640) (n1 := 128) ⟨(520 * w + (y 0).val) % 16640, Nat.mod_lt _ (by decide)⟩ ⟨(y 1).val % 128, Nat.mod_lt _ (by decide)⟩)

/-- Workers `w`, `w + 1`, …, `w + n - 1` merged into `a`. -/
def mergeSt (A : FVec F S16640x128 .f32) (C : FVec F S16384x16 .f32) (M : FVec F S16640x128 .f32) : (n w : Nat) → Mg F → Mg F
  | 0, _, a => a
  | n + 1, w, a => mergeSt A C M n (w + 1) (a.add (cOf C w) (tOf A w) (tOf M w))

/-- The result's contents. -/
def merged (A : FVec F S16640x128 .f32) (C : FVec F S16384x16 .f32) (M : FVec F S16640x128 .f32) : FVec F S512x384 .f32 :=
  (mergeSt A C M 32 0 Mg.zero).out

theorem emb_qC {w : Nat} (h : w < 32) (y : S512x1.Idx) :
    (qC w h).emb y = ix2 (n0 := 16384) (n1 := 16) ⟨(512 * w + (y 0).val) % 16384, Nat.mod_lt _ (by decide)⟩ ⟨(y 1).val % 16, Nat.mod_lt _ (by decide)⟩ := by
  have h0 : (y 0).val < 512 := (y 0).2
  have h1 : (y 1).val < 1 := (y 1).2
  funext a
  apply Fin.ext
  match a with
  | 0 => show 512 * w + 1 * (y 0).val = (512 * w + (y 0).val) % 16384; omega
  | 1 => show 0 + 1 * (y 1).val = (y 1).val % 16; omega

theorem emb_qT {w : Nat} (h : w < 32) (y : S512x128.Idx) :
    (qT w h).emb y = ix2 (n0 := 16640) (n1 := 128) ⟨(520 * w + (y 0).val) % 16640, Nat.mod_lt _ (by decide)⟩ ⟨(y 1).val % 128, Nat.mod_lt _ (by decide)⟩ := by
  have h0 : (y 0).val < 512 := (y 0).2
  have h1 : (y 1).val < 128 := (y 1).2
  funext a
  apply Fin.ext
  match a with
  | 0 => show 520 * w + 1 * (y 0).val = (520 * w + (y 0).val) % 16640; omega
  | 1 => show 0 + 1 * (y 1).val = (y 1).val % 128; omega

theorem emb_qO (y : S512x384.Idx) : qO.emb y = y := by
  funext a
  apply Fin.ext
  match a with
  | 0 => show 0 + 1 * (y 0).val = (y 0).val; omega
  | 1 => show 0 + 1 * (y 1).val = (y 1).val; omega

/-! ## Its loads and its store -/

abbrev g0 : Memref sig .tc .vmem S16640x128 .f32 := Memref.whole cc1_stg0_0
abbrev g1 : Memref sig .tc .vmem S16384x16 .f32 := Memref.whole cc1_stg1_0
abbrev g2 : Memref sig .tc .vmem S16640x128 .f32 := Memref.whole cc1_stg2_0
abbrev g3 : Memref sig .tc .vmem S512x384 .f32 := Memref.whole cc1_stg3_0

/-- A staging buffer of the merge at its contents. -/
abbrev h0 (d : Dev nD) (A : FVec F S16640x128 .f32) : sProp 𝕄 := g0.view.loc (T d) ↦{fullShare} A
abbrev h1 (d : Dev nD) (C : FVec F S16384x16 .f32) : sProp 𝕄 := g1.view.loc (T d) ↦{fullShare} C
abbrev h2 (d : Dev nD) (M : FVec F S16640x128 .f32) : sProp 𝕄 := g2.view.loc (T d) ↦{fullShare} M
abbrev h3 (d : Dev nD) (o : FVec F S512x384 .f32) : sProp 𝕄 := g3.view.loc (T d) ↦{fullShare} o

variable (d : Dev nD) (A : FVec F S16640x128 .f32) (C : FVec F S16384x16 .f32) (M : FVec F S16640x128 .f32)

/-- The last `n` workers merged into `a` and the result stored. -/
theorem mergeG_wp (Q : PUnit → sProp 𝕄) (o : FVec F S512x384 .f32) : ∀ (n w : Nat) (h : w + n = 32) (a : Mg F),
    iprop(h0 d A ∗ h1 d C ∗ h2 d M ∗ h3 d o ∗ (iprop(h0 d A ∗ h1 d C ∗ h2 d M ∗ h3 d (mergeSt A C M n w a).out) -∗ Q ⟨⟩))
      ⊢ wp frame (wpE (defs₀ (F := F)) 𝒱₀ (T d) none) Set.univ (mergeG g0 g1 g2 g3 n w h a) Q
  | 0, w, h, a => by
    unfold mergeG
    simp only [Prog.lift, Prog.bind_op, Prog.bind_ret, Prog.pure_eq_ret]
    iintro ⟨H0, H1, H2, H3, Hk⟩
    iapply (wp_load_rect (m := g3) (r := qO) 𝒱₀ (T d) none Set.univ (Finset.subset_univ _)) $$ H3
    iintro H3
    iapply (wp_store (m := g3) (r := qO) 𝒱₀ (T d) none Set.univ (Finset.subset_univ _)) $$ H3
    iintro H3
    have e : (g3.access qO).write (Elt F) o a.out Finset.univ = a.out :=
      write_ext cc1_stg3_0 qO _ _ _ (fun x => congrArg a.out (emb_qO x)) fun y hy => absurd (by
        rw [← emb_qO y, ← Rect.map_emb_univ]
        exact Finset.mem_map_of_mem _ (Finset.mem_univ _)) hy
    have h3' : ((g3.access qO).loc (T d) ↦{fullShare} ((g3.access qO).write (Elt F) o a.out Finset.univ) : sProp 𝕄) ⊢ h3 d a.out := by
      rw [e]
    ihave H3 := h3' $$ H3
    iapply (Entails.of_eq (wp_ret _ _ _ _ _).symm)
    imodintro
    iapply Hk
    isplitl [H0]; · iexact H0
    isplitl [H1]; · iexact H1
    isplitl [H2]; · iexact H2
    iexact H3
  | n + 1, w, h, a => by
    have hw : w < 32 := by omega
    have hn : w + 1 + n = 32 := by omega
    unfold mergeG
    simp only [Prog.lift, Prog.bind_op, Prog.bind_ret, Prog.pure_eq_ret]
    iintro ⟨H0, H1, H2, H3, Hk⟩
    iapply (wp_load_rect (m := g1) (r := qC w hw) 𝒱₀ (T d) none Set.univ (Finset.subset_univ _)) $$ H1
    iintro H1
    iapply (wp_load_rect (m := g0) (r := qT w hw) 𝒱₀ (T d) none Set.univ (Finset.subset_univ _)) $$ H0
    iintro H0
    iapply (wp_load_rect (m := g2) (r := qT w hw) 𝒱₀ (T d) none Set.univ (Finset.subset_univ _)) $$ H2
    iintro H2
    have e1 : (g1.access (qC w hw)).read (Elt F) C = cOf C w := funext fun y => congrArg C (emb_qC hw y)
    have e0 : (g0.access (qT w hw)).read (Elt F) A = tOf A w := funext fun y => congrArg A (emb_qT hw y)
    have e2 : (g2.access (qT w hw)).read (Elt F) M = tOf M w := funext fun y => congrArg M (emb_qT hw y)
    rw [e1, e0, e2]
    iapply (mergeG_wp Q o n (w + 1) hn (a.add (cOf C w) (tOf A w) (tOf M w)))
    isplitl [H0]; · iexact H0
    isplitl [H1]; · iexact H1
    isplitl [H2]; · iexact H2
    isplitl [H3]; · iexact H3
    iexact Hk

/-! ## The pipeline's proof data -/

variable (W : Dev nD → Valuation τ sig (Elt F))

/-- The whole-array windows' blocks are the arrays. -/
theorem stg0 (d : Dev nD) (f : FVec F S16640x128 .f32) :
    ((cfg1.win 0).blk t1_0).view.read (Elt F) (f : Buf (Elt F) ((cfg1.win 0).arr.view.loc (T d))) = f := by
  funext x
  exact congrArg f (by funext a; apply Fin.ext; match a with | 0 => exact (Nat.zero_add _).trans (Nat.one_mul _) | 1 => exact (Nat.zero_add _).trans (Nat.one_mul _))

theorem stg1 (d : Dev nD) (f : FVec F S16384x16 .f32) :
    ((cfg1.win 1).blk t1_0).view.read (Elt F) (f : Buf (Elt F) ((cfg1.win 1).arr.view.loc (T d))) = f := by
  funext x
  exact congrArg f (by funext a; apply Fin.ext; match a with | 0 => exact (Nat.zero_add _).trans (Nat.one_mul _) | 1 => exact (Nat.zero_add _).trans (Nat.one_mul _))

theorem stg2 (d : Dev nD) (f : FVec F S16640x128 .f32) :
    ((cfg1.win 2).blk t1_0).view.read (Elt F) (f : Buf (Elt F) ((cfg1.win 2).arr.view.loc (T d))) = f := by
  funext x
  exact congrArg f (by funext a; apply Fin.ext; match a with | 0 => exact (Nat.zero_add _).trans (Nat.one_mul _) | 1 => exact (Nat.zero_add _).trans (Nat.one_mul _))

theorem stg3 (d : Dev nD) (f : FVec F S512x384 .f32) :
    ((cfg1.win 3).blk t1_0).view.read (Elt F) (f : Buf (Elt F) ((cfg1.win 3).arr.view.loc (T d))) = f := by
  funext x
  exact congrArg f (by funext a; apply Fin.ext; match a with | 0 => exact (Nat.zero_add _).trans (Nat.one_mul _) | 1 => exact (Nat.zero_add _).trans (Nat.one_mul _))

/-- The sums', the counts' and the maxima's arrays of a valuation. -/
abbrev sumsAt (V : Valuation τ sig (Elt F)) : FVec F S16640x128 .f32 := V (Proc.devRef .tc main_v0_0)
abbrev cntsAt (V : Valuation τ sig (Elt F)) : FVec F S16384x16 .f32 := V (Proc.devRef .tc main_v1)
abbrev maxsAt (V : Valuation τ sig (Elt F)) : FVec F S16640x128 .f32 := V (Proc.devRef .tc main_v0_2)

/-- The proof data: the arrays as held; after the body the inputs as staged, the result merged; nothing owed. -/
def dats (_ : Fin 1) (c : Dev nD) : Dat τ (Elt F) (HIx 1) ℕ UU ℕ cfg1 c where
  A w := W c (Proc.devRef .tc (Pipeline.arrRef spec1 w))
  after w _ := match w with
    | 0 => sumsAt (W c)
    | 1 => cntsAt (W c)
    | 2 => maxsAt (W c)
    | 3 => merged (sumsAt (W c)) (cntsAt (W c)) (maxsAt (W c))
    | ⟨_ + 4, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0

theorem before0 (c : Dev nD) (x : (cfg1.win 0).block.Idx → Elt F (cfg1.win 0).elt) : (dats W 0 c).before 0 t1_0 x = sumsAt (W c) := by
  unfold Dat.before; rw [if_pos (by decide)]; exact stg0 (F := F) c (sumsAt (W c))

theorem before1 (c : Dev nD) (x : (cfg1.win 1).block.Idx → Elt F (cfg1.win 1).elt) : (dats W 0 c).before 1 t1_0 x = cntsAt (W c) := by
  unfold Dat.before; rw [if_pos (by decide)]; exact stg1 (F := F) c (cntsAt (W c))

theorem before2 (c : Dev nD) (x : (cfg1.win 2).block.Idx → Elt F (cfg1.win 2).elt) : (dats W 0 c).before 2 t1_0 x = maxsAt (W c) := by
  unfold Dat.before; rw [if_pos (by decide)]; exact stg2 (F := F) c (maxsAt (W c))

/-- The body: the staged arrays merged into the result's staging buffer. -/
theorem body_obligation (c : Dev nD) : BodyObligation (dats W 0 c) (defs₀ (F := F)) 𝒱₀ none Set.univ := fun t => by
  obtain rfl := fin_N1 t
  rw [bigSep_W1, bigSep_W1]
  simp only [owns_whole_eq]
  unfold Dat.owesAt Pipeline.owesWithin
  rw [show (dats W 0 c).owed t1_0.castSucc = 0 from rfl, show (dats W 0 c).owed t1_0.succ = 0 from rfl,
    show (dats W 0 c).Φ t1_0.castSucc = (dats W 0 c).Φ t1_0.succ from rfl]
  iintro ⟨HΦ, ⟨%Wt, %hWt, HO⟩, ⟨%d0, %f0, %hf0, H0⟩, ⟨%d1, %f1, %hf1, H1⟩, ⟨%d2, %f2, %hf2, H2⟩, ⟨%d3, %f3, %hf3, H3⟩⟩
  rw [before0] at hf0
  rw [before1] at hf1
  rw [before2] at hf2
  subst hf0 hf1 hf2
  iapply (Entails.of_eq (congrArg (fun p => wp frame (wpE (defs₀ (F := F)) 𝒱₀ (T c) none) Set.univ p _)
    (merge_eq (F := F) g0 g1 g2 g3 (hstage1_0 0) (hstage1_1 0) (hstage1_2 0) (hstage1_3 0)).symm))
  iapply (mergeG_wp c (sumsAt (W c)) (cntsAt (W c)) (maxsAt (W c)) _ f3 32 0 rfl Mg.zero)
  isplitl [H0]; · iexact H0
  isplitl [H1]; · iexact H1
  isplitl [H2]; · iexact H2
  isplitl [H3]; · iexact H3
  iintro ⟨H0, H1, H2, H3⟩
  isplitl [HΦ]; · iexact HΦ
  isplitl [HO]
  · iexists Wt; isplitr; · ipureintro; exact fun _ _ => Or.inl trivial
    iexact HO
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  iexists _; isplitr; swap; (· iexact H3); ipureintro; dsimp only [dats]; rfl

/-- The result's array after the region. -/
theorem arrAt3 (c : Dev nD) : (dats W 0 c).arrAt 3 cfg1.N = merged (sumsAt (W c)) (cntsAt (W c)) (maxsAt (W c)) :=
  Dat.arrAt_eq_of_cover _ 3 _ (fun t _ => by
    obtain rfl := fin_N1 t
    exact (stg3 c _).symm) (fun y => ⟨t1_0, flush1_3 _, by
      refine (Finset.mem_map (f := ((cfg1.win 3).blk t1_0).view.emb) (s := Finset.univ) (b := y)).2 ⟨y, Finset.mem_univ _, ?_⟩
      funext a; apply Fin.ext
      match a with | 0 => exact (Nat.zero_add _).trans (Nat.one_mul _) | 1 => exact (Nat.zero_add _).trans (Nat.one_mul _)⟩)

theorem share_full (c : Dev nD) (w : Fin cfg1.W) : (dats W 0 c).share w = fullShare := by
  unfold Dat.share; split <;> rfl

theorem rest_in (c : Dev nD) : (iprop(Pipeline.scopedRest spec1 c ∗ emp) : sProp 𝕄) ⊢ (dats W 0 c).Φ 0 := sep_elim_left

theorem rest_out (c : Dev nD) : (dats W 0 c).Φ (Fin.last cfg1.N) ⊢ iprop(Pipeline.scopedRest spec1 c ∗ emp) := by
  dsimp only [dats]
  iintro H
  isplitl [H]
  · iexact H
  iempintro

abbrev adm : (p : Fin 1) → (pcfgs (F := F) p).Adm := fun p => (cfgs p).toPCfg_adm

-- the launch kit speaks of `cfgs 0`, the region of the pipeline pinned at its one admissible choice
set_option backward.isDefEq.respectTransparency.types false in
/-- The region, from the core's unscoped buffers to the same with the result merged. -/
def reg : Pipeline.RegionSeg (pcfgs (F := F)) adm (dats W) none defs₀ 𝒱₀ (K (F := F)).L (K (F := F)).lev 0 :=
  Pipeline.RegionSeg.ofHeldIn (pcfgs (F := F)) adm (dats W) none defs₀ 𝒱₀ (K (F := F)).L (K (F := F)).lev 0 (fun _ => 0)
    (Pipeline.ucRefs τ sig) (fun _ => iprop(emp)) (fun _ => iprop(emp)) launch1.toP rfl
    (fun c => (body_obligation W c).loose) (fun _ _ => rfl) (fun _ => rfl) (fun c w => share_full W c w)
    (fun c => rest_in W c) (fun c => rest_out W c)
    (fun _ => 0) ⟨fun c w s => by unfold SparseCore.Cfg.L; simp, fun c w s => Nat.le_of_eq ((K (F := F)).lev_none _), fun c g i h => absurd h (Nat.lt_irrefl _)⟩
    (fun _ => iprop(emp)) W (fun c w => rfl)

end Cert.KernelIdeal.Pool
-- ==== Proof.KernelIdeal.Launch.lean ====
/-
  The launch: the entry function's run on the TensorCore, and what every final state holds.
-/
module

public import proofs.«01_k».proof.Proof.KernelIdeal.Split
public import proofs.«01_k».proof.Proof.KernelIdeal.Region

@[expose] public section

noncomputable section

namespace Cert.KernelIdeal.Pool

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Transfers Idealize.ShloMosaic.Rounds
open Cert.KernelIdeal Cert.KernelIdeal.Gen

variable {F : FTy → Type} [FloatOps F]

local notation "𝕄" => MT nD τ sig (HIx 1) (Elt F) ℕ UU ℕ

/-! ## The launch element -/

/-- The handshakes' cells, the pipeline's cells, no transfer. -/
def u₀ : UU := (initOf (K (F := F)).hsCells (K (F := F)).hsToks, (initOf (Pipeline.cells cfgs cellOf_inj) (Pipeline.launchToks cfgs cellOf_inj), 1))

/-- The pipeline's ghost state on a core. -/
abbrev G (d : Dev nD) : sProp 𝕄 := iprop(Pipeline.cellsGhost cfgs EP 0 d ∗ Pipeline.toksInit cfgs EP 0 d)

variable (m : (ℓ : Loc nD τ sig) → Buf (Elt F) ℓ) (ρ : Dev nD → PrngReg)

theorem one_pipe (Φ : Dev nD → Fin 1 → sProp 𝕄) :
    (bigSep Finset.univ fun d : Dev nD => bigSep Finset.univ fun p : Fin 1 => Φ d p) = bigSep Finset.univ fun d : Dev nD => Φ d 0 := by
  congr 1
  funext d
  exact bigSep_univ_of_subsingleton (0 : Fin 1)

theorem hu₀ : ownU (u₀ (F := F))
    ⊢ |={Set.univ}=> iprop(BI.own (EH (initOf (K (F := F)).hsCells (K (F := F)).hsToks)) ∗ bigSep Finset.univ (G (F := F))
      ∗ (bigSep Finset.univ fun thr : Thread nD τ => bigSep Finset.univ fun q : Fin 1 => (P m).x q thr) : sProp 𝕄) := by
  unfold u₀
  iintro Hu
  ihave H := (ownU_pair _ _) $$ Hu
  icases H with ⟨HH, HP⟩
  ihave HP := (show (BI.own (embR (initOf (Pipeline.cells cfgs cellOf_inj) (Pipeline.launchToks cfgs cellOf_inj), (1 : Counters))) : sProp 𝕄)
      ⊢ BI.own (EP (initOf (Pipeline.cells cfgs cellOf_inj) (Pipeline.launchToks cfgs cellOf_inj))) from .rfl) $$ HP
  imod (Pipeline.fund_ghost cfgs EP cellOf_inj) $$ HP with ⟨Hg, Ht⟩
  ihave Hg := (Entails.of_eq (one_pipe fun d p => Pipeline.cellsGhost cfgs EP p d)) $$ Hg
  ihave Ht := (Entails.of_eq (one_pipe fun d p => Pipeline.toksInit cfgs EP p d)) $$ Ht
  imodintro
  isplitl [HH]; · iexact HH
  isplitl [Hg Ht]
  · iapply (Entails.of_eq (bigSep_sep' (s := Finset.univ) (Φ := fun d : Dev nD => Pipeline.cellsGhost cfgs EP 0 d) (Ψ := _)).symm)
    isplitl [Hg] <;> iassumption
  iapply (show (BI.emp : sProp 𝕄) ⊢ bigSep Finset.univ (fun _ : Thread nD τ => bigSep Finset.univ fun _ : Fin 1 => (BI.emp : sProp 𝕄)) from by
    simp only [BI.bigSep_emp_const]; exact .rfl)
  iempintro

/-! ## The host's buffers -/

variable (d : Dev nD)

/-- The TensorCore's unscoped buffers, listed. -/
theorem unscoped_eq (W : (b : Ref sig .tc) → Buf (Elt F) ((d.tc : Thread nD τ).loc b)) :
    (unscopedBufs d W : sProp 𝕄) = iprop((xLoc d ↦{fullShare} W main_arg0) ∗ (bLoc d ↦{fullShare} W main_arg1) ∗ (omLoc d ↦{fullShare} W main_v0_2)
      ∗ (osLoc d ↦{fullShare} W main_v0_0) ∗ (ocLoc d ↦{fullShare} W main_v0_1)
      ∗ (((d.tc : Thread nD τ).loc main_v1) ↦{fullShare} W main_v1) ∗ ((d.tc : Thread nD τ).loc main_v2) ↦{fullShare} W main_v2) := by
  unfold unscopedBufs
  rw [show (Finset.univ.filter fun b : Ref sig .tc => ¬ b.isScoped) = {main_arg0, main_arg1, main_v0_2, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The buffers once the call is over: the three tables' arrays at what the workers left, the others as launched. -/
def V4 (os om : FVec F S16640x128 .f32) (oc : FVec F S32x8192 .f32) : Valuation τ sig (Elt F) :=
  Function.update (Function.update (Function.update (fun b => m (d, b)) (Proc.devRef .tc main_v0_0) os) (Proc.devRef .tc main_v0_2) om)
    (Proc.devRef .tc main_v0_1) oc

section V4
variable (os om : FVec F S16640x128 .f32) (oc : FVec F S32x8192 .f32)

theorem V4_oc : V4 m d os om oc (Proc.devRef .tc main_v0_1) = oc := Function.update_self ..
theorem V4_om : V4 m d os om oc (Proc.devRef .tc main_v0_2) = om :=
  (Function.update_of_ne (by decide) _ _).trans (Function.update_self ..)
theorem V4_os : V4 m d os om oc (Proc.devRef .tc main_v0_0) = os :=
  (Function.update_of_ne (by decide) _ _).trans ((Function.update_of_ne (by decide) _ _).trans (Function.update_self ..))
theorem V4_other (b : DevRef τ sig) (h0 : b ≠ Proc.devRef .tc main_v0_0) (h1 : b ≠ Proc.devRef .tc main_v0_1) (h2 : b ≠ Proc.devRef .tc main_v0_2) :
    V4 m d os om oc b = m (d, b) :=
  (Function.update_of_ne h1 _ _).trans ((Function.update_of_ne h2 _ _).trans (Function.update_of_ne h0 _ _))

/-- The reshape of the counts. -/
abbrev opR : HloOp τ sig (Elt F) := StableHlo.reshape main_v0_1 main_v1 (rfl : (.f32 : EltTy) = .f32) Gen.shapeCasts_S32x8192_S16384x16

/-- The buffers once the counts are reshaped. -/
abbrev V5 : Valuation τ sig (Elt F) := (opR (F := F)).result (V4 m d os om oc)

/-- The counts, one row of sixteen per worker and segment. -/
def cnts (oc : FVec F S32x8192 .f32) : FVec F S16384x16 .f32 := shapeCast S16384x16 oc Gen.shapeCasts_S32x8192_S16384x16

theorem V5_c : cntsAt (V5 m d os om oc) = cnts oc :=
  (StableHlo.reshape_result _ _ _ _ _ _ _).trans (by rw [V4_oc]; rfl)
theorem V5_ne {b : Ref sig .tc} (h : b ≠ main_v1) : V5 m d os om oc (Proc.devRef .tc b) = V4 m d os om oc (Proc.devRef .tc b) :=
  StableHlo.reshape_result_ne' _ _ _ _ _ h

end V4

/-! ## The entry function -/

/-- What the result is: the merge of three arrays each of whose parts is what its worker leaves. -/
def Out (o : FVec F S512x384 .f32) : Prop :=
  ∃ os om oc, Joined m d os om oc ∧ o = merged os (cnts oc) om

abbrev rLoc (d : Dev nD) : Loc nD τ sig := (SparseCore.T d).loc main_v2

abbrev FIN (d : Dev nD) : sProp 𝕄 := iprop((xLoc d ↦{fullShare} m (xLoc d)) ∗ (bLoc d ↦{fullShare} m (bLoc d))
  ∗ ∃ o : FVec F S512x384 .f32, ⌜Out m d o⌝ ∗ rLoc d ↦{fullShare} o)

/-- The pipeline's entry, in the pipeline's own signature. -/
def entryP : Prog (TpuEff nD τ sig (Elt F) (ΛP (F := F)) .tc) PUnit := .op (.customCall (Pipeline.entry 0) ()) .ret

/-- The region's program is the pipeline's entry, lifted. -/
theorem entry_lift : (Prog.lift (.customCall (SparseCore.inner (Pipeline.entry 0)) ()) : Prog (TpuEff nD τ sig (Elt F) (SparseCore.Sig (ΛP (F := F)) 1) .tc) PUnit)
    = SparseCore.liftProg (entryP (F := F)) := rfl

theorem arr_uc : Pipeline.arrRefs (pcfgs (F := F) 0).spec ⊆ Pipeline.ucRefs τ sig := Pipeline.arrRefs_sub_ucRefs _ (fun w => by fin_cases w <;> rfl)

set_option backward.isDefEq.respectTransparency.types false in
theorem reg_pre (W : Dev nD → Valuation τ sig (Elt F)) (d : Dev nD) :
    iprop(StableHlo.held (d.tc : Thread nD τ) (Pipeline.ucRefs τ sig) (W d) ∗ ((∃ Wd, owes (d.tc : Thread nD τ) 0 Wd) ∗ emp ∗ emp)) ⊢ (reg W).pre d := by
  unfold reg
  exact Pipeline.RegionSeg.ofHeldIn_pre (pcs := pcfgs (F := F)) (a := adm) (pdats := dats W) (ι := none) (defs₀ := defs₀) (𝒱₀ := 𝒱₀) (L := (K (F := F)).L)
    (lv := (K (F := F)).lev) (p := 0) (D := fun _ => 0) (X := fun _ => iprop(emp)) (Y := fun _ => iprop(emp)) (R := fun _ => iprop(emp)) (W := W) arr_uc d

set_option backward.isDefEq.respectTransparency.types false in
theorem reg_post (W : Dev nD → Valuation τ sig (Elt F)) (d : Dev nD) :
    (reg W).post d ⊢ iprop(StableHlo.held (d.tc : Thread nD τ) (Pipeline.ucRefs τ sig) (Pipeline.afterRegion (dats W 0 d) (W d))
      ∗ ((∃ Wd, owes (d.tc : Thread nD τ) 0 Wd) ∗ emp ∗ emp)) := by
  unfold reg
  exact Pipeline.RegionSeg.ofHeldIn_post (pcs := pcfgs (F := F)) (a := adm) (pdats := dats W) (ι := none) (defs₀ := defs₀) (𝒱₀ := 𝒱₀) (L := (K (F := F)).L)
    (lv := (K (F := F)).lev) (p := 0) (D := fun _ => 0) (X := fun _ => iprop(emp)) (Y := fun _ => iprop(emp)) (R := fun _ => iprop(emp)) (W := W) arr_uc d

/-- The merge's region, run from the entry function: from the unscoped buffers at `V` to the same after the region. -/
theorem region_wp [∀ e, Nonempty (Elt F e)] (V : Valuation τ sig (Elt F)) :
    iprop(boundary (d.tc : Thread nD τ) ∗ StableHlo.held (d.tc : Thread nD τ) (Pipeline.ucRefs τ sig) V ∗ (∃ Wd, owes (d.tc : Thread nD τ) 0 Wd)
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ()))
          fun _ => iprop(boundary (d.tc : Thread nD τ) ∗ StableHlo.held (d.tc : Thread nD τ) (Pipeline.ucRefs τ sig) (Pipeline.afterRegion (dats (fun _ => V) 0 d) V)
            ∗ ∃ Wd, owes (d.tc : Thread nD τ) 0 Wd) := by
  rw [entry_lift]
  refine BIBase.Entails.trans ?_ ((K (F := F)).wp_liftProg (D (F := F)) 𝒱 (SparseCore.T d) Set.univ none (entryP (F := F)) _)
  unfold entryP
  refine BIBase.Entails.trans ?_ (Pipeline.RegionSeg.wp (pcfgs (F := F)) adm (dats fun _ => V) none cellOf_inj EP defs₀ 𝒱₀ (K (F := F)).L (K (F := F)).lev
    (reg fun _ => V) d none (fun _ h => nomatch h) .ret _)
  iintro ⟨Hb, Hheld, HO, Hlv, Hg, Ht⟩
  isplitr [Hb Hheld HO Hlv Hg Ht]
  · iintro ⟨Hb, Hpost⟩
    ihave Hpost := (reg_post (fun _ => V) d) $$ Hpost
    icases Hpost with ⟨Hheld, HO, -, -⟩
    iapply (Entails.of_eq (wp_ret _ _ _ _ _).symm)
    imodintro
    isplitl [Hb]; · iexact Hb
    isplitl [Hheld]; · iexact Hheld
    iexact HO
  · isplitl [Hb]; · iexact Hb
    isplitl [Hheld HO]
    · iapply (reg_pre (fun _ => V) d)
      isplitl [Hheld]; · iexact Hheld
      isplitl [HO]; · iexact HO
      isplitr <;> iempintro
    isplitl [Hlv]; · iexact Hlv
    isplitl [Hg] <;> iassumption

/-! ## The entry function's run -/

theorem after_x (os om : FVec F S16640x128 .f32) (oc : FVec F S32x8192 .f32) :
    Pipeline.afterRegion (dats (fun _ => V5 m d os om oc) 0 d) (V5 m d os om oc) (Proc.devRef .tc main_arg0) = m (xLoc d) :=
  (Pipeline.afterRegion_of_not_arr _ _ (by decide)).trans ((V5_ne m d os om oc (by decide)).trans (V4_other m d os om oc _ (by decide) (by decide) (by decide)))

theorem after_b (os om : FVec F S16640x128 .f32) (oc : FVec F S32x8192 .f32) :
    Pipeline.afterRegion (dats (fun _ => V5 m d os om oc) 0 d) (V5 m d os om oc) (Proc.devRef .tc main_arg1) = m (bLoc d) :=
  (Pipeline.afterRegion_of_not_arr _ _ (by decide)).trans ((V5_ne m d os om oc (by decide)).trans (V4_other m d os om oc _ (by decide) (by decide) (by decide)))

theorem after_o (os om : FVec F S16640x128 .f32) (oc : FVec F S32x8192 .f32) :
    Pipeline.afterRegion (dats (fun _ => V5 m d os om oc) 0 d) (V5 m d os om oc) (Proc.devRef .tc main_v2) = merged os (cnts oc) om := by
  refine (Pipeline.afterRegion_arr (dats (fun _ => V5 m d os om oc) 0 d) (V5 m d os om oc) launch1.win.arr_inj 3).trans ?_
  rw [arrAt3, V5_c]
  congr 1

/-- The buffers held at the valuation once the call is over, from their listing. -/
theorem held_V4 (os om : FVec F S16640x128 .f32) (oc : FVec F S32x8192 .f32) :
    (StableHlo.held (d.tc : Thread nD τ) (Pipeline.ucRefs τ sig) (V4 m d os om oc) : sProp 𝕄)
      = iprop((xLoc d ↦{fullShare} m (xLoc d)) ∗ (bLoc d ↦{fullShare} m (bLoc d)) ∗ (omLoc d ↦{fullShare} om)
      ∗ (osLoc d ↦{fullShare} os) ∗ (ocLoc d ↦{fullShare} oc)
      ∗ (((d.tc : Thread nD τ).loc main_v1) ↦{fullShare} m ((d.tc : Thread nD τ).loc main_v1)) ∗ ((d.tc : Thread nD τ).loc main_v2) ↦{fullShare} m ((d.tc : Thread nD τ).loc main_v2)) := by
  rw [← Pipeline.unscopedBufs_held, unscoped_eq, V4_oc, V4_om, V4_os, V4_other m d os om oc (Proc.devRef .tc main_arg0) (by decide) (by decide) (by decide),
    V4_other m d os om oc (Proc.devRef .tc main_arg1) (by decide) (by decide) (by decide),
    V4_other m d os om oc (Proc.devRef .tc main_v1) (by decide) (by decide) (by decide), V4_other m d os om oc (Proc.devRef .tc main_v2) (by decide) (by decide) (by decide)]

/-- What the buffers hold at the end. -/
theorem held_end (os om : FVec F S16640x128 .f32) (oc : FVec F S32x8192 .f32) (hJ : Joined m d os om oc) :
    (StableHlo.held (d.tc : Thread nD τ) (Pipeline.ucRefs τ sig) (Pipeline.afterRegion (dats (fun _ => V5 m d os om oc) 0 d) (V5 m d os om oc)) : sProp 𝕄)
      ⊢ FIN m d := by
  rw [← Pipeline.unscopedBufs_held, unscoped_eq, after_x, after_b, after_o]
  iintro ⟨Hx, Hb, -, -, -, -, Ho⟩
  isplitl [Hx]; · iexact Hx
  isplitl [Hb]; · iexact Hb
  iexists _
  isplitr
  · ipureintro; exact ⟨os, om, oc, hJ, rfl⟩
  · iexact Ho

theorem opR_sub : (opR (F := F)).bufs ⊆ Pipeline.ucRefs τ sig := by
  rw [StableHlo.reshape_bufs]
  intro b hb
  simp only [Finset.mem_insert, Finset.mem_singleton] at hb
  rcases hb with rfl | rfl
  · exact Pipeline.devRef_mem_ucRefs rfl
  · exact Pipeline.devRef_mem_ucRefs rfl

/-- What the core owes once its call is over: nothing. -/
theorem tcSt_out : ((K (F := F)).tcSt EH d ((0 : Fin 1).val + 1) : sProp 𝕄) ⊢ iprop((∃ Wd, owes (d.tc : Thread nD τ) 0 Wd)
    ∗ ((∃ Wd, owes (d.tc : Thread nD τ) 0 Wd) -∗ (K (F := F)).tcSt EH d 1)) := by
  unfold SparseCore.Cfg.tcSt
  rw [show (0 : Fin 1).val + 1 = 1 from rfl, (K (F := F)).Otc_end d (le_refl 1)]
  iintro ⟨⟨%W, -, HO⟩, Hr⟩
  isplitl [HO]
  · iexists W; iexact HO
  iintro ⟨%W', HO⟩
  isplitl [HO]
  · iexists W'
    isplitr
    · ipureintro
      intro p _
      rcases hq : p.2 with _ | q
      · rw [(K (F := F)).lev_none]; exact Nat.zero_le _
      · refine ((K (F := F)).lev_some_le _ q).trans ?_
        match q with | 0 => decide
    · iexact HO
  iexact Hr

/-- The entry function on a device's TensorCore: the call, the reshape of the counts, the merge. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, Hbt, Hom, Hos, Hoc, Hv1, Hv2⟩, Hts, -⟩, HG⟩
  iapply ((K (F := F)).wp_run (D (F := F)) 𝒱 (EH := EH) (P := P m) κ d 0) $$ [Hst Hx Hbt Hom Hos Hoc Hb Hv1 Hv2 Hts HG]
  isplitr; · iexact Hctx
  isplitl [Hst]; · iexact Hst
  isplitl [Hx Hbt Hom Hos Hoc]
  · rw [goAll_eq]
    isplitl [Hx]; · iexact Hx
    isplitl [Hbt]; · iexact Hbt
    isplitl [Hom]; · iexact Hom
    isplitl [Hos] <;> iassumption
  iintro ⟨Hst, Hdn⟩
  ihave Hdn := (tdAll m d) $$ Hdn
  icases Hdn with ⟨Hx, Hbt, %om, %os, %oc, %hJ, Hom, Hos, Hoc⟩
  iapply (StableHlo.wp_hlo_within 𝒱 (SparseCore.T d) none Set.univ (op := opR) (S := Pipeline.ucRefs τ sig) opR_sub (V := V4 m d os om oc)) $$ [Hb Hx Hbt Hom Hos Hoc Hv1 Hv2]
  · isplitl [Hb]; · iexact Hb
    iapply (Entails.of_eq (held_V4 m d os om oc).symm)
    isplitl [Hx]; · iexact Hx
    isplitl [Hbt]; · iexact Hbt
    isplitl [Hom]; · iexact Hom
    isplitl [Hos]; · iexact Hos
    isplitl [Hoc]; · iexact Hoc
    isplitl [Hv1] <;> iassumption
  iintro ⟨Hb, Hheld⟩
  rw [wp_ret]; imodintro
  ihave Hst := (tcSt_out d) $$ Hst
  icases Hst with ⟨HO, Hback⟩
  ihave Hlv := ((K (F := F)).ctx_levAts κ) $$ Hctx
  iapply wp_wand $$ [Hb Hheld HO Hlv HG]
  · iapply (region_wp d (V5 m d os om oc))
    isplitl [Hb]; · iexact Hb
    isplitl [Hheld]; · iexact Hheld
    isplitl [HO]; · iexact HO
    isplitl [Hlv] <;> iassumption
  iintro %_ ⟨Hb, Hheld, HO⟩
  ihave Hst := Hback $$ HO
  ihave Hfin := (held_end m d os om oc hJ) $$ Hheld
  imodintro
  isplitl [Hst]; · iexact Hst
  isplitl [Hfin]; · iexact Hfin
  isplitl [Hb] <;> iassumption

/-! ## Every final state -/

/-- What the claims read of a device's final state. -/
def fq (d : Dev nD) (s' : Phys nD τ sig (Elt F)) : Prop :=
  s'.mem.mem (xLoc d) = m (xLoc d) ∧ s'.mem.mem (bLoc d) = m (bLoc d) ∧ Out m d (s'.mem.mem (rLoc d))

theorem hfin (d : Dev nD) (s' : Phys nD τ sig (Elt F)) : iprop(FIN m d ∗ SI s') ⊢ (⌜fq m d s'⌝ : sProp 𝕄) := by
  iintro ⟨⟨Hx, Hb, %o, %ho, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := rLoc d) (I := Finset.univ) (q := fullShare) (f := o)) $$ [HSI Hr]
  · isplitl [HSI] <;> iassumption
  icases H with %hr
  ipureintro
  have e : s'.mem.mem (rLoc d) = o := funext fun i => hr i (Finset.mem_univ i)
  exact ⟨funext fun i => hx i (Finset.mem_univ i), funext fun i => hb i (Finset.mem_univ i), by rw [e]; exact ho⟩

def QC : PUnit × MemSt nD τ sig (Elt F) → Prop := fun r =>
  (∀ c : Dev nD, r.2.mem (xLoc c) = m (xLoc c) ∧ r.2.mem (bLoc c) = m (bLoc c) ∧ Out m c (r.2.mem (rLoc c))) ∧ r.2.sem = fun _ => 0

/-- Every run of the kernel ends, its arguments unchanged, its semaphores at zero, its result as `Out` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq) (fun q _ => match q with | 0 => tileObl m kfacts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Pool
-- ==== Proof.KernelIdeal.Frame.lean ====
/-
  From the precondition: every run of the kernel ends, its arguments unchanged, its result the merge of what the workers leave.
-/
module

public import proofs.«01_k».proof.Proof.KernelIdeal.Launch
public import proofs.«01_k».proof.Proof.Pool.Pre

@[expose] public section

noncomputable section

namespace Cert.KernelIdeal.Pool

open Idealize.ShloMosaic Idealize.ShloMosaic.TcCoe Idealize.SL.Sem
open Cert.KernelIdeal Cert.KernelIdeal.Gen

variable {F : FTy → Type} [FloatOps F] [Cert.Pre_in_range_sorted.Facts]

theorem ok_of_pre (m : (ℓ : Loc nD τ sig) → Buf (Elt F) ℓ)
    (h : ∀ c : Dev nD, Cert.Pre_in_range_sorted.fn (F := F) (m (xLoc c)) (m (bLoc c)) = fun _ => 1#1) : PreOK m := fun d r =>
  Nat.le_of_lt ((Cert.Pool.pre_facts (F := F) _ _ (h d)).1 (r % 320000) (Nat.mod_lt _ (by decide)))

/-- The kernel's frame. -/
theorem frame : Cert.quiescent_KernelIdeal := fun m ρ hpre =>
  (θ_run Cert.KernelIdeal.defs _ _).mono (fun _ h => ⟨fun c => ⟨(h.1 c).1, (h.1 c).2.1⟩, h.2⟩) (run_main m ρ (ok_of_pre m hpre))

end Cert.KernelIdeal.Pool
-- ==== Proof.Pool.Segments.lean ====
/-
  Sums, maxima and counts over the rows of one segment, among the first `n` rows of a walk.
-/
module

public import Mathlib.Data.EReal.Operations
public import Mathlib.Algebra.BigOperators.Group.Finset.Basic
public import Mathlib.Data.Finset.Lattice.Fold

@[expose] public section

noncomputable section

namespace Cert.Pool

/-- The rows of segment `s` among the first `n`. -/
def rowsOf (B : Nat → BitVec 32) (n s : Nat) : Finset Nat := (Finset.range n).filter fun r => (B r).toNat = s

variable {ι : Type} (X : Nat → ι → EReal) (B : Nat → BitVec 32)

/-- Their sum, maximum and number. -/
def rsum (n s : Nat) (y : ι) : EReal := ∑ r ∈ rowsOf B n s, X r y
def rmax (n s : Nat) (y : ι) : EReal := (rowsOf B n s).sup fun r => X r y
def rcnt (n s : Nat) : EReal := ∑ _r ∈ rowsOf B n s, (1 : EReal)

variable {B}

theorem mem_rowsOf {n s r : Nat} : r ∈ rowsOf B n s ↔ r < n ∧ (B r).toNat = s := by
  simp [rowsOf]

theorem rowsOf_zero (s : Nat) : rowsOf B 0 s = ∅ := by simp [rowsOf]

theorem rowsOf_ne {n s : Nat} (h : (B n).toNat ≠ s) : rowsOf B (n + 1) s = rowsOf B n s := by
  ext r
  simp only [mem_rowsOf]
  constructor
  · rintro ⟨h1, h2⟩
    refine ⟨?_, h2⟩
    rcases Nat.lt_succ_iff_lt_or_eq.mp h1 with h1 | rfl
    · exact h1
    · exact absurd h2 h
  · rintro ⟨h1, h2⟩
    exact ⟨by omega, h2⟩

theorem rowsOf_eq {n s : Nat} (h : (B n).toNat = s) : rowsOf B (n + 1) s = insert n (rowsOf B n s) := by
  ext r
  simp only [mem_rowsOf, Finset.mem_insert]
  constructor
  · rintro ⟨h1, h2⟩
    rcases Nat.lt_succ_iff_lt_or_eq.mp h1 with h1 | rfl
    · exact .inr ⟨h1, h2⟩
    · exact .inl rfl
  · rintro (rfl | ⟨h1, h2⟩)
    · exact ⟨by omega, h⟩
    · exact ⟨by omega, h2⟩

theorem not_mem_rowsOf (n s : Nat) : n ∉ rowsOf B n s := by
  simp [mem_rowsOf]

theorem rsum_eq {n s : Nat} (h : (B n).toNat = s) (y : ι) : rsum X B (n + 1) s y = rsum X B n s y + X n y := by
  unfold rsum
  rw [rowsOf_eq h, Finset.sum_insert (not_mem_rowsOf n s), add_comm]

theorem rmax_eq {n s : Nat} (h : (B n).toNat = s) (y : ι) : rmax X B (n + 1) s y = max (rmax X B n s y) (X n y) := by
  unfold rmax
  rw [rowsOf_eq h, Finset.sup_insert, sup_comm]

theorem rcnt_eq {n s : Nat} (h : (B n).toNat = s) : rcnt B (n + 1) s = rcnt B n s + 1 := by
  unfold rcnt
  rw [rowsOf_eq h, Finset.sum_insert (not_mem_rowsOf n s), add_comm]

/-- `k` rows of one segment in a row. -/
theorem rsum_run {n s : Nat} (y : ι) : ∀ k, (∀ j, j < k → (B (n + j)).toNat = s) →
    rsum X B (n + k) s y = rsum X B n s y + ∑ j ∈ Finset.range k, X (n + j) y
  | 0, _ => by simp
  | k + 1, h => by
    rw [← Nat.add_assoc, rsum_eq X (h k (by omega)), rsum_run y k fun j hj => h j (by omega), Finset.sum_range_succ, add_assoc]

theorem rmax_run {n s : Nat} (y : ι) : ∀ k, (∀ j, j < k → (B (n + j)).toNat = s) →
    rmax X B (n + k) s y = max (rmax X B n s y) ((Finset.range k).sup fun j => X (n + j) y)
  | 0, _ => by simp
  | k + 1, h => by
    rw [← Nat.add_assoc, rmax_eq X (h k (by omega)), rmax_run y k fun j hj => h j (by omega), Finset.range_add_one, Finset.sup_insert,
      max_assoc]
    congr 1
    exact max_comm _ _

theorem rcnt_run {n s : Nat} : ∀ k, (∀ j, j < k → (B (n + j)).toNat = s) →
    rcnt B (n + k) s = rcnt B n s + ∑ _j ∈ Finset.range k, (1 : EReal)
  | 0, _ => by simp
  | k + 1, h => by
    rw [← Nat.add_assoc, rcnt_eq (h k (by omega)), rcnt_run k fun j hj => h j (by omega), Finset.sum_range_succ, add_assoc]

/-- … and the other segments' rows. -/
theorem rowsOf_run {n s : Nat} : ∀ k, (∀ j, j < k → (B (n + j)).toNat ≠ s) → rowsOf B (n + k) s = rowsOf B n s
  | 0, _ => rfl
  | k + 1, h => by rw [← Nat.add_assoc, rowsOf_ne (h k (by omega)), rowsOf_run k fun j hj => h j (by omega)]

/-- No row before is of a segment above them all. -/
theorem rowsOf_new {n s : Nat} (h : ∀ r, r < n → (B r).toNat < s) : rowsOf B n s = ∅ := by
  ext r
  simp only [mem_rowsOf, Finset.notMem_empty, iff_false, not_and]
  intro h1 h2
  exact absurd (h r h1) (by omega)

/-- The number is positive where there is a row. -/
theorem rcnt_pos {n s : Nat} : 0 < rcnt B n s ↔ (rowsOf B n s).Nonempty := by
  unfold rcnt
  rw [Finset.sum_const]
  constructor
  · intro h
    rw [Finset.nonempty_iff_ne_empty]
    rintro e
    rw [e] at h
    simp at h
  · intro h
    have h1 : 0 < (rowsOf B n s).card := Finset.card_pos.mpr h
    rw [nsmul_one]
    exact_mod_cast h1

theorem rsum_empty {n s : Nat} (h : ¬ (rowsOf B n s).Nonempty) (y : ι) : rsum X B n s y = 0 := by
  rw [Finset.not_nonempty_iff_eq_empty] at h
  simp [rsum, h]

theorem rmax_empty {n s : Nat} (h : ¬ (rowsOf B n s).Nonempty) (y : ι) : rmax X B n s y = ⊥ := by
  rw [Finset.not_nonempty_iff_eq_empty] at h
  simp [rmax, h]

/-! ## A walk in two parts -/

theorem rsum_append (n s : Nat) (y : ι) : ∀ m, rsum X B (n + m) s y = rsum X B n s y + rsum (fun r => X (n + r)) (fun r => B (n + r)) m s y
  | 0 => by simp [rsum, rowsOf_zero]
  | m + 1 => by
    by_cases h : (B (n + m)).toNat = s
    · rw [← Nat.add_assoc, rsum_eq X h, rsum_append n s y m, rsum_eq (B := fun r => B (n + r)) _ h, add_assoc]
    · rw [← Nat.add_assoc]
      unfold rsum
      rw [rowsOf_ne h, rowsOf_ne (B := fun r => B (n + r)) h]
      exact rsum_append n s y m

theorem rmax_append (n s : Nat) (y : ι) : ∀ m, rmax X B (n + m) s y = max (rmax X B n s y) (rmax (fun r => X (n + r)) (fun r => B (n + r)) m s y)
  | 0 => by simp [rmax, rowsOf_zero]
  | m + 1 => by
    by_cases h : (B (n + m)).toNat = s
    · rw [← Nat.add_assoc, rmax_eq X h, rmax_append n s y m, rmax_eq (B := fun r => B (n + r)) _ h, max_assoc]
    · rw [← Nat.add_assoc]
      unfold rmax
      rw [rowsOf_ne h, rowsOf_ne (B := fun r => B (n + r)) h]
      exact rmax_append n s y m

theorem rcnt_append (n s : Nat) : ∀ m, rcnt B (n + m) s = rcnt B n s + rcnt (fun r => B (n + r)) m s
  | 0 => by simp [rcnt, rowsOf_zero]
  | m + 1 => by
    by_cases h : (B (n + m)).toNat = s
    · rw [← Nat.add_assoc, rcnt_eq h, rcnt_append n s m, rcnt_eq (B := fun r => B (n + r)) h, add_assoc]
    · rw [← Nat.add_assoc]
      unfold rcnt
      rw [rowsOf_ne h, rowsOf_ne (B := fun r => B (n + r)) h]
      exact rcnt_append n s m

end Cert.Pool
-- ==== Proof.Pool.Worker.lean ====
/-
  What a worker's walk computes at the extended reals: of each segment the sum, the maximum and the number of its rows.
-/
module

public import proofs.«01_k».proof.Proof.KernelIdeal.Model
public import proofs.«01_k».proof.Proof.Pool.Segments
public import Idealize.ShloMosaic.Lib.IdealHost

@[expose] public section

noncomputable section

namespace Cert.Pool

open Idealize.ShloMosaic Cert.KernelIdeal Cert.KernelIdeal.Pool

theorem ofBits_sixteen : Ideal.ofBits .f32 0x41800000#32 = ((16 : ℝ) : EReal) := by
  simp [Ideal.ofBits, Ideal.ieee, -EReal.coe_mul]
  norm_num

theorem ofBits_bot : Ideal.ofBits .f32 0xFF800000#32 = ⊥ := by
  simp [Ideal.ofBits, Ideal.ieee]

variable (w : Nat) (X : Nat → Row Ideal) (B : Nat → BitVec 32)

/-- The tables hold every segment's run but that of `c`. -/
structure Put (n : Nat) (c : Nat) (st : St Ideal) : Prop where
  tab : ∀ s, s < 512 → s ≠ c → ∀ y : S8320.Idx, 16 * s ≤ (y 0).val → (y 0).val < 16 * s + 16 → (st.tab y : EReal) = rcnt B n s
  om : ∀ s, s < 512 → s ≠ c → (rowsOf B n s).Nonempty → ∀ y : S16640x128.Idx, (y 0).val = 520 * w + s →
    (st.om y : EReal) = rmax X B n s (ix1 (n0 := 128) (y 1))
  os : ∀ s, s < 512 → s ≠ c → (rowsOf B n s).Nonempty → ∀ y : S16640x128.Idx, (y 0).val = 520 * w + s →
    (st.os y : EReal) = rsum X B n s (ix1 (n0 := 128) (y 1))

/-- After `n` rows: the current run is that of the last row's segment, the others are put away. -/
structure Inv (n : Nat) (st : St Ideal) : Prop where
  cur0 : n = 0 → st.cur.toNat = 512
  cur : ∀ k, n = k + 1 → st.cur = B k
  acc : n ≠ 0 → ∀ y, (st.acc y : EReal) = rmax X B n st.cur.toNat y
  sum : n ≠ 0 → ∀ y, (st.sum y : EReal) = rsum X B n st.cur.toNat y
  cnt : n ≠ 0 → ∀ l, (st.cnt l : EReal) = rcnt B n st.cur.toNat
  put : Put w X B n st.cur.toNat st

variable {w X B}

/-- Putting the run away leaves every segment put away. -/
theorem put_flush {n : Nat} {st : St Ideal} (h : Inv w X B n st) (c : Nat) (hc : 512 ≤ c) : Put w X B n c (st.flush w) := by
  by_cases hn : n = 0
  · have h0 := h.cur0 hn
    subst hn
    have he : ∀ s, ¬ (rowsOf B 0 s).Nonempty := fun s => by rw [rowsOf_zero]; exact Finset.not_nonempty_empty
    refine ⟨fun s hs _ y h1 h2 => ?_, fun s _ _ hne => absurd hne (he s), fun s _ _ hne => absurd hne (he s)⟩
    show slot _ _ _ y = _
    unfold slot
    rw [dif_neg (by rw [h0]; omega)]
    exact h.put.tab s hs (by rw [h0]; omega) y h1 h2
  · refine ⟨fun s hs _ y h1 h2 => ?_, fun s hs _ hne y hy => ?_, fun s hs _ hne y hy => ?_⟩
    · show slot _ _ _ y = _
      unfold slot
      by_cases e : s = st.cur.toNat
      · rw [dif_pos (by rw [← e]; exact ⟨h1, h2⟩)]
        exact (h.cnt hn _).trans (by rw [e])
      · rw [dif_neg (by omega)]
        exact h.put.tab s hs e y h1 h2
    · show setRow _ _ _ y = _
      unfold setRow
      by_cases e : s = st.cur.toNat
      · rw [if_pos (by rw [← e]; exact hy), e]
        exact h.acc hn _
      · rw [if_neg (by omega)]
        exact h.put.om s hs e hne y hy
    · show setRow _ _ _ y = _
      unfold setRow
      by_cases e : s = st.cur.toNat
      · rw [if_pos (by rw [← e]; exact hy), e]
        exact h.sum hn _
      · rw [if_neg (by omega)]
        exact h.put.os s hs e hne y hy

variable {N : Nat} (hlt : ∀ r, r < N → (B r).toNat < 512) (hle : ∀ r s, r ≤ s → s < N → (B r).toNat ≤ (B s).toNat)
include hlt hle

/-- One row. -/
theorem inv_row {n : Nat} (hn : n < N) {st : St Ideal} (h : Inv w X B n st) : Inv w X B (n + 1) (st.row w (X n) (B n)) := by
  unfold St.row
  by_cases e : B n = st.cur
  · have h0 : n ≠ 0 := fun h0 => by
      have := h.cur0 h0
      have := hlt n hn
      rw [e] at this
      omega
    rw [if_pos e]
    refine ⟨fun h => absurd h (by omega), fun k hk => ?_, fun _ y => ?_, fun _ y => ?_, fun _ l => ?_, ⟨fun s hs hsc y h1 h2 => ?_, fun s hs hsc hne y hy => ?_, fun s hs hsc hne y hy => ?_⟩⟩
    · obtain rfl : n = k := by omega
      rfl
    · show (if B n = st.cur then maximumf st.acc (X n) else X n) y = _
      rw [if_pos e]
      refine Eq.trans ?_ (rmax_eq X rfl y).symm
      show max (st.acc y : EReal) _ = _
      rw [h.acc h0, e]
    · show (if B n = st.cur then addf st.sum (X n) else X n) y = _
      rw [if_pos e]
      refine Eq.trans ?_ (rsum_eq X rfl y).symm
      show (st.sum y : EReal) + _ = _
      rw [h.sum h0, e]
    · show (if B n = st.cur then addf st.cnt onesG else onesG) l = _
      rw [if_pos e]
      refine Eq.trans ?_ (rcnt_eq rfl).symm
      show (st.cnt l : EReal) + Ideal.ofBits .f32 0x3F800000#32 = _
      rw [h.cnt h0, e, Ideal.ofBits_one_f32]
    all_goals
      have hsc' : (B n).toNat ≠ s := fun h => hsc h.symm
    · unfold rcnt
      rw [rowsOf_ne hsc']
      exact h.put.tab s hs (by rw [← e]; exact hsc) y h1 h2
    · rw [rowsOf_ne hsc'] at hne
      unfold rmax
      rw [rowsOf_ne hsc']
      exact h.put.om s hs (by rw [← e]; exact hsc) hne y hy
    · rw [rowsOf_ne hsc'] at hne
      unfold rsum
      rw [rowsOf_ne hsc']
      exact h.put.os s hs (by rw [← e]; exact hsc) hne y hy
  · rw [if_neg e]
    have e' : ¬ B n = (st.flush w).cur := e
    have hp := put_flush h 512 (le_refl _)
    have hnew : rowsOf B n (B n).toNat = ∅ := by
      rcases n with _ | k
      · exact rowsOf_zero _
      · refine rowsOf_new fun r hr => ?_
        have h1 := hle r k (by omega) (by omega)
        have h2 := hle k (k + 1) (by omega) hn
        have h3 : (B (k + 1)).toNat ≠ (B k).toNat := fun hh => e (by rw [h.cur k rfl]; exact BitVec.eq_of_toNat_eq hh)
        omega
    refine ⟨fun h => absurd h (by omega), fun k hk => ?_, fun _ y => ?_, fun _ y => ?_, fun _ l => ?_, ⟨fun s hs hsc y h1 h2 => ?_, fun s hs hsc hne y hy => ?_, fun s hs hsc hne y hy => ?_⟩⟩
    · obtain rfl : n = k := by omega
      rfl
    · show (if B n = (st.flush w).cur then _ else X n) y = _
      rw [if_neg e']
      refine Eq.trans ?_ (rmax_eq X rfl y).symm
      unfold rmax
      rw [hnew]
      simp
    · show (if B n = (st.flush w).cur then _ else X n) y = _
      rw [if_neg e']
      refine Eq.trans ?_ (rsum_eq X rfl y).symm
      unfold rsum
      rw [hnew]
      simp
    · show (if B n = (st.flush w).cur then _ else onesG) l = _
      rw [if_neg e']
      refine Eq.trans ?_ (rcnt_eq rfl).symm
      unfold rcnt
      rw [hnew]
      show Ideal.ofBits .f32 0x3F800000#32 = _
      rw [Ideal.ofBits_one_f32]
      simp
    all_goals
      have hsc' : (B n).toNat ≠ s := fun h => hsc h.symm
    · unfold rcnt
      rw [rowsOf_ne hsc']
      exact hp.tab s hs (by omega) y h1 h2
    · rw [rowsOf_ne hsc'] at hne
      unfold rmax
      rw [rowsOf_ne hsc']
      exact hp.om s hs (by omega) hne y hy
    · rw [rowsOf_ne hsc'] at hne
      unfold rsum
      rw [rowsOf_ne hsc']
      exact hp.os s hs (by omega) hne y hy

/-- The rows of a group one by one. -/
theorem inv_rows {n : Nat} {st : St Ideal} (h : Inv w X B n st) : ∀ k, n + k ≤ N →
    Inv w X B (n + k) (st.rows w (fun j => X (n + j)) (fun j => B (n + j)) k)
  | 0, _ => h
  | k + 1, hk => inv_row hlt hle (show n + k < N by omega) (inv_rows h k (by omega))

omit hlt hle in
theorem fold_add (xs : Nat → Row Ideal) (y : S128.Idx) : (fold16 addf xs y : EReal) = ∑ j ∈ Finset.range 16, (xs j y : EReal) := by
  simp only [Finset.sum_range_succ, Finset.range_zero, Finset.sum_empty, zero_add]
  show ((((xs 0 y : EReal) + xs 1 y) + (xs 2 y + xs 3 y)) + ((xs 4 y + xs 5 y) + (xs 6 y + xs 7 y)))
    + (((xs 8 y + xs 9 y) + (xs 10 y + xs 11 y)) + ((xs 12 y + xs 13 y) + (xs 14 y + xs 15 y))) = _
  ac_rfl

omit hlt hle in
theorem fold_max (xs : Nat → Row Ideal) (y : S128.Idx) : (fold16 maximumf xs y : EReal) = (Finset.range 16).sup fun j => (xs j y : EReal) := by
  simp only [Finset.range_add_one, Finset.sup_insert, Finset.range_zero, Finset.sup_empty]
  show max (max (max (max (xs 0 y : EReal) (xs 1 y)) (max (xs 2 y) (xs 3 y))) (max (max (xs 4 y) (xs 5 y)) (max (xs 6 y) (xs 7 y))))
    (max (max (max (xs 8 y) (xs 9 y)) (max (xs 10 y) (xs 11 y))) (max (max (xs 12 y) (xs 13 y)) (max (xs 14 y) (xs 15 y)))) = _
  simp only [bot_le, sup_of_le_left]
  ac_rfl

/-- A group of one segment, at once. -/
theorem inv_fast {n : Nat} (hn : n + 16 ≤ N) {st : St Ideal} (h : Inv w X B n st) (h1 : B n = B (n + 15)) (h2 : B n = st.cur) :
    Inv w X B (n + 16) (st.fast fun j => X (n + j)) := by
  have h0 : n ≠ 0 := fun h0 => by
    have := h.cur0 h0
    have := hlt n (by omega)
    rw [h2] at this
    omega
  have hall : ∀ j, j < 16 → (B (n + j)).toNat = st.cur.toNat := fun j hj => by
    have a := hle n (n + j) (by omega) (by omega)
    have b := hle (n + j) (n + 15) (by omega) (by omega)
    rw [← h1, h2] at b
    rw [h2] at a
    omega
  refine ⟨fun h => absurd h (by omega), fun k hk => ?_, fun _ y => ?_, fun _ y => ?_, fun _ l => ?_, ⟨fun s hs hsc y ha hb => ?_, fun s hs hsc hne y hy => ?_, fun s hs hsc hne y hy => ?_⟩⟩
  · obtain rfl : k = n + 15 := by omega
    exact h2.symm.trans h1
  · refine Eq.trans ?_ (rmax_run X y 16 hall).symm
    rw [← h.acc h0, ← fold_max (fun j => X (n + j))]
    rfl
  · refine Eq.trans ?_ (rsum_run X y 16 hall).symm
    rw [← h.sum h0, ← fold_add (fun j => X (n + j))]
    rfl
  · refine Eq.trans ?_ (rcnt_run 16 hall).symm
    rw [← h.cnt h0 l]
    show (st.cnt l : EReal) + Ideal.ofBits .f32 0x41800000#32 = _
    rw [ofBits_sixteen]
    congr 1
    rw [Finset.sum_const, Finset.card_range, nsmul_one]
    norm_cast
  all_goals
    have hne' : rowsOf B (n + 16) s = rowsOf B n s := rowsOf_run 16 fun j hj => by rw [hall j hj]; exact fun h => hsc h.symm
  · unfold rcnt
    rw [hne']
    exact h.put.tab s hs hsc y ha hb
  · rw [hne'] at hne
    unfold rmax
    rw [hne']
    exact h.put.om s hs hsc hne y hy
  · rw [hne'] at hne
    unfold rsum
    rw [hne']
    exact h.put.os s hs hsc hne y hy

theorem inv_group {n : Nat} (hn : n + 16 ≤ N) {st : St Ideal} (h : Inv w X B n st) :
    Inv w X B (n + 16) (st.group w (fun j => X (n + j)) (fun j => B (n + j))) := by
  unfold St.group
  split
  · rename_i hh
    exact inv_fast hlt hle hn h hh.1 hh.2
  · exact inv_rows hlt hle h 16 hn

/-- The walk. -/
theorem inv_groups {st : St Ideal} (h : Inv w X B 0 st) : ∀ n, 16 * n ≤ N → Inv w X B (16 * n) (st.groups w X B n)
  | 0, _ => h
  | n + 1, hn => inv_group hlt hle (by omega) (inv_groups h n (by omega))

end Cert.Pool
-- ==== Proof.Pool.Combine.lean ====
/-
  What the merge computes at the extended reals from the workers' tables: of each segment the sum, the maximum and the
  number of all its rows.
-/
module

public import proofs.«01_k».proof.Proof.KernelIdeal.Region
public import proofs.«01_k».proof.Proof.Pool.Worker
public import Idealize.ShloMosaic.Lib.Pointwise

@[expose] public section

noncomputable section

namespace Cert.Pool

open Idealize.ShloMosaic Cert.KernelIdeal Cert.KernelIdeal.Pool

/-- The mask's choice, element by element. -/
theorem maskQ_apply (cw : FVec Ideal S512x1 .f32) (t : FVec Ideal S512x128 .f32) (z : Ideal .f32) (s : Fin 512) (l : Fin 128) :
    maskQ cw t z (ix2 (n0 := 512) (n1 := 128) s l) = if (0 : EReal) < cw (ix2 (n0 := 512) (n1 := 1) s 0) then t (ix2 (n0 := 512) (n1 := 128) s l) else z := by
  unfold maskQ hasRows
  pointwise

/-- The merge of the first `n` rows. -/
structure Part (X : Nat → Row Ideal) (B : Nat → BitVec 32) (n : Nat) (a : Mg Ideal) : Prop where
  s : ∀ (s : Fin 512) (l : Fin 128), (a.s (ix2 (n0 := 512) (n1 := 128) s l) : EReal) = rsum X B n s.val (ix1 (n0 := 128) l)
  m : ∀ (s : Fin 512) (l : Fin 128), (a.m (ix2 (n0 := 512) (n1 := 128) s l) : EReal) = rmax X B n s.val (ix1 (n0 := 128) l)
  c : ∀ s : Fin 512, (a.c (ix2 (n0 := 512) (n1 := 1) s 0) : EReal) = rcnt B n s.val

/-- One worker's tables, of `n` rows: the counts, and the sums and maxima of the segments that have rows. -/
structure Tab (X : Nat → Row Ideal) (B : Nat → BitVec 32) (n : Nat) (cw : FVec Ideal S512x1 .f32) (sw mw : FVec Ideal S512x128 .f32) : Prop where
  c : ∀ s : Fin 512, (cw (ix2 (n0 := 512) (n1 := 1) s 0) : EReal) = rcnt B n s.val
  s : ∀ (s : Fin 512) (l : Fin 128), (rowsOf B n s.val).Nonempty →
    (sw (ix2 (n0 := 512) (n1 := 128) s l) : EReal) = rsum X B n s.val (ix1 (n0 := 128) l)
  m : ∀ (s : Fin 512) (l : Fin 128), (rowsOf B n s.val).Nonempty →
    (mw (ix2 (n0 := 512) (n1 := 128) s l) : EReal) = rmax X B n s.val (ix1 (n0 := 128) l)

variable {X : Nat → Row Ideal} {B : Nat → BitVec 32}

theorem part_zero : Part X B 0 Mg.zero where
  s s l := by
    show Ideal.ofBits .f32 0x00000000#32 = _
    rw [Ideal.ofBits_zero_f32]; simp [rsum, rowsOf_zero]
  m s l := by
    show Ideal.ofBits .f32 0xFF800000#32 = _
    rw [ofBits_bot]; simp [rmax, rowsOf_zero]
  c s := by
    show Ideal.ofBits .f32 0x00000000#32 = _
    rw [Ideal.ofBits_zero_f32]; simp [rcnt, rowsOf_zero]

theorem part_add {n k : Nat} {a : Mg Ideal} (h : Part X B n a) {cw : FVec Ideal S512x1 .f32} {sw mw : FVec Ideal S512x128 .f32}
    (t : Tab (fun r => X (n + r)) (fun r => B (n + r)) k cw sw mw) : Part X B (n + k) (a.add cw sw mw) where
  s s l := by
    show (a.s _ : EReal) + maskQ cw sw _ _ = _
    rw [maskQ_apply, h.s, t.c, rsum_append]
    refine congrArg (fun z : EReal => _ + z) ?_
    by_cases e : (rowsOf (fun r => B (n + r)) k s.val).Nonempty
    · rw [if_pos (rcnt_pos.2 e)]; exact t.s s l e
    · rw [if_neg fun q => e (rcnt_pos.1 q)]
      exact Ideal.ofBits_zero_f32.trans (rsum_empty _ e _).symm
  m s l := by
    show max (a.m _ : EReal) (maskQ cw mw _ _) = _
    rw [maskQ_apply, h.m, t.c, rmax_append]
    refine congrArg (fun z : EReal => max _ z) ?_
    by_cases e : (rowsOf (fun r => B (n + r)) k s.val).Nonempty
    · rw [if_pos (rcnt_pos.2 e)]; exact t.m s l e
    · rw [if_neg fun q => e (rcnt_pos.1 q)]
      exact ofBits_bot.trans (rmax_empty _ e _).symm
  c s := by
    show (a.c _ : EReal) + shapeCast S512x1 cw _ _ = _
    rw [h.c, rcnt_append, ← t.c]
    pointwise

theorem part_merge {A : FVec Ideal S16640x128 .f32} {C : FVec Ideal S16384x16 .f32} {M : FVec Ideal S16640x128 .f32}
    (t : ∀ w, w < 32 → Tab (fun r => X (10000 * w + r)) (fun r => B (10000 * w + r)) 10000 (cOf C w) (tOf A w) (tOf M w)) :
    ∀ n w a, w + n ≤ 32 → Part X B (10000 * w) a → Part X B (10000 * (w + n)) (mergeSt A C M n w a)
  | 0, _, _, _, h => h
  | n + 1, w, a, hw, h => by
    have := part_merge t n (w + 1) (a.add (cOf C w) (tOf A w) (tOf M w)) (by omega) (part_add h (t w (by omega)))
    rwa [show w + 1 + n = w + (n + 1) by omega] at this

/-- The three blocks of the result: of each segment the mean, the maximum (zero where there is no row), the sum. -/
def meanF (X : Nat → Row Ideal) (B : Nat → BitVec 32) : FVec Ideal S512x128 .f32 := fun y =>
  Ideal.div (rsum X B 320000 (y 0).val (ix1 (n0 := 128) (y 1))) (max (rcnt B 320000 (y 0).val) 1)
def maxF (X : Nat → Row Ideal) (B : Nat → BitVec 32) : FVec Ideal S512x128 .f32 := fun y =>
  if (0 : EReal) < rcnt B 320000 (y 0).val then rmax X B 320000 (y 0).val (ix1 (n0 := 128) (y 1)) else (0 : EReal)
def sumF (X : Nat → Row Ideal) (B : Nat → BitVec 32) : FVec Ideal S512x128 .f32 := fun y =>
  rsum X B 320000 (y 0).val (ix1 (n0 := 128) (y 1))

def pooled (X : Nat → Row Ideal) (B : Nat → BitVec 32) (h : Shape.Concatenates [S512x128, S512x128, S512x128] S512x384 1) : FVec Ideal S512x384 .f32 :=
  concatenate S512x384 1 [⟨S512x128, meanF X B⟩, ⟨S512x128, maxF X B⟩, ⟨S512x128, sumF X B⟩] h

theorem out_eq {a : Mg Ideal} (h : Part X B 320000 a) : a.out = pooled X B Facts₀.concatenates_S512x128_S512x128_S512x128_S512x384_d1 := by
  have e1 : divf a.s (broadcastTo S512x128 (maximumf a.c (broadcast S512x1 (Scalar.ofBits .f32 0x3F800000#32 : Ideal .f32))) Facts₀.broadcasts_S512x1_S512x128) = meanF X B := by
    funext y
    obtain ⟨s, l, rfl⟩ : ∃ (s : Fin 512) (l : Fin 128), y = ix2 (n0 := 512) (n1 := 128) s l := ⟨y 0, y 1, eq_ix2 y⟩
    show _ = Ideal.div (rsum X B 320000 s.val (ix1 (n0 := 128) l)) (max (rcnt B 320000 s.val) 1)
    rw [← h.s, ← h.c]
    pointwise
  have e2 : select (broadcastTo S512x128 (shapeCast S512x1 (cmpf .ogt a.c (broadcast S512x1 (Scalar.ofBits .f32 0x00000000#32 : Ideal .f32)))
      Facts₀.shapeCasts_S512x1_S512x1) Facts₀.broadcasts_S512x1_S512x128) a.m (broadcast S512x128 (Scalar.ofBits .f32 0x00000000#32 : Ideal .f32)) = maxF X B := by
    funext y
    obtain ⟨s, l, rfl⟩ : ∃ (s : Fin 512) (l : Fin 128), y = ix2 (n0 := 512) (n1 := 128) s l := ⟨y 0, y 1, eq_ix2 y⟩
    show _ = if (0 : EReal) < rcnt B 320000 s.val then rmax X B 320000 s.val (ix1 (n0 := 128) l) else (0 : EReal)
    rw [← h.m, ← h.c]
    pointwise
  have e3 : a.s = sumF X B := by
    funext y
    obtain ⟨s, l, rfl⟩ : ∃ (s : Fin 512) (l : Fin 128), y = ix2 (n0 := 512) (n1 := 128) s l := ⟨y 0, y 1, eq_ix2 y⟩
    exact h.s s l
  unfold Mg.out pooled
  rw [e1, e2, e3]

/-- The merge of the workers' tables. -/
theorem merged_eq {A : FVec Ideal S16640x128 .f32} {C : FVec Ideal S16384x16 .f32} {M : FVec Ideal S16640x128 .f32}
    (t : ∀ w, w < 32 → Tab (fun r => X (10000 * w + r)) (fun r => B (10000 * w + r)) 10000 (cOf C w) (tOf A w) (tOf M w)) :
    merged A C M = pooled X B Facts₀.concatenates_S512x128_S512x128_S512x128_S512x384_d1 :=
  out_eq (part_merge t 32 0 _ (by omega) part_zero)

end Cert.Pool
-- ==== Proof.Pool.Tables.lean ====
/-
  What the kernel's result is, from what its workers leave: each worker's tables are those of its ten thousand rows.
-/
module

public import proofs.«01_k».proof.Proof.KernelIdeal.Launch
public import proofs.«01_k».proof.Proof.Pool.Combine

@[expose] public section

noncomputable section

namespace Cert.Pool

open Idealize.ShloMosaic Idealize.SL.Sem Cert.KernelIdeal Cert.KernelIdeal.Pool

/-- One segment's count in the joined counts' array, in a worker's row of it. -/
theorem cnts_apply (oc : FVec Ideal S32x8192 .f32) (w : Nat) (hw : w < 32) (s : Fin 512) :
    cOf (cnts oc) w (ix2 (n0 := 512) (n1 := 1) s 0) = oc (ix2 (n0 := 32) (n1 := 8192) ⟨w, hw⟩ ⟨16 * s.val, by have := s.2; omega⟩) := by
  have hs : s.val < 512 := s.2
  unfold cOf cnts
  pointwise
  refine congrArg₂ (fun p q => oc (ix2 (n0 := 32) (n1 := 8192) p q)) (Fin.ext ?_) (Fin.ext ?_)
  · show (512 * w + s.val) % 16384 / 512 = w
    omega
  · show (512 * w + s.val) % 16384 % 512 * 16 = 16 * s.val
    omega

variable (m : (ℓ : Loc nD τ sig) → Buf (Elt Ideal) ℓ) (d : Dev nD)

theorem tables {os om : FVec Ideal S16640x128 .f32} {oc : FVec Ideal S32x8192 .f32} (h : Joined m d os om oc)
    (hlt : ∀ r, (bAt (bIn m d) r).toNat < 512)
    (hle : ∀ r s, r ≤ s → s < 320000 → (bAt (bIn m d) r).toNat ≤ (bAt (bIn m d) s).toNat) (w : Nat) (hw : w < 32) :
    Tab (fun r => xRow (xIn m d) (10000 * w + r)) (fun r => bAt (bIn m d) (10000 * w + r)) 10000 (cOf (cnts oc) w) (tOf os w) (tOf om w) := by
  obtain ⟨p, hp⟩ := exists_wid hw
  obtain ⟨om', os', oc', ⟨fa, fs, fc, rfl, rfl, rfl⟩, hom, hos, hoc⟩ := h p
  rw [hp] at hom hos hoc
  have hq : Put w (fun r => xRow (xIn m d) (10000 * w + r)) (fun r => bAt (bIn m d) (10000 * w + r)) 10000 512
      (St.done (co p) (xIn m d) (bIn m d) (St.start fa fs fc (m (omLoc d)) (m (osLoc d)))) := by
    unfold St.done St.at
    rw [hp]
    refine put_flush ?_ 512 (le_refl _)
    refine inv_groups (N := 10000) (fun r _ => hlt _) (fun r s hrs hs => hle _ _ (by omega) (by omega)) ?_ 625 (by omega)
    exact { cur0 := fun _ => rfl
            cur := fun k hk => absurd hk (by omega)
            acc := fun hn => absurd rfl hn
            sum := fun hn => absurd rfl hn
            cnt := fun hn => absurd rfl hn
            put := { tab := fun s _ _ y _ _ => by
                       show Ideal.ofBits .f32 0x00000000#32 = _
                       rw [Ideal.ofBits_zero_f32]; simp [rcnt, rowsOf_zero]
                     om := fun s _ _ hn => absurd hn (by simp [rowsOf_zero])
                     os := fun s _ _ hn => absurd hn (by simp [rowsOf_zero]) } }
  refine { c := fun s => ?_, s := fun s l hn => ?_, m := fun s l hn => ?_ }
  · have hs : s.val < 512 := s.2
    rw [cnts_apply oc w hw s, hoc _ ((mem_cRow _ _).2 rfl)]
    unfold cntRow
    refine (if_pos rfl).trans ?_
    exact hq.tab s.val hs (by omega) _ (le_refl _) (by show 16 * s.val < 16 * s.val + 16; omega)
  · have hs : s.val < 512 := s.2
    have e : (520 * w + s.val) % 16640 = 520 * w + s.val := Nat.mod_eq_of_lt (by omega)
    unfold tOf
    rw [hos _ ((mem_slab _ _).2 (by show (520 * w + s.val) % 16640 / 520 = w; omega))]
    refine (hq.os s.val hs (by omega) hn _ e).trans ?_
    exact congrArg (fun z => rsum _ _ 10000 s.val (ix1 (n0 := 128) z)) (Fin.ext (Nat.mod_eq_of_lt l.2))
  · have hs : s.val < 512 := s.2
    have e : (520 * w + s.val) % 16640 = 520 * w + s.val := Nat.mod_eq_of_lt (by omega)
    unfold tOf
    rw [hom _ ((mem_slab _ _).2 (by show (520 * w + s.val) % 16640 / 520 = w; omega))]
    refine (hq.om s.val hs (by omega) hn _ e).trans ?_
    exact congrArg (fun z => rmax _ _ 10000 s.val (ix1 (n0 := 128) z)) (Fin.ext (Nat.mod_eq_of_lt l.2))

/-- The kernel's result. -/
theorem out_pooled {o : FVec Ideal S512x384 .f32} (h : Out m d o)
    (hlt : ∀ r, (bAt (bIn m d) r).toNat < 512)
    (hle : ∀ r s, r ≤ s → s < 320000 → (bAt (bIn m d) r).toNat ≤ (bAt (bIn m d) s).toNat) :
    o = pooled (xRow (xIn m d)) (bAt (bIn m d)) Facts₀.concatenates_S512x128_S512x128_S512x128_S512x384_d1 := by
  obtain ⟨os, om, oc, hj, rfl⟩ := h
  exact merged_eq (tables m d hj hlt hle)

end Cert.Pool
-- ==== Proof.Pool.Reference.lean ====
/-
  The reference's scatter-additions and its masked maximum at the extended reals: the sum, the number and the maximum of
  each segment's rows.
-/
module

public import proofs.«01_k».proof.Proof.Pool.Combine
public import proofs.«01_k».proof.Proof.Gen.ReferenceIdeal.Run
public import Idealize.ShloMosaic.Lib.Routing.OpsPair
public import Idealize.ShloMosaic.PureOps.Ideal.Laws

@[expose] public section

noncomputable section

namespace Cert.Pool

open Idealize.ShloMosaic Cert.ReferenceIdeal Cert.ReferenceIdeal.Gen

/-- Where an update of the sums' scatter lands: in the row that its index word names, in its own column. -/
theorem lands_s (idx : IVec S320000x1 32) (r : Fin 320000) (l' : Fin 128) (s : Fin 512) (l : Fin 128) :
    scatter_S512x128_S320000x1_S320000x128_1_0_0_1.resultIdx? (ix2 (n0 := 320000) (n1 := 128) r l') idx = some (ix2 (n0 := 512) (n1 := 128) s l)
      ↔ (idx (ix2 (n0 := 320000) (n1 := 1) r 0)).toInt = (s.val : Int) ∧ l' = l := by
  have h0 : scatter_S512x128_S320000x1_S320000x128_1_0_0_1.start (ix2 (n0 := 320000) (n1 := 128) r l') idx 0
      = (idx (ix2 (n0 := 320000) (n1 := 1) r 0)).toInt := by
    unfold ScatterDims.start
    rw [dif_pos (by exact List.mem_singleton.2 rfl)]
    refine congrArg (fun z => (idx z).toInt) ?_
    funext a
    match a with
    | 0 => rfl
    | 1 => rfl
  have h1 : scatter_S512x128_S320000x1_S320000x128_1_0_0_1.start (ix2 (n0 := 320000) (n1 := 128) r l') idx 1 = 0 := rfl
  have h2 : scatter_S512x128_S320000x1_S320000x128_1_0_0_1.window (ix2 (n0 := 320000) (n1 := 128) r l') 0 = 0 := rfl
  have h3 : scatter_S512x128_S320000x1_S320000x128_1_0_0_1.window (ix2 (n0 := 320000) (n1 := 128) r l') 1 = l'.val := rfl
  refine (Routing.resultIdx?_ix2 _ _ idx s l).trans ?_
  rw [h0, h1, h2, h3, Fin.ext_iff]
  omega

theorem lands_c (idx : IVec S320000x1 32) (r : Fin 320000) (s : Fin 512) :
    scatter_S512x1_S320000x1_S320000x1_1_0_0_1.resultIdx? (ix2 (n0 := 320000) (n1 := 1) r 0) idx = some (ix2 (n0 := 512) (n1 := 1) s 0)
      ↔ (idx (ix2 (n0 := 320000) (n1 := 1) r 0)).toInt = (s.val : Int) := by
  have h0 : scatter_S512x1_S320000x1_S320000x1_1_0_0_1.start (ix2 (n0 := 320000) (n1 := 1) r 0) idx 0
      = (idx (ix2 (n0 := 320000) (n1 := 1) r 0)).toInt := by
    unfold ScatterDims.start
    rw [dif_pos (by exact List.mem_singleton.2 rfl)]
    refine congrArg (fun z => (idx z).toInt) ?_
    funext a
    match a with
    | 0 => rfl
    | 1 => rfl
  have h1 : scatter_S512x1_S320000x1_S320000x1_1_0_0_1.start (ix2 (n0 := 320000) (n1 := 1) r 0) idx 1 = 0 := rfl
  have h2 : scatter_S512x1_S320000x1_S320000x1_1_0_0_1.window (ix2 (n0 := 320000) (n1 := 1) r 0) 0 = 0 := rfl
  have h3 : scatter_S512x1_S320000x1_S320000x1_1_0_0_1.window (ix2 (n0 := 320000) (n1 := 1) r 0) 1 = 0 := rfl
  refine (Routing.resultIdx?_ix2 _ _ idx s 0).trans ?_
  rw [h0, h1, h2, h3]
  simp

/-- The reference's rows and segments. -/
abbrev rX (x : FVec Ideal S320000x128 .f32) : Nat → Cert.KernelIdeal.Pool.Row Ideal := Cert.KernelIdeal.Pool.xRow x
abbrev rB (b : IVec S320000 32) : Nat → BitVec 32 := Cert.KernelIdeal.Pool.bAt b

/-- The index words. -/
abbrev words (b : IVec S320000 32) : IVec S320000x1 32 := broadcastInDim S320000x1 ![0] bcast_S320000_S320000x1_0 b

theorem words_apply (b : IVec S320000 32) (r : Fin 320000) : words b (ix2 (n0 := 320000) (n1 := 1) r 0) = rB b r.val := by
  unfold words rB Cert.KernelIdeal.Pool.bAt
  pointwise
  exact congrArg (fun z => b (ix1 (n0 := 320000) z)) (Fin.ext (Nat.mod_eq_of_lt r.2).symm)

theorem words_eq (b : IVec S320000 32) (hb : ∀ r, (rB b r).toNat < 512) (r : Fin 320000) (s : Fin 512) :
    (words b (ix2 (n0 := 320000) (n1 := 1) r 0)).toInt = (s.val : Int) ↔ r.val ∈ rowsOf (rB b) 320000 s.val := by
  rw [words_apply, mem_rowsOf, BitVec.toInt_eq_toNat_cond]
  have := hb r.val
  have := r.2
  constructor
  · intro h; exact ⟨r.2, by omega⟩
  · rintro ⟨-, h⟩; omega

theorem scat_s (x : FVec Ideal S320000x128 .f32) (b : IVec S320000 32) (hb : ∀ r, (rB b r).toNat < 512)
    (z : FVec Ideal S512x128 .f32) (hz : ∀ y, (z y : EReal) = 0) (s : Fin 512) (l : Fin 128) :
    (Host.scatterAdd scatter_S512x128_S320000x1_S320000x128_1_0_0_1 z (words b) x (ix2 (n0 := 512) (n1 := 128) s l) : EReal)
      = rsum (rX x) (rB b) 320000 s.val (ix1 (n0 := 128) l) := by
  show (z _ : EReal) + ∑ j ∈ Finset.univ.filter (fun j => _ = some _), (x j : EReal) = _
  rw [hz, zero_add]
  unfold rsum
  refine Finset.sum_bij' (fun j _ => (j 0).val) (fun r _ => ix2 (n0 := 320000) (n1 := 128) ⟨r % 320000, Nat.mod_lt _ (by decide)⟩ l) ?_ ?_ ?_ ?_ ?_
  · intro j hj
    have hj := (Finset.mem_filter.1 hj).2
    rw [eq_ix2 j] at hj
    exact (words_eq b hb (j 0) s).1 ((lands_s (words b) (j 0) (j 1) s l).1 hj).1
  · intro r hr
    refine Finset.mem_filter.2 ⟨Finset.mem_univ _, (lands_s (words b) _ l s l).2 ⟨(words_eq b hb _ s).2 ?_, rfl⟩⟩
    have := (mem_rowsOf.1 hr).1
    show r % 320000 ∈ _
    rwa [Nat.mod_eq_of_lt this]
  · intro j hj
    have hj := (Finset.mem_filter.1 hj).2
    rw [eq_ix2 j] at hj
    have hl := ((lands_s (words b) (j 0) (j 1) s l).1 hj).2
    have h0 : (j 0).val < 320000 := (j 0).2
    refine Eq.trans ?_ (eq_ix2 j).symm
    rw [← hl]
    exact congrArg (fun z => ix2 (n0 := 320000) (n1 := 128) z (j 1)) (Fin.ext (Nat.mod_eq_of_lt h0))
  · intro r hr
    exact Nat.mod_eq_of_lt (mem_rowsOf.1 hr).1
  · intro j hj
    have hj := (Finset.mem_filter.1 hj).2
    rw [eq_ix2 j] at hj
    have hl := ((lands_s (words b) (j 0) (j 1) s l).1 hj).2
    have h0 : (j 0).val < 320000 := (j 0).2
    refine congrArg x ((eq_ix2 j).trans ?_)
    rw [← hl]
    exact congrArg (fun z => ix2 (n0 := 320000) (n1 := 128) z (j 1)) (Fin.ext (Nat.mod_eq_of_lt h0).symm)

theorem scat_c (b : IVec S320000 32) (hb : ∀ r, (rB b r).toNat < 512)
    (z : FVec Ideal S512x1 .f32) (hz : ∀ y, (z y : EReal) = 0) (o : FVec Ideal S320000x1 .f32) (ho : ∀ y, (o y : EReal) = 1) (s : Fin 512) :
    (Host.scatterAdd scatter_S512x1_S320000x1_S320000x1_1_0_0_1 z (words b) o (ix2 (n0 := 512) (n1 := 1) s 0) : EReal)
      = rcnt (rB b) 320000 s.val := by
  show (z _ : EReal) + ∑ j ∈ Finset.univ.filter (fun j => _ = some _), (o j : EReal) = _
  rw [hz, zero_add]
  unfold rcnt
  have e : ∀ j : S320000x1.Idx, j = ix2 (n0 := 320000) (n1 := 1) (j 0) 0 := fun j =>
    (eq_ix2 j).trans (congrArg (ix2 (n0 := 320000) (n1 := 1) (j 0)) (Subsingleton.elim (α := Fin 1) _ _))
  refine Finset.sum_bij' (fun j _ => (j 0).val) (fun r _ => ix2 (n0 := 320000) (n1 := 1) ⟨r % 320000, Nat.mod_lt _ (by decide)⟩ 0) ?_ ?_ ?_ ?_ ?_
  · intro j hj
    have hj := (Finset.mem_filter.1 hj).2
    rw [e j] at hj
    exact (words_eq b hb (j 0) s).1 ((lands_c (words b) (j 0) s).1 hj)
  · intro r hr
    refine Finset.mem_filter.2 ⟨Finset.mem_univ _, (lands_c (words b) _ s).2 ((words_eq b hb _ s).2 ?_)⟩
    have := (mem_rowsOf.1 hr).1
    show r % 320000 ∈ _
    rwa [Nat.mod_eq_of_lt this]
  · intro j hj
    have h0 : (j 0).val < 320000 := (j 0).2
    refine Eq.trans ?_ (e j).symm
    exact congrArg (fun z => ix2 (n0 := 320000) (n1 := 1) z 0) (Fin.ext (Nat.mod_eq_of_lt h0))
  · intro r hr
    exact Nat.mod_eq_of_lt (mem_rowsOf.1 hr).1
  · intro j _
    exact ho j

/-- The rows of one segment, and the least value elsewhere. -/
abbrev masked (x : FVec Ideal S320000x128 .f32) (b : IVec S320000 32) : FVec Ideal S320000x512x128 .f32 :=
  select (broadcastInDim S320000x512x128 ![0, 1, 2] bcast_S320000x512x1_S320000x512x128_0_1_2
      (cmpi .eq (broadcastInDim S320000x512x1 ![0, 1, 2] bcast_S320000x1x1_S320000x512x1_0_1_2 (broadcastInDim S320000x1x1 ![0] bcast_S320000_S320000x1x1_0 b))
        (broadcastInDim S320000x512x1 ![0, 1, 2] bcast_S1x512x1_S320000x512x1_0_1_2 (iotaInDim S1x512x1 32 1))))
    (broadcastInDim S320000x512x128 ![0, 1, 2] bcast_S320000x1x128_S320000x512x128_0_1_2 (broadcastInDim S320000x1x128 ![0, 2] bcast_S320000x128_S320000x1x128_0_2 x))
    (broadcastInDim S320000x512x128 ![] bcast_S_S320000x512x128 (id (constant S_ .f32 0xFF800000#32)))

theorem masked_apply (x : FVec Ideal S320000x128 .f32) (b : IVec S320000 32) (r : Fin 320000) (s : Fin 512) (l : Fin 128) :
    (masked x b (ix3 (n0 := 320000) (n1 := 512) (n2 := 128) r s l) : EReal)
      = if b (ix1 (n0 := 320000) r) = BitVec.ofNat 32 s.val then (x (ix2 (n0 := 320000) (n1 := 128) r l) : EReal) else ⊥ := by
  rw [← ofBits_bot]
  unfold masked
  pointwise
  by_cases h : b (ix1 (n0 := 320000) r) = BitVec.ofNat 32 s.val
  · rw [if_pos h]; simp [Scalar.select, IntOp.cmpi, h]
  · have h' : (b (ix1 (n0 := 320000) r) == BitVec.ofNat 32 s.val) = false := beq_eq_false_iff_ne.2 h
    rw [if_neg h]; unfold Scalar.select IntOp.cmpi; rw [h']; rfl

theorem red_m (x : FVec Ideal S320000x128 .f32) (b : IVec S320000 32) (s : Fin 512) (l : Fin 128) :
    (Host.reduce (α := Ideal .f32) FloatOps.maximumf (masked x b) (constant (F := Ideal) S_ .f32 0xFF800000#32) reducesTo_S320000x512x128_S512x128_d0 h_S_ (ix2 (n0 := 512) (n1 := 128) s l) : EReal)
      = rmax (rX x) (rB b) 320000 s.val (ix1 (n0 := 128) l) := by
  have e : (Host.reduce (α := Ideal .f32) FloatOps.maximumf (masked x b) (constant (F := Ideal) S_ .f32 0xFF800000#32) reducesTo_S320000x512x128_S512x128_d0 h_S_ (ix2 (n0 := 512) (n1 := 128) s l) : EReal)
      = Finset.univ.fold max (Ideal.ofBits .f32 0xFF800000#32) fun k : Fin 320000 => (masked x b (ix3 (n0 := 320000) (n1 := 512) (n2 := 128) k s l) : EReal) := by
    generalize masked x b = v
    simp only [pointwise]
  rw [e, ofBits_bot]
  show Finset.univ.sup (fun k : Fin 320000 => (masked x b (ix3 (n0 := 320000) (n1 := 512) (n2 := 128) k s l) : EReal)) = _
  unfold rmax
  have hs : s.val < 512 := s.2
  have hw : ∀ v : BitVec 32, v = BitVec.ofNat 32 s.val ↔ v.toNat = s.val := by
    intro v
    rw [← BitVec.toNat_inj, BitVec.toNat_ofNat]
    omega
  have hi : ∀ r : Fin 320000, rB b r.val = b (ix1 (n0 := 320000) r) := fun r =>
    congrArg (fun z => b (ix1 (n0 := 320000) z)) (Fin.ext (Nat.mod_eq_of_lt r.2))
  have hx : ∀ r : Fin 320000, (rX x r.val (ix1 (n0 := 128) l) : EReal) = x (ix2 (n0 := 320000) (n1 := 128) r l) := fun r =>
    congrArg (fun z => x (ix2 (n0 := 320000) (n1 := 128) z l)) (Fin.ext (Nat.mod_eq_of_lt r.2))
  apply le_antisymm
  · refine Finset.sup_le fun r _ => ?_
    rw [masked_apply]
    by_cases h : b (ix1 (n0 := 320000) r) = BitVec.ofNat 32 s.val
    · rw [if_pos h, ← hx r]
      exact Finset.le_sup (f := fun r => (rX x r (ix1 (n0 := 128) l) : EReal)) (mem_rowsOf.2 ⟨r.2, by rw [hi r]; exact (hw _).1 h⟩)
    · rw [if_neg h]; exact bot_le
  · refine Finset.sup_le fun r hr => ?_
    obtain ⟨h1, h2⟩ := mem_rowsOf.1 hr
    have := masked_apply x b ⟨r, h1⟩ s l
    rw [if_pos ((hw _).2 (by rw [← hi ⟨r, h1⟩]; exact h2)), ← hx ⟨r, h1⟩] at this
    rw [← this]
    exact Finset.le_sup (f := fun k : Fin 320000 => (masked x b (ix3 (n0 := 320000) (n1 := 512) (n2 := 128) k s l) : EReal)) (Finset.mem_univ (⟨r, h1⟩ : Fin 320000))

/-- The reference's result. -/
theorem ref_pooled (x : FVec Ideal S320000x128 .f32) (b : IVec S320000 32) (hb : ∀ r, (rB b r).toNat < 512) :
    (concatenate S512x384 1 [
        ⟨S512x128, Host.divf (Host.scatterAdd scatter_S512x128_S320000x1_S320000x128_1_0_0_1 (broadcastInDim S512x128 ![] bcast_S_S512x128 (constant (F := Ideal) S_ .f32 0x00000000#32)) (words b) x)
          (broadcastInDim S512x128 ![0, 1] bcast_S512x1_S512x128_0_1 (maximumf (Host.scatterAdd scatter_S512x1_S320000x1_S320000x1_1_0_0_1 (broadcastInDim S512x1 ![] bcast_S_S512x1 (constant (F := Ideal) S_ .f32 0x00000000#32)) (words b) (broadcastInDim S320000x1 ![] bcast_S_S320000x1 (constant (F := Ideal) S_ .f32 0x3F800000#32)))
            (broadcastInDim S512x1 ![] bcast_S_S512x1 (constant (F := Ideal) S_ .f32 0x3F800000#32))))⟩,
        ⟨S512x128, select (broadcastInDim S512x128 ![0, 1] bcast_S512x1_S512x128_0_1 (cmpf .ogt (Host.scatterAdd scatter_S512x1_S320000x1_S320000x1_1_0_0_1 (broadcastInDim S512x1 ![] bcast_S_S512x1 (constant (F := Ideal) S_ .f32 0x00000000#32)) (words b) (broadcastInDim S320000x1 ![] bcast_S_S320000x1 (constant (F := Ideal) S_ .f32 0x3F800000#32)))
            (broadcastInDim S512x1 ![] bcast_S_S512x1 (constant (F := Ideal) S_ .f32 0x00000000#32))))
          (Host.reduce (α := Ideal .f32) FloatOps.maximumf (masked x b) (constant (F := Ideal) S_ .f32 0xFF800000#32) reducesTo_S320000x512x128_S512x128_d0 h_S_)
          (broadcastInDim S512x128 ![] bcast_S_S512x128 (id (constant (F := Ideal) S_ .f32 0x00000000#32)))⟩,
        ⟨S512x128, Host.scatterAdd scatter_S512x128_S320000x1_S320000x128_1_0_0_1 (broadcastInDim S512x128 ![] bcast_S_S512x128 (constant (F := Ideal) S_ .f32 0x00000000#32)) (words b) x⟩]
      concatenates_S512x128_S512x128_S512x128_S512x384_d1 : FVec Ideal S512x384 .f32)
      = pooled (rX x) (rB b) concatenates_S512x128_S512x128_S512x128_S512x384_d1 := by
  have hs := scat_s x b hb (broadcastInDim S512x128 ![] bcast_S_S512x128 (constant (F := Ideal) S_ .f32 0x00000000#32)) (fun _ => Ideal.ofBits_zero_f32)
  have hc := scat_c b hb (broadcastInDim S512x1 ![] bcast_S_S512x1 (constant (F := Ideal) S_ .f32 0x00000000#32)) (fun _ => Ideal.ofBits_zero_f32)
    (broadcastInDim S320000x1 ![] bcast_S_S320000x1 (constant (F := Ideal) S_ .f32 0x3F800000#32)) (fun _ => Ideal.ofBits_one_f32)
  have hm := red_m x b
  generalize Host.scatterAdd (F := Ideal) scatter_S512x128_S320000x1_S320000x128_1_0_0_1 _ _ _ = S at hs ⊢
  generalize Host.scatterAdd (F := Ideal) scatter_S512x1_S320000x1_S320000x1_1_0_0_1 _ _ _ = C at hc ⊢
  generalize Host.reduce (α := Ideal .f32) FloatOps.maximumf _ _ _ _ = M at hm ⊢
  have e1 : Host.divf S (broadcastInDim S512x128 ![0, 1] bcast_S512x1_S512x128_0_1 (maximumf C (broadcastInDim S512x1 ![] bcast_S_S512x1 (constant (F := Ideal) S_ .f32 0x3F800000#32))))
      = meanF (rX x) (rB b) := by
    funext y
    obtain ⟨s, l, rfl⟩ : ∃ (s : Fin 512) (l : Fin 128), y = ix2 (n0 := 512) (n1 := 128) s l := ⟨y 0, y 1, eq_ix2 y⟩
    show _ = Ideal.div (rsum (rX x) (rB b) 320000 s.val (ix1 (n0 := 128) l)) (max (rcnt (rB b) 320000 s.val) 1)
    rw [← hs, ← hc]
    pointwise
  have e2 : select (broadcastInDim S512x128 ![0, 1] bcast_S512x1_S512x128_0_1 (cmpf .ogt C (broadcastInDim S512x1 ![] bcast_S_S512x1 (constant (F := Ideal) S_ .f32 0x00000000#32))))
      M (broadcastInDim S512x128 ![] bcast_S_S512x128 (id (constant (F := Ideal) S_ .f32 0x00000000#32))) = maxF (rX x) (rB b) := by
    funext y
    obtain ⟨s, l, rfl⟩ : ∃ (s : Fin 512) (l : Fin 128), y = ix2 (n0 := 512) (n1 := 128) s l := ⟨y 0, y 1, eq_ix2 y⟩
    show _ = if (0 : EReal) < rcnt (rB b) 320000 s.val then rmax (rX x) (rB b) 320000 s.val (ix1 (n0 := 128) l) else (0 : EReal)
    rw [← hm, ← hc]
    pointwise
    exact congrArg (fun z : EReal => if (0 : EReal) < C (ix2 (n0 := 512) (n1 := 1) s 0) then M (ix2 (n0 := 512) (n1 := 128) s l) else z) Ideal.ofBits_zero_f32
  have e3 : S = sumF (rX x) (rB b) := by
    funext y
    obtain ⟨s, l, rfl⟩ : ∃ (s : Fin 512) (l : Fin 128), y = ix2 (n0 := 512) (n1 := 128) s l := ⟨y 0, y 1, eq_ix2 y⟩
    exact hs s l
  rw [e1, e2, e3]
  rfl

end Cert.Pool
-- ==== Proof.Pool.Claims.lean ====
/-
  The reference's frames, and the kernel's result against the reference's.
-/
module

public import proofs.«01_k».proof.Proof.KernelIdeal.Frame
public import proofs.«01_k».proof.Proof.Pool.Tables
public import proofs.«01_k».proof.Proof.Pool.Reference

@[expose] public section

noncomputable section

namespace Cert.Pool

open Idealize.ShloMosaic Idealize.ShloMosaic.TcCoe Idealize.SL.Sem

/-- The reference has no semaphore, and its run leaves its arguments. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre [Cert.Pre_in_range_sorted.Facts] : Cert.quiescent_ReferenceIdeal_pre_in_range_sorted := fun m ρ _ =>
  frame_ref m ρ trivial

variable [Cert.Pre_in_range_sorted.Facts]

theorem lt_of_pre (x : FVec Ideal ⟨2, ![320000, 128]⟩ .f32) (b : IVec ⟨1, ![320000]⟩ 32)
    (h : Cert.Pre_in_range_sorted.fn (F := Ideal) x b = fun _ => 1#1) (r : Nat) : (Cert.KernelIdeal.Pool.bAt b r).toNat < 512 :=
  (pre_facts x b h).1 (r % 320000) (Nat.mod_lt _ (by decide))

theorem le_of_pre (x : FVec Ideal ⟨2, ![320000, 128]⟩ .f32) (b : IVec ⟨1, ![320000]⟩ 32)
    (h : Cert.Pre_in_range_sorted.fn (F := Ideal) x b = fun _ => 1#1) (r s : Nat) (hrs : r ≤ s) (hs : s < 320000) :
    (Cert.KernelIdeal.Pool.bAt b r).toNat ≤ (Cert.KernelIdeal.Pool.bAt b s).toNat := by
  have e : ∀ k (hk : k < 320000), Cert.KernelIdeal.Pool.bAt b k = seg b k hk := fun k hk =>
    congrArg (fun z => b (ix1 (n0 := 320000) z)) (Fin.ext (Nat.mod_eq_of_lt hk))
  rw [e r (by omega), e s hs]
  exact sorted_of x b h r s hrs hs

/-- From inputs that agree, the kernel's result is the reference's. -/
theorem algebraic : Cert.algebraic_KernelIdeal_ReferenceIdeal := by
  intro m ρ m' ρ' hpre hag
  refine ⟨fun c => pooled (Cert.KernelIdeal.Pool.xRow (Cert.KernelIdeal.Pool.xIn m c)) (Cert.KernelIdeal.Pool.bAt (Cert.KernelIdeal.Pool.bIn m c))
    Cert.KernelIdeal.Facts₀.concatenates_S512x128_S512x128_S512x128_S512x384_d1, ?_, ?_⟩
  · refine (θ_run Cert.KernelIdeal.defs _ _).mono (fun r h c => ⟨?_, (h.1 c).1, (h.1 c).2.1⟩)
      (Cert.KernelIdeal.Pool.run_main m ρ (Cert.KernelIdeal.Pool.ok_of_pre m hpre))
    exact out_pooled m c (h.1 c).2.2 (lt_of_pre _ _ (hpre c)) (le_of_pre _ _ (hpre c))
  · refine (θ_run Cert.ReferenceIdeal.defs _ _).mono (fun r h c => ⟨(h c).1.trans ?_, (h c).2⟩)
      (Cert.ReferenceIdeal.Value.run (F := Ideal) m' ρ')
    rw [(hag c).1, (hag c).2]
    exact ref_pooled (Cert.KernelIdeal.Pool.xIn m c) (Cert.KernelIdeal.Pool.bIn m c) (lt_of_pre _ _ (hpre c))

end Cert.Pool
-- ==== Proof.lean ====
/-
  The claim, from its parts: the kernel's frame at the device's floats and at the extended reals (Kernel/Frame.lean,
  KernelIdeal/Frame.lean), the reference's frames, and the kernel's result against the reference's (Pool/Claims.lean).
  The idealization rewrites no operation, so that `preserves` asks nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range_sorted
public import proofs.«01_k».proof.Proof.Kernel.Frame
public import proofs.«01_k».proof.Proof.KernelIdeal.Frame
public import proofs.«01_k».proof.Proof.Pool.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range_sorted.Gen.facts,
  Cert.Kernel.Pool.frame, Cert.KernelIdeal.Pool.frame, Cert.Pool.frame_ref, Cert.Pool.frame_ref_pre, trivial, Cert.Pool.algebraic⟩

end Cert.Proof

end
